-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownIdeal_finite4 [hPre_finite4 : Cert.Pre_finite4.Facts] (m : (ℓ : Loc Cert.DwDownIdeal.nD Cert.DwDownIdeal.τ Cert.DwDownIdeal.sig) → Buf (Elt Ideal) ℓ) : Prop :=
  ∀ c : Dev Cert.DwDownIdeal.nD,
    (Cert.Pre_finite4.fn (F := Ideal) (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1)) (m ((c.tc : Thread Cert.DwDownIdeal.nD Cert.DwDownIdeal.τ).loc Cert.DwDownIdeal.main_arg2)) (m ((c.tc : Thread Cert.DwDownIdeal.nD Cert.DwDownIdeal.τ).loc Cert.DwDownIdeal.main_arg3))) = (fun _ => 1#1)

def Pre_DwDownReferenceIdeal (m : (ℓ : Loc Cert.DwDownReferenceIdeal.nD Cert.DwDownReferenceIdeal.τ Cert.DwDownReferenceIdeal.sig) → Buf (Elt Ideal) ℓ) : Prop :=
  True

def Pre_DwDownReferenceIdeal_finite4 [hPre_finite4 : Cert.Pre_finite4.Facts] (m : (ℓ : Loc Cert.DwDownReferenceIdeal.nD Cert.DwDownReferenceIdeal.τ Cert.DwDownReferenceIdeal.sig) → Buf (Elt Ideal) ℓ) : Prop :=
  ∀ c : Dev Cert.DwDownReferenceIdeal.nD,
    (Cert.Pre_finite4.fn (F := Ideal) (m ((c.tc : Thread Cert.DwDownReferenceIdeal.nD Cert.DwDownReferenceIdeal.τ).loc Cert.DwDownReferenceIdeal.main_arg0)) (m ((c.tc : Thread Cert.DwDownReferenceIdeal.nD Cert.DwDownReferenceIdeal.τ).loc Cert.DwDownReferenceIdeal.main_arg1)) (m ((c.tc : Thread Cert.DwDownReferenceIdeal.nD Cert.DwDownReferenceIdeal.τ).loc Cert.DwDownReferenceIdeal.main_arg2)) (m ((c.tc : Thread Cert.DwDownReferenceIdeal.nD Cert.DwDownReferenceIdeal.τ).loc Cert.DwDownReferenceIdeal.main_arg3))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownIdeal_pre_finite4 [hDwDownIdeal : Cert.DwDownIdeal.Facts] [hPre_finite4 : Cert.Pre_finite4.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal_finite4 m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1)
      ∧ r.2.mem ((c.tc : Thread Cert.DwDownReferenceIdeal.nD Cert.DwDownReferenceIdeal.τ).loc Cert.DwDownReferenceIdeal.main_arg2) = m ((c.tc : Thread Cert.DwDownReferenceIdeal.nD Cert.DwDownReferenceIdeal.τ).loc Cert.DwDownReferenceIdeal.main_arg2)
      ∧ r.2.mem ((c.tc : Thread Cert.DwDownReferenceIdeal.nD Cert.DwDownReferenceIdeal.τ).loc Cert.DwDownReferenceIdeal.main_arg3) = m ((c.tc : Thread Cert.DwDownReferenceIdeal.nD Cert.DwDownReferenceIdeal.τ).loc Cert.DwDownReferenceIdeal.main_arg3))
      ∧ r.2.sem = fun _ => 0)

def quiescent_DwDownReferenceIdeal_pre_finite4 [hDwDownReferenceIdeal : Cert.DwDownReferenceIdeal.Facts] [hPre_finite4 : Cert.Pre_finite4.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal_finite4 m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1)
      ∧ r.2.mem ((c.tc : Thread Cert.DwDownReferenceIdeal.nD Cert.DwDownReferenceIdeal.τ).loc Cert.DwDownReferenceIdeal.main_arg2) = m ((c.tc : Thread Cert.DwDownReferenceIdeal.nD Cert.DwDownReferenceIdeal.τ).loc Cert.DwDownReferenceIdeal.main_arg2)
      ∧ r.2.mem ((c.tc : Thread Cert.DwDownReferenceIdeal.nD Cert.DwDownReferenceIdeal.τ).loc Cert.DwDownReferenceIdeal.main_arg3) = m ((c.tc : Thread Cert.DwDownReferenceIdeal.nD Cert.DwDownReferenceIdeal.τ).loc Cert.DwDownReferenceIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9))
      ∧ r.2.sem = fun _ => 0)

def preserves_Kernel_KernelIdeal : Prop :=
  True

def algebraic_KernelIdeal_ReferenceIdeal_on_diagonal_pre_finite [hKernelIdeal : Cert.KernelIdeal.Facts] [hReferenceIdeal : Cert.ReferenceIdeal.Facts] [hPre_finite : Cert.Pre_finite.Facts] [hOn_diagonal : Cert.On_diagonal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v258_0)) (v1 : (c : Dev Cert.KernelIdeal.nD) → Buf (Elt Ideal) ((c.tc : Thread Cert.KernelIdeal.nD Cert.KernelIdeal.τ).loc Cert.KernelIdeal.main_v258_1)) (v2 : (c : Dev Cert.KernelIdeal.nD) → Buf (Elt Ideal) ((c.tc : Thread Cert.KernelIdeal.nD Cert.KernelIdeal.τ).loc Cert.KernelIdeal.main_v258_2)) (v3 : (c : Dev Cert.KernelIdeal.nD) → Buf (Elt Ideal) ((c.tc : Thread Cert.KernelIdeal.nD Cert.KernelIdeal.τ).loc Cert.KernelIdeal.main_v258_3)) (v4 : (c : Dev Cert.KernelIdeal.nD) → Buf (Elt Ideal) ((c.tc : Thread Cert.KernelIdeal.nD Cert.KernelIdeal.τ).loc Cert.KernelIdeal.main_v258_4)) (v5 : (c : Dev Cert.KernelIdeal.nD) → Buf (Elt Ideal) ((c.tc : Thread Cert.KernelIdeal.nD Cert.KernelIdeal.τ).loc Cert.KernelIdeal.main_v258_5)) (v6 : (c : Dev Cert.KernelIdeal.nD) → Buf (Elt Ideal) ((c.tc : Thread Cert.KernelIdeal.nD Cert.KernelIdeal.τ).loc Cert.KernelIdeal.main_v258_6)) (v7 : (c : Dev Cert.KernelIdeal.nD) → Buf (Elt Ideal) ((c.tc : Thread Cert.KernelIdeal.nD Cert.KernelIdeal.τ).loc Cert.KernelIdeal.main_v258_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v258_0) i = v0 c i)
          ∧ (∀ i : (⟨2, ![4096, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v258_1) i = v1 c i)
          ∧ (∀ i : (⟨2, ![512, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v258_2) i = v2 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v258_3) i = v3 c i)
          ∧ (∀ i : (⟨2, ![512, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v258_4) i = v4 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.KernelIdeal.nD Cert.KernelIdeal.τ).loc Cert.KernelIdeal.main_v258_5) i = v5 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 i = 1#1 → r.2.mem ((c.tc : Thread Cert.KernelIdeal.nD Cert.KernelIdeal.τ).loc Cert.KernelIdeal.main_v258_6) i = v6 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 i = 1#1 → r.2.mem ((c.tc : Thread Cert.KernelIdeal.nD Cert.KernelIdeal.τ).loc Cert.KernelIdeal.main_v258_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v663) i = v0 c i)
          ∧ (∀ i : (⟨2, ![4096, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v335) i = v1 c i)
          ∧ (∀ i : (⟨2, ![512, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v666) i = v2 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v667) i = v3 c i)
          ∧ (∀ i : (⟨2, ![512, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v670) i = v4 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.ReferenceIdeal.nD Cert.ReferenceIdeal.τ).loc Cert.ReferenceIdeal.main_v671) i = v5 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 i = 1#1 → r.2.mem ((c.tc : Thread Cert.ReferenceIdeal.nD Cert.ReferenceIdeal.τ).loc Cert.ReferenceIdeal.main_v672) i = v6 c i)
          ∧ (∀ i : (⟨2, ![1, 512]⟩ : Shape).Idx, (Cert.On_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 i = 1#1 → r.2.mem ((c.tc : Thread Cert.ReferenceIdeal.nD Cert.ReferenceIdeal.τ).loc Cert.ReferenceIdeal.main_v673) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v6) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwDown_DwDownIdeal : Prop :=
  True

def algebraic_DwDownIdeal_DwDownReferenceIdeal_pre_finite4 [hDwDownIdeal : Cert.DwDownIdeal.Facts] [hDwDownReferenceIdeal : Cert.DwDownReferenceIdeal.Facts] [hPre_finite4 : Cert.Pre_finite4.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal_finite4 m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)
      ∧ m' ((c.tc : Thread Cert.DwDownReferenceIdeal.nD Cert.DwDownReferenceIdeal.τ).loc Cert.DwDownReferenceIdeal.main_arg2) = m ((c.tc : Thread Cert.DwDownIdeal.nD Cert.DwDownIdeal.τ).loc Cert.DwDownIdeal.main_arg2)
      ∧ m' ((c.tc : Thread Cert.DwDownReferenceIdeal.nD Cert.DwDownReferenceIdeal.τ).loc Cert.DwDownReferenceIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v4_0)) (v1 : (c : Dev Cert.DwDownIdeal.nD) → Buf (Elt Ideal) ((c.tc : Thread Cert.DwDownIdeal.nD Cert.DwDownIdeal.τ).loc Cert.DwDownIdeal.main_v4_1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v4_0) = v0 c
          ∧ r.2.mem ((c.tc : Thread Cert.DwDownIdeal.nD Cert.DwDownIdeal.τ).loc Cert.DwDownIdeal.main_v4_1) = v1 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v14) = v0 c
          ∧ r.2.mem ((c.tc : Thread Cert.DwDownReferenceIdeal.nD Cert.DwDownReferenceIdeal.τ).loc Cert.DwDownReferenceIdeal.main_v15) = v1 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1)
          ∧ r.2.mem ((c.tc : Thread Cert.DwDownReferenceIdeal.nD Cert.DwDownReferenceIdeal.τ).loc Cert.DwDownReferenceIdeal.main_arg2) = m' ((c.tc : Thread Cert.DwDownReferenceIdeal.nD Cert.DwDownReferenceIdeal.τ).loc Cert.DwDownReferenceIdeal.main_arg2)
          ∧ r.2.mem ((c.tc : Thread Cert.DwDownReferenceIdeal.nD Cert.DwDownReferenceIdeal.τ).loc Cert.DwDownReferenceIdeal.main_arg3) = m' ((c.tc : Thread Cert.DwDownReferenceIdeal.nD Cert.DwDownReferenceIdeal.τ).loc Cert.DwDownReferenceIdeal.main_arg3))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v2)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v2) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v4) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v6) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v6_0)) (v1 : (c : Dev Cert.MlpIdeal.nD) → Buf (Elt Ideal) ((c.tc : Thread Cert.MlpIdeal.nD Cert.MlpIdeal.τ).loc Cert.MlpIdeal.main_v6_1)) (v2 : (c : Dev Cert.MlpIdeal.nD) → Buf (Elt Ideal) ((c.tc : Thread Cert.MlpIdeal.nD Cert.MlpIdeal.τ).loc Cert.MlpIdeal.main_v6_2)) (v3 : (c : Dev Cert.MlpIdeal.nD) → Buf (Elt Ideal) ((c.tc : Thread Cert.MlpIdeal.nD Cert.MlpIdeal.τ).loc Cert.MlpIdeal.main_v6_3)) (v4 : (c : Dev Cert.MlpIdeal.nD) → Buf (Elt Ideal) ((c.tc : Thread Cert.MlpIdeal.nD Cert.MlpIdeal.τ).loc Cert.MlpIdeal.main_v6_4)) (v5 : (c : Dev Cert.MlpIdeal.nD) → Buf (Elt Ideal) ((c.tc : Thread Cert.MlpIdeal.nD Cert.MlpIdeal.τ).loc Cert.MlpIdeal.main_v6_5)) (v6 : (c : Dev Cert.MlpIdeal.nD) → Buf (Elt Ideal) ((c.tc : Thread Cert.MlpIdeal.nD Cert.MlpIdeal.τ).loc Cert.MlpIdeal.main_v6_6)) (v7 : (c : Dev Cert.MlpIdeal.nD) → Buf (Elt Ideal) ((c.tc : Thread Cert.MlpIdeal.nD Cert.MlpIdeal.τ).loc Cert.MlpIdeal.main_v6_7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6_0) = v0 c
          ∧ r.2.mem ((c.tc : Thread Cert.MlpIdeal.nD Cert.MlpIdeal.τ).loc Cert.MlpIdeal.main_v6_1) = v1 c
          ∧ r.2.mem ((c.tc : Thread Cert.MlpIdeal.nD Cert.MlpIdeal.τ).loc Cert.MlpIdeal.main_v6_2) = v2 c
          ∧ r.2.mem ((c.tc : Thread Cert.MlpIdeal.nD Cert.MlpIdeal.τ).loc Cert.MlpIdeal.main_v6_3) = v3 c
          ∧ r.2.mem ((c.tc : Thread Cert.MlpIdeal.nD Cert.MlpIdeal.τ).loc Cert.MlpIdeal.main_v6_4) = v4 c
          ∧ r.2.mem ((c.tc : Thread Cert.MlpIdeal.nD Cert.MlpIdeal.τ).loc Cert.MlpIdeal.main_v6_5) = v5 c
          ∧ r.2.mem ((c.tc : Thread Cert.MlpIdeal.nD Cert.MlpIdeal.τ).loc Cert.MlpIdeal.main_v6_6) = v6 c
          ∧ r.2.mem ((c.tc : Thread Cert.MlpIdeal.nD Cert.MlpIdeal.τ).loc Cert.MlpIdeal.main_v6_7) = v7 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v74) = v0 c
          ∧ r.2.mem ((c.tc : Thread Cert.MlpReferenceIdeal.nD Cert.MlpReferenceIdeal.τ).loc Cert.MlpReferenceIdeal.main_v116) = v1 c
          ∧ r.2.mem ((c.tc : Thread Cert.MlpReferenceIdeal.nD Cert.MlpReferenceIdeal.τ).loc Cert.MlpReferenceIdeal.main_v117) = v2 c
          ∧ r.2.mem ((c.tc : Thread Cert.MlpReferenceIdeal.nD Cert.MlpReferenceIdeal.τ).loc Cert.MlpReferenceIdeal.main_v118) = v3 c
          ∧ r.2.mem ((c.tc : Thread Cert.MlpReferenceIdeal.nD Cert.MlpReferenceIdeal.τ).loc Cert.MlpReferenceIdeal.main_v119) = v4 c
          ∧ r.2.mem ((c.tc : Thread Cert.MlpReferenceIdeal.nD Cert.MlpReferenceIdeal.τ).loc Cert.MlpReferenceIdeal.main_v120) = v5 c
          ∧ r.2.mem ((c.tc : Thread Cert.MlpReferenceIdeal.nD Cert.MlpReferenceIdeal.τ).loc Cert.MlpReferenceIdeal.main_v121) = v6 c
          ∧ r.2.mem ((c.tc : Thread Cert.MlpReferenceIdeal.nD Cert.MlpReferenceIdeal.τ).loc Cert.MlpReferenceIdeal.main_v122) = v7 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v57) = v0 c
          ∧ r.2.mem ((c.tc : Thread Cert.ProjReferenceIdeal.nD Cert.ProjReferenceIdeal.τ).loc Cert.ProjReferenceIdeal.main_v58) = v1 c
          ∧ r.2.mem ((c.tc : Thread Cert.ProjReferenceIdeal.nD Cert.ProjReferenceIdeal.τ).loc Cert.ProjReferenceIdeal.main_v59) = v2 c
          ∧ r.2.mem ((c.tc : Thread Cert.ProjReferenceIdeal.nD Cert.ProjReferenceIdeal.τ).loc Cert.ProjReferenceIdeal.main_v60) = v3 c
          ∧ r.2.mem ((c.tc : Thread Cert.ProjReferenceIdeal.nD Cert.ProjReferenceIdeal.τ).loc Cert.ProjReferenceIdeal.main_v61) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hDwIn : Cert.DwIn.Facts) (hDwInIdeal : Cert.DwInIdeal.Facts) (hDwInReferenceIdeal : Cert.DwInReferenceIdeal.Facts) (hDwOut : Cert.DwOut.Facts) (hDwOutIdeal : Cert.DwOutIdeal.Facts) (hDwOutReferenceIdeal : Cert.DwOutReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts) (hPre_finite : Cert.Pre_finite.Facts) (hPre_finite4 : Cert.Pre_finite4.Facts) (hOn_diagonal : Cert.On_diagonal.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownIdeal_pre_finite4 (hDwDownIdeal := hDwDownIdeal) (hPre_finite4 := hPre_finite4)
    ∧ quiescent_DwDownReferenceIdeal (hDwDownReferenceIdeal := hDwDownReferenceIdeal)
    ∧ quiescent_DwDownReferenceIdeal_pre_finite4 (hDwDownReferenceIdeal := hDwDownReferenceIdeal) (hPre_finite4 := hPre_finite4)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_on_diagonal_pre_finite (hKernelIdeal := hKernelIdeal) (hReferenceIdeal := hReferenceIdeal) (hPre_finite := hPre_finite) (hOn_diagonal := hOn_diagonal)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal_pre_finite4 (hDwDownIdeal := hDwDownIdeal) (hDwDownReferenceIdeal := hDwDownReferenceIdeal) (hPre_finite4 := hPre_finite4)
    ∧ preserves_DwIn_DwInIdeal
    ∧ algebraic_DwInIdeal_DwInReferenceIdeal (hDwInIdeal := hDwInIdeal) (hDwInReferenceIdeal := hDwInReferenceIdeal)
    ∧ preserves_DwOut_DwOutIdeal
    ∧ algebraic_DwOutIdeal_DwOutReferenceIdeal (hDwOutIdeal := hDwOutIdeal) (hDwOutReferenceIdeal := hDwOutReferenceIdeal)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
-- ==== On_diagonal.lean ====
abbrev S4096x512 : Shape := ⟨2, ![4096, 512]⟩
abbrev S4096x3200 : Shape := ⟨2, ![4096, 3200]⟩
abbrev S8x64x64 : Shape := ⟨3, ![8, 64, 64]⟩
abbrev S512 : Shape := ⟨1, ![512]⟩
abbrev S8x64x8x64 : Shape := ⟨4, ![8, 64, 8, 64]⟩
abbrev S512x512 : Shape := ⟨2, ![512, 512]⟩
abbrev S_ : Shape := ⟨0, ![]⟩
abbrev S1x512 : Shape := ⟨2, ![1, 512]⟩

class Facts : Prop where
  shapeCasts_S8x64x8x64_S512x512 : S8x64x8x64.ShapeCasts S512x512
  bcast_S_S4096x512 : S_.BroadcastsInDim S4096x512 (![] : Fin 0 → Fin S4096x512.rank)
  bcast_S_S1x512 : S_.BroadcastsInDim S1x512 (![] : Fin 0 → Fin S1x512.rank)
  bcast_S_S512 : S_.BroadcastsInDim S512 (![] : Fin 0 → Fin S512.rank)
  shapeCasts_S512_S1x512 : S512.ShapeCasts S1x512

variable [Facts]

def fn {F : FTy → Type} [FloatOps F] (main_arg0 : FVec F S4096x512 .f32) (main_arg1 : FVec F S4096x512 .f32) (main_arg2 : FVec F S4096x3200 .f32) (main_arg3 : FVec F S8x64x64 .f32) (main_arg4 : FVec F S512 .f32) (main_arg5 : FVec F S8x64x64 .f32) (main_arg6 : FVec F S512 .f32) (main_arg7 : FVec F S512 .f32) (main_arg8 : FVec F S512 .f32) : IVec S4096x512 1 × IVec S4096x512 1 × IVec S512x512 1 × IVec S1x512 1 × IVec S512x512 1 × IVec S1x512 1 × IVec S1x512 1 × IVec S1x512 1 :=
  let main_v0 : IVec S8x64x8x64 32 := iotaInDim S8x64x8x64 32 0
  let main_v1 : IVec S8x64x8x64 32 := iotaInDim S8x64x8x64 32 2
  let main_v2 : IVec S8x64x8x64 1 := cmpi .eq main_v0 main_v1
  let main_v3 : IVec S512x512 1 := shapeCast S512x512 main_v2 shapeCasts_S8x64x8x64_S512x512
  let main_c : IVec S_ 1 := constantI S_ 1 1#1
  let main_v4 : IVec S4096x512 1 := broadcastInDim S4096x512 ![] bcast_S_S4096x512 main_c
  let main_c_0 : IVec S_ 1 := constantI S_ 1 1#1
  let main_v5 : IVec S4096x512 1 := broadcastInDim S4096x512 ![] bcast_S_S4096x512 main_c_0
  let main_c_1 : IVec S_ 1 := constantI S_ 1 1#1
  let main_v6 : IVec S1x512 1 := broadcastInDim S1x512 ![] bcast_S_S1x512 main_c_1
  let main_c_2 : IVec S_ 1 := constantI S_ 1 1#1
  let main_v7 : IVec S1x512 1 := broadcastInDim S1x512 ![] bcast_S_S1x512 main_c_2
  let main_cst : FVec F S_ .f32 := constant S_ .f32 0x00000000#32
  let main_v8 : FVec F S512 .f32 := broadcastInDim S512 ![] bcast_S_S512 main_cst
  let main_v9 : IVec S512 1 := cmpf .une main_arg7 main_v8
  let main_v10 : IVec S1x512 1 := shapeCast S1x512 main_v9 shapeCasts_S512_S1x512
  let main_c_3 : IVec S_ 1 := constantI S_ 1 1#1
  let main_v11 : IVec S1x512 1 := broadcastInDim S1x512 ![] bcast_S_S1x512 main_c_3
  (main_v4, main_v5, main_v3, main_v6, main_v3, main_v7, main_v10, main_v11)
-- ==== Pre_finite.lean ====
abbrev S4096x512 : Shape := ⟨2, ![4096, 512]⟩
abbrev S4096x3200 : Shape := ⟨2, ![4096, 3200]⟩
abbrev S8x64x64 : Shape := ⟨3, ![8, 64, 64]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x3200 : S_.BroadcastsInDim S4096x3200 (![] : Fin 0 → Fin S4096x3200.rank)
  reducesTo_S4096x3200_S_d0_1 : S4096x3200.ReducesTo [0, 1] S_
  bcast_S_S8x64x64 : S_.BroadcastsInDim S8x64x64 (![] : Fin 0 → Fin S8x64x64.rank)
  reducesTo_S8x64x64_S_d0_1_2 : S8x64x64.ReducesTo [0, 1, 2] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S8x64x64 .f32) (main_arg6 : FVec F S512 .f32) (main_arg7 : FVec F S512 .f32) (main_arg8 : FVec F S512 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S8x64x64 .f32 := Host.absf main_arg5
  let main_cst_8 : FVec F S_ .f32 := constant S_ .f32 0x7F800000#32
  let main_v25 : FVec F S8x64x64 .f32 := broadcastInDim S8x64x64 ![] bcast_S_S8x64x64 main_cst_8
  let main_v26 : IVec S8x64x64 1 := cmpf .olt main_v24 main_v25
  let main_c_9 : IVec S_ 1 := constantI S_ 1 1#1
  let main_v27 : IVec S_ 1 := (fun x v => Host.reduce IntOp.andi x v reducesTo_S8x64x64_S_d0_1_2 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x512 .f32) (main_arg2 : FVec F S4096x3200 .f32) (main_arg3 : FVec F S8x64x64 .f32) (main_arg4 : FVec F S512 .f32) (main_arg5 : FVec F S8x64x64 .f32) (main_arg6 : FVec F S512 .f32) (main_arg7 : FVec F S512 .f32) (main_arg8 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x3200 .f32 := Host.absf main_arg2
  let main_cst_2 : FVec F S_ .f32 := constant S_ .f32 0x7F800000#32
  let main_v10 : FVec F S4096x3200 .f32 := broadcastInDim S4096x3200 ![] bcast_S_S4096x3200 main_cst_2
  let main_v11 : IVec S4096x3200 1 := cmpf .olt main_v9 main_v10
  let main_c_3 : IVec S_ 1 := constantI S_ 1 1#1
  let main_v12 : IVec S_ 1 := (fun x v => Host.reduce IntOp.andi x v reducesTo_S4096x3200_S_d0_1 h_S_) main_v11 main_c_3
  let main_v13 : IVec S_ 1 := andi main_v8 main_v12
  let main_v14 : FVec F S8x64x64 .f32 := Host.absf main_arg3
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg4 main_arg5 main_arg6 main_arg7 main_arg8 main_v13 main_v16
-- ==== Pre_finite4.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x4096 .f32) (main_arg1 : FVec F S4096x1024 .f32) (main_arg2 : FVec F S1024 .f32) (main_arg3 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4096x512 : Shape := ⟨2, ![4096, 512]⟩
abbrev S4096x3200 : Shape := ⟨2, ![4096, 3200]⟩
abbrev S8x64x64 : Shape := ⟨3, ![8, 64, 64]⟩
abbrev S512 : Shape := ⟨1, ![512]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x512 : Shape := ⟨2, ![1, 512]⟩
abbrev S2048x512 : Shape := ⟨2, ![2048, 512]⟩
abbrev S1024x512 : Shape := ⟨2, ![1024, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S0x512 : Shape := ⟨2, ![0, 512]⟩
abbrev S1x1x512 : Shape := ⟨3, ![1, 1, 512]⟩
abbrev S1x2x512 : Shape := ⟨3, ![1, 2, 512]⟩
abbrev S2x1x512 : Shape := ⟨3, ![2, 1, 512]⟩
abbrev S2x2x512 : Shape := ⟨3, ![2, 2, 512]⟩
abbrev S3x512 : Shape := ⟨2, ![3, 512]⟩
abbrev S4x1x512 : Shape := ⟨3, ![4, 1, 512]⟩
abbrev S4x2x512 : Shape := ⟨3, ![4, 2, 512]⟩
abbrev S7x512 : Shape := ⟨2, ![7, 512]⟩
abbrev S8x1x512 : Shape := ⟨3, ![8, 1, 512]⟩
abbrev S8x2x512 : Shape := ⟨3, ![8, 2, 512]⟩
abbrev S15x512 : Shape := ⟨2, ![15, 512]⟩
abbrev S16x1x512 : Shape := ⟨3, ![16, 1, 512]⟩
abbrev S16x2x512 : Shape := ⟨3, ![16, 2, 512]⟩
abbrev S31x512 : Shape := ⟨2, ![31, 512]⟩
abbrev S32x1x512 : Shape := ⟨3, ![32, 1, 512]⟩
abbrev S32x2x512 : Shape := ⟨3, ![32, 2, 512]⟩
abbrev S63x512 : Shape := ⟨2, ![63, 512]⟩
abbrev S64x1x512 : Shape := ⟨3, ![64, 1, 512]⟩
abbrev S64x2x512 : Shape := ⟨3, ![64, 2, 512]⟩
abbrev S127x512 : Shape := ⟨2, ![127, 512]⟩
abbrev S128x1x512 : Shape := ⟨3, ![128, 1, 512]⟩
abbrev S128x2x512 : Shape := ⟨3, ![128, 2, 512]⟩
abbrev S255x512 : Shape := ⟨2, ![255, 512]⟩
abbrev S256x1x512 : Shape := ⟨3, ![256, 1, 512]⟩
abbrev S256x2x512 : Shape := ⟨3, ![256, 2, 512]⟩
abbrev S511x512 : Shape := ⟨2, ![511, 512]⟩
abbrev S512x1x512 : Shape := ⟨3, ![512, 1, 512]⟩
abbrev S512x2x512 : Shape := ⟨3, ![512, 2, 512]⟩
abbrev S1023x512 : Shape := ⟨2, ![1023, 512]⟩
abbrev S1024x1x512 : Shape := ⟨3, ![1024, 1, 512]⟩
abbrev S1024x2x512 : Shape := ⟨3, ![1024, 2, 512]⟩
abbrev S2047x512 : Shape := ⟨2, ![2047, 512]⟩
abbrev S2048x1x512 : Shape := ⟨3, ![2048, 1, 512]⟩
abbrev S2048x2x512 : Shape := ⟨3, ![2048, 2, 512]⟩
abbrev S256 : Shape := ⟨1, ![256]⟩
abbrev S256x1 : Shape := ⟨2, ![256, 1]⟩

abbrev nBuf : Space → Nat
  | .hbm => 311
  | .vmem => 27
  | .smem => 0
  | _ => 0

abbrev hbmTy0_0 (i : Nat) : BufTy := match i % 128 with
  | 0 => ⟨S4096x512, .f32⟩
  | 1 => ⟨S4096x512, .f32⟩
  | 2 => ⟨S4096x3200, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S512, .f32⟩
  | 9 => ⟨S8x8, .i32⟩
  | 10 => ⟨S8x8, .i32⟩
  | 11 => ⟨S_, .i32⟩
  | 12 => ⟨S8x8, .i32⟩
  | 13 => ⟨S8x8, .i32⟩
  | 14 => ⟨S8x8, .i1⟩
  | 15 => ⟨S8x8, .f32⟩
  | 16 => ⟨S8x1x8x1, .f32⟩
  | 17 => ⟨S8x64x1x64, .f32⟩
  | 18 => ⟨S8x64x8x64, .f32⟩
  | 19 => ⟨S8x64x8x64, .f32⟩
  | 20 => ⟨S8x64x8x64, .f32⟩
  | 21 => ⟨S512x512, .f32⟩
  | 22 => ⟨S8x8, .i32⟩
  | 23 => ⟨S8x8, .i32⟩
  | 24 => ⟨S_, .i32⟩
  | 25 => ⟨S8x8, .i32⟩
  | 26 => ⟨S8x8, .i32⟩
  | 27 => ⟨S8x8, .i1⟩
  | 28 => ⟨S8x8, .f32⟩
  | 29 => ⟨S8x1x8x1, .f32⟩
  | 30 => ⟨S8x64x1x64, .f32⟩
  | 31 => ⟨S8x64x8x64, .f32⟩
  | 32 => ⟨S8x64x8x64, .f32⟩
  | 33 => ⟨S8x64x8x64, .f32⟩
  | 34 => ⟨S512x512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S512, .f32⟩
  | 63 => ⟨S_, .f32⟩
  | 64 => ⟨S512, .f32⟩
  | 65 => ⟨S512, .f32⟩
  | 66 => ⟨S512, .f32⟩
  | 67 => ⟨S512, .f32⟩
  | 68 => ⟨S512, .i1⟩
  | 69 => ⟨S512, .f32⟩
  | 70 => ⟨S512, .f32⟩
  | 71 => ⟨S512, .f32⟩
  | 72 => ⟨S512, .f32⟩
  | 73 => ⟨S512, .f32⟩
  | 74 => ⟨S512, .f32⟩
  | 75 => ⟨S512, .f32⟩
  | 76 => ⟨S512, .f32⟩
  | 77 => ⟨S512, .f32⟩
  | 78 => ⟨S1x512, .f32⟩
  | 79 => ⟨S4096x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S2048x512, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S1024x512, .f32⟩
  | 101 => ⟨S1024x512, .f32⟩
  | 102 => ⟨S1024x512, .f32⟩
  | 103 => ⟨S1024x512, .f32⟩
  | 104 => ⟨S1024x512, .f32⟩
  | 105 => ⟨S1024x512, .f32⟩
  | 106 => ⟨S1024x512, .f32⟩
  | 107 => ⟨S512x512, .f32⟩
  | 108 => ⟨S512x512, .f32⟩
  | 109 => ⟨S512x512, .f32⟩
  | 110 => ⟨S512x512, .f32⟩
  | 111 => ⟨S512x512, .f32⟩
  | 112 => ⟨S512x512, .f32⟩
  | 113 => ⟨S512x512, .f32⟩
  | 114 => ⟨S256x512, .f32⟩
  | 115 => ⟨S256x512, .f32⟩
  | 116 => ⟨S256x512, .f32⟩
  | 117 => ⟨S256x512, .f32⟩
  | 118 => ⟨S256x512, .f32⟩
  | 119 => ⟨S256x512, .f32⟩
  | 120 => ⟨S256x512, .f32⟩
  | 121 => ⟨S128x512, .f32⟩
  | 122 => ⟨S128x512, .f32⟩
  | 123 => ⟨S128x512, .f32⟩
  | 124 => ⟨S128x512, .f32⟩
  | 125 => ⟨S128x512, .f32⟩
  | 126 => ⟨S128x512, .f32⟩
  | 127 => ⟨S128x512, .f32⟩
  | _ => ⟨S4096x512, .f32⟩

abbrev hbmTy0_1 (i : Nat) : BufTy := match i % 128 with
  | 0 => ⟨S64x512, .f32⟩
  | 1 => ⟨S64x512, .f32⟩
  | 2 => ⟨S64x512, .f32⟩
  | 3 => ⟨S64x512, .f32⟩
  | 4 => ⟨S64x512, .f32⟩
  | 5 => ⟨S64x512, .f32⟩
  | 6 => ⟨S64x512, .f32⟩
  | 7 => ⟨S32x512, .f32⟩
  | 8 => ⟨S32x512, .f32⟩
  | 9 => ⟨S32x512, .f32⟩
  | 10 => ⟨S32x512, .f32⟩
  | 11 => ⟨S32x512, .f32⟩
  | 12 => ⟨S32x512, .f32⟩
  | 13 => ⟨S32x512, .f32⟩
  | 14 => ⟨S16x512, .f32⟩
  | 15 => ⟨S16x512, .f32⟩
  | 16 => ⟨S16x512, .f32⟩
  | 17 => ⟨S16x512, .f32⟩
  | 18 => ⟨S16x512, .f32⟩
  | 19 => ⟨S16x512, .f32⟩
  | 20 => ⟨S16x512, .f32⟩
  | 21 => ⟨S8x512, .f32⟩
  | 22 => ⟨S8x512, .f32⟩
  | 23 => ⟨S8x512, .f32⟩
  | 24 => ⟨S8x512, .f32⟩
  | 25 => ⟨S8x512, .f32⟩
  | 26 => ⟨S8x512, .f32⟩
  | 27 => ⟨S8x512, .f32⟩
  | 28 => ⟨S4x512, .f32⟩
  | 29 => ⟨S4x512, .f32⟩
  | 30 => ⟨S4x512, .f32⟩
  | 31 => ⟨S4x512, .f32⟩
  | 32 => ⟨S4x512, .f32⟩
  | 33 => ⟨S4x512, .f32⟩
  | 34 => ⟨S4x512, .f32⟩
  | 35 => ⟨S2x512, .f32⟩
  | 36 => ⟨S2x512, .f32⟩
  | 37 => ⟨S2x512, .f32⟩
  | 38 => ⟨S2x512, .f32⟩
  | 39 => ⟨S2x512, .f32⟩
  | 40 => ⟨S2x512, .f32⟩
  | 41 => ⟨S2x512, .f32⟩
  | 42 => ⟨S1x512, .f32⟩
  | 43 => ⟨S1x512, .f32⟩
  | 44 => ⟨S1x512, .f32⟩
  | 45 => ⟨S1x512, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S0x512, .f32⟩
  | 52 => ⟨S1x512, .f32⟩
  | 53 => ⟨S1x512, .f32⟩
  | 54 => ⟨S1x512, .f32⟩
  | 55 => ⟨S1x1x512, .f32⟩
  | 56 => ⟨S1x1x512, .f32⟩
  | 57 => ⟨S1x2x512, .f32⟩
  | 58 => ⟨S2x512, .f32⟩
  | 59 => ⟨S_, .f32⟩
  | 60 => ⟨S1x512, .f32⟩
  | 61 => ⟨S1x512, .f32⟩
  | 62 => ⟨S2x512, .f32⟩
  | 63 => ⟨S2x512, .f32⟩
  | 64 => ⟨S2x512, .f32⟩
  | 65 => ⟨S2x1x512, .f32⟩
  | 66 => ⟨S2x1x512, .f32⟩
  | 67 => ⟨S2x2x512, .f32⟩
  | 68 => ⟨S4x512, .f32⟩
  | 69 => ⟨S_, .f32⟩
  | 70 => ⟨S1x512, .f32⟩
  | 71 => ⟨S3x512, .f32⟩
  | 72 => ⟨S4x512, .f32⟩
  | 73 => ⟨S4x512, .f32⟩
  | 74 => ⟨S4x512, .f32⟩
  | 75 => ⟨S4x1x512, .f32⟩
  | 76 => ⟨S4x1x512, .f32⟩
  | 77 => ⟨S4x2x512, .f32⟩
  | 78 => ⟨S8x512, .f32⟩
  | 79 => ⟨S_, .f32⟩
  | 80 => ⟨S1x512, .f32⟩
  | 81 => ⟨S7x512, .f32⟩
  | 82 => ⟨S8x512, .f32⟩
  | 83 => ⟨S8x512, .f32⟩
  | 84 => ⟨S8x512, .f32⟩
  | 85 => ⟨S8x1x512, .f32⟩
  | 86 => ⟨S8x1x512, .f32⟩
  | 87 => ⟨S8x2x512, .f32⟩
  | 88 => ⟨S16x512, .f32⟩
  | 89 => ⟨S_, .f32⟩
  | 90 => ⟨S1x512, .f32⟩
  | 91 => ⟨S15x512, .f32⟩
  | 92 => ⟨S16x512, .f32⟩
  | 93 => ⟨S16x512, .f32⟩
  | 94 => ⟨S16x512, .f32⟩
  | 95 => ⟨S16x1x512, .f32⟩
  | 96 => ⟨S16x1x512, .f32⟩
  | 97 => ⟨S16x2x512, .f32⟩
  | 98 => ⟨S32x512, .f32⟩
  | 99 => ⟨S_, .f32⟩
  | 100 => ⟨S1x512, .f32⟩
  | 101 => ⟨S31x512, .f32⟩
  | 102 => ⟨S32x512, .f32⟩
  | 103 => ⟨S32x512, .f32⟩
  | 104 => ⟨S32x512, .f32⟩
  | 105 => ⟨S32x1x512, .f32⟩
  | 106 => ⟨S32x1x512, .f32⟩
  | 107 => ⟨S32x2x512, .f32⟩
  | 108 => ⟨S64x512, .f32⟩
  | 109 => ⟨S_, .f32⟩
  | 110 => ⟨S1x512, .f32⟩
  | 111 => ⟨S63x512, .f32⟩
  | 112 => ⟨S64x512, .f32⟩
  | 113 => ⟨S64x512, .f32⟩
  | 114 => ⟨S64x512, .f32⟩
  | 115 => ⟨S64x1x512, .f32⟩
  | 116 => ⟨S64x1x512, .f32⟩
  | 117 => ⟨S64x2x512, .f32⟩
  | 118 => ⟨S128x512, .f32⟩
  | 119 => ⟨S_, .f32⟩
  | 120 => ⟨S1x512, .f32⟩
  | 121 => ⟨S127x512, .f32⟩
  | 122 => ⟨S128x512, .f32⟩
  | 123 => ⟨S128x512, .f32⟩
  | 124 => ⟨S128x512, .f32⟩
  | 125 => ⟨S128x1x512, .f32⟩
  | 126 => ⟨S128x1x512, .f32⟩
  | 127 => ⟨S128x2x512, .f32⟩
  | _ => ⟨S4096x512, .f32⟩

abbrev hbmTy0_2 (i : Nat) : BufTy := match i % 128 with
  | 0 => ⟨S256x512, .f32⟩
  | 1 => ⟨S_, .f32⟩
  | 2 => ⟨S1x512, .f32⟩
  | 3 => ⟨S255x512, .f32⟩
  | 4 => ⟨S256x512, .f32⟩
  | 5 => ⟨S256x512, .f32⟩
  | 6 => ⟨S256x512, .f32⟩
  | 7 => ⟨S256x1x512, .f32⟩
  | 8 => ⟨S256x1x512, .f32⟩
  | 9 => ⟨S256x2x512, .f32⟩
  | 10 => ⟨S512x512, .f32⟩
  | 11 => ⟨S_, .f32⟩
  | 12 => ⟨S1x512, .f32⟩
  | 13 => ⟨S511x512, .f32⟩
  | 14 => ⟨S512x512, .f32⟩
  | 15 => ⟨S512x512, .f32⟩
  | 16 => ⟨S512x512, .f32⟩
  | 17 => ⟨S512x1x512, .f32⟩
  | 18 => ⟨S512x1x512, .f32⟩
  | 19 => ⟨S512x2x512, .f32⟩
  | 20 => ⟨S1024x512, .f32⟩
  | 21 => ⟨S_, .f32⟩
  | 22 => ⟨S1x512, .f32⟩
  | 23 => ⟨S1023x512, .f32⟩
  | 24 => ⟨S1024x512, .f32⟩
  | 25 => ⟨S1024x512, .f32⟩
  | 26 => ⟨S1024x512, .f32⟩
  | 27 => ⟨S1024x1x512, .f32⟩
  | 28 => ⟨S1024x1x512, .f32⟩
  | 29 => ⟨S1024x2x512, .f32⟩
  | 30 => ⟨S2048x512, .f32⟩
  | 31 => ⟨S_, .f32⟩
  | 32 => ⟨S1x512, .f32⟩
  | 33 => ⟨S2047x512, .f32⟩
  | 34 => ⟨S2048x512, .f32⟩
  | 35 => ⟨S2048x512, .f32⟩
  | 36 => ⟨S2048x512, .f32⟩
  | 37 => ⟨S2048x1x512, .f32⟩
  | 38 => ⟨S2048x1x512, .f32⟩
  | 39 => ⟨S2048x2x512, .f32⟩
  | 40 => ⟨S4096x512, .f32⟩
  | 41 => ⟨S512x512, .bf16⟩
  | 42 => ⟨S1x512, .f32⟩
  | 43 => ⟨S512x512, .bf16⟩
  | 44 => ⟨S1x512, .f32⟩
  | 45 => ⟨S1x512, .f32⟩
  | 46 => ⟨S1x512, .f32⟩
  | 47 => ⟨S4096x512, .f32⟩
  | 48 => ⟨S4096x512, .f32⟩
  | 49 => ⟨S512x512, .f32⟩
  | 50 => ⟨S1x512, .f32⟩
  | 51 => ⟨S512x512, .f32⟩
  | 52 => ⟨S1x512, .f32⟩
  | 53 => ⟨S1x512, .f32⟩
  | 54 => ⟨S1x512, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S512x512, .f32⟩
  | .local _ .vmem, ⟨21, _⟩ => ⟨S1x512, .f32⟩
  | .local _ .vmem, ⟨22, _⟩ => ⟨S512x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_call0_v0 : Ref sig .tc := ⟨.hbm, 62, rfl⟩
abbrev main_call0_call0_cst : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_v6 : Ref sig .tc := ⟨.hbm, 70, rfl⟩
abbrev main_call0_call0_v7 : Ref sig .tc := ⟨.hbm, 71, rfl⟩
abbrev main_call0_call0_v8 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_v1 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_7 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_8 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_9 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_10 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_cst_11 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_12 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_cst_13 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_cst_14 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_15 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_cst_16 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_cst_17 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_cst_18 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258_0 : Ref sig .tc := ⟨.hbm, 303, rfl⟩
abbrev main_v258_1 : Ref sig .tc := ⟨.hbm, 304, rfl⟩
abbrev main_v258_2 : Ref sig .tc := ⟨.hbm, 305, rfl⟩
abbrev main_v258_3 : Ref sig .tc := ⟨.hbm, 306, rfl⟩
abbrev main_v258_4 : Ref sig .tc := ⟨.hbm, 307, rfl⟩
abbrev main_v258_5 : Ref sig .tc := ⟨.hbm, 308, rfl⟩
abbrev main_v258_6 : Ref sig .tc := ⟨.hbm, 309, rfl⟩
abbrev main_v258_7 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v377 : BitVec 32 := Scalar.extui v0
  let c0_i32_114 : BitVec 32 := 0#32
  let v378 : BitVec 1 := Scalar.cmpi .ne v377 c0_i32_114
  v378

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v379 : BitVec 1 := Scalar.xori v0 v_true
  let v380 : BitVec 32 := Scalar.extui v379
  let c0_i32_115 : BitVec 32 := 0#32
  let v381 : BitVec 1 := Scalar.cmpi .ne v380 c0_i32_115
  v381

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v390 : BitVec 32 := Scalar.extui v0
  let c0_i32_121 : BitVec 32 := 0#32
  let v391 : BitVec 1 := Scalar.cmpi .ne v390 c0_i32_121
  v391

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_122 : BitVec 1 := 1#1
  let v392 : BitVec 1 := Scalar.xori v0 true_122
  let v393 : BitVec 32 := Scalar.extui v392
  let c0_i32_123 : BitVec 32 := 0#32
  let v394 : BitVec 1 := Scalar.cmpi .ne v393 c0_i32_123
  v394

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v383 : BitVec 32 := Scalar.extui v0
  let c0_i32_117 : BitVec 32 := 0#32
  let v384 : BitVec 1 := Scalar.cmpi .ne v383 c0_i32_117
  v384

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_118 : BitVec 1 := 1#1
  let v385 : BitVec 1 := Scalar.xori v0 true_118
  let v386 : BitVec 32 := Scalar.extui v385
  let c0_i32_119 : BitVec 32 := 0#32
  let v387 : BitVec 1 := Scalar.cmpi .ne v386 c0_i32_119
  v387

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v397 : BitVec 32 := Scalar.extui v0
  let c0_i32_125 : BitVec 32 := 0#32
  let v398 : BitVec 1 := Scalar.cmpi .ne v397 c0_i32_125
  v398

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_126 : BitVec 1 := 1#1
  let v399 : BitVec 1 := Scalar.xori v0 true_126
  let v400 : BitVec 32 := Scalar.extui v399
  let c0_i32_127 : BitVec 32 := 0#32
  let v401 : BitVec 1 := Scalar.cmpi .ne v400 c0_i32_127
  v401

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v402 : BitVec 32 := Scalar.extui v0
  let c0_i32_128 : BitVec 32 := 0#32
  let v403 : BitVec 1 := Scalar.cmpi .ne v402 c0_i32_128
  v403

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_129 : BitVec 1 := 1#1
  let v404 : BitVec 1 := Scalar.xori v0 true_129
  let v405 : BitVec 32 := Scalar.extui v404
  let c0_i32_130 : BitVec 32 := 0#32
  let v406 : BitVec 1 := Scalar.cmpi .ne v405 c0_i32_130
  v406

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let v407 : BitVec 32 := Scalar.extui v0
  let c0_i32_131 : BitVec 32 := 0#32
  let v408 : BitVec 1 := Scalar.cmpi .ne v407 c0_i32_131
  v408

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let true_132 : BitVec 1 := 1#1
  let v409 : BitVec 1 := Scalar.xori v0 true_132
  let v410 : BitVec 32 := Scalar.extui v409
  let c0_i32_133 : BitVec 32 := 0#32
  let v411 : BitVec 1 := Scalar.cmpi .ne v410 c0_i32_133
  v411

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x512 : Shape := ⟨2, ![4096, 512]⟩
abbrev S4096x3200 : Shape := ⟨2, ![4096, 3200]⟩
abbrev S8x64x64 : Shape := ⟨3, ![8, 64, 64]⟩
abbrev S512 : Shape := ⟨1, ![512]⟩
abbrev S4096x8x64 : Shape := ⟨3, ![4096, 8, 64]⟩
abbrev S8x64x4096 : Shape := ⟨3, ![8, 64, 4096]⟩
abbrev S1x512 : Shape := ⟨2, ![1, 512]⟩
abbrev S_ : Shape := ⟨0, ![]⟩
abbrev S2048x512 : Shape := ⟨2, ![2048, 512]⟩
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S0x512 : Shape := ⟨2, ![0, 512]⟩
abbrev S1x1x512 : Shape := ⟨3, ![1, 1, 512]⟩
abbrev S1x2x512 : Shape := ⟨3, ![1, 2, 512]⟩
abbrev S2x1x512 : Shape := ⟨3, ![2, 1, 512]⟩
abbrev S2x2x512 : Shape := ⟨3, ![2, 2, 512]⟩
abbrev S3x512 : Shape := ⟨2, ![3, 512]⟩
abbrev S4x1x512 : Shape := ⟨3, ![4, 1, 512]⟩
abbrev S4x2x512 : Shape := ⟨3, ![4, 2, 512]⟩
abbrev S7x512 : Shape := ⟨2, ![7, 512]⟩
abbrev S8x1x512 : Shape := ⟨3, ![8, 1, 512]⟩
abbrev S8x2x512 : Shape := ⟨3, ![8, 2, 512]⟩
abbrev S15x512 : Shape := ⟨2, ![15, 512]⟩
abbrev S16x1x512 : Shape := ⟨3, ![16, 1, 512]⟩
abbrev S16x2x512 : Shape := ⟨3, ![16, 2, 512]⟩
abbrev S31x512 : Shape := ⟨2, ![31, 512]⟩
abbrev S32x1x512 : Shape := ⟨3, ![32, 1, 512]⟩
abbrev S32x2x512 : Shape := ⟨3, ![32, 2, 512]⟩
abbrev S63x512 : Shape := ⟨2, ![63, 512]⟩
abbrev S64x1x512 : Shape := ⟨3, ![64, 1, 512]⟩
abbrev S64x2x512 : Shape := ⟨3, ![64, 2, 512]⟩
abbrev S127x512 : Shape := ⟨2, ![127, 512]⟩
abbrev S128x1x512 : Shape := ⟨3, ![128, 1, 512]⟩
abbrev S128x2x512 : Shape := ⟨3, ![128, 2, 512]⟩
abbrev S255x512 : Shape := ⟨2, ![255, 512]⟩
abbrev S256x1x512 : Shape := ⟨3, ![256, 1, 512]⟩
abbrev S256x2x512 : Shape := ⟨3, ![256, 2, 512]⟩
abbrev S511x512 : Shape := ⟨2, ![511, 512]⟩
abbrev S512x1x512 : Shape := ⟨3, ![512, 1, 512]⟩
abbrev S512x2x512 : Shape := ⟨3, ![512, 2, 512]⟩
abbrev S1023x512 : Shape := ⟨2, ![1023, 512]⟩
abbrev S1024x1x512 : Shape := ⟨3, ![1024, 1, 512]⟩
abbrev S1024x2x512 : Shape := ⟨3, ![1024, 2, 512]⟩
abbrev S2047x512 : Shape := ⟨2, ![2047, 512]⟩
abbrev S2048x1x512 : Shape := ⟨3, ![2048, 1, 512]⟩
abbrev S2048x2x512 : Shape := ⟨3, ![2048, 2, 512]⟩
abbrev S4096 : Shape := ⟨1, ![4096]⟩
abbrev S4096x1 : Shape := ⟨2, ![4096, 1]⟩
abbrev S8x4096x64 : Shape := ⟨3, ![8, 4096, 64]⟩
abbrev S8x64x1x64 : Shape := ⟨4, ![8, 64, 1, 64]⟩
abbrev S8x64x8x64 : Shape := ⟨4, ![8, 64, 8, 64]⟩

abbrev nBuf : Space → Nat
  | .hbm => 858
  | .vmem => 0
  | .smem => 0
  | _ => 0

abbrev hbmTy0_0 (i : Nat) : BufTy := match i % 128 with
  | 0 => ⟨S4096x512, .f32⟩
  | 1 => ⟨S4096x512, .f32⟩
  | 2 => ⟨S4096x3200, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S512, .f32⟩
  | 9 => ⟨S4096x512, .f32⟩
  | 10 => ⟨S4096x8x64, .f32⟩
  | 11 => ⟨S8x64x4096, .f32⟩
  | 12 => ⟨S4096x8x64, .f32⟩
  | 13 => ⟨S4096x512, .f32⟩
  | 14 => ⟨S1x512, .f32⟩
  | 15 => ⟨S4096x512, .f32⟩
  | 16 => ⟨S4096x512, .f32⟩
  | 17 => ⟨S8x64x4096, .f32⟩
  | 18 => ⟨S4096x8x64, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S512, .f32⟩
  | 51 => ⟨S_, .f32⟩
  | 52 => ⟨S512, .f32⟩
  | 53 => ⟨S512, .f32⟩
  | 54 => ⟨S512, .f32⟩
  | 55 => ⟨S512, .f32⟩
  | 56 => ⟨S512, .i1⟩
  | 57 => ⟨S512, .f32⟩
  | 58 => ⟨S512, .f32⟩
  | 59 => ⟨S512, .f32⟩
  | 60 => ⟨S512, .f32⟩
  | 61 => ⟨S512, .f32⟩
  | 62 => ⟨S512, .f32⟩
  | 63 => ⟨S512, .f32⟩
  | 64 => ⟨S512, .f32⟩
  | 65 => ⟨S_, .f32⟩
  | 66 => ⟨S512, .f32⟩
  | 67 => ⟨S512, .i1⟩
  | 68 => ⟨S_, .f32⟩
  | 69 => ⟨S512, .f32⟩
  | 70 => ⟨S512, .f32⟩
  | 71 => ⟨S_, .f32⟩
  | 72 => ⟨S512, .f32⟩
  | 73 => ⟨S512, .i1⟩
  | 74 => ⟨S_, .f32⟩
  | 75 => ⟨S512, .f32⟩
  | 76 => ⟨S512, .f32⟩
  | 77 => ⟨S512, .f32⟩
  | 78 => ⟨S512, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S512, .f32⟩
  | 87 => ⟨S512, .i1⟩
  | 88 => ⟨S_, .f32⟩
  | 89 => ⟨S512, .f32⟩
  | 90 => ⟨S512, .f32⟩
  | 91 => ⟨S512, .f32⟩
  | 92 => ⟨S512, .f32⟩
  | 93 => ⟨S512, .f32⟩
  | 94 => ⟨S_, .f32⟩
  | 95 => ⟨S512, .f32⟩
  | 96 => ⟨S512, .f32⟩
  | 97 => ⟨S512, .f32⟩
  | 98 => ⟨S1x512, .f32⟩
  | 99 => ⟨S4096x512, .f32⟩
  | 100 => ⟨S4096x512, .f32⟩
  | 101 => ⟨S4096x512, .f32⟩
  | 102 => ⟨S_, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S_, .f32⟩
  | 112 => ⟨S4096x512, .f32⟩
  | 113 => ⟨S4096x512, .i1⟩
  | 114 => ⟨S_, .f32⟩
  | 115 => ⟨S4096x512, .f32⟩
  | 116 => ⟨S4096x512, .i1⟩
  | 117 => ⟨S_, .f32⟩
  | 118 => ⟨S4096x512, .f32⟩
  | 119 => ⟨S_, .f32⟩
  | 120 => ⟨S4096x512, .f32⟩
  | 121 => ⟨S_, .f32⟩
  | 122 => ⟨S4096x512, .f32⟩
  | 123 => ⟨S4096x512, .f32⟩
  | 124 => ⟨S4096x512, .f32⟩
  | 125 => ⟨S4096x512, .f32⟩
  | 126 => ⟨S_, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S1024x512, .f32⟩
  | 11 => ⟨S1024x512, .f32⟩
  | 12 => ⟨S1024x512, .f32⟩
  | 13 => ⟨S1024x512, .f32⟩
  | 14 => ⟨S1024x512, .f32⟩
  | 15 => ⟨S1024x512, .f32⟩
  | 16 => ⟨S1024x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S256x512, .f32⟩
  | 25 => ⟨S256x512, .f32⟩
  | 26 => ⟨S256x512, .f32⟩
  | 27 => ⟨S256x512, .f32⟩
  | 28 => ⟨S256x512, .f32⟩
  | 29 => ⟨S256x512, .f32⟩
  | 30 => ⟨S256x512, .f32⟩
  | 31 => ⟨S128x512, .f32⟩
  | 32 => ⟨S128x512, .f32⟩
  | 33 => ⟨S128x512, .f32⟩
  | 34 => ⟨S128x512, .f32⟩
  | 35 => ⟨S128x512, .f32⟩
  | 36 => ⟨S128x512, .f32⟩
  | 37 => ⟨S128x512, .f32⟩
  | 38 => ⟨S64x512, .f32⟩
  | 39 => ⟨S64x512, .f32⟩
  | 40 => ⟨S64x512, .f32⟩
  | 41 => ⟨S64x512, .f32⟩
  | 42 => ⟨S64x512, .f32⟩
  | 43 => ⟨S64x512, .f32⟩
  | 44 => ⟨S64x512, .f32⟩
  | 45 => ⟨S32x512, .f32⟩
  | 46 => ⟨S32x512, .f32⟩
  | 47 => ⟨S32x512, .f32⟩
  | 48 => ⟨S32x512, .f32⟩
  | 49 => ⟨S32x512, .f32⟩
  | 50 => ⟨S32x512, .f32⟩
  | 51 => ⟨S32x512, .f32⟩
  | 52 => ⟨S16x512, .f32⟩
  | 53 => ⟨S16x512, .f32⟩
  | 54 => ⟨S16x512, .f32⟩
  | 55 => ⟨S16x512, .f32⟩
  | 56 => ⟨S16x512, .f32⟩
  | 57 => ⟨S16x512, .f32⟩
  | 58 => ⟨S16x512, .f32⟩
  | 59 => ⟨S8x512, .f32⟩
  | 60 => ⟨S8x512, .f32⟩
  | 61 => ⟨S8x512, .f32⟩
  | 62 => ⟨S8x512, .f32⟩
  | 63 => ⟨S8x512, .f32⟩
  | 64 => ⟨S8x512, .f32⟩
  | 65 => ⟨S8x512, .f32⟩
  | 66 => ⟨S4x512, .f32⟩
  | 67 => ⟨S4x512, .f32⟩
  | 68 => ⟨S4x512, .f32⟩
  | 69 => ⟨S4x512, .f32⟩
  | 70 => ⟨S4x512, .f32⟩
  | 71 => ⟨S4x512, .f32⟩
  | 72 => ⟨S4x512, .f32⟩
  | 73 => ⟨S2x512, .f32⟩
  | 74 => ⟨S2x512, .f32⟩
  | 75 => ⟨S2x512, .f32⟩
  | 76 => ⟨S2x512, .f32⟩
  | 77 => ⟨S2x512, .f32⟩
  | 78 => ⟨S2x512, .f32⟩
  | 79 => ⟨S2x512, .f32⟩
  | 80 => ⟨S1x512, .f32⟩
  | 81 => ⟨S1x512, .f32⟩
  | 82 => ⟨S1x512, .f32⟩
  | 83 => ⟨S1x512, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S0x512, .f32⟩
  | 90 => ⟨S1x512, .f32⟩
  | 91 => ⟨S_, .f32⟩
  | 92 => ⟨S1x512, .f32⟩
  | 93 => ⟨S1x512, .f32⟩
  | 94 => ⟨S1x512, .f32⟩
  | 95 => ⟨S1x1x512, .f32⟩
  | 96 => ⟨S1x1x512, .f32⟩
  | 97 => ⟨S1x2x512, .f32⟩
  | 98 => ⟨S2x512, .f32⟩
  | 99 => ⟨S_, .f32⟩
  | 100 => ⟨S1x512, .f32⟩
  | 101 => ⟨S1x512, .f32⟩
  | 102 => ⟨S2x512, .f32⟩
  | 103 => ⟨S_, .f32⟩
  | 104 => ⟨S1x512, .f32⟩
  | 105 => ⟨S2x512, .f32⟩
  | 106 => ⟨S2x512, .f32⟩
  | 107 => ⟨S2x1x512, .f32⟩
  | 108 => ⟨S2x1x512, .f32⟩
  | 109 => ⟨S2x2x512, .f32⟩
  | 110 => ⟨S4x512, .f32⟩
  | 111 => ⟨S_, .f32⟩
  | 112 => ⟨S1x512, .f32⟩
  | 113 => ⟨S3x512, .f32⟩
  | 114 => ⟨S4x512, .f32⟩
  | 115 => ⟨S_, .f32⟩
  | 116 => ⟨S1x512, .f32⟩
  | 117 => ⟨S4x512, .f32⟩
  | 118 => ⟨S4x512, .f32⟩
  | 119 => ⟨S4x1x512, .f32⟩
  | 120 => ⟨S4x1x512, .f32⟩
  | 121 => ⟨S4x2x512, .f32⟩
  | 122 => ⟨S8x512, .f32⟩
  | 123 => ⟨S_, .f32⟩
  | 124 => ⟨S1x512, .f32⟩
  | 125 => ⟨S7x512, .f32⟩
  | 126 => ⟨S8x512, .f32⟩
  | 127 => ⟨S_, .f32⟩
  | _ => ⟨S4096x512, .f32⟩

abbrev hbmTy0_2 (i : Nat) : BufTy := match i % 128 with
  | 0 => ⟨S1x512, .f32⟩
  | 1 => ⟨S8x512, .f32⟩
  | 2 => ⟨S8x512, .f32⟩
  | 3 => ⟨S8x1x512, .f32⟩
  | 4 => ⟨S8x1x512, .f32⟩
  | 5 => ⟨S8x2x512, .f32⟩
  | 6 => ⟨S16x512, .f32⟩
  | 7 => ⟨S_, .f32⟩
  | 8 => ⟨S1x512, .f32⟩
  | 9 => ⟨S15x512, .f32⟩
  | 10 => ⟨S16x512, .f32⟩
  | 11 => ⟨S_, .f32⟩
  | 12 => ⟨S1x512, .f32⟩
  | 13 => ⟨S16x512, .f32⟩
  | 14 => ⟨S16x512, .f32⟩
  | 15 => ⟨S16x1x512, .f32⟩
  | 16 => ⟨S16x1x512, .f32⟩
  | 17 => ⟨S16x2x512, .f32⟩
  | 18 => ⟨S32x512, .f32⟩
  | 19 => ⟨S_, .f32⟩
  | 20 => ⟨S1x512, .f32⟩
  | 21 => ⟨S31x512, .f32⟩
  | 22 => ⟨S32x512, .f32⟩
  | 23 => ⟨S_, .f32⟩
  | 24 => ⟨S1x512, .f32⟩
  | 25 => ⟨S32x512, .f32⟩
  | 26 => ⟨S32x512, .f32⟩
  | 27 => ⟨S32x1x512, .f32⟩
  | 28 => ⟨S32x1x512, .f32⟩
  | 29 => ⟨S32x2x512, .f32⟩
  | 30 => ⟨S64x512, .f32⟩
  | 31 => ⟨S_, .f32⟩
  | 32 => ⟨S1x512, .f32⟩
  | 33 => ⟨S63x512, .f32⟩
  | 34 => ⟨S64x512, .f32⟩
  | 35 => ⟨S_, .f32⟩
  | 36 => ⟨S1x512, .f32⟩
  | 37 => ⟨S64x512, .f32⟩
  | 38 => ⟨S64x512, .f32⟩
  | 39 => ⟨S64x1x512, .f32⟩
  | 40 => ⟨S64x1x512, .f32⟩
  | 41 => ⟨S64x2x512, .f32⟩
  | 42 => ⟨S128x512, .f32⟩
  | 43 => ⟨S_, .f32⟩
  | 44 => ⟨S1x512, .f32⟩
  | 45 => ⟨S127x512, .f32⟩
  | 46 => ⟨S128x512, .f32⟩
  | 47 => ⟨S_, .f32⟩
  | 48 => ⟨S1x512, .f32⟩
  | 49 => ⟨S128x512, .f32⟩
  | 50 => ⟨S128x512, .f32⟩
  | 51 => ⟨S128x1x512, .f32⟩
  | 52 => ⟨S128x1x512, .f32⟩
  | 53 => ⟨S128x2x512, .f32⟩
  | 54 => ⟨S256x512, .f32⟩
  | 55 => ⟨S_, .f32⟩
  | 56 => ⟨S1x512, .f32⟩
  | 57 => ⟨S255x512, .f32⟩
  | 58 => ⟨S256x512, .f32⟩
  | 59 => ⟨S_, .f32⟩
  | 60 => ⟨S1x512, .f32⟩
  | 61 => ⟨S256x512, .f32⟩
  | 62 => ⟨S256x512, .f32⟩
  | 63 => ⟨S256x1x512, .f32⟩
  | 64 => ⟨S256x1x512, .f32⟩
  | 65 => ⟨S256x2x512, .f32⟩
  | 66 => ⟨S512x512, .f32⟩
  | 67 => ⟨S_, .f32⟩
  | 68 => ⟨S1x512, .f32⟩
  | 69 => ⟨S511x512, .f32⟩
  | 70 => ⟨S512x512, .f32⟩
  | 71 => ⟨S_, .f32⟩
  | 72 => ⟨S1x512, .f32⟩
  | 73 => ⟨S512x512, .f32⟩
  | 74 => ⟨S512x512, .f32⟩
  | 75 => ⟨S512x1x512, .f32⟩
  | 76 => ⟨S512x1x512, .f32⟩
  | 77 => ⟨S512x2x512, .f32⟩
  | 78 => ⟨S1024x512, .f32⟩
  | 79 => ⟨S_, .f32⟩
  | 80 => ⟨S1x512, .f32⟩
  | 81 => ⟨S1023x512, .f32⟩
  | 82 => ⟨S1024x512, .f32⟩
  | 83 => ⟨S_, .f32⟩
  | 84 => ⟨S1x512, .f32⟩
  | 85 => ⟨S1024x512, .f32⟩
  | 86 => ⟨S1024x512, .f32⟩
  | 87 => ⟨S1024x1x512, .f32⟩
  | 88 => ⟨S1024x1x512, .f32⟩
  | 89 => ⟨S1024x2x512, .f32⟩
  | 90 => ⟨S2048x512, .f32⟩
  | 91 => ⟨S_, .f32⟩
  | 92 => ⟨S1x512, .f32⟩
  | 93 => ⟨S2047x512, .f32⟩
  | 94 => ⟨S2048x512, .f32⟩
  | 95 => ⟨S_, .f32⟩
  | 96 => ⟨S1x512, .f32⟩
  | 97 => ⟨S2048x512, .f32⟩
  | 98 => ⟨S2048x512, .f32⟩
  | 99 => ⟨S2048x1x512, .f32⟩
  | 100 => ⟨S2048x1x512, .f32⟩
  | 101 => ⟨S2048x2x512, .f32⟩
  | 102 => ⟨S4096x512, .f32⟩
  | 103 => ⟨S4096x512, .f32⟩
  | 104 => ⟨S4096x512, .f32⟩
  | 105 => ⟨S4096x512, .f32⟩
  | 106 => ⟨S_, .f32⟩
  | 107 => ⟨S4096x512, .f32⟩
  | 108 => ⟨S4096x512, .f32⟩
  | 109 => ⟨S_, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S_, .f32⟩
  | 121 => ⟨S4096x512, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S_, .f32⟩
  | _ => ⟨S4096x512, .f32⟩

abbrev hbmTy0_3 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x512, .f32⟩
  | 20 => ⟨S4096x512, .f32⟩
  | 21 => ⟨S1x512, .f32⟩
  | 22 => ⟨S4096x512, .f32⟩
  | 23 => ⟨S4096x512, .f32⟩
  | 24 => ⟨S4096x512, .f32⟩
  | 25 => ⟨S_, .f32⟩
  | 26 => ⟨S512, .f32⟩
  | 27 => ⟨S1x512, .f32⟩
  | 28 => ⟨S4096x512, .f32⟩
  | 29 => ⟨S4096x512, .f32⟩
  | 30 => ⟨S_, .f32⟩
  | 31 => ⟨S512, .f32⟩
  | 32 => ⟨S4096x512, .f32⟩
  | 33 => ⟨S_, .f32⟩
  | 34 => ⟨S4096, .f32⟩
  | 35 => ⟨S4096x1, .f32⟩
  | 36 => ⟨S4096x512, .f32⟩
  | 37 => ⟨S4096x512, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S4096x512, .f32⟩
  | 66 => ⟨S2048x2x512, .f32⟩
  | 67 => ⟨S2048x1x512, .f32⟩
  | 68 => ⟨S2048x512, .f32⟩
  | 69 => ⟨S2048x1x512, .f32⟩
  | 70 => ⟨S2048x512, .f32⟩
  | 71 => ⟨S2048x512, .f32⟩
  | 72 => ⟨S2048x512, .f32⟩
  | 73 => ⟨S1x512, .f32⟩
  | 74 => ⟨S2047x512, .f32⟩
  | 75 => ⟨S_, .f32⟩
  | 76 => ⟨S2048x512, .f32⟩
  | 77 => ⟨S2048x512, .f32⟩
  | 78 => ⟨S1024x2x512, .f32⟩
  | 79 => ⟨S1024x1x512, .f32⟩
  | 80 => ⟨S1024x512, .f32⟩
  | 81 => ⟨S1024x1x512, .f32⟩
  | 82 => ⟨S1024x512, .f32⟩
  | 83 => ⟨S1024x512, .f32⟩
  | 84 => ⟨S1024x512, .f32⟩
  | 85 => ⟨S1x512, .f32⟩
  | 86 => ⟨S1023x512, .f32⟩
  | 87 => ⟨S_, .f32⟩
  | 88 => ⟨S1024x512, .f32⟩
  | 89 => ⟨S1024x512, .f32⟩
  | 90 => ⟨S512x2x512, .f32⟩
  | 91 => ⟨S512x1x512, .f32⟩
  | 92 => ⟨S512x512, .f32⟩
  | 93 => ⟨S512x1x512, .f32⟩
  | 94 => ⟨S512x512, .f32⟩
  | 95 => ⟨S512x512, .f32⟩
  | 96 => ⟨S512x512, .f32⟩
  | 97 => ⟨S1x512, .f32⟩
  | 98 => ⟨S511x512, .f32⟩
  | 99 => ⟨S_, .f32⟩
  | 100 => ⟨S512x512, .f32⟩
  | 101 => ⟨S512x512, .f32⟩
  | 102 => ⟨S256x2x512, .f32⟩
  | 103 => ⟨S256x1x512, .f32⟩
  | 104 => ⟨S256x512, .f32⟩
  | 105 => ⟨S256x1x512, .f32⟩
  | 106 => ⟨S256x512, .f32⟩
  | 107 => ⟨S256x512, .f32⟩
  | 108 => ⟨S256x512, .f32⟩
  | 109 => ⟨S1x512, .f32⟩
  | 110 => ⟨S255x512, .f32⟩
  | 111 => ⟨S_, .f32⟩
  | 112 => ⟨S256x512, .f32⟩
  | 113 => ⟨S256x512, .f32⟩
  | 114 => ⟨S128x2x512, .f32⟩
  | 115 => ⟨S128x1x512, .f32⟩
  | 116 => ⟨S128x512, .f32⟩
  | 117 => ⟨S128x1x512, .f32⟩
  | 118 => ⟨S128x512, .f32⟩
  | 119 => ⟨S128x512, .f32⟩
  | 120 => ⟨S128x512, .f32⟩
  | 121 => ⟨S1x512, .f32⟩
  | 122 => ⟨S127x512, .f32⟩
  | 123 => ⟨S_, .f32⟩
  | 124 => ⟨S128x512, .f32⟩
  | 125 => ⟨S128x512, .f32⟩
  | 126 => ⟨S64x2x512, .f32⟩
  | 127 => ⟨S64x1x512, .f32⟩
  | _ => ⟨S4096x512, .f32⟩

abbrev hbmTy0_4 (i : Nat) : BufTy := match i % 128 with
  | 0 => ⟨S64x512, .f32⟩
  | 1 => ⟨S64x1x512, .f32⟩
  | 2 => ⟨S64x512, .f32⟩
  | 3 => ⟨S64x512, .f32⟩
  | 4 => ⟨S64x512, .f32⟩
  | 5 => ⟨S1x512, .f32⟩
  | 6 => ⟨S63x512, .f32⟩
  | 7 => ⟨S_, .f32⟩
  | 8 => ⟨S64x512, .f32⟩
  | 9 => ⟨S64x512, .f32⟩
  | 10 => ⟨S32x2x512, .f32⟩
  | 11 => ⟨S32x1x512, .f32⟩
  | 12 => ⟨S32x512, .f32⟩
  | 13 => ⟨S32x1x512, .f32⟩
  | 14 => ⟨S32x512, .f32⟩
  | 15 => ⟨S32x512, .f32⟩
  | 16 => ⟨S32x512, .f32⟩
  | 17 => ⟨S1x512, .f32⟩
  | 18 => ⟨S31x512, .f32⟩
  | 19 => ⟨S_, .f32⟩
  | 20 => ⟨S32x512, .f32⟩
  | 21 => ⟨S32x512, .f32⟩
  | 22 => ⟨S16x2x512, .f32⟩
  | 23 => ⟨S16x1x512, .f32⟩
  | 24 => ⟨S16x512, .f32⟩
  | 25 => ⟨S16x1x512, .f32⟩
  | 26 => ⟨S16x512, .f32⟩
  | 27 => ⟨S16x512, .f32⟩
  | 28 => ⟨S16x512, .f32⟩
  | 29 => ⟨S1x512, .f32⟩
  | 30 => ⟨S15x512, .f32⟩
  | 31 => ⟨S_, .f32⟩
  | 32 => ⟨S16x512, .f32⟩
  | 33 => ⟨S16x512, .f32⟩
  | 34 => ⟨S8x2x512, .f32⟩
  | 35 => ⟨S8x1x512, .f32⟩
  | 36 => ⟨S8x512, .f32⟩
  | 37 => ⟨S8x1x512, .f32⟩
  | 38 => ⟨S8x512, .f32⟩
  | 39 => ⟨S8x512, .f32⟩
  | 40 => ⟨S8x512, .f32⟩
  | 41 => ⟨S1x512, .f32⟩
  | 42 => ⟨S7x512, .f32⟩
  | 43 => ⟨S_, .f32⟩
  | 44 => ⟨S8x512, .f32⟩
  | 45 => ⟨S8x512, .f32⟩
  | 46 => ⟨S4x2x512, .f32⟩
  | 47 => ⟨S4x1x512, .f32⟩
  | 48 => ⟨S4x512, .f32⟩
  | 49 => ⟨S4x1x512, .f32⟩
  | 50 => ⟨S4x512, .f32⟩
  | 51 => ⟨S4x512, .f32⟩
  | 52 => ⟨S4x512, .f32⟩
  | 53 => ⟨S1x512, .f32⟩
  | 54 => ⟨S3x512, .f32⟩
  | 55 => ⟨S_, .f32⟩
  | 56 => ⟨S4x512, .f32⟩
  | 57 => ⟨S4x512, .f32⟩
  | 58 => ⟨S2x2x512, .f32⟩
  | 59 => ⟨S2x1x512, .f32⟩
  | 60 => ⟨S2x512, .f32⟩
  | 61 => ⟨S2x1x512, .f32⟩
  | 62 => ⟨S2x512, .f32⟩
  | 63 => ⟨S2x512, .f32⟩
  | 64 => ⟨S2x512, .f32⟩
  | 65 => ⟨S1x512, .f32⟩
  | 66 => ⟨S1x512, .f32⟩
  | 67 => ⟨S_, .f32⟩
  | 68 => ⟨S2x512, .f32⟩
  | 69 => ⟨S2x512, .f32⟩
  | 70 => ⟨S1x2x512, .f32⟩
  | 71 => ⟨S1x1x512, .f32⟩
  | 72 => ⟨S1x512, .f32⟩
  | 73 => ⟨S1x1x512, .f32⟩
  | 74 => ⟨S1x512, .f32⟩
  | 75 => ⟨S1x512, .f32⟩
  | 76 => ⟨S1x512, .f32⟩
  | 77 => ⟨S1x512, .f32⟩
  | 78 => ⟨S0x512, .f32⟩
  | 79 => ⟨S_, .f32⟩
  | 80 => ⟨S1x512, .f32⟩
  | 81 => ⟨S1x512, .f32⟩
  | 82 => ⟨S1x512, .f32⟩
  | 83 => ⟨S1x512, .f32⟩
  | 84 => ⟨S1x512, .f32⟩
  | 85 => ⟨S_, .f32⟩
  | 86 => ⟨S2x512, .f32⟩
  | 87 => ⟨S_, .f32⟩
  | 88 => ⟨S2x512, .f32⟩
  | 89 => ⟨S2x512, .f32⟩
  | 90 => ⟨S_, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S2x512, .f32⟩
  | 97 => ⟨S2x512, .f32⟩
  | 98 => ⟨S2x512, .f32⟩
  | 99 => ⟨S2x512, .f32⟩
  | 100 => ⟨S2x512, .f32⟩
  | 101 => ⟨S2x512, .f32⟩
  | 102 => ⟨S_, .f32⟩
  | 103 => ⟨S4x512, .f32⟩
  | 104 => ⟨S_, .f32⟩
  | 105 => ⟨S4x512, .f32⟩
  | 106 => ⟨S4x512, .f32⟩
  | 107 => ⟨S_, .f32⟩
  | 108 => ⟨S4x512, .f32⟩
  | 109 => ⟨S_, .f32⟩
  | 110 => ⟨S4x512, .f32⟩
  | 111 => ⟨S4x512, .f32⟩
  | 112 => ⟨S4x512, .f32⟩
  | 113 => ⟨S4x512, .f32⟩
  | 114 => ⟨S4x512, .f32⟩
  | 115 => ⟨S4x512, .f32⟩
  | 116 => ⟨S4x512, .f32⟩
  | 117 => ⟨S4x512, .f32⟩
  | 118 => ⟨S4x512, .f32⟩
  | 119 => ⟨S_, .f32⟩
  | 120 => ⟨S8x512, .f32⟩
  | 121 => ⟨S_, .f32⟩
  | 122 => ⟨S8x512, .f32⟩
  | 123 => ⟨S8x512, .f32⟩
  | 124 => ⟨S_, .f32⟩
  | 125 => ⟨S8x512, .f32⟩
  | 126 => ⟨S_, .f32⟩
  | 127 => ⟨S8x512, .f32⟩
  | _ => ⟨S4096x512, .f32⟩

abbrev hbmTy0_5 (i : Nat) : BufTy := match i % 128 with
  | 0 => ⟨S8x512, .f32⟩
  | 1 => ⟨S8x512, .f32⟩
  | 2 => ⟨S8x512, .f32⟩
  | 3 => ⟨S8x512, .f32⟩
  | 4 => ⟨S8x512, .f32⟩
  | 5 => ⟨S8x512, .f32⟩
  | 6 => ⟨S8x512, .f32⟩
  | 7 => ⟨S8x512, .f32⟩
  | 8 => ⟨S_, .f32⟩
  | 9 => ⟨S16x512, .f32⟩
  | 10 => ⟨S_, .f32⟩
  | 11 => ⟨S16x512, .f32⟩
  | 12 => ⟨S16x512, .f32⟩
  | 13 => ⟨S_, .f32⟩
  | 14 => ⟨S16x512, .f32⟩
  | 15 => ⟨S_, .f32⟩
  | 16 => ⟨S16x512, .f32⟩
  | 17 => ⟨S16x512, .f32⟩
  | 18 => ⟨S16x512, .f32⟩
  | 19 => ⟨S16x512, .f32⟩
  | 20 => ⟨S16x512, .f32⟩
  | 21 => ⟨S16x512, .f32⟩
  | 22 => ⟨S16x512, .f32⟩
  | 23 => ⟨S16x512, .f32⟩
  | 24 => ⟨S16x512, .f32⟩
  | 25 => ⟨S_, .f32⟩
  | 26 => ⟨S32x512, .f32⟩
  | 27 => ⟨S_, .f32⟩
  | 28 => ⟨S32x512, .f32⟩
  | 29 => ⟨S32x512, .f32⟩
  | 30 => ⟨S_, .f32⟩
  | 31 => ⟨S32x512, .f32⟩
  | 32 => ⟨S_, .f32⟩
  | 33 => ⟨S32x512, .f32⟩
  | 34 => ⟨S32x512, .f32⟩
  | 35 => ⟨S32x512, .f32⟩
  | 36 => ⟨S32x512, .f32⟩
  | 37 => ⟨S32x512, .f32⟩
  | 38 => ⟨S32x512, .f32⟩
  | 39 => ⟨S32x512, .f32⟩
  | 40 => ⟨S32x512, .f32⟩
  | 41 => ⟨S32x512, .f32⟩
  | 42 => ⟨S_, .f32⟩
  | 43 => ⟨S64x512, .f32⟩
  | 44 => ⟨S_, .f32⟩
  | 45 => ⟨S64x512, .f32⟩
  | 46 => ⟨S64x512, .f32⟩
  | 47 => ⟨S_, .f32⟩
  | 48 => ⟨S64x512, .f32⟩
  | 49 => ⟨S_, .f32⟩
  | 50 => ⟨S64x512, .f32⟩
  | 51 => ⟨S64x512, .f32⟩
  | 52 => ⟨S64x512, .f32⟩
  | 53 => ⟨S64x512, .f32⟩
  | 54 => ⟨S64x512, .f32⟩
  | 55 => ⟨S64x512, .f32⟩
  | 56 => ⟨S64x512, .f32⟩
  | 57 => ⟨S64x512, .f32⟩
  | 58 => ⟨S64x512, .f32⟩
  | 59 => ⟨S_, .f32⟩
  | 60 => ⟨S128x512, .f32⟩
  | 61 => ⟨S_, .f32⟩
  | 62 => ⟨S128x512, .f32⟩
  | 63 => ⟨S128x512, .f32⟩
  | 64 => ⟨S_, .f32⟩
  | 65 => ⟨S128x512, .f32⟩
  | 66 => ⟨S_, .f32⟩
  | 67 => ⟨S128x512, .f32⟩
  | 68 => ⟨S128x512, .f32⟩
  | 69 => ⟨S128x512, .f32⟩
  | 70 => ⟨S128x512, .f32⟩
  | 71 => ⟨S128x512, .f32⟩
  | 72 => ⟨S128x512, .f32⟩
  | 73 => ⟨S128x512, .f32⟩
  | 74 => ⟨S128x512, .f32⟩
  | 75 => ⟨S128x512, .f32⟩
  | 76 => ⟨S_, .f32⟩
  | 77 => ⟨S256x512, .f32⟩
  | 78 => ⟨S_, .f32⟩
  | 79 => ⟨S256x512, .f32⟩
  | 80 => ⟨S256x512, .f32⟩
  | 81 => ⟨S_, .f32⟩
  | 82 => ⟨S256x512, .f32⟩
  | 83 => ⟨S_, .f32⟩
  | 84 => ⟨S256x512, .f32⟩
  | 85 => ⟨S256x512, .f32⟩
  | 86 => ⟨S256x512, .f32⟩
  | 87 => ⟨S256x512, .f32⟩
  | 88 => ⟨S256x512, .f32⟩
  | 89 => ⟨S256x512, .f32⟩
  | 90 => ⟨S256x512, .f32⟩
  | 91 => ⟨S256x512, .f32⟩
  | 92 => ⟨S256x512, .f32⟩
  | 93 => ⟨S_, .f32⟩
  | 94 => ⟨S512x512, .f32⟩
  | 95 => ⟨S_, .f32⟩
  | 96 => ⟨S512x512, .f32⟩
  | 97 => ⟨S512x512, .f32⟩
  | 98 => ⟨S_, .f32⟩
  | 99 => ⟨S512x512, .f32⟩
  | 100 => ⟨S_, .f32⟩
  | 101 => ⟨S512x512, .f32⟩
  | 102 => ⟨S512x512, .f32⟩
  | 103 => ⟨S512x512, .f32⟩
  | 104 => ⟨S512x512, .f32⟩
  | 105 => ⟨S512x512, .f32⟩
  | 106 => ⟨S512x512, .f32⟩
  | 107 => ⟨S512x512, .f32⟩
  | 108 => ⟨S512x512, .f32⟩
  | 109 => ⟨S512x512, .f32⟩
  | 110 => ⟨S_, .f32⟩
  | 111 => ⟨S1024x512, .f32⟩
  | 112 => ⟨S_, .f32⟩
  | 113 => ⟨S1024x512, .f32⟩
  | 114 => ⟨S1024x512, .f32⟩
  | 115 => ⟨S_, .f32⟩
  | 116 => ⟨S1024x512, .f32⟩
  | 117 => ⟨S_, .f32⟩
  | 118 => ⟨S1024x512, .f32⟩
  | 119 => ⟨S1024x512, .f32⟩
  | 120 => ⟨S1024x512, .f32⟩
  | 121 => ⟨S1024x512, .f32⟩
  | 122 => ⟨S1024x512, .f32⟩
  | 123 => ⟨S1024x512, .f32⟩
  | 124 => ⟨S1024x512, .f32⟩
  | 125 => ⟨S1024x512, .f32⟩
  | 126 => ⟨S1024x512, .f32⟩
  | 127 => ⟨S_, .f32⟩
  | _ => ⟨S4096x512, .f32⟩

abbrev hbmTy0_6 (i : Nat) : BufTy := match i % 128 with
  | 0 => ⟨S2048x512, .f32⟩
  | 1 => ⟨S_, .f32⟩
  | 2 => ⟨S2048x512, .f32⟩
  | 3 => ⟨S2048x512, .f32⟩
  | 4 => ⟨S_, .f32⟩
  | 5 => ⟨S2048x512, .f32⟩
  | 6 => ⟨S_, .f32⟩
  | 7 => ⟨S2048x512, .f32⟩
  | 8 => ⟨S2048x512, .f32⟩
  | 9 => ⟨S2048x512, .f32⟩
  | 10 => ⟨S2048x512, .f32⟩
  | 11 => ⟨S2048x512, .f32⟩
  | 12 => ⟨S2048x512, .f32⟩
  | 13 => ⟨S2048x512, .f32⟩
  | 14 => ⟨S2048x512, .f32⟩
  | 15 => ⟨S2048x512, .f32⟩
  | 16 => ⟨S_, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S_, .f32⟩
  | 41 => ⟨S512, .f32⟩
  | 42 => ⟨S1x512, .f32⟩
  | 43 => ⟨S4096x512, .f32⟩
  | 44 => ⟨S4096x512, .f32⟩
  | 45 => ⟨S_, .f32⟩
  | 46 => ⟨S512, .f32⟩
  | 47 => ⟨S512, .f32⟩
  | 48 => ⟨S512, .f32⟩
  | 49 => ⟨S512, .f32⟩
  | 50 => ⟨S_, .f32⟩
  | 51 => ⟨S4096x512, .f32⟩
  | 52 => ⟨S4096x512, .f32⟩
  | 53 => ⟨S4096x512, .f32⟩
  | 54 => ⟨S4096x512, .f32⟩
  | 55 => ⟨S_, .f32⟩
  | 56 => ⟨S512, .f32⟩
  | 57 => ⟨S1x512, .f32⟩
  | 58 => ⟨S_, .f32⟩
  | 59 => ⟨S512, .f32⟩
  | 60 => ⟨S4096x8x64, .f32⟩
  | 61 => ⟨S8x64x4096, .f32⟩
  | 62 => ⟨S8x4096x64, .f32⟩
  | 63 => ⟨S4096x8x64, .f32⟩
  | 64 => ⟨S8x64x64, .f32⟩
  | 65 => ⟨S8x64x64, .f32⟩
  | 66 => ⟨S_, .f32⟩
  | 67 => ⟨S512, .f32⟩
  | 68 => ⟨S1x512, .f32⟩
  | 69 => ⟨S_, .f32⟩
  | 70 => ⟨S512, .f32⟩
  | 71 => ⟨S4096x8x64, .f32⟩
  | 72 => ⟨S8x64x4096, .f32⟩
  | 73 => ⟨S8x4096x64, .f32⟩
  | 74 => ⟨S4096x8x64, .f32⟩
  | 75 => ⟨S4096x8x64, .f32⟩
  | 76 => ⟨S8x64x64, .f32⟩
  | 77 => ⟨S8x64x64, .f32⟩
  | 78 => ⟨S4096x512, .f32⟩
  | 79 => ⟨S4096x512, .f32⟩
  | 80 => ⟨S8x64x1x64, .f32⟩
  | 81 => ⟨S8x64x8x64, .f32⟩
  | 82 => ⟨S512x512, .f32⟩
  | 83 => ⟨S1x512, .f32⟩
  | 84 => ⟨S8x64x1x64, .f32⟩
  | 85 => ⟨S8x64x8x64, .f32⟩
  | 86 => ⟨S512x512, .f32⟩
  | 87 => ⟨S1x512, .f32⟩
  | 88 => ⟨S1x512, .f32⟩
  | 89 => ⟨S1x512, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1_0 : Ref sig .tc := ⟨.hbm, 64, rfl⟩
abbrev main_call0_call0_cst_0 : Ref sig .tc := ⟨.hbm, 65, rfl⟩
abbrev main_call0_call0_v13 : Ref sig .tc := ⟨.hbm, 66, rfl⟩
abbrev main_call0_call0_v14 : Ref sig .tc := ⟨.hbm, 67, rfl⟩
abbrev main_call0_call0_cst_1 : Ref sig .tc := ⟨.hbm, 68, rfl⟩
abbrev main_call0_call0_v15 : Ref sig .tc := ⟨.hbm, 69, rfl⟩
abbrev main_call0_call0_v16 : Ref sig .tc := ⟨.hbm, 70, rfl⟩
abbrev main_call0_call0_cst_2 : Ref sig .tc := ⟨.hbm, 71, rfl⟩
abbrev main_call0_call0_v17 : Ref sig .tc := ⟨.hbm, 72, rfl⟩
abbrev main_call0_call0_v18 : Ref sig .tc := ⟨.hbm, 73, rfl⟩
abbrev main_call0_call0_cst_3 : Ref sig .tc := ⟨.hbm, 74, rfl⟩
abbrev main_call0_call0_v19 : Ref sig .tc := ⟨.hbm, 75, rfl⟩
abbrev main_call0_call0_v20 : Ref sig .tc := ⟨.hbm, 76, rfl⟩
abbrev main_call0_call0_v21 : Ref sig .tc := ⟨.hbm, 77, rfl⟩
abbrev main_v34_1 : Ref sig .tc := ⟨.hbm, 78, rfl⟩
abbrev main_call0_call0_cst_4 : Ref sig .tc := ⟨.hbm, 79, rfl⟩
abbrev main_call0_call0_cst_5 : Ref sig .tc := ⟨.hbm, 80, rfl⟩
abbrev main_call0_call0_v23 : Ref sig .tc := ⟨.hbm, 81, rfl⟩
abbrev main_call0_call0_cst_6 : Ref sig .tc := ⟨.hbm, 82, rfl⟩
abbrev main_call0_call0_cst_7 : Ref sig .tc := ⟨.hbm, 83, rfl⟩
abbrev main_call0_call0_v24 : Ref sig .tc := ⟨.hbm, 84, rfl⟩
abbrev main_call0_call0_cst_8 : Ref sig .tc := ⟨.hbm, 85, rfl⟩
abbrev main_call0_call0_v25 : Ref sig .tc := ⟨.hbm, 86, rfl⟩
abbrev main_call0_call0_v26 : Ref sig .tc := ⟨.hbm, 87, rfl⟩
abbrev main_call0_call0_cst_9 : Ref sig .tc := ⟨.hbm, 88, rfl⟩
abbrev main_call0_call0_v27 : Ref sig .tc := ⟨.hbm, 89, rfl⟩
abbrev main_call0_call0_v28 : Ref sig .tc := ⟨.hbm, 90, rfl⟩
abbrev main_call0_call0_v29 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_cst_10 : Ref sig .tc := ⟨.hbm, 94, rfl⟩
abbrev main_call0_call0_v32 : Ref sig .tc := ⟨.hbm, 95, rfl⟩
abbrev main_v34_2 : Ref sig .tc := ⟨.hbm, 96, rfl⟩
abbrev main_v34_0 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_cst_6 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_7 : Ref sig .tc := ⟨.hbm, 108, rfl⟩
abbrev main_v44 : Ref sig .tc := ⟨.hbm, 109, rfl⟩
abbrev main_v45 : Ref sig .tc := ⟨.hbm, 110, rfl⟩
abbrev main_cst_8 : Ref sig .tc := ⟨.hbm, 111, rfl⟩
abbrev main_v46 : Ref sig .tc := ⟨.hbm, 112, rfl⟩
abbrev main_v47 : Ref sig .tc := ⟨.hbm, 113, rfl⟩
abbrev main_cst_9 : Ref sig .tc := ⟨.hbm, 114, rfl⟩
abbrev main_v48 : Ref sig .tc := ⟨.hbm, 115, rfl⟩
abbrev main_v49 : Ref sig .tc := ⟨.hbm, 116, rfl⟩
abbrev main_cst_10 : Ref sig .tc := ⟨.hbm, 117, rfl⟩
abbrev main_v50 : Ref sig .tc := ⟨.hbm, 118, rfl⟩
abbrev main_cst_11 : Ref sig .tc := ⟨.hbm, 119, rfl⟩
abbrev main_v51 : Ref sig .tc := ⟨.hbm, 120, rfl⟩
abbrev main_cst_12 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_13 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_14 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_15 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_cst_16 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_cst_17 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_18 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_cst_19 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_cst_20 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_cst_21 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_cst_22 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_cst_23 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_cst_24 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_cst_25 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_cst_26 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_cst_27 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_cst_28 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_cst_29 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_cst_30 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_cst_31 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_cst_32 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_cst_33 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_cst_34 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_cst_35 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_cst_36 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_cst_37 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_cst_38 : Ref sig .tc := ⟨.hbm, 362, rfl⟩
abbrev main_v267 : Ref sig .tc := ⟨.hbm, 363, rfl⟩
abbrev main_v268 : Ref sig .tc := ⟨.hbm, 364, rfl⟩
abbrev main_cst_39 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_cst_40 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_cst_41 : Ref sig .tc := ⟨.hbm, 373, rfl⟩
abbrev main_v275 : Ref sig .tc := ⟨.hbm, 374, rfl⟩
abbrev main_v276 : Ref sig .tc := ⟨.hbm, 375, rfl⟩
abbrev main_cst_42 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_cst_43 : Ref sig .tc := ⟨.hbm, 380, rfl⟩
abbrev main_v280 : Ref sig .tc := ⟨.hbm, 381, rfl⟩
abbrev main_v281 : Ref sig .tc := ⟨.hbm, 382, rfl⟩
abbrev main_cst_44 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_v286 : Ref sig .tc := ⟨.hbm, 388, rfl⟩
abbrev main_cst_45 : Ref sig .tc := ⟨.hbm, 389, rfl⟩
abbrev main_v287 : Ref sig .tc := ⟨.hbm, 390, rfl⟩
abbrev main_v288 : Ref sig .tc := ⟨.hbm, 391, rfl⟩
abbrev main_cst_46 : Ref sig .tc := ⟨.hbm, 392, rfl⟩
abbrev main_v289 : Ref sig .tc := ⟨.hbm, 393, rfl⟩
abbrev main_v290 : Ref sig .tc := ⟨.hbm, 394, rfl⟩
abbrev main_cst_47 : Ref sig .tc := ⟨.hbm, 395, rfl⟩
abbrev main_v291 : Ref sig .tc := ⟨.hbm, 396, rfl⟩
abbrev main_v292 : Ref sig .tc := ⟨.hbm, 397, rfl⟩
abbrev main_v293 : Ref sig .tc := ⟨.hbm, 398, rfl⟩
abbrev main_v294 : Ref sig .tc := ⟨.hbm, 399, rfl⟩
abbrev main_cst_48 : Ref sig .tc := ⟨.hbm, 400, rfl⟩
abbrev main_v295 : Ref sig .tc := ⟨.hbm, 401, rfl⟩
abbrev main_v296 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_cst_49 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_cst_50 : Ref sig .tc := ⟨.hbm, 414, rfl⟩
abbrev main_v307 : Ref sig .tc := ⟨.hbm, 415, rfl⟩
abbrev main_v308 : Ref sig .tc := ⟨.hbm, 416, rfl⟩
abbrev main_cst_51 : Ref sig .tc := ⟨.hbm, 417, rfl⟩
abbrev main_v309 : Ref sig .tc := ⟨.hbm, 418, rfl⟩
abbrev main_v310 : Ref sig .tc := ⟨.hbm, 419, rfl⟩
abbrev main_v311 : Ref sig .tc := ⟨.hbm, 420, rfl⟩
abbrev main_v312 : Ref sig .tc := ⟨.hbm, 421, rfl⟩
abbrev main_v313 : Ref sig .tc := ⟨.hbm, 422, rfl⟩
abbrev main_cst_52 : Ref sig .tc := ⟨.hbm, 423, rfl⟩
abbrev main_v314 : Ref sig .tc := ⟨.hbm, 424, rfl⟩
abbrev main_v315 : Ref sig .tc := ⟨.hbm, 425, rfl⟩
abbrev main_cst_53 : Ref sig .tc := ⟨.hbm, 426, rfl⟩
abbrev main_v316 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_v324 : Ref sig .tc := ⟨.hbm, 435, rfl⟩
abbrev main_v325 : Ref sig .tc := ⟨.hbm, 436, rfl⟩
abbrev main_cst_54 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_cst_55 : Ref sig .tc := ⟨.hbm, 441, rfl⟩
abbrev main_v329 : Ref sig .tc := ⟨.hbm, 442, rfl⟩
abbrev main_v330 : Ref sig .tc := ⟨.hbm, 443, rfl⟩
abbrev main_v331 : Ref sig .tc := ⟨.hbm, 444, rfl⟩
abbrev main_cst_56 : Ref sig .tc := ⟨.hbm, 445, rfl⟩
abbrev main_v332 : Ref sig .tc := ⟨.hbm, 446, rfl⟩
abbrev main_v333 : Ref sig .tc := ⟨.hbm, 447, rfl⟩
abbrev main_v334 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_v338 : Ref sig .tc := ⟨.hbm, 452, rfl⟩
abbrev main_v339 : Ref sig .tc := ⟨.hbm, 453, rfl⟩
abbrev main_v340 : Ref sig .tc := ⟨.hbm, 454, rfl⟩
abbrev main_v341 : Ref sig .tc := ⟨.hbm, 455, rfl⟩
abbrev main_v342 : Ref sig .tc := ⟨.hbm, 456, rfl⟩
abbrev main_v343 : Ref sig .tc := ⟨.hbm, 457, rfl⟩
abbrev main_v344 : Ref sig .tc := ⟨.hbm, 458, rfl⟩
abbrev main_cst_57 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_v355 : Ref sig .tc := ⟨.hbm, 470, rfl⟩
abbrev main_cst_58 : Ref sig .tc := ⟨.hbm, 471, rfl⟩
abbrev main_v356 : Ref sig .tc := ⟨.hbm, 472, rfl⟩
abbrev main_v357 : Ref sig .tc := ⟨.hbm, 473, rfl⟩
abbrev main_v358 : Ref sig .tc := ⟨.hbm, 474, rfl⟩
abbrev main_v359 : Ref sig .tc := ⟨.hbm, 475, rfl⟩
abbrev main_v360 : Ref sig .tc := ⟨.hbm, 476, rfl⟩
abbrev main_v361 : Ref sig .tc := ⟨.hbm, 477, rfl⟩
abbrev main_v362 : Ref sig .tc := ⟨.hbm, 478, rfl⟩
abbrev main_v363 : Ref sig .tc := ⟨.hbm, 479, rfl⟩
abbrev main_v364 : Ref sig .tc := ⟨.hbm, 480, rfl⟩
abbrev main_v365 : Ref sig .tc := ⟨.hbm, 481, rfl⟩
abbrev main_v366 : Ref sig .tc := ⟨.hbm, 482, rfl⟩
abbrev main_cst_59 : Ref sig .tc := ⟨.hbm, 483, rfl⟩
abbrev main_v367 : Ref sig .tc := ⟨.hbm, 484, rfl⟩
abbrev main_v368 : Ref sig .tc := ⟨.hbm, 485, rfl⟩
abbrev main_v369 : Ref sig .tc := ⟨.hbm, 486, rfl⟩
abbrev main_v370 : Ref sig .tc := ⟨.hbm, 487, rfl⟩
abbrev main_v371 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_cst_60 : Ref sig .tc := ⟨.hbm, 495, rfl⟩
abbrev main_v378 : Ref sig .tc := ⟨.hbm, 496, rfl⟩
abbrev main_v379 : Ref sig .tc := ⟨.hbm, 497, rfl⟩
abbrev main_v380 : Ref sig .tc := ⟨.hbm, 498, rfl⟩
abbrev main_v381 : Ref sig .tc := ⟨.hbm, 499, rfl⟩
abbrev main_v382 : Ref sig .tc := ⟨.hbm, 500, rfl⟩
abbrev main_v383 : Ref sig .tc := ⟨.hbm, 501, rfl⟩
abbrev main_v384 : Ref sig .tc := ⟨.hbm, 502, rfl⟩
abbrev main_v385 : Ref sig .tc := ⟨.hbm, 503, rfl⟩
abbrev main_v386 : Ref sig .tc := ⟨.hbm, 504, rfl⟩
abbrev main_v387 : Ref sig .tc := ⟨.hbm, 505, rfl⟩
abbrev main_v388 : Ref sig .tc := ⟨.hbm, 506, rfl⟩
abbrev main_cst_61 : Ref sig .tc := ⟨.hbm, 507, rfl⟩
abbrev main_v389 : Ref sig .tc := ⟨.hbm, 508, rfl⟩
abbrev main_v390 : Ref sig .tc := ⟨.hbm, 509, rfl⟩
abbrev main_v391 : Ref sig .tc := ⟨.hbm, 510, rfl⟩
abbrev main_v392 : Ref sig .tc := ⟨.hbm, 511, rfl⟩
abbrev main_v393 : Ref sig .tc := ⟨.hbm, 512, rfl⟩
abbrev main_v394 : Ref sig .tc := ⟨.hbm, 513, rfl⟩
abbrev main_v395 : Ref sig .tc := ⟨.hbm, 514, rfl⟩
abbrev main_v396 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_cst_62 : Ref sig .tc := ⟨.hbm, 519, rfl⟩
abbrev main_v400 : Ref sig .tc := ⟨.hbm, 520, rfl⟩
abbrev main_v401 : Ref sig .tc := ⟨.hbm, 521, rfl⟩
abbrev main_v402 : Ref sig .tc := ⟨.hbm, 522, rfl⟩
abbrev main_v403 : Ref sig .tc := ⟨.hbm, 523, rfl⟩
abbrev main_v404 : Ref sig .tc := ⟨.hbm, 524, rfl⟩
abbrev main_v405 : Ref sig .tc := ⟨.hbm, 525, rfl⟩
abbrev main_v406 : Ref sig .tc := ⟨.hbm, 526, rfl⟩
abbrev main_v407 : Ref sig .tc := ⟨.hbm, 527, rfl⟩
abbrev main_v408 : Ref sig .tc := ⟨.hbm, 528, rfl⟩
abbrev main_v409 : Ref sig .tc := ⟨.hbm, 529, rfl⟩
abbrev main_v410 : Ref sig .tc := ⟨.hbm, 530, rfl⟩
abbrev main_cst_63 : Ref sig .tc := ⟨.hbm, 531, rfl⟩
abbrev main_v411 : Ref sig .tc := ⟨.hbm, 532, rfl⟩
abbrev main_v412 : Ref sig .tc := ⟨.hbm, 533, rfl⟩
abbrev main_v413 : Ref sig .tc := ⟨.hbm, 534, rfl⟩
abbrev main_v414 : Ref sig .tc := ⟨.hbm, 535, rfl⟩
abbrev main_v415 : Ref sig .tc := ⟨.hbm, 536, rfl⟩
abbrev main_v416 : Ref sig .tc := ⟨.hbm, 537, rfl⟩
abbrev main_v417 : Ref sig .tc := ⟨.hbm, 538, rfl⟩
abbrev main_v418 : Ref sig .tc := ⟨.hbm, 539, rfl⟩
abbrev main_v419 : Ref sig .tc := ⟨.hbm, 540, rfl⟩
abbrev main_v420 : Ref sig .tc := ⟨.hbm, 541, rfl⟩
abbrev main_v421 : Ref sig .tc := ⟨.hbm, 542, rfl⟩
abbrev main_cst_64 : Ref sig .tc := ⟨.hbm, 543, rfl⟩
abbrev main_v422 : Ref sig .tc := ⟨.hbm, 544, rfl⟩
abbrev main_v423 : Ref sig .tc := ⟨.hbm, 545, rfl⟩
abbrev main_v424 : Ref sig .tc := ⟨.hbm, 546, rfl⟩
abbrev main_v425 : Ref sig .tc := ⟨.hbm, 547, rfl⟩
abbrev main_v426 : Ref sig .tc := ⟨.hbm, 548, rfl⟩
abbrev main_v427 : Ref sig .tc := ⟨.hbm, 549, rfl⟩
abbrev main_v428 : Ref sig .tc := ⟨.hbm, 550, rfl⟩
abbrev main_v429 : Ref sig .tc := ⟨.hbm, 551, rfl⟩
abbrev main_v430 : Ref sig .tc := ⟨.hbm, 552, rfl⟩
abbrev main_v431 : Ref sig .tc := ⟨.hbm, 553, rfl⟩
abbrev main_v432 : Ref sig .tc := ⟨.hbm, 554, rfl⟩
abbrev main_cst_65 : Ref sig .tc := ⟨.hbm, 555, rfl⟩
abbrev main_v433 : Ref sig .tc := ⟨.hbm, 556, rfl⟩
abbrev main_v434 : Ref sig .tc := ⟨.hbm, 557, rfl⟩
abbrev main_v435 : Ref sig .tc := ⟨.hbm, 558, rfl⟩
abbrev main_v436 : Ref sig .tc := ⟨.hbm, 559, rfl⟩
abbrev main_v437 : Ref sig .tc := ⟨.hbm, 560, rfl⟩
abbrev main_v438 : Ref sig .tc := ⟨.hbm, 561, rfl⟩
abbrev main_v439 : Ref sig .tc := ⟨.hbm, 562, rfl⟩
abbrev main_v440 : Ref sig .tc := ⟨.hbm, 563, rfl⟩
abbrev main_v441 : Ref sig .tc := ⟨.hbm, 564, rfl⟩
abbrev main_v442 : Ref sig .tc := ⟨.hbm, 565, rfl⟩
abbrev main_v443 : Ref sig .tc := ⟨.hbm, 566, rfl⟩
abbrev main_cst_66 : Ref sig .tc := ⟨.hbm, 567, rfl⟩
abbrev main_v444 : Ref sig .tc := ⟨.hbm, 568, rfl⟩
abbrev main_v445 : Ref sig .tc := ⟨.hbm, 569, rfl⟩
abbrev main_v446 : Ref sig .tc := ⟨.hbm, 570, rfl⟩
abbrev main_v447 : Ref sig .tc := ⟨.hbm, 571, rfl⟩
abbrev main_v448 : Ref sig .tc := ⟨.hbm, 572, rfl⟩
abbrev main_v449 : Ref sig .tc := ⟨.hbm, 573, rfl⟩
abbrev main_v450 : Ref sig .tc := ⟨.hbm, 574, rfl⟩
abbrev main_v451 : Ref sig .tc := ⟨.hbm, 575, rfl⟩
abbrev main_v452 : Ref sig .tc := ⟨.hbm, 576, rfl⟩
abbrev main_v453 : Ref sig .tc := ⟨.hbm, 577, rfl⟩
abbrev main_v454 : Ref sig .tc := ⟨.hbm, 578, rfl⟩
abbrev main_cst_67 : Ref sig .tc := ⟨.hbm, 579, rfl⟩
abbrev main_v455 : Ref sig .tc := ⟨.hbm, 580, rfl⟩
abbrev main_v456 : Ref sig .tc := ⟨.hbm, 581, rfl⟩
abbrev main_v457 : Ref sig .tc := ⟨.hbm, 582, rfl⟩
abbrev main_v458 : Ref sig .tc := ⟨.hbm, 583, rfl⟩
abbrev main_v459 : Ref sig .tc := ⟨.hbm, 584, rfl⟩
abbrev main_v460 : Ref sig .tc := ⟨.hbm, 585, rfl⟩
abbrev main_v461 : Ref sig .tc := ⟨.hbm, 586, rfl⟩
abbrev main_v462 : Ref sig .tc := ⟨.hbm, 587, rfl⟩
abbrev main_v463 : Ref sig .tc := ⟨.hbm, 588, rfl⟩
abbrev main_v464 : Ref sig .tc := ⟨.hbm, 589, rfl⟩
abbrev main_v465 : Ref sig .tc := ⟨.hbm, 590, rfl⟩
abbrev main_cst_68 : Ref sig .tc := ⟨.hbm, 591, rfl⟩
abbrev main_v466 : Ref sig .tc := ⟨.hbm, 592, rfl⟩
abbrev main_v467 : Ref sig .tc := ⟨.hbm, 593, rfl⟩
abbrev main_v468 : Ref sig .tc := ⟨.hbm, 594, rfl⟩
abbrev main_v469 : Ref sig .tc := ⟨.hbm, 595, rfl⟩
abbrev main_v470 : Ref sig .tc := ⟨.hbm, 596, rfl⟩
abbrev main_cst_69 : Ref sig .tc := ⟨.hbm, 597, rfl⟩
abbrev main_v471 : Ref sig .tc := ⟨.hbm, 598, rfl⟩
abbrev main_cst_70 : Ref sig .tc := ⟨.hbm, 599, rfl⟩
abbrev main_v472 : Ref sig .tc := ⟨.hbm, 600, rfl⟩
abbrev main_v473 : Ref sig .tc := ⟨.hbm, 601, rfl⟩
abbrev main_cst_71 : Ref sig .tc := ⟨.hbm, 602, rfl⟩
abbrev main_v474 : Ref sig .tc := ⟨.hbm, 603, rfl⟩
abbrev main_cst_72 : Ref sig .tc := ⟨.hbm, 604, rfl⟩
abbrev main_v475 : Ref sig .tc := ⟨.hbm, 605, rfl⟩
abbrev main_v476 : Ref sig .tc := ⟨.hbm, 606, rfl⟩
abbrev main_v477 : Ref sig .tc := ⟨.hbm, 607, rfl⟩
abbrev main_v478 : Ref sig .tc := ⟨.hbm, 608, rfl⟩
abbrev main_v479 : Ref sig .tc := ⟨.hbm, 609, rfl⟩
abbrev main_v480 : Ref sig .tc := ⟨.hbm, 610, rfl⟩
abbrev main_v481 : Ref sig .tc := ⟨.hbm, 611, rfl⟩
abbrev main_v482 : Ref sig .tc := ⟨.hbm, 612, rfl⟩
abbrev main_v483 : Ref sig .tc := ⟨.hbm, 613, rfl⟩
abbrev main_cst_73 : Ref sig .tc := ⟨.hbm, 614, rfl⟩
abbrev main_v484 : Ref sig .tc := ⟨.hbm, 615, rfl⟩
abbrev main_cst_74 : Ref sig .tc := ⟨.hbm, 616, rfl⟩
abbrev main_v485 : Ref sig .tc := ⟨.hbm, 617, rfl⟩
abbrev main_v486 : Ref sig .tc := ⟨.hbm, 618, rfl⟩
abbrev main_cst_75 : Ref sig .tc := ⟨.hbm, 619, rfl⟩
abbrev main_v487 : Ref sig .tc := ⟨.hbm, 620, rfl⟩
abbrev main_cst_76 : Ref sig .tc := ⟨.hbm, 621, rfl⟩
abbrev main_v488 : Ref sig .tc := ⟨.hbm, 622, rfl⟩
abbrev main_v489 : Ref sig .tc := ⟨.hbm, 623, rfl⟩
abbrev main_v490 : Ref sig .tc := ⟨.hbm, 624, rfl⟩
abbrev main_v491 : Ref sig .tc := ⟨.hbm, 625, rfl⟩
abbrev main_v492 : Ref sig .tc := ⟨.hbm, 626, rfl⟩
abbrev main_v493 : Ref sig .tc := ⟨.hbm, 627, rfl⟩
abbrev main_v494 : Ref sig .tc := ⟨.hbm, 628, rfl⟩
abbrev main_v495 : Ref sig .tc := ⟨.hbm, 629, rfl⟩
abbrev main_v496 : Ref sig .tc := ⟨.hbm, 630, rfl⟩
abbrev main_cst_77 : Ref sig .tc := ⟨.hbm, 631, rfl⟩
abbrev main_v497 : Ref sig .tc := ⟨.hbm, 632, rfl⟩
abbrev main_cst_78 : Ref sig .tc := ⟨.hbm, 633, rfl⟩
abbrev main_v498 : Ref sig .tc := ⟨.hbm, 634, rfl⟩
abbrev main_v499 : Ref sig .tc := ⟨.hbm, 635, rfl⟩
abbrev main_cst_79 : Ref sig .tc := ⟨.hbm, 636, rfl⟩
abbrev main_v500 : Ref sig .tc := ⟨.hbm, 637, rfl⟩
abbrev main_cst_80 : Ref sig .tc := ⟨.hbm, 638, rfl⟩
abbrev main_v501 : Ref sig .tc := ⟨.hbm, 639, rfl⟩
abbrev main_v502 : Ref sig .tc := ⟨.hbm, 640, rfl⟩
abbrev main_v503 : Ref sig .tc := ⟨.hbm, 641, rfl⟩
abbrev main_v504 : Ref sig .tc := ⟨.hbm, 642, rfl⟩
abbrev main_v505 : Ref sig .tc := ⟨.hbm, 643, rfl⟩
abbrev main_v506 : Ref sig .tc := ⟨.hbm, 644, rfl⟩
abbrev main_v507 : Ref sig .tc := ⟨.hbm, 645, rfl⟩
abbrev main_v508 : Ref sig .tc := ⟨.hbm, 646, rfl⟩
abbrev main_v509 : Ref sig .tc := ⟨.hbm, 647, rfl⟩
abbrev main_cst_81 : Ref sig .tc := ⟨.hbm, 648, rfl⟩
abbrev main_v510 : Ref sig .tc := ⟨.hbm, 649, rfl⟩
abbrev main_cst_82 : Ref sig .tc := ⟨.hbm, 650, rfl⟩
abbrev main_v511 : Ref sig .tc := ⟨.hbm, 651, rfl⟩
abbrev main_v512 : Ref sig .tc := ⟨.hbm, 652, rfl⟩
abbrev main_cst_83 : Ref sig .tc := ⟨.hbm, 653, rfl⟩
abbrev main_v513 : Ref sig .tc := ⟨.hbm, 654, rfl⟩
abbrev main_cst_84 : Ref sig .tc := ⟨.hbm, 655, rfl⟩
abbrev main_v514 : Ref sig .tc := ⟨.hbm, 656, rfl⟩
abbrev main_v515 : Ref sig .tc := ⟨.hbm, 657, rfl⟩
abbrev main_v516 : Ref sig .tc := ⟨.hbm, 658, rfl⟩
abbrev main_v517 : Ref sig .tc := ⟨.hbm, 659, rfl⟩
abbrev main_v518 : Ref sig .tc := ⟨.hbm, 660, rfl⟩
abbrev main_v519 : Ref sig .tc := ⟨.hbm, 661, rfl⟩
abbrev main_v520 : Ref sig .tc := ⟨.hbm, 662, rfl⟩
abbrev main_v521 : Ref sig .tc := ⟨.hbm, 663, rfl⟩
abbrev main_v522 : Ref sig .tc := ⟨.hbm, 664, rfl⟩
abbrev main_cst_85 : Ref sig .tc := ⟨.hbm, 665, rfl⟩
abbrev main_v523 : Ref sig .tc := ⟨.hbm, 666, rfl⟩
abbrev main_cst_86 : Ref sig .tc := ⟨.hbm, 667, rfl⟩
abbrev main_v524 : Ref sig .tc := ⟨.hbm, 668, rfl⟩
abbrev main_v525 : Ref sig .tc := ⟨.hbm, 669, rfl⟩
abbrev main_cst_87 : Ref sig .tc := ⟨.hbm, 670, rfl⟩
abbrev main_v526 : Ref sig .tc := ⟨.hbm, 671, rfl⟩
abbrev main_cst_88 : Ref sig .tc := ⟨.hbm, 672, rfl⟩
abbrev main_v527 : Ref sig .tc := ⟨.hbm, 673, rfl⟩
abbrev main_v528 : Ref sig .tc := ⟨.hbm, 674, rfl⟩
abbrev main_v529 : Ref sig .tc := ⟨.hbm, 675, rfl⟩
abbrev main_v530 : Ref sig .tc := ⟨.hbm, 676, rfl⟩
abbrev main_v531 : Ref sig .tc := ⟨.hbm, 677, rfl⟩
abbrev main_v532 : Ref sig .tc := ⟨.hbm, 678, rfl⟩
abbrev main_v533 : Ref sig .tc := ⟨.hbm, 679, rfl⟩
abbrev main_v534 : Ref sig .tc := ⟨.hbm, 680, rfl⟩
abbrev main_v535 : Ref sig .tc := ⟨.hbm, 681, rfl⟩
abbrev main_cst_89 : Ref sig .tc := ⟨.hbm, 682, rfl⟩
abbrev main_v536 : Ref sig .tc := ⟨.hbm, 683, rfl⟩
abbrev main_cst_90 : Ref sig .tc := ⟨.hbm, 684, rfl⟩
abbrev main_v537 : Ref sig .tc := ⟨.hbm, 685, rfl⟩
abbrev main_v538 : Ref sig .tc := ⟨.hbm, 686, rfl⟩
abbrev main_cst_91 : Ref sig .tc := ⟨.hbm, 687, rfl⟩
abbrev main_v539 : Ref sig .tc := ⟨.hbm, 688, rfl⟩
abbrev main_cst_92 : Ref sig .tc := ⟨.hbm, 689, rfl⟩
abbrev main_v540 : Ref sig .tc := ⟨.hbm, 690, rfl⟩
abbrev main_v541 : Ref sig .tc := ⟨.hbm, 691, rfl⟩
abbrev main_v542 : Ref sig .tc := ⟨.hbm, 692, rfl⟩
abbrev main_v543 : Ref sig .tc := ⟨.hbm, 693, rfl⟩
abbrev main_v544 : Ref sig .tc := ⟨.hbm, 694, rfl⟩
abbrev main_v545 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_cst_93 : Ref sig .tc := ⟨.hbm, 699, rfl⟩
abbrev main_v549 : Ref sig .tc := ⟨.hbm, 700, rfl⟩
abbrev main_cst_94 : Ref sig .tc := ⟨.hbm, 701, rfl⟩
abbrev main_v550 : Ref sig .tc := ⟨.hbm, 702, rfl⟩
abbrev main_v551 : Ref sig .tc := ⟨.hbm, 703, rfl⟩
abbrev main_cst_95 : Ref sig .tc := ⟨.hbm, 704, rfl⟩
abbrev main_v552 : Ref sig .tc := ⟨.hbm, 705, rfl⟩
abbrev main_cst_96 : Ref sig .tc := ⟨.hbm, 706, rfl⟩
abbrev main_v553 : Ref sig .tc := ⟨.hbm, 707, rfl⟩
abbrev main_v554 : Ref sig .tc := ⟨.hbm, 708, rfl⟩
abbrev main_v555 : Ref sig .tc := ⟨.hbm, 709, rfl⟩
abbrev main_v556 : Ref sig .tc := ⟨.hbm, 710, rfl⟩
abbrev main_v557 : Ref sig .tc := ⟨.hbm, 711, rfl⟩
abbrev main_v558 : Ref sig .tc := ⟨.hbm, 712, rfl⟩
abbrev main_v559 : Ref sig .tc := ⟨.hbm, 713, rfl⟩
abbrev main_v560 : Ref sig .tc := ⟨.hbm, 714, rfl⟩
abbrev main_v561 : Ref sig .tc := ⟨.hbm, 715, rfl⟩
abbrev main_cst_97 : Ref sig .tc := ⟨.hbm, 716, rfl⟩
abbrev main_v562 : Ref sig .tc := ⟨.hbm, 717, rfl⟩
abbrev main_cst_98 : Ref sig .tc := ⟨.hbm, 718, rfl⟩
abbrev main_v563 : Ref sig .tc := ⟨.hbm, 719, rfl⟩
abbrev main_v564 : Ref sig .tc := ⟨.hbm, 720, rfl⟩
abbrev main_cst_99 : Ref sig .tc := ⟨.hbm, 721, rfl⟩
abbrev main_v565 : Ref sig .tc := ⟨.hbm, 722, rfl⟩
abbrev main_cst_100 : Ref sig .tc := ⟨.hbm, 723, rfl⟩
abbrev main_v566 : Ref sig .tc := ⟨.hbm, 724, rfl⟩
abbrev main_v567 : Ref sig .tc := ⟨.hbm, 725, rfl⟩
abbrev main_v568 : Ref sig .tc := ⟨.hbm, 726, rfl⟩
abbrev main_v569 : Ref sig .tc := ⟨.hbm, 727, rfl⟩
abbrev main_v570 : Ref sig .tc := ⟨.hbm, 728, rfl⟩
abbrev main_v571 : Ref sig .tc := ⟨.hbm, 729, rfl⟩
abbrev main_v572 : Ref sig .tc := ⟨.hbm, 730, rfl⟩
abbrev main_v573 : Ref sig .tc := ⟨.hbm, 731, rfl⟩
abbrev main_v574 : Ref sig .tc := ⟨.hbm, 732, rfl⟩
abbrev main_cst_101 : Ref sig .tc := ⟨.hbm, 733, rfl⟩
abbrev main_v575 : Ref sig .tc := ⟨.hbm, 734, rfl⟩
abbrev main_cst_102 : Ref sig .tc := ⟨.hbm, 735, rfl⟩
abbrev main_v576 : Ref sig .tc := ⟨.hbm, 736, rfl⟩
abbrev main_v577 : Ref sig .tc := ⟨.hbm, 737, rfl⟩
abbrev main_cst_103 : Ref sig .tc := ⟨.hbm, 738, rfl⟩
abbrev main_v578 : Ref sig .tc := ⟨.hbm, 739, rfl⟩
abbrev main_cst_104 : Ref sig .tc := ⟨.hbm, 740, rfl⟩
abbrev main_v579 : Ref sig .tc := ⟨.hbm, 741, rfl⟩
abbrev main_v580 : Ref sig .tc := ⟨.hbm, 742, rfl⟩
abbrev main_v581 : Ref sig .tc := ⟨.hbm, 743, rfl⟩
abbrev main_v582 : Ref sig .tc := ⟨.hbm, 744, rfl⟩
abbrev main_v583 : Ref sig .tc := ⟨.hbm, 745, rfl⟩
abbrev main_v584 : Ref sig .tc := ⟨.hbm, 746, rfl⟩
abbrev main_v585 : Ref sig .tc := ⟨.hbm, 747, rfl⟩
abbrev main_v586 : Ref sig .tc := ⟨.hbm, 748, rfl⟩
abbrev main_v587 : Ref sig .tc := ⟨.hbm, 749, rfl⟩
abbrev main_cst_105 : Ref sig .tc := ⟨.hbm, 750, rfl⟩
abbrev main_v588 : Ref sig .tc := ⟨.hbm, 751, rfl⟩
abbrev main_cst_106 : Ref sig .tc := ⟨.hbm, 752, rfl⟩
abbrev main_v589 : Ref sig .tc := ⟨.hbm, 753, rfl⟩
abbrev main_v590 : Ref sig .tc := ⟨.hbm, 754, rfl⟩
abbrev main_cst_107 : Ref sig .tc := ⟨.hbm, 755, rfl⟩
abbrev main_v591 : Ref sig .tc := ⟨.hbm, 756, rfl⟩
abbrev main_cst_108 : Ref sig .tc := ⟨.hbm, 757, rfl⟩
abbrev main_v592 : Ref sig .tc := ⟨.hbm, 758, rfl⟩
abbrev main_v593 : Ref sig .tc := ⟨.hbm, 759, rfl⟩
abbrev main_v594 : Ref sig .tc := ⟨.hbm, 760, rfl⟩
abbrev main_v595 : Ref sig .tc := ⟨.hbm, 761, rfl⟩
abbrev main_v596 : Ref sig .tc := ⟨.hbm, 762, rfl⟩
abbrev main_v597 : Ref sig .tc := ⟨.hbm, 763, rfl⟩
abbrev main_v598 : Ref sig .tc := ⟨.hbm, 764, rfl⟩
abbrev main_v599 : Ref sig .tc := ⟨.hbm, 765, rfl⟩
abbrev main_v600 : Ref sig .tc := ⟨.hbm, 766, rfl⟩
abbrev main_cst_109 : Ref sig .tc := ⟨.hbm, 767, rfl⟩
abbrev main_v601 : Ref sig .tc := ⟨.hbm, 768, rfl⟩
abbrev main_cst_110 : Ref sig .tc := ⟨.hbm, 769, rfl⟩
abbrev main_v602 : Ref sig .tc := ⟨.hbm, 770, rfl⟩
abbrev main_v603 : Ref sig .tc := ⟨.hbm, 771, rfl⟩
abbrev main_cst_111 : Ref sig .tc := ⟨.hbm, 772, rfl⟩
abbrev main_v604 : Ref sig .tc := ⟨.hbm, 773, rfl⟩
abbrev main_cst_112 : Ref sig .tc := ⟨.hbm, 774, rfl⟩
abbrev main_v605 : Ref sig .tc := ⟨.hbm, 775, rfl⟩
abbrev main_v606 : Ref sig .tc := ⟨.hbm, 776, rfl⟩
abbrev main_v607 : Ref sig .tc := ⟨.hbm, 777, rfl⟩
abbrev main_v608 : Ref sig .tc := ⟨.hbm, 778, rfl⟩
abbrev main_v609 : Ref sig .tc := ⟨.hbm, 779, rfl⟩
abbrev main_v610 : Ref sig .tc := ⟨.hbm, 780, rfl⟩
abbrev main_v611 : Ref sig .tc := ⟨.hbm, 781, rfl⟩
abbrev main_v612 : Ref sig .tc := ⟨.hbm, 782, rfl⟩
abbrev main_v613 : Ref sig .tc := ⟨.hbm, 783, rfl⟩
abbrev main_cst_113 : Ref sig .tc := ⟨.hbm, 784, rfl⟩
abbrev main_v614 : Ref sig .tc := ⟨.hbm, 785, rfl⟩
abbrev main_cst_114 : Ref sig .tc := ⟨.hbm, 786, rfl⟩
abbrev main_v615 : Ref sig .tc := ⟨.hbm, 787, rfl⟩
abbrev main_v616 : Ref sig .tc := ⟨.hbm, 788, rfl⟩
abbrev main_cst_115 : Ref sig .tc := ⟨.hbm, 789, rfl⟩
abbrev main_v617 : Ref sig .tc := ⟨.hbm, 790, rfl⟩
abbrev main_cst_116 : Ref sig .tc := ⟨.hbm, 791, rfl⟩
abbrev main_v618 : Ref sig .tc := ⟨.hbm, 792, rfl⟩
abbrev main_v619 : Ref sig .tc := ⟨.hbm, 793, rfl⟩
abbrev main_v620 : Ref sig .tc := ⟨.hbm, 794, rfl⟩
abbrev main_v621 : Ref sig .tc := ⟨.hbm, 795, rfl⟩
abbrev main_v622 : Ref sig .tc := ⟨.hbm, 796, rfl⟩
abbrev main_v623 : Ref sig .tc := ⟨.hbm, 797, rfl⟩
abbrev main_v624 : Ref sig .tc := ⟨.hbm, 798, rfl⟩
abbrev main_v625 : Ref sig .tc := ⟨.hbm, 799, rfl⟩
abbrev main_v626 : Ref sig .tc := ⟨.hbm, 800, rfl⟩
abbrev main_v627 : Ref sig .tc := ⟨.hbm, 801, rfl⟩
abbrev main_cst_117 : Ref sig .tc := ⟨.hbm, 802, rfl⟩
abbrev main_v628 : Ref sig .tc := ⟨.hbm, 803, rfl⟩
abbrev main_v629 : Ref sig .tc := ⟨.hbm, 804, rfl⟩
abbrev main_v630 : Ref sig .tc := ⟨.hbm, 805, rfl⟩
abbrev main_v631 : Ref sig .tc := ⟨.hbm, 806, rfl⟩
abbrev main_v632 : Ref sig .tc := ⟨.hbm, 807, rfl⟩
abbrev main_cst_118 : Ref sig .tc := ⟨.hbm, 808, rfl⟩
abbrev main_v633 : Ref sig .tc := ⟨.hbm, 809, rfl⟩
abbrev main_v634 : Ref sig .tc := ⟨.hbm, 810, rfl⟩
abbrev main_v635 : Ref sig .tc := ⟨.hbm, 811, rfl⟩
abbrev main_v636 : Ref sig .tc := ⟨.hbm, 812, rfl⟩
abbrev main_cst_119 : Ref sig .tc := ⟨.hbm, 813, rfl⟩
abbrev main_v637 : Ref sig .tc := ⟨.hbm, 814, rfl⟩
abbrev main_call1_v0 : Ref sig .tc := ⟨.hbm, 815, rfl⟩
abbrev main_call1_v1 : Ref sig .tc := ⟨.hbm, 816, rfl⟩
abbrev main_v638 : Ref sig .tc := ⟨.hbm, 817, rfl⟩
abbrev main_cst_120 : Ref sig .tc := ⟨.hbm, 818, rfl⟩
abbrev main_v639 : Ref sig .tc := ⟨.hbm, 819, rfl⟩
abbrev main_v640 : Ref sig .tc := ⟨.hbm, 820, rfl⟩
abbrev main_v641 : Ref sig .tc := ⟨.hbm, 821, rfl⟩
abbrev main_v642 : Ref sig .tc := ⟨.hbm, 822, rfl⟩
abbrev main_cst_121 : Ref sig .tc := ⟨.hbm, 823, rfl⟩
abbrev main_v643 : Ref sig .tc := ⟨.hbm, 824, rfl⟩
abbrev main_v644 : Ref sig .tc := ⟨.hbm, 825, rfl⟩
abbrev main_cst_122 : Ref sig .tc := ⟨.hbm, 826, rfl⟩
abbrev main_v645 : Ref sig .tc := ⟨.hbm, 827, rfl⟩
abbrev main_v646 : Ref sig .tc := ⟨.hbm, 828, rfl⟩
abbrev main_v647 : Ref sig .tc := ⟨.hbm, 829, rfl⟩
abbrev main_v648 : Ref sig .tc := ⟨.hbm, 830, rfl⟩
abbrev main_v649 : Ref sig .tc := ⟨.hbm, 831, rfl⟩
abbrev main_v650 : Ref sig .tc := ⟨.hbm, 832, rfl⟩
abbrev main_v651 : Ref sig .tc := ⟨.hbm, 833, rfl⟩
abbrev main_cst_123 : Ref sig .tc := ⟨.hbm, 834, rfl⟩
abbrev main_v652 : Ref sig .tc := ⟨.hbm, 835, rfl⟩
abbrev main_v653 : Ref sig .tc := ⟨.hbm, 836, rfl⟩
abbrev main_cst_124 : Ref sig .tc := ⟨.hbm, 837, rfl⟩
abbrev main_v654 : Ref sig .tc := ⟨.hbm, 838, rfl⟩
abbrev main_v655 : Ref sig .tc := ⟨.hbm, 839, rfl⟩
abbrev main_v656 : Ref sig .tc := ⟨.hbm, 840, rfl⟩
abbrev main_v657 : Ref sig .tc := ⟨.hbm, 841, rfl⟩
abbrev main_v658 : Ref sig .tc := ⟨.hbm, 842, rfl⟩
abbrev main_v659 : Ref sig .tc := ⟨.hbm, 843, rfl⟩
abbrev main_v660 : Ref sig .tc := ⟨.hbm, 844, rfl⟩
abbrev main_v661 : Ref sig .tc := ⟨.hbm, 845, rfl⟩
abbrev main_v662 : Ref sig .tc := ⟨.hbm, 846, rfl⟩
abbrev main_v663 : Ref sig .tc := ⟨.hbm, 847, rfl⟩
abbrev main_v664 : Ref sig .tc := ⟨.hbm, 848, rfl⟩
abbrev main_v665 : Ref sig .tc := ⟨.hbm, 849, rfl⟩
abbrev main_v666 : Ref sig .tc := ⟨.hbm, 850, rfl⟩
abbrev main_v667 : Ref sig .tc := ⟨.hbm, 851, rfl⟩
abbrev main_v668 : Ref sig .tc := ⟨.hbm, 852, rfl⟩
abbrev main_v669 : Ref sig .tc := ⟨.hbm, 853, rfl⟩
abbrev main_v670 : Ref sig .tc := ⟨.hbm, 854, rfl⟩
abbrev main_v671 : Ref sig .tc := ⟨.hbm, 855, rfl⟩
abbrev main_v672 : Ref sig .tc := ⟨.hbm, 856, rfl⟩
abbrev main_v673 : Ref sig .tc := ⟨.hbm, 857, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S2x4x512x1024 : Shape := ⟨4, ![2, 4, 512, 1024]⟩
abbrev S2048x1024 : Shape := ⟨2, ![2048, 1024]⟩
abbrev S2x1x512x1024 : Shape := ⟨4, ![2, 1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S2x4x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1x512x1024, .bf16⟩
  | .local _ .vmem, ⟨5, _⟩ => ⟨S2x1x512x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwUpReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S2x512x4x1024 : Shape := ⟨4, ![2, 512, 4, 1024]⟩
abbrev S2x4x512x1024 : Shape := ⟨4, ![2, 4, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S2x512x4x1024, .f32⟩
  | .hbm, ⟨8, _⟩ => ⟨S2x4x512x1024, .f32⟩
  | .hbm, ⟨9, _⟩ => ⟨S2x4x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S2x4x512x1024 : Shape := ⟨4, ![2, 4, 512, 1024]⟩
abbrev S2048x1024 : Shape := ⟨2, ![2048, 1024]⟩
abbrev S1024x1024 : Shape := ⟨2, ![1024, 1024]⟩
abbrev S2x1x512x1024 : Shape := ⟨4, ![2, 1, 512, 1024]⟩
abbrev S512x1024 : Shape := ⟨2, ![512, 1024]⟩
abbrev S1x1x512x1024 : Shape := ⟨4, ![1, 1, 512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x4096, .bf16⟩
  | .hbm, ⟨5, _⟩ => ⟨S4096x1024, .bf16⟩
  | .hbm, ⟨6, _⟩ => ⟨S1x1024, .f32⟩
  | .hbm, ⟨7, _⟩ => ⟨S4096x1024, .bf16⟩
  | .hbm, ⟨8, _⟩ => ⟨S2x4x512x1024, .bf16⟩
  | .hbm, ⟨9, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S2x1x512x1024, .bf16⟩
  | .local _ .vmem, ⟨8, _⟩ => ⟨S2x1x512x1024, .bf16⟩
  | .local _ .vmem, ⟨9, _⟩ => ⟨S1x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_5 : BitVec 32 := 0#32
  let v13 : BitVec 1 := Scalar.cmpi .ne v12 c0_i32_5
  v13

def k0_cond4 (i : grid0.Coords) : BitVec 1 :=
  let arg0 : BitVec 32 := BitVec.ofNat 32 (i 0).val
  let c0_i32_11 : BitVec 32 := 0#32
  let v21 : BitVec 1 := Scalar.cmpi .eq arg0 c0_i32_11
  let v22 : BitVec 32 := Scalar.extui v21
  let c0_i32_12 : BitVec 32 := 0#32
  let v23 : BitVec 1 := Scalar.cmpi .ne v22 c0_i32_12
  v23

def k0_cond5 (i : grid0.Coords) : BitVec 1 :=
  let arg0 : BitVec 32 := BitVec.ofNat 32 (i 0).val
  let c0_i32_11 : BitVec 32 := 0#32
  let v21 : BitVec 1 := Scalar.cmpi .eq arg0 c0_i32_11
  let true_13 : BitVec 1 := 1#1
  let v24 : BitVec 1 := Scalar.xori v21 true_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== DwDownReferenceIdeal.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S1024x4096, .f32⟩
  | .hbm, ⟨17, _⟩ => ⟨S4096x1024, .f32⟩
  | .hbm, ⟨18, _⟩ => ⟨S4x2x512x1024, .f32⟩
  | .hbm, ⟨19, _⟩ => ⟨S2x4x512x1024, .f32⟩
  | .hbm, ⟨20, _⟩ => ⟨S2x4x512x1024, .bf16⟩
  | .hbm, ⟨21, _⟩ => ⟨S1x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DwIn.lean ====
abbrev S4096x1024 : Shape := ⟨2, ![4096, 1024]⟩
abbrev S4096x3200 : Shape := ⟨2, ![4096, 3200]⟩
abbrev S1024x3200 : Shape := ⟨2, ![1024, 3200]⟩
abbrev S1024x512 : Shape := ⟨2, ![1024, 512]⟩
abbrev S512x3200 : Shape := ⟨2, ![512, 3200]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S4096x1024, .bf16⟩
  | .hbm, ⟨3, _⟩ => ⟨S4096x3200, .bf16⟩
  | .hbm, ⟨4, _⟩ => ⟨S1024x3200, .bf16⟩
  | .local _ .vmem, ⟨0, _⟩ => ⟨S1024x512, .bf16⟩
  | .local _ .vmem, ⟨1, _⟩ => ⟨S1024x512, .bf16⟩
  | .local _ .vmem, ⟨2, _⟩ => ⟨S1024x3200, .bf16⟩
  | .local _ .vmem, ⟨3, _⟩ => ⟨S1024x3200, .bf16⟩
  | .local _ .vmem, ⟨4, _⟩ => ⟨S512x3200, .bf16⟩
  | .local _ .vmem, ⟨5, _⟩ => ⟨S512x3200, .bf16⟩
  | .local _ .vmem, ⟨6, _⟩ => ⟨S512x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S_, .f32⟩
  | .hbm, ⟨3, _⟩ => ⟨S1024x3200, .f32⟩
  | .hbm, ⟨4, _⟩ => ⟨S4096x3200, .f32⟩
  | .hbm, ⟨5, _⟩ => ⟨S3200x1024, .f32⟩
  | .hbm, ⟨6, _⟩ => ⟨S1024x3200, .f32⟩
  | .hbm, ⟨7, _⟩ => ⟨S1024x3200, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4096x1024 : Shape := ⟨2, ![4096, 1024]⟩
abbrev S2x4x128x1024 : Shape := ⟨4, ![2, 4, 128, 1024]⟩
abbrev S2048x512 : Shape := ⟨2, ![2048, 512]⟩
abbrev S2048x1024 : Shape := ⟨2, ![2048, 1024]⟩
abbrev S2x2x128x1024 : Shape := ⟨4, ![2, 2, 128, 1024]⟩
abbrev S512x1024 : Shape := ⟨2, ![512, 1024]⟩
abbrev S128x1024 : Shape := ⟨2, ![128, 1024]⟩
abbrev S1x1x128x1024 : Shape := ⟨4, ![1, 1, 128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S2x4x128x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S2x2x128x1024, .bf16⟩
  | .local _ .vmem, ⟨5, _⟩ => ⟨S2x2x128x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwOutReferenceIdeal.lean ====
abbrev S4096x1024 : Shape := ⟨2, ![4096, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x2x128x1024, .f32⟩
  | .hbm, ⟨8, _⟩ => ⟨S2x4x128x1024, .f32⟩
  | .hbm, ⟨9, _⟩ => ⟨S2x4x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mlp.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x4096, .bf16⟩
  | .hbm, ⟨17, _⟩ => ⟨S4096x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_49 : BitVec 32 := 0#32
  let v96 : BitVec 1 := Scalar.cmpi .eq arg0 c0_i32_49
  let v97 : BitVec 32 := Scalar.extui v96
  let c0_i32_50 : BitVec 32 := 0#32
  let v98 : BitVec 1 := Scalar.cmpi .ne v97 c0_i32_50
  v98

def k0_cond3 (i : grid0.Coords) : BitVec 1 :=
  let arg0 : BitVec 32 := BitVec.ofNat 32 (i 0).val
  let c0_i32_49 : BitVec 32 := 0#32
  let v96 : BitVec 1 := Scalar.cmpi .eq arg0 c0_i32_49
  let v_true : BitVec 1 := 1#1
  let v99 : BitVec 1 := Scalar.xori v96 v_true
  let v100 : BitVec 32 := Scalar.extui v99
  let c0_i32_51 : BitVec 32 := 0#32
  let v101 : BitVec 1 := Scalar.cmpi .ne v100 c0_i32_51
  v101

def k0_cond4 (i : grid0.Coords) : BitVec 1 :=
  let arg0 : BitVec 32 := BitVec.ofNat 32 (i 0).val
  let c0_i32_52 : BitVec 32 := 0#32
  let v102 : BitVec 1 := Scalar.cmpi .eq arg0 c0_i32_52
  let v103 : BitVec 32 := Scalar.extui v102
  let c0_i32_53 : BitVec 32 := 0#32
  let v104 : BitVec 1 := Scalar.cmpi .ne v103 c0_i32_53
  v104

def k0_cond5 (i : grid0.Coords) : BitVec 1 :=
  let arg0 : BitVec 32 := BitVec.ofNat 32 (i 0).val
  let c0_i32_52 : BitVec 32 := 0#32
  let v102 : BitVec 1 := Scalar.cmpi .eq arg0 c0_i32_52
  let true_54 : BitVec 1 := 1#1
  let v105 : BitVec 1 := Scalar.xori v102 true_54
  let v106 : BitVec 32 := Scalar.extui v105
  let c0_i32_55 : BitVec 32 := 0#32
  let v107 : BitVec 1 := Scalar.cmpi .ne v106 c0_i32_55
  v107

def k0_cond6 (i : grid0.Coords) : BitVec 1 :=
  let arg0 : BitVec 32 := BitVec.ofNat 32 (i 0).val
  let c0_i32_56 : BitVec 32 := 0#32
  let v108 : BitVec 1 := Scalar.cmpi .eq arg0 c0_i32_56
  let v109 : BitVec 32 := Scalar.extui v108
  let c0_i32_57 : BitVec 32 := 0#32
  let v110 : BitVec 1 := Scalar.cmpi .ne v109 c0_i32_57
  v110

def k0_cond7 (i : grid0.Coords) : BitVec 1 :=
  let arg0 : BitVec 32 := BitVec.ofNat 32 (i 0).val
  let c0_i32_56 : BitVec 32 := 0#32
  let v108 : BitVec 1 := Scalar.cmpi .eq arg0 c0_i32_56
  let true_58 : BitVec 1 := 1#1
  let v111 : BitVec 1 := Scalar.xori v108 true_58
  let v112 : BitVec 32 := Scalar.extui v111
  let c0_i32_59 : BitVec 32 := 0#32
  let v113 : BitVec 1 := Scalar.cmpi .ne v112 c0_i32_59
  v113

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 163
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024, .f32⟩
  | 5 => ⟨S1024, .f32⟩
  | 6 => ⟨S1024x4096, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S_, .f32⟩
  | 29 => ⟨S1024, .f32⟩
  | 30 => ⟨S1024, .f32⟩
  | 31 => ⟨S1x1024, .f32⟩
  | 32 => ⟨S4096x1024, .f32⟩
  | 33 => ⟨S4096x1024, .f32⟩
  | 34 => ⟨S1x1024, .f32⟩
  | 35 => ⟨S4096x1024, .f32⟩
  | 36 => ⟨S4096x1024, .f32⟩
  | 37 => ⟨S4096x4096, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .i1⟩
  | 44 => ⟨S_, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S4096x1024, .f32⟩
  | 64 => ⟨S_, .f32⟩
  | 65 => ⟨S1024, .f32⟩
  | 66 => ⟨S1x1024, .f32⟩
  | 67 => ⟨S_, .f32⟩
  | 68 => ⟨S1024, .f32⟩
  | 69 => ⟨S4096x1024, .f32⟩
  | 70 => ⟨S_, .f32⟩
  | 71 => ⟨S1024, .f32⟩
  | 72 => ⟨S1x1024, .f32⟩
  | 73 => ⟨S4096x1024, .f32⟩
  | 74 => ⟨S4096x1024, .f32⟩
  | 75 => ⟨S_, .f32⟩
  | 76 => ⟨S1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S4096x1024, .f32⟩
  | 83 => ⟨S_, .f32⟩
  | 84 => ⟨S1024, .f32⟩
  | 85 => ⟨S4096x1024, .f32⟩
  | 86 => ⟨S_, .f32⟩
  | 87 => ⟨S4096, .f32⟩
  | 88 => ⟨S4096x1, .f32⟩
  | 89 => ⟨S4096x1024, .f32⟩
  | 90 => ⟨S4096x1024, .f32⟩
  | 91 => ⟨S4096x1024, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x1, .f32⟩
  | 114 => ⟨S4096x1024, .f32⟩
  | 115 => ⟨S4096x1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S1024, .f32⟩
  | 122 => ⟨S1x1024, .f32⟩
  | 123 => ⟨S4096x1024, .f32⟩
  | 124 => ⟨S4096x1024, .f32⟩
  | 125 => ⟨S1x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S_, .f32⟩
  | 5 => ⟨S4096x4096, .f32⟩
  | 6 => ⟨S4096x4096, .i1⟩
  | 7 => ⟨S_, .f32⟩
  | 8 => ⟨S4096x4096, .f32⟩
  | 9 => ⟨S4096x4096, .f32⟩
  | 10 => ⟨S_, .f32⟩
  | 11 => ⟨S4096x4096, .f32⟩
  | 12 => ⟨S4096x4096, .f32⟩
  | 13 => ⟨S4096x1024, .f32⟩
  | 14 => ⟨S1x1024, .f32⟩
  | 15 => ⟨S4096x1024, .f32⟩
  | 16 => ⟨S4096x1024, .f32⟩
  | 17 => ⟨S4096x1024, .f32⟩
  | 18 => ⟨S4096x1024, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S4096x1024, .bf16⟩
  | 29 => ⟨S4096x4096, .bf16⟩
  | 30 => ⟨S4096x4096, .bf16⟩
  | 31 => ⟨S4096x1024, .bf16⟩
  | 32 => ⟨S1x1024, .f32⟩
  | 33 => ⟨S1x1024, .f32⟩
  | 34 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_cst_19 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call1_cst : Ref sig .tc := ⟨.hbm, 129, rfl⟩
abbrev main_call1_v0 : Ref sig .tc := ⟨.hbm, 130, rfl⟩
abbrev main_v97 : Ref sig .tc := ⟨.hbm, 131, rfl⟩
abbrev main_cst_21 : Ref sig .tc := ⟨.hbm, 132, rfl⟩
abbrev main_v98 : Ref sig .tc := ⟨.hbm, 133, rfl⟩
abbrev main_v99 : Ref sig .tc := ⟨.hbm, 134, rfl⟩
abbrev main_cst_22 : Ref sig .tc := ⟨.hbm, 135, rfl⟩
abbrev main_v100 : Ref sig .tc := ⟨.hbm, 136, rfl⟩
abbrev main_v101 : Ref sig .tc := ⟨.hbm, 137, rfl⟩
abbrev main_cst_23 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_v113 : Ref sig .tc := ⟨.hbm, 151, rfl⟩
abbrev main_call2_cst : Ref sig .tc := ⟨.hbm, 152, rfl⟩
abbrev main_call2_v0 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩

abbrev nD : Nat := 1
abbrev τ : Topo := Topo.v7x

variable {F : FTy → Type} [FloatOps F]
-- ==== Proj.lean ====
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩
abbrev S1024 : Shape := ⟨1, ![1024]⟩
abbrev S1024x3200 : Shape := ⟨2, ![1024, 3200]⟩
abbrev S1x1024 : Shape := ⟨2, ![1, 1024]⟩
abbrev S4096x3200 : Shape := ⟨2, ![4096, 3200]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512x3200 : Shape := ⟨2, ![512, 3200]⟩
abbrev S512 : Shape := ⟨1, ![512]⟩
abbrev S512x1 : Shape := ⟨2, ![512, 1]⟩

abbrev nBuf : Space → Nat
  | .hbm => 18
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024, .f32⟩
  | .hbm, ⟨8, _⟩ => ⟨S1024, .f32⟩
  | .hbm, ⟨9, _⟩ => ⟨S1024x3200, .f32⟩
  | .hbm, ⟨10, _⟩ => ⟨S1x1024, .f32⟩
  | .hbm, ⟨11, _⟩ => ⟨S1x1024, .f32⟩
  | .hbm, ⟨12, _⟩ => ⟨S1024x3200, .bf16⟩
  | .hbm, ⟨13, _⟩ => ⟨S4096x1024, .f32⟩
  | .hbm, ⟨14, _⟩ => ⟨S4096x3200, .bf16⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S1x1024, .f32⟩
  | .local _ .vmem, ⟨15, _⟩ => ⟨S1x1024, .f32⟩
  | .local _ .vmem, ⟨16, _⟩ => ⟨S1024x3200, .bf16⟩
  | .local _ .vmem, ⟨17, _⟩ => ⟨S512x1024, .f32⟩
  | .local _ .vmem, ⟨18, _⟩ => ⟨S512x1024, .f32⟩
  | .local _ .vmem, ⟨19, _⟩ => ⟨S512x3200, .bf16⟩
  | .local _ .vmem, ⟨20, _⟩ => ⟨S512x3200, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_32 : BitVec 32 := 0#32
  let v57 : BitVec 1 := Scalar.cmpi .ne v56 c0_i32_32
  v57

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v58 : BitVec 1 := Scalar.xori v55 v_true
  let v59 : BitVec 32 := Scalar.extui v58
  let c0_i32_33 : BitVec 32 := 0#32
  let v60 : BitVec 1 := Scalar.cmpi .ne v59 c0_i32_33
  v60

def k0_cond3 (i : grid0.Coords) : BitVec 1 :=
  let arg0 : BitVec 32 := BitVec.ofNat 32 (i 0).val
  let c0_i32_34 : BitVec 32 := 0#32
  let v61 : BitVec 1 := Scalar.cmpi .eq arg0 c0_i32_34
  let v62 : BitVec 32 := Scalar.extui v61
  let c0_i32_35 : BitVec 32 := 0#32
  let v63 : BitVec 1 := Scalar.cmpi .ne v62 c0_i32_35
  v63

def k0_cond4 (i : grid0.Coords) : BitVec 1 :=
  let arg0 : BitVec 32 := BitVec.ofNat 32 (i 0).val
  let c0_i32_34 : BitVec 32 := 0#32
  let v61 : BitVec 1 := Scalar.cmpi .eq arg0 c0_i32_34
  let true_36 : BitVec 1 := 1#1
  let v64 : BitVec 1 := Scalar.xori v61 true_36
  let v65 : BitVec 32 := Scalar.extui v64
  let c0_i32_37 : BitVec 32 := 0#32
  let v66 : BitVec 1 := Scalar.cmpi .ne v65 c0_i32_37
  v66

def k0_cond5 (i : grid0.Coords) : BitVec 1 :=
  let arg0 : BitVec 32 := BitVec.ofNat 32 (i 0).val
  let c0_i32_38 : BitVec 32 := 0#32
  let v67 : BitVec 1 := Scalar.cmpi .eq arg0 c0_i32_38
  let v68 : BitVec 32 := Scalar.extui v67
  let c0_i32_39 : BitVec 32 := 0#32
  let v69 : BitVec 1 := Scalar.cmpi .ne v68 c0_i32_39
  v69

def k0_cond6 (i : grid0.Coords) : BitVec 1 :=
  let arg0 : BitVec 32 := BitVec.ofNat 32 (i 0).val
  let c0_i32_38 : BitVec 32 := 0#32
  let v67 : BitVec 1 := Scalar.cmpi .eq arg0 c0_i32_38
  let true_40 : BitVec 1 := 1#1
  let v70 : BitVec 1 := Scalar.xori v67 true_40
  let v71 : BitVec 32 := Scalar.extui v70
  let c0_i32_41 : BitVec 32 := 0#32
  let v72 : BitVec 1 := Scalar.cmpi .ne v71 c0_i32_41
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3200 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3200 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjReferenceIdeal.lean ====
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩
abbrev S1024 : Shape := ⟨1, ![1024]⟩
abbrev S1024x3200 : Shape := ⟨2, ![1024, 3200]⟩
abbrev S4096x3200 : Shape := ⟨2, ![4096, 3200]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024, .f32⟩
  | .hbm, ⟨8, _⟩ => ⟨S1024, .f32⟩
  | .hbm, ⟨9, _⟩ => ⟨S1024x3200, .f32⟩
  | .hbm, ⟨10, _⟩ => ⟨S4096x3200, .f32⟩
  | .hbm, ⟨11, _⟩ => ⟨S_, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x3200, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x3200, .bf16⟩
  | .hbm, ⟨84, _⟩ => ⟨S1x1024, .f32⟩
  | .hbm, ⟨85, _⟩ => ⟨S1x1024, .f32⟩
  | .hbm, ⟨86, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Step.lean ====
/- What a grid point leaves in each output and in the carry, by case (the first tile, a later one), read off the
   generated runs: the shape of the generated frame, with the point's step named so that the fold over the tiles stays small. -/
module

public import proofs.«01_k».proof.Proof.Gen.KernelIdeal.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S8x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S512x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S8x512 .f32) (harg20 : arg20.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (x0 : Vec F S256x512 .f32) (x1 : Vec F S256x512 .f32) (x2 : Vec F S256x512 .f32) (x3 : Vec F S256x512 .f32) (x4 : Vec F S8x512 .f32) (x5 : Vec F S512x512 .bf16) (x6 : Vec F S1x512 .f32) (x7 : Vec F S512x512 .bf16) (x8 : Vec F S1x512 .f32) (x9 : Vec F S1x512 .f32) (x10 : Vec F S1x512 .f32)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10

theorem cover0_A_11 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).1 S256x512.size (by sl_kernel_rfl) y

def out0_A_11 : Vec F S256x512 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).1)

theorem cover0_A_12 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.1 S256x512.size (by sl_kernel_rfl) y

def out0_A_12 : Vec F S256x512 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.1)

theorem cover0_A_13 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.1 S512x512.size (by sl_kernel_rfl) y

def out0_A_13 : Vec F S512x512 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.1)

theorem cover0_A_14 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.1 S1x512.size (by sl_kernel_rfl) y

def out0_A_14 : Vec F S1x512 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.1)

theorem cover0_A_15 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.1 S512x512.size (by sl_kernel_rfl) y

def out0_A_15 : Vec F S512x512 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.1)

theorem cover0_A_16 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.1 S1x512.size (by sl_kernel_rfl) y

def out0_A_16 : Vec F S1x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.1)

theorem cover0_A_17 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.1 S1x512.size (by sl_kernel_rfl) y

def out0_A_17 : Vec F S1x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.1)

theorem cover0_A_18 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.2.1 S1x512.size (by sl_kernel_rfl) y

def out0_A_18 : Vec F S1x512 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.2.1)

theorem scover0_A_0 (y : S8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.2.2.1 (by sl_whole_mem) y

def sout0_A_0 : Vec F S8x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10).2.2.2.2.2.2.2.2.1)

end

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S8x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S512x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S8x512 .f32) (harg20 : arg20.IsWhole) (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (x0 : Vec F S256x512 .f32) (x1 : Vec F S256x512 .f32) (x2 : Vec F S256x512 .f32) (x3 : Vec F S256x512 .f32) (x4 : Vec F S8x512 .f32) (x5 : Vec F S512x512 .bf16) (x6 : Vec F S1x512 .f32) (x7 : Vec F S512x512 .bf16) (x8 : Vec F S1x512 .f32) (x9 : Vec F S1x512 .f32) (x10 : Vec F S1x512 .f32) (xo13 : Vec F S512x512 .f32) (xo14 : Vec F S1x512 .f32) (xo15 : Vec F S512x512 .f32) (xo16 : Vec F S1x512 .f32) (xo17 : Vec F S1x512 .f32) (xo18 : Vec F S1x512 .f32) (xs0 : Vec F S8x512 .f32)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0

theorem cover0_B_11 (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).1 S256x512.size (by sl_kernel_rfl) y

def out0_B_11 : Vec F S256x512 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).1)

theorem cover0_B_12 (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.1 S256x512.size (by sl_kernel_rfl) y

def out0_B_12 : Vec F S256x512 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.1)

theorem cover0_B_13 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.1 S512x512.size (by sl_kernel_rfl) y

def out0_B_13 : Vec F S512x512 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.1)

theorem cover0_B_14 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.1 S1x512.size (by sl_kernel_rfl) y

def out0_B_14 : Vec F S1x512 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.1)

theorem cover0_B_15 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.1 S512x512.size (by sl_kernel_rfl) y

def out0_B_15 : Vec F S512x512 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.1)

theorem cover0_B_16 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.1 S1x512.size (by sl_kernel_rfl) y

def out0_B_16 : Vec F S1x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.1)

theorem cover0_B_17 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.1 S1x512.size (by sl_kernel_rfl) y

def out0_B_17 : Vec F S1x512 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.1)

theorem cover0_B_18 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.2.1 S1x512.size (by sl_kernel_rfl) y

def out0_B_18 : Vec F S1x512 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.2.1)

def sout0_B_0 : Vec F S8x512 .f32 :=
  arg20.view.read (Elt F) (arg20.view.writes (Elt F) (harg20.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0).2.2.2.2.2.2.2.2.1)

end

theorem notLate (t : Fin cfg0.N) (h0 : t.val % 16 = 0) : ¬1 ≤ t.val := by
  have hN : t.val < 16 := lt_of_lt_of_eq t.isLt (show cfg0.N = 16 from N_0)
  omega

theorem late (t : Fin cfg0.N) (h0 : ¬t.val % 16 = 0) : 1 ≤ t.val := by omega

/-- The outputs' buffers in window order, then the carry. -/
abbrev Outs (F : FTy → Type) [FloatOps F] : Type := Vec F S256x512 .f32 × Vec F S256x512 .f32 × Vec F S512x512 .f32 × Vec F S1x512 .f32 × Vec F S512x512 .f32 × Vec F S1x512 .f32 × Vec F S1x512 .f32 × Vec F S1x512 .f32 × Vec F S8x512 .f32

/-- What the first tile leaves. -/
def stepA (c : Dev nD) (t : Fin cfg0.N) (h0 : t.val % 16 = 0) : Outs F :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t))

/-- What a later tile leaves over what the tile before left. -/
def stepB (c : Dev nD) (t : Fin cfg0.N) (h0 : ¬t.val % 16 = 0) (p : Outs F) : Outs F :=
  (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2)

/-- What the tiles up to the `n`-th leave. -/
def outsAt0 (c : Dev nD) : (n : ℕ) → n < cfg0.N → Outs F
  | 0, hn => stepA m c ⟨0, hn⟩ (Nat.zero_mod _)
  | n + 1, hn => if h0 : (n + 1) % 16 = 0 then stepA m c ⟨n + 1, hn⟩ h0 else stepB m c ⟨n + 1, hn⟩ h0 (outsAt0 c n (Nat.lt_of_succ_lt hn))

theorem outsAt0_A (c : Dev nD) (t : Fin cfg0.N) (h0 : t.val % 16 = 0) : outsAt0 m c t.val t.isLt = stepA m c t h0 := by
  obtain ⟨n, hn⟩ := t
  cases n with
  | zero => rfl
  | succ n => exact dif_pos h0

theorem outsAt0_B (c : Dev nD) (t : Fin cfg0.N) (h0 : ¬t.val % 16 = 0) :
    outsAt0 m c t.val t.isLt = stepB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

end Cert.KernelIdeal.Gen

end
-- ==== Proof.Frame.lean ====
/- The run of the kernel over any float values: the body keeps the fold of `Step`, every execution of @main ends
   with the pipeline's arrays at it, and the arguments are kept. -/
module

public import proofs.«01_k».proof.Proof.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨18, _⟩ => (outsAt0 m c t.val t.isLt).2.2.2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]
theorem after0_18 (c : Dev nD) (t : Fin cfg0.N) : (dats m 0 c).after 18 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 16 := lt_of_lt_of_eq t.isLt (show cfg0.N = 16 from N_0)
  rw [after0_13, after0_13]
  by_cases h0 : t.val % 16 = 0
  · rw [liveAt0_13_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))] at hi
    exact absurd hi Bool.false_ne_true
  · rw [liveAt0_13_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))] at hi
    exact absurd hi Bool.false_ne_true

theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 16 := lt_of_lt_of_eq t.isLt (show cfg0.N = 16 from N_0)
  rw [after0_14, after0_14]
  by_cases h0 : t.val % 16 = 0
  · rw [liveAt0_14_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))] at hi
    exact absurd hi Bool.false_ne_true
  · rw [liveAt0_14_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))] at hi
    exact absurd hi Bool.false_ne_true

theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 16 := lt_of_lt_of_eq t.isLt (show cfg0.N = 16 from N_0)
  rw [after0_15, after0_15]
  by_cases h0 : t.val % 16 = 0
  · rw [liveAt0_15_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))] at hi
    exact absurd hi Bool.false_ne_true
  · rw [liveAt0_15_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))] at hi
    exact absurd hi Bool.false_ne_true

theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 16 := lt_of_lt_of_eq t.isLt (show cfg0.N = 16 from N_0)
  rw [after0_16, after0_16]
  by_cases h0 : t.val % 16 = 0
  · rw [liveAt0_16_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))] at hi
    exact absurd hi Bool.false_ne_true
  · rw [liveAt0_16_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))] at hi
    exact absurd hi Bool.false_ne_true

theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 16 := lt_of_lt_of_eq t.isLt (show cfg0.N = 16 from N_0)
  rw [after0_17, after0_17]
  by_cases h0 : t.val % 16 = 0
  · rw [liveAt0_17_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))] at hi
    exact absurd hi Bool.false_ne_true
  · rw [liveAt0_17_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))] at hi
    exact absurd hi Bool.false_ne_true

theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 16 := lt_of_lt_of_eq t.isLt (show cfg0.N = 16 from N_0)
  rw [after0_18, after0_18]
  by_cases h0 : t.val % 16 = 0
  · rw [liveAt0_18_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))] at hi
    exact absurd hi Bool.false_ne_true
  · rw [liveAt0_18_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))] at hi
    exact absurd hi Bool.false_ne_true

theorem before0_13_B (c : Dev nD) (t : Fin cfg0.N) (h0 : ¬t.val % 16 = 0) (d) :
    (dats m 0 c).before 13 t d = (outsAt0 m c (t.val - 1) (Nat.lt_of_le_of_lt (Nat.sub_le _ _) t.isLt)).2.2.1 := by
  rw [Dat.before_out_traj _ 13 rfl (fun _ _ => rfl) (hcarry0_13 m c) t.val t rfl d,
    if_neg (by rw [notFresh0_13_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))]; exact Bool.false_ne_true)]
  dsimp only [dats]
theorem before0_14_B (c : Dev nD) (t : Fin cfg0.N) (h0 : ¬t.val % 16 = 0) (d) :
    (dats m 0 c).before 14 t d = (outsAt0 m c (t.val - 1) (Nat.lt_of_le_of_lt (Nat.sub_le _ _) t.isLt)).2.2.2.1 := by
  rw [Dat.before_out_traj _ 14 rfl (fun _ _ => rfl) (hcarry0_14 m c) t.val t rfl d,
    if_neg (by rw [notFresh0_14_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))]; exact Bool.false_ne_true)]
  dsimp only [dats]
theorem before0_15_B (c : Dev nD) (t : Fin cfg0.N) (h0 : ¬t.val % 16 = 0) (d) :
    (dats m 0 c).before 15 t d = (outsAt0 m c (t.val - 1) (Nat.lt_of_le_of_lt (Nat.sub_le _ _) t.isLt)).2.2.2.2.1 := by
  rw [Dat.before_out_traj _ 15 rfl (fun _ _ => rfl) (hcarry0_15 m c) t.val t rfl d,
    if_neg (by rw [notFresh0_15_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))]; exact Bool.false_ne_true)]
  dsimp only [dats]
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.2.2.1 := by
  rw [Dat.before_out_traj _ 16 rfl (fun _ _ => rfl) (hcarry0_16 m c) t.val t rfl d,
    if_neg (by rw [notFresh0_16_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))]; exact Bool.false_ne_true)]
  dsimp only [dats]
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.2.2.1 := by
  rw [Dat.before_out_traj _ 17 rfl (fun _ _ => rfl) (hcarry0_17 m c) t.val t rfl d,
    if_neg (by rw [notFresh0_17_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))]; exact Bool.false_ne_true)]
  dsimp only [dats]
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.2.2.1 := by
  rw [Dat.before_out_traj _ 18 rfl (fun _ _ => rfl) (hcarry0_18 m c) t.val t rfl d,
    if_neg (by rw [notFresh0_18_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [show (dats m 0 c).leavesExact 6 t = owns (c : Thread nD τ) (ms0_6 t) fullShare ((dats m 0 c).after 6 t) from by
        unfold Dat.leavesExact; rw [liveAt0_6 t], after0_6]
    rw [show (dats m 0 c).leavesExact 7 t = owns (c : Thread nD τ) (ms0_7 t) fullShare ((dats m 0 c).after 7 t) from by
        unfold Dat.leavesExact; rw [liveAt0_7 t], after0_7]
    rw [show (dats m 0 c).leavesExact 8 t = owns (c : Thread nD τ) (ms0_8 t) fullShare ((dats m 0 c).after 8 t) from by
        unfold Dat.leavesExact; rw [liveAt0_8 t], after0_8]
    rw [show (dats m 0 c).leavesExact 9 t = owns (c : Thread nD τ) (ms0_9 t) fullShare ((dats m 0 c).after 9 t) from by
        unfold Dat.leavesExact; rw [liveAt0_9 t], after0_9]
    rw [show (dats m 0 c).leavesExact 10 t = owns (c : Thread nD τ) (ms0_10 t) fullShare ((dats m 0 c).after 10 t) from by
        unfold Dat.leavesExact; rw [liveAt0_10 t], after0_10]
    rw [show (dats m 0 c).leavesExact 11 t = owns (c : Thread nD τ) (ms0_11 t) fullShare ((dats m 0 c).after 11 t) from by
        unfold Dat.leavesExact; rw [liveAt0_11 t], after0_11]
    rw [show (dats m 0 c).leavesExact 12 t = owns (c : Thread nD τ) (ms0_12 t) fullShare ((dats m 0 c).after 12 t) from by
        unfold Dat.leavesExact; rw [liveAt0_12 t], after0_12]
    rw [show (dats m 0 c).leavesExact 13 t = owns (c : Thread nD τ) (ms0_13 t) fullShare ((dats m 0 c).after 13 t) from by
        unfold Dat.leavesExact; rw [liveAt0_13_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))], after0_13]
    rw [show (dats m 0 c).leavesExact 14 t = owns (c : Thread nD τ) (ms0_14 t) fullShare ((dats m 0 c).after 14 t) from by
        unfold Dat.leavesExact; rw [liveAt0_14_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))], after0_14]
    rw [show (dats m 0 c).leavesExact 15 t = owns (c : Thread nD τ) (ms0_15 t) fullShare ((dats m 0 c).after 15 t) from by
        unfold Dat.leavesExact; rw [liveAt0_15_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))], after0_15]
    rw [show (dats m 0 c).leavesExact 16 t = owns (c : Thread nD τ) (ms0_16 t) fullShare ((dats m 0 c).after 16 t) from by
        unfold Dat.leavesExact; rw [liveAt0_16_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))], after0_16]
    rw [show (dats m 0 c).leavesExact 17 t = owns (c : Thread nD τ) (ms0_17 t) fullShare ((dats m 0 c).after 17 t) from by
        unfold Dat.leavesExact; rw [liveAt0_17_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))], after0_17]
    rw [show (dats m 0 c).leavesExact 18 t = owns (c : Thread nD τ) (ms0_18 t) fullShare ((dats m 0 c).after 18 t) from by
        unfold Dat.leavesExact; rw [liveAt0_18_A t ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h))], after0_18]
    have hz : t.val = 0 := by omega
    rw [PhiS_castSucc m c t, PhiS_zero m c _ _ hz, PhiA0_eq]
    rw [outsAt0_A m c t h0]
    unfold stepA out0_A_11 out0_A_12 out0_A_13 out0_A_14 out0_A_15 out0_A_16 out0_A_17 out0_A_18 sout0_A_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [show (dats m 0 c).leavesExact 3 t = owns (c : Thread nD τ) (ms0_3 t) fullShare ((dats m 0 c).after 3 t) from by
        unfold Dat.leavesExact; rw [liveAt0_3 t], after0_3]
    rw [show (dats m 0 c).leavesExact 4 t = owns (c : Thread nD τ) (ms0_4 t) fullShare ((dats m 0 c).after 4 t) from by
        unfold Dat.leavesExact; rw [liveAt0_4 t], after0_4]
    rw [show (dats m 0 c).leavesExact 5 t = owns (c : Thread nD τ) (ms0_5 t) fullShare ((dats m 0 c).after 5 t) from by
        unfold Dat.leavesExact; rw [liveAt0_5 t], after0_5]
    rw [show (dats m 0 c).leavesExact 6 t = owns (c : Thread nD τ) (ms0_6 t) fullShare ((dats m 0 c).after 6 t) from by
        unfold Dat.leavesExact; rw [liveAt0_6 t], after0_6]
    rw [show (dats m 0 c).leavesExact 7 t = owns (c : Thread nD τ) (ms0_7 t) fullShare ((dats m 0 c).after 7 t) from by
        unfold Dat.leavesExact; rw [liveAt0_7 t], after0_7]
    rw [show (dats m 0 c).leavesExact 8 t = owns (c : Thread nD τ) (ms0_8 t) fullShare ((dats m 0 c).after 8 t) from by
        unfold Dat.leavesExact; rw [liveAt0_8 t], after0_8]
    rw [show (dats m 0 c).leavesExact 9 t = owns (c : Thread nD τ) (ms0_9 t) fullShare ((dats m 0 c).after 9 t) from by
        unfold Dat.leavesExact; rw [liveAt0_9 t], after0_9]
    rw [show (dats m 0 c).leavesExact 10 t = owns (c : Thread nD τ) (ms0_10 t) fullShare ((dats m 0 c).after 10 t) from by
        unfold Dat.leavesExact; rw [liveAt0_10 t], after0_10]
    rw [show (dats m 0 c).leavesExact 11 t = owns (c : Thread nD τ) (ms0_11 t) fullShare ((dats m 0 c).after 11 t) from by
        unfold Dat.leavesExact; rw [liveAt0_11 t], after0_11]
    rw [show (dats m 0 c).leavesExact 12 t = owns (c : Thread nD τ) (ms0_12 t) fullShare ((dats m 0 c).after 12 t) from by
        unfold Dat.leavesExact; rw [liveAt0_12 t], after0_12]
    rw [show (dats m 0 c).leavesExact 13 t = owns (c : Thread nD τ) (ms0_13 t) fullShare ((dats m 0 c).after 13 t) from by
        unfold Dat.leavesExact; rw [liveAt0_13_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))], after0_13]
    rw [show (dats m 0 c).leavesExact 14 t = owns (c : Thread nD τ) (ms0_14 t) fullShare ((dats m 0 c).after 14 t) from by
        unfold Dat.leavesExact; rw [liveAt0_14_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))], after0_14]
    rw [show (dats m 0 c).leavesExact 15 t = owns (c : Thread nD τ) (ms0_15 t) fullShare ((dats m 0 c).after 15 t) from by
        unfold Dat.leavesExact; rw [liveAt0_15_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))], after0_15]
    rw [show (dats m 0 c).leavesExact 16 t = owns (c : Thread nD τ) (ms0_16 t) fullShare ((dats m 0 c).after 16 t) from by
        unfold Dat.leavesExact; rw [liveAt0_16_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))], after0_16]
    rw [show (dats m 0 c).leavesExact 17 t = owns (c : Thread nD τ) (ms0_17 t) fullShare ((dats m 0 c).after 17 t) from by
        unfold Dat.leavesExact; rw [liveAt0_17_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))], after0_17]
    rw [show (dats m 0 c).leavesExact 18 t = owns (c : Thread nD τ) (ms0_18 t) fullShare ((dats m 0 c).after 18 t) from by
        unfold Dat.leavesExact; rw [liveAt0_18_B t (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0))], after0_18]
    have hz : t.val ≠ 0 := fun h => h0 (by rw [h])
    rw [PhiS_castSucc m c t, PhiS_pos m c _ _ hz]
    rw [outsAt0_B m c t h0]
    simp only [before0_13_B m c t h0, before0_14_B m c t h0, before0_15_B m c t h0, before0_16_B m c t h0, before0_17_B m c t h0, before0_18_B m c t h0]
    unfold stepB out0_B_11 out0_B_12 out0_B_13 out0_B_14 out0_B_15 out0_B_16 out0_B_17 out0_B_18 sout0_B_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) _ _ _ _ _ _ _).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS0⟩
    isplitl [HS0 Hg]
    · isplitl [HS0]
      · unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Same.lean ====
/- The rounded kernel's program is the ideal one's, term for term. -/
module

public import proofs.«01_k».proof.Defs
public import proofs.«01_k».proof.Proof.Gen.Kernel
public import proofs.«01_k».proof.Proof.Frame

@[expose] public section

set_option maxRecDepth 16384
set_option maxHeartbeats 4000000

noncomputable section

namespace Cert.Proof

open Idealize.ShloMosaic Idealize.ShloMosaic.TcCoe Idealize.SL.Sem

theorem same_body : Cert.Kernel.defs₀ (F := Bits) = Cert.KernelIdeal.defs₀ (F := Bits) := by
  refine congrArg Defs.onTc (funext fun l => funext fun a => ?_)
  match l, a with
  | ⟨0, _⟩, (t, s) => exact rfl

theorem same_defs : Cert.Kernel.defs (F := Bits) = Cert.KernelIdeal.defs (F := Bits) :=
  congrArg (Pipeline.defs (Cert.KernelIdeal.pcfgs (F := Bits))) same_body

theorem same_main : Cert.Kernel.main (F := Bits) = Cert.KernelIdeal.main (F := Bits) := (rfl)

theorem frame_kernel : Cert.quiescent_Kernel := fun m ρ _ =>
  Eq.mpr (congrArg₂ (fun D M => θ_run D (onTc (τ := Cert.KernelIdeal.τ) M) ⟨m, fun _ => 0, ρ⟩ _) same_defs same_main)
    (Cert.KernelIdeal.Gen.frame (F := Bits) m ρ)

end Cert.Proof

end
-- ==== Proof.Mat.lean ====
/- Arrays of extended reals given by real functions: the predicates `M1`, `M2`, `M3`, and what each operation does to them. -/
module

public import Idealize.ShloMosaic.Lib.Pointwise
public import Idealize.ShloMosaic.Lib.IdealHost

@[expose] public section

noncomputable section

namespace Cert.Lru

open Idealize.ShloMosaic

/-- The vector `X` holds the reals `f`. -/
def M1 {k : ℕ} (X : (⟨1, ![k]⟩ : Shape).Idx → EReal) (f : ℕ → ℝ) : Prop :=
  ∀ j, X j = ((f (j 0).val : ℝ) : EReal)

/-- The matrix `X` holds, at row `r` and column `c`, the real `f r c`. -/
def M2 {n k : ℕ} (X : (⟨2, ![n, k]⟩ : Shape).Idx → EReal) (f : ℕ → ℕ → ℝ) : Prop :=
  ∀ j, X j = ((f (j 0).val (j 1).val : ℝ) : EReal)

/-- The box `X` holds the reals `f`. -/
def M3 {n k l : ℕ} (X : (⟨3, ![n, k, l]⟩ : Shape).Idx → EReal) (f : ℕ → ℕ → ℕ → ℝ) : Prop :=
  ∀ j, X j = ((f (j 0).val (j 1).val (j 2).val : ℝ) : EReal)

variable {n k l : ℕ}

theorem M1.congr {X : (⟨1, ![k]⟩ : Shape).Idx → EReal} {f g : ℕ → ℝ} (hX : M1 X f) (h : ∀ c < k, f c = g c) : M1 X g :=
  fun j => (hX j).trans (congrArg _ (h _ (j 0).isLt))

theorem M2.congr {X : (⟨2, ![n, k]⟩ : Shape).Idx → EReal} {f g : ℕ → ℕ → ℝ} (hX : M2 X f)
    (h : ∀ r < n, ∀ c < k, f r c = g r c) : M2 X g :=
  fun j => (hX j).trans (congrArg _ (h _ (j 0).isLt _ (j 1).isLt))

theorem M3.congr {X : (⟨3, ![n, k, l]⟩ : Shape).Idx → EReal} {f g : ℕ → ℕ → ℕ → ℝ} (hX : M3 X f)
    (h : ∀ r < n, ∀ c < k, ∀ d < l, f r c d = g r c d) : M3 X g :=
  fun j => (hX j).trans (congrArg _ (h _ (j 0).isLt _ (j 1).isLt _ (j 2).isLt))

/-! ## One element at a time -/

theorem M2.map {X : (⟨2, ![n, k]⟩ : Shape).Idx → EReal} {f : ℕ → ℕ → ℝ} (hX : M2 X f) (o : EReal → EReal) (g : ℝ → ℝ)
    (h : ∀ x : ℝ, o x = (g x : EReal)) : M2 (fun j => o (X j)) fun r c => g (f r c) := fun j => by
  show o (X j) = _
  rw [hX, h]

theorem M1.map {X : (⟨1, ![k]⟩ : Shape).Idx → EReal} {f : ℕ → ℝ} (hX : M1 X f) (o : EReal → EReal) (g : ℝ → ℝ)
    (h : ∀ x : ℝ, o x = (g x : EReal)) : M1 (fun j => o (X j)) fun c => g (f c) := fun j => by
  show o (X j) = _
  rw [hX, h]

theorem ideal_div (x : ℝ) {y : ℝ} (h : y ≠ 0) : Ideal.div x y = ((x / y : ℝ) : EReal) := by
  rw [Ideal.div_coe h, ← EReal.coe_mul, mul_one_div]

theorem ideal_sqrt {x : ℝ} (h : 0 ≤ x) : Ideal.sqrt x = ((Real.sqrt x : ℝ) : EReal) := by
  rw [Ideal.sqrt_coe, if_neg (not_lt.2 h)]

theorem ideal_rsqrt {x : ℝ} (h : 0 < x) : Ideal.rsqrt x = (((Real.sqrt x)⁻¹ : ℝ) : EReal) := by
  rw [Ideal.rsqrt_coe, if_neg (not_lt.2 h.le), if_neg h.ne']

theorem ideal_max (x y : ℝ) : max (x : EReal) y = ((max x y : ℝ) : EReal) := (EReal.coe_strictMono.monotone.map_max).symm

theorem ideal_log1p {x : ℝ} (h : 0 ≤ x) : Ideal.log1p x = ((Real.log (1 + x) : ℝ) : EReal) := by
  rw [Ideal.log1p, ← EReal.coe_one, ← EReal.coe_add, Ideal.log_coe, if_neg (by linarith)]

section M2ops
variable {X Y : (⟨2, ![n, k]⟩ : Shape).Idx → EReal} {f g : ℕ → ℕ → ℝ}

theorem M2.add (hX : M2 X f) (hY : M2 Y g) : M2 (addf (F := Ideal) (φ := .f32) X Y) fun r c => f r c + g r c := fun j => by
  show X _ + Y _ = _
  rw [hX, hY]; exact (EReal.coe_add _ _).symm

theorem M2.sub (hX : M2 X f) (hY : M2 Y g) : M2 (subf (F := Ideal) (φ := .f32) X Y) fun r c => f r c - g r c := fun j => by
  show X _ - Y _ = _
  rw [hX, hY]; exact (EReal.coe_sub _ _).symm

theorem M2.mul (hX : M2 X f) (hY : M2 Y g) : M2 (mulf (F := Ideal) (φ := .f32) X Y) fun r c => f r c * g r c := fun j => by
  show X _ * Y _ = _
  rw [hX, hY]; exact (EReal.coe_mul _ _).symm

theorem M2.div (hX : M2 X f) (hY : M2 Y g) (h : ∀ r < n, ∀ c < k, g r c ≠ 0) :
    M2 (divf (F := Ideal) (φ := .f32) X Y) fun r c => f r c / g r c := fun j => by
  show Ideal.div (X _) (Y _) = _
  rw [hX, hY]; exact ideal_div _ (h _ (j 0).isLt _ (j 1).isLt)

theorem M2.hdiv (hX : M2 X f) (hY : M2 Y g) (h : ∀ r < n, ∀ c < k, g r c ≠ 0) :
    M2 (Host.divf (F := Ideal) (φ := .f32) X Y) fun r c => f r c / g r c := M2.div hX hY h

theorem M2.max (hX : M2 X f) (hY : M2 Y g) : M2 (maximumf (F := Ideal) (φ := .f32) X Y) fun r c => max (f r c) (g r c) := fun j => by
  show Max.max (X _) (Y _) = _
  rw [hX, hY]; exact ideal_max _ _

theorem M2.hneg (hX : M2 X f) : M2 (Host.negf (F := Ideal) (φ := .f32) X) fun r c => -f r c := hX.map (fun x => -x) _ fun _ => rfl
theorem M2.hexp (hX : M2 X f) : M2 (Host.exp (F := Ideal) (φ := .f32) X) fun r c => Real.exp (f r c) := hX.map Ideal.exp _ fun _ => rfl
theorem M2.exp (hX : M2 X f) : M2 (Idealize.ShloMosaic.exp (F := Ideal) (φ := .f32) X) fun r c => Real.exp (f r c) := hX.map Ideal.exp _ fun _ => rfl
theorem M2.tanh (hX : M2 X f) : M2 (Idealize.ShloMosaic.tanh (F := Ideal) (φ := .f32) X) fun r c => Real.tanh (f r c) := hX.map Ideal.tanh _ fun _ => rfl
theorem M2.htanh (hX : M2 X f) : M2 (Host.tanh (F := Ideal) (φ := .f32) X) fun r c => Real.tanh (f r c) := hX.map Ideal.tanh _ fun _ => rfl
theorem M2.logistic (hX : M2 X f) : M2 (Idealize.ShloMosaic.logistic (F := Ideal) (φ := .f32) X) fun r c => (1 + Real.exp (-f r c))⁻¹ :=
  hX.map Ideal.logistic (fun x => (1 + Real.exp (-x))⁻¹) fun _ => Ideal.logistic_coe ..
theorem M2.hexpm1 (hX : M2 X f) : M2 (Host.expm1 (F := Ideal) (φ := .f32) X) fun r c => Real.exp (f r c) - 1 :=
  hX.map (fun x => Ideal.exp x - 1) (fun x => Real.exp x - 1) fun x => by
    rw [Ideal.exp_coe, ← EReal.coe_one, ← EReal.coe_sub]
theorem M2.abs (hX : M2 X f) : M2 (absf (F := Ideal) (φ := .f32) X) fun r c => |f r c| :=
  hX.map (fun x => Max.max x (-x)) (fun x => |x|) fun x => by rw [← EReal.coe_neg, ideal_max]; rfl

theorem M2.sqrt (hX : M2 X f) (h : ∀ r < n, ∀ c < k, 0 ≤ f r c) :
    M2 (Idealize.ShloMosaic.sqrt (F := Ideal) (φ := .f32) X) fun r c => Real.sqrt (f r c) := fun j => by
  show Ideal.sqrt (X _) = _
  rw [hX]; exact ideal_sqrt (h _ (j 0).isLt _ (j 1).isLt)
theorem M2.hsqrt (hX : M2 X f) (h : ∀ r < n, ∀ c < k, 0 ≤ f r c) :
    M2 (Host.sqrt (F := Ideal) (φ := .f32) X) fun r c => Real.sqrt (f r c) := M2.sqrt hX h
theorem M2.rsqrt (hX : M2 X f) (h : ∀ r < n, ∀ c < k, 0 < f r c) :
    M2 (Idealize.ShloMosaic.rsqrt (F := Ideal) (φ := .f32) X) fun r c => (Real.sqrt (f r c))⁻¹ := fun j => by
  show Ideal.rsqrt (X _) = _
  rw [hX]; exact ideal_rsqrt (h _ (j 0).isLt _ (j 1).isLt)
theorem M2.hrsqrt (hX : M2 X f) (h : ∀ r < n, ∀ c < k, 0 < f r c) :
    M2 (Host.rsqrt (F := Ideal) (φ := .f32) X) fun r c => (Real.sqrt (f r c))⁻¹ := M2.rsqrt hX h
theorem M2.log1p (hX : M2 X f) (h : ∀ r < n, ∀ c < k, 0 ≤ f r c) :
    M2 (Idealize.ShloMosaic.log1p (F := Ideal) (φ := .f32) X) fun r c => Real.log (1 + f r c) := fun j => by
  show Ideal.log1p (X _) = _
  rw [hX]; exact ideal_log1p (h _ (j 0).isLt _ (j 1).isLt)

/-- A format change is the identity. -/
theorem M2.truncf (hX : M2 X f) (h : FTy.bf16.bits < FTy.f32.bits) : M2 (Idealize.ShloMosaic.truncf (F := Ideal) (φ := .f32) .bf16 X h) f := hX

/-- A choice by a comparison with real operands. -/
theorem M2.selGt {P Q : (⟨2, ![n, k]⟩ : Shape).Idx → EReal} {p q : ℕ → ℕ → ℝ} (hX : M2 X f) (hY : M2 Y g) (hP : M2 P p) (hQ : M2 Q q) :
    M2 (select (cmpf (F := Ideal) (φ := .f32) .ogt X Y) P Q) fun r c => if g r c < f r c then p r c else q r c := fun j => by
  have hx : X j = _ := hX j
  have hy : Y j = _ := hY j
  have hp : P j = _ := hP j
  have hq : Q j = _ := hQ j
  show (if Ideal.cmp .ogt (X j) (Y j) = 1 then P j else Q j) = _
  rw [hx, hy, hp, hq]
  by_cases h : g (j 0).val (j 1).val < f (j 0).val (j 1).val
  · simp [Ideal.cmp, h]
  · simp [Ideal.cmp, h]

theorem M2.selGe {P Q : (⟨2, ![n, k]⟩ : Shape).Idx → EReal} {p q : ℕ → ℕ → ℝ} (hX : M2 X f) (hY : M2 Y g) (hP : M2 P p) (hQ : M2 Q q) :
    M2 (select (cmpf (F := Ideal) (φ := .f32) .oge X Y) P Q) fun r c => if g r c ≤ f r c then p r c else q r c := fun j => by
  have hx : X j = _ := hX j
  have hy : Y j = _ := hY j
  have hp : P j = _ := hP j
  have hq : Q j = _ := hQ j
  show (if Ideal.cmp .oge (X j) (Y j) = 1 then P j else Q j) = _
  rw [hx, hy, hp, hq]
  by_cases h : g (j 0).val (j 1).val ≤ f (j 0).val (j 1).val
  · simp [Ideal.cmp, h]
  · simp [Ideal.cmp, h]

theorem M2.selEq {P Q : (⟨2, ![n, k]⟩ : Shape).Idx → EReal} {p q : ℕ → ℕ → ℝ} (hX : M2 X f) (hY : M2 Y g) (hP : M2 P p) (hQ : M2 Q q) :
    M2 (select (cmpf (F := Ideal) (φ := .f32) .oeq X Y) P Q) fun r c => if f r c = g r c then p r c else q r c := fun j => by
  have hx : X j = _ := hX j
  have hy : Y j = _ := hY j
  have hp : P j = _ := hP j
  have hq : Q j = _ := hQ j
  show (if Ideal.cmp .oeq (X j) (Y j) = 1 then P j else Q j) = _
  rw [hx, hy, hp, hq]
  by_cases h : f (j 0).val (j 1).val = g (j 0).val (j 1).val
  · simp [Ideal.cmp, h]
  · simp [Ideal.cmp, h]

end M2ops

/-! ## Constants -/

/-- The real a binary32 pattern stands for. -/
def cst (b : BitVec 32) : ℝ := (Ideal.ofBits .f32 b).toReal

theorem cst_eq {b : BitVec 32} {x : ℝ} (h : Ideal.ofBits .f32 b = (x : EReal)) : Ideal.ofBits .f32 b = (cst b : EReal) := by
  rw [cst, h, EReal.toReal_coe]

theorem bits_8 : Ideal.ofBits .f32 0x41000000#32 = ((8 : ℝ) : EReal) := by
  simp [Ideal.ofBits, Ideal.ieee, -EReal.coe_mul, -EReal.coe_neg]; try norm_num
theorem bits_2 : Ideal.ofBits .f32 0x40000000#32 = ((2 : ℝ) : EReal) := by
  simp [Ideal.ofBits, Ideal.ieee, -EReal.coe_mul, -EReal.coe_neg]; try norm_num
theorem bits_m2 : Ideal.ofBits .f32 0xC0000000#32 = ((-2 : ℝ) : EReal) := by
  simp [Ideal.ofBits, Ideal.ieee, -EReal.coe_mul, -EReal.coe_neg]; try norm_num
theorem bits_3 : Ideal.ofBits .f32 0x40400000#32 = ((3 : ℝ) : EReal) := by
  simp [Ideal.ofBits, Ideal.ieee, -EReal.coe_mul, -EReal.coe_neg]; try norm_num
theorem bits_half : Ideal.ofBits .f32 0x3F000000#32 = ((1 / 2 : ℝ) : EReal) := by
  simp [Ideal.ofBits, Ideal.ieee, -EReal.coe_mul, -EReal.coe_neg]; try norm_num
theorem bits_mhalf : Ideal.ofBits .f32 0xBF000000#32 = ((-(1 / 2) : ℝ) : EReal) := by
  simp [Ideal.ofBits, Ideal.ieee, -EReal.coe_mul, -EReal.coe_neg]; try norm_num
theorem bits_512 : Ideal.ofBits .f32 0x44000000#32 = ((512 : ℝ) : EReal) := by
  simp [Ideal.ofBits, Ideal.ieee, -EReal.coe_mul, -EReal.coe_neg]; try norm_num
theorem bits_1 : Ideal.ofBits .f32 0x3F800000#32 = ((1 : ℝ) : EReal) := by
  simp [Ideal.ofBits, Ideal.ieee, -EReal.coe_mul, -EReal.coe_neg]; try norm_num
theorem bits_0 : Ideal.ofBits .f32 0x00000000#32 = ((0 : ℝ) : EReal) := by
  simp [Ideal.ofBits, Ideal.ieee, -EReal.coe_mul, -EReal.coe_neg]; try norm_num

theorem bits_inf : Ideal.ofBits .f32 0x7F800000#32 = (⊤ : EReal) := by
  simp [Ideal.ofBits, Ideal.ieee]

end Cert.Lru

end
-- ==== Proof.Rows.lean ====
/- What slicing, shifting, interleaving, padding, spreading and summing rows does to arrays given by real functions. -/
module

public import proofs.«01_k».proof.Proof.Mat

@[expose] public section

noncomputable section

namespace Cert.Lru

open Idealize.ShloMosaic
open scoped BigOperators

variable {n k l m N : ℕ}

theorem M2.at {X : (⟨2, ![n, k]⟩ : Shape).Idx → EReal} {f : ℕ → ℕ → ℝ} (hX : M2 X f) {i : (⟨2, ![n, k]⟩ : Shape).Idx} {r c : ℕ}
    (h0 : (i 0).val = r) (h1 : (i 1).val = c) : X i = ((f r c : ℝ) : EReal) := by rw [hX i, h0, h1]

theorem M3.at {X : (⟨3, ![n, k, l]⟩ : Shape).Idx → EReal} {f : ℕ → ℕ → ℕ → ℝ} (hX : M3 X f) {i : (⟨3, ![n, k, l]⟩ : Shape).Idx} {r c d : ℕ}
    (h0 : (i 0).val = r) (h1 : (i 1).val = c) (h2 : (i 2).val = d) : X i = ((f r c d : ℝ) : EReal) := by rw [hX i, h0, h1, h2]

theorem M1.at {X : (⟨1, ![k]⟩ : Shape).Idx → EReal} {f : ℕ → ℝ} (hX : M1 X f) {i : (⟨1, ![k]⟩ : Shape).Idx} {c : ℕ}
    (h0 : (i 0).val = c) : X i = ((f c : ℝ) : EReal) := by rw [hX i, h0]

section
variable {X Y : (⟨2, ![n, k]⟩ : Shape).Idx → EReal} {f g : ℕ → ℕ → ℝ}

theorem M2.every (hX : M2 X f) (p : ℕ) (h : (⟨2, ![n, k]⟩ : Shape).SlicesBy ![p, 0] ![2, 1] ⟨2, ![m, k]⟩) :
    M2 (Host.slice ⟨2, ![m, k]⟩ ![p, 0] ![2, 1] X h) fun r c => f (p + 2 * r) c := fun j =>
  hX.at rfl (by show 0 + 1 * (j 1).val = _; omega)

theorem M2.slice (hX : M2 X f) (p q : ℕ) (h : (⟨2, ![n, k]⟩ : Shape).Slices ![p, q] ⟨2, ![m, l]⟩) :
    M2 (extractStridedSlice ⟨2, ![m, l]⟩ ![p, q] X h) fun r c => f (p + r) (q + c) := fun j => hX.at rfl rfl

/-- The array one row down, `Z` (zero) before it. -/
theorem M2.shift {Z : (⟨2, ![1, k]⟩ : Shape).Idx → EReal} (hZ : M2 Z fun _ _ => 0) (hX : M2 X f)
    (h : (⟨2, ![n, k]⟩ : Shape).Slices ![0, 0] ⟨2, ![m, k]⟩) (hc : Shape.Concatenates [⟨2, ![1, k]⟩, ⟨2, ![m, k]⟩] ⟨2, ![n, k]⟩ 0) :
    M2 (concatenate ⟨2, ![n, k]⟩ 0 [⟨⟨2, ![1, k]⟩, Z⟩, ⟨⟨2, ![m, k]⟩, extractStridedSlice ⟨2, ![m, k]⟩ ![0, 0] X h⟩] hc)
      fun r c => if r = 0 then 0 else f (r - 1) c := fun j => by
  by_cases h0 : (j 0).val = 0
  · beta_reduce
    rw [if_pos h0, concatenate_pair_apply, dif_pos]
    · exact hZ _
    · show (j 0).val < 1; omega
  · beta_reduce
    rw [if_neg h0, concatenate_pair_apply, dif_neg]
    · refine hX.at ?_ ?_
      · show 0 + ((j 0).val - 1) = _; omega
      · show 0 + (j 1).val = _; omega
    · show ¬ (j 0).val < 1; omega

theorem shape_axis_lt {n : ℕ} (x : Fin n) (y : ℕ) (h : n = 1) (hy : 0 = y) : y = x.val := by omega

/-- Rows of two arrays alternately. -/
theorem M2.interleave (hX : M2 X f) (hY : M2 Y g)
    (b₁ b₂ : (⟨2, ![n, k]⟩ : Shape).BroadcastsInDim ⟨3, ![n, 1, k]⟩ ![0, 2])
    (hc : Shape.Concatenates [⟨3, ![n, 1, k]⟩, ⟨3, ![n, 1, k]⟩] ⟨3, ![n, 2, k]⟩ 1) (hs : (⟨3, ![n, 2, k]⟩ : Shape).ShapeCasts ⟨2, ![N, k]⟩)
    (hN : N = 2 * n) :
    M2 (shapeCast ⟨2, ![N, k]⟩ (concatenate ⟨3, ![n, 2, k]⟩ 1 [⟨⟨3, ![n, 1, k]⟩, broadcastInDim ⟨3, ![n, 1, k]⟩ ![0, 2] b₁ X⟩,
      ⟨⟨3, ![n, 1, k]⟩, broadcastInDim ⟨3, ![n, 1, k]⟩ ![0, 2] b₂ Y⟩] hc) hs)
      fun r c => if r % 2 = 0 then f (r / 2) c else g (r / 2) c := fun j => by
  subst hN
  have hj0 : (j 0).val < 2 * n := (j 0).isLt
  have hj1 : (j 1).val < k := (j 1).isLt
  have e : Shape.reshapeEquiv hs j = ix3 (⟨(j 0).val / 2, by omega⟩ : Fin n) (⟨(j 0).val % 2, by omega⟩ : Fin 2) (⟨(j 1).val, hj1⟩ : Fin k) := by
    refine Shape.reshapeEquiv_eq_of_rowMajor _ ?_
    rw [Shape.rowMajor_val_three, Shape.rowMajor_val_two]
    show ((j 0).val / 2 * 2 + (j 0).val % 2) * k + (j 1).val = (j 0).val * k + (j 1).val
    rw [Nat.div_add_mod']
  have aux : ∀ {W : (⟨2, ![n, k]⟩ : Shape).Idx → EReal} {w : ℕ → ℕ → ℝ} (_ : M2 W w)
      (b : (⟨2, ![n, k]⟩ : Shape).BroadcastsInDim ⟨3, ![n, 1, k]⟩ ![0, 2]) (i : (⟨3, ![n, 1, k]⟩ : Shape).Idx),
      broadcastInDim ⟨3, ![n, 1, k]⟩ ![0, 2] b W i = ((w (i 0).val (i 2).val : ℝ) : EReal) := by
    intro W w hW b i
    have i0 : (i 0).val < n := (i 0).isLt
    have i2 : (i 2).val < k := (i 2).isLt
    refine hW.at ?_ ?_
    · by_cases h1 : n = 1
      · rw [dif_pos (show (⟨2, ![n, k]⟩ : Shape).size 0 = 1 from h1)]; show 0 = (i 0).val; omega
      · rw [dif_neg (show ¬ (⟨2, ![n, k]⟩ : Shape).size 0 = 1 from h1)]; rfl
    · by_cases h1 : k = 1
      · rw [dif_pos (show (⟨2, ![n, k]⟩ : Shape).size 1 = 1 from h1)]; show 0 = (i 2).val; omega
      · rw [dif_neg (show ¬ (⟨2, ![n, k]⟩ : Shape).size 1 = 1 from h1)]; rfl
  by_cases h0 : (j 0).val % 2 = 0
  · beta_reduce
    rw [if_pos h0, Pointwise.shapeCast_apply, e, concatenate_pair_apply, dif_pos]
    · exact aux hX _ _
    · show (j 0).val % 2 < 1; omega
  · beta_reduce
    rw [if_neg h0, Pointwise.shapeCast_apply, e, concatenate_pair_apply, dif_neg]
    · exact aux hY _ _
    · show ¬ (j 0).val % 2 < 1; omega

/-- Rows in pairs. -/
theorem M2.pairs (hX : M2 X f) (hs : (⟨2, ![n, k]⟩ : Shape).ShapeCasts ⟨3, ![m, 2, k]⟩) :
    M3 (shapeCast ⟨3, ![m, 2, k]⟩ X hs) fun r p c => f (2 * r + p) c := fun j => by
  have h0 : (j 0).val < m := (j 0).isLt
  have h1 : (j 1).val < 2 := (j 1).isLt
  have h2 : (j 2).val < k := (j 2).isLt
  have hn : m * 2 * k = n * k := by
    have := hs
    simpa [Shape.ShapeCasts, Shape.numel, Fin.prod_univ_succ, mul_assoc] using this
  have hlt : 2 * (j 0).val + (j 1).val < n := by
    rw [mul_comm m 2] at hn
    have := Nat.eq_of_mul_eq_mul_right (by omega) hn
    omega
  have e : Shape.reshapeEquiv hs j = ix2 (⟨2 * (j 0).val + (j 1).val, hlt⟩ : Fin n) (⟨(j 2).val, h2⟩ : Fin k) := by
    refine Shape.reshapeEquiv_eq_of_rowMajor _ ?_
    rw [Shape.rowMajor_val_three, Shape.rowMajor_val_two]
    show (2 * (j 0).val + (j 1).val) * k + (j 2).val = ((j 0).val * 2 + (j 1).val) * k + (j 2).val
    ring
  rw [Pointwise.shapeCast_apply, e]
  exact hX.at rfl rfl

/-- One row of every pair. -/
theorem M3.half {W : (⟨3, ![m, 2, k]⟩ : Shape).Idx → EReal} {w : ℕ → ℕ → ℕ → ℝ} (hW : M3 W w) (p : ℕ)
    (h : (⟨3, ![m, 2, k]⟩ : Shape).Slices ![0, p, 0] ⟨3, ![m, 1, k]⟩) (hs : (⟨3, ![m, 1, k]⟩ : Shape).ShapeCasts ⟨2, ![m, k]⟩) :
    M2 (shapeCast ⟨2, ![m, k]⟩ (extractStridedSlice ⟨3, ![m, 1, k]⟩ ![0, p, 0] W h) hs) fun r c => w r p c := fun j => by
  have e : Shape.reshapeEquiv hs j = ix3 (⟨(j 0).val, (j 0).isLt⟩ : Fin m) (0 : Fin 1) (⟨(j 1).val, (j 1).isLt⟩ : Fin k) := by
    refine Shape.reshapeEquiv_eq_of_rowMajor _ ?_
    rw [Shape.rowMajor_val_three, Shape.rowMajor_val_two]
    show ((j 0).val * 1 + 0) * k + (j 1).val = (j 0).val * k + (j 1).val
    ring
  rw [Pointwise.shapeCast_apply, e]
  refine hW.at ?_ ?_ ?_
  · show 0 + (j 0).val = _; omega
  · rfl
  · show 0 + (j 1).val = _; omega

/-- The array without its first row, a zero row at its end. -/
theorem M2.up {z : (⟨0, ![]⟩ : Shape).Idx → EReal} (hz : ∀ i, z i = ((0 : ℝ) : EReal)) (hX : M2 X f)
    (h : (⟨2, ![n, k]⟩ : Shape).Slices ![1, 0] ⟨2, ![m, k]⟩) (hp : (⟨2, ![m, k]⟩ : Shape).Pads ![0, 0] ![1, 0] ![0, 0] ⟨2, ![n, k]⟩)
    (hu : 0 < (⟨0, ![]⟩ : Shape).numel) (hn : n = m + 1) :
    M2 (pad ⟨2, ![n, k]⟩ ![0, 0] ![1, 0] ![0, 0] (extractStridedSlice ⟨2, ![m, k]⟩ ![1, 0] X h) z hp hu)
      fun r c => if r + 1 < n then f (r + 1) c else 0 := fun j => by
  have hj1 : (j 1).val < k := (j 1).isLt
  by_cases h0 : (j 0).val + 1 < n
  · beta_reduce; rw [if_pos h0, pad_apply, dif_pos]
    · refine hX.at ?_ ?_
      · show 1 + ((j 0).val - 0) / (0 + 1) = _; simp only [Nat.zero_add, Nat.div_one, Nat.sub_zero]; omega
      · show 0 + ((j 1).val - 0) / (0 + 1) = _; simp
    · intro a
      fin_cases a
      · show 0 ≤ (j 0).val ∧ ((j 0).val - 0) % (0 + 1) = 0 ∧ ((j 0).val - 0) / (0 + 1) < m
        exact ⟨Nat.zero_le _, Nat.mod_one _, (Nat.div_one _).trans_lt (by omega)⟩
      · show 0 ≤ (j 1).val ∧ ((j 1).val - 0) % (0 + 1) = 0 ∧ ((j 1).val - 0) / (0 + 1) < k
        exact ⟨Nat.zero_le _, Nat.mod_one _, (Nat.div_one _).trans_lt (by omega)⟩
  · beta_reduce; rw [if_neg h0, pad_apply, dif_neg]
    · exact hz _
    · intro hh
      have : 0 ≤ (j 0).val ∧ ((j 0).val - 0) % (0 + 1) = 0 ∧ ((j 0).val - 0) / (0 + 1) < m := hh 0
      have := (Nat.div_one _).symm.trans_lt this.2.2; omega

/-- Rows put at the odd places, and at the even places. -/
theorem M2.odd {z : (⟨0, ![]⟩ : Shape).Idx → EReal} (hz : ∀ i, z i = ((0 : ℝ) : EReal)) (hX : M2 X f)
    (hp : (⟨2, ![n, k]⟩ : Shape).Pads ![1, 0] ![0, 0] ![1, 0] ⟨2, ![N, k]⟩) (hu : 0 < (⟨0, ![]⟩ : Shape).numel) (hN : N = 2 * n) :
    M2 (pad ⟨2, ![N, k]⟩ ![1, 0] ![0, 0] ![1, 0] X z hp hu) fun r c => if r % 2 = 0 then 0 else f (r / 2) c := fun j => by
  have hj1 : (j 1).val < k := (j 1).isLt
  have hj0 : (j 0).val < N := (j 0).isLt
  by_cases h0 : (j 0).val % 2 = 0
  · beta_reduce; rw [if_pos h0, pad_apply, dif_neg]
    · exact hz _
    · intro hh
      have : 1 ≤ (j 0).val ∧ ((j 0).val - 1) % (1 + 1) = 0 ∧ ((j 0).val - 1) / (1 + 1) < n := hh 0
      omega
  · beta_reduce; rw [if_neg h0, pad_apply, dif_pos]
    · refine hX.at ?_ ?_
      · show ((j 0).val - 1) / (1 + 1) = _; omega
      · show ((j 1).val - 0) / (0 + 1) = _; simp
    · intro a
      fin_cases a
      · show 1 ≤ (j 0).val ∧ ((j 0).val - 1) % (1 + 1) = 0 ∧ ((j 0).val - 1) / (1 + 1) < n
        omega
      · show 0 ≤ (j 1).val ∧ ((j 1).val - 0) % (0 + 1) = 0 ∧ ((j 1).val - 0) / (0 + 1) < k
        exact ⟨Nat.zero_le _, Nat.mod_one _, (Nat.div_one _).trans_lt (by omega)⟩

theorem M2.even {z : (⟨0, ![]⟩ : Shape).Idx → EReal} (hz : ∀ i, z i = ((0 : ℝ) : EReal)) (hX : M2 X f)
    (hp : (⟨2, ![n, k]⟩ : Shape).Pads ![0, 0] ![1, 0] ![1, 0] ⟨2, ![N, k]⟩) (hu : 0 < (⟨0, ![]⟩ : Shape).numel) (hN : N = 2 * n) :
    M2 (pad ⟨2, ![N, k]⟩ ![0, 0] ![1, 0] ![1, 0] X z hp hu) fun r c => if r % 2 = 0 then f (r / 2) c else 0 := fun j => by
  have hj1 : (j 1).val < k := (j 1).isLt
  have hj0 : (j 0).val < N := (j 0).isLt
  by_cases h0 : (j 0).val % 2 = 0
  · beta_reduce; rw [if_pos h0, pad_apply, dif_pos]
    · refine hX.at ?_ ?_
      · show ((j 0).val - 0) / (1 + 1) = _; omega
      · show ((j 1).val - 0) / (0 + 1) = _; simp
    · intro a
      fin_cases a
      · show 0 ≤ (j 0).val ∧ ((j 0).val - 0) % (1 + 1) = 0 ∧ ((j 0).val - 0) / (1 + 1) < n
        omega
      · show 0 ≤ (j 1).val ∧ ((j 1).val - 0) % (0 + 1) = 0 ∧ ((j 1).val - 0) / (0 + 1) < k
        exact ⟨Nat.zero_le _, Nat.mod_one _, (Nat.div_one _).trans_lt (by omega)⟩
  · beta_reduce; rw [if_neg h0, pad_apply, dif_neg]
    · exact hz _
    · intro hh
      have : 0 ≤ (j 0).val ∧ ((j 0).val - 0) % (1 + 1) = 0 ∧ ((j 0).val - 0) / (1 + 1) < n := hh 0
      omega

/-! ## Spreading -/

theorem M1.row {x : (⟨1, ![k]⟩ : Shape).Idx → EReal} {v : ℕ → ℝ} (hx : M1 x v) (b : (⟨1, ![k]⟩ : Shape).BroadcastsInDim ⟨2, ![1, k]⟩ ![1]) :
    M2 (broadcastInDim ⟨2, ![1, k]⟩ ![1] b x) fun _ c => v c := fun j => by
  have hj1 : (j 1).val < k := (j 1).isLt
  refine hx.at ?_
  by_cases h1 : k = 1
  · rw [dif_pos (show (⟨1, ![k]⟩ : Shape).size 0 = 1 from h1)]; show 0 = (j 1).val; omega
  · rw [dif_neg (show ¬ (⟨1, ![k]⟩ : Shape).size 0 = 1 from h1)]; rfl

theorem M1.col {x : (⟨1, ![n]⟩ : Shape).Idx → EReal} {v : ℕ → ℝ} (hx : M1 x v) (b : (⟨1, ![n]⟩ : Shape).BroadcastsInDim ⟨2, ![n, k]⟩ ![0]) :
    M2 (broadcastInDim ⟨2, ![n, k]⟩ ![0] b x) fun r _ => v r := fun j => by
  have hj1 : (j 0).val < n := (j 0).isLt
  refine hx.at ?_
  by_cases h1 : n = 1
  · rw [dif_pos (show (⟨1, ![n]⟩ : Shape).size 0 = 1 from h1)]; show 0 = (j 0).val; omega
  · rw [dif_neg (show ¬ (⟨1, ![n]⟩ : Shape).size 0 = 1 from h1)]; rfl

theorem M2.rows {x : (⟨2, ![1, k]⟩ : Shape).Idx → EReal} (hx : M2 x f) (b : (⟨2, ![1, k]⟩ : Shape).BroadcastsInDim ⟨2, ![n, k]⟩ ![0, 1]) :
    M2 (broadcastInDim ⟨2, ![n, k]⟩ ![0, 1] b x) fun _ c => f 0 c := fun j => by
  have hj1 : (j 1).val < k := (j 1).isLt
  refine hx.at ?_ ?_
  · rw [dif_pos (show (⟨2, ![1, k]⟩ : Shape).size 0 = 1 from rfl)]
  · by_cases h1 : k = 1
    · rw [dif_pos (show (⟨2, ![1, k]⟩ : Shape).size 1 = 1 from h1)]; show 0 = (j 1).val; omega
    · rw [dif_neg (show ¬ (⟨2, ![1, k]⟩ : Shape).size 1 = 1 from h1)]; rfl

theorem M2.cols {x : (⟨2, ![n, 1]⟩ : Shape).Idx → EReal} (hx : M2 x f) (b : (⟨2, ![n, 1]⟩ : Shape).BroadcastsInDim ⟨2, ![n, k]⟩ ![0, 1]) :
    M2 (broadcastInDim ⟨2, ![n, k]⟩ ![0, 1] b x) fun r _ => f r 0 := fun j => by
  have hj1 : (j 0).val < n := (j 0).isLt
  refine hx.at ?_ ?_
  · by_cases h1 : n = 1
    · rw [dif_pos (show (⟨2, ![n, 1]⟩ : Shape).size 0 = 1 from h1)]; show 0 = (j 0).val; omega
    · rw [dif_neg (show ¬ (⟨2, ![n, 1]⟩ : Shape).size 0 = 1 from h1)]; rfl
  · rw [dif_pos (show (⟨2, ![n, 1]⟩ : Shape).size 1 = 1 from rfl)]

theorem M2.rowsTo {x : (⟨2, ![1, k]⟩ : Shape).Idx → EReal} (hx : M2 x f) (b : (⟨2, ![1, k]⟩ : Shape).Broadcasts ⟨2, ![n, k]⟩) :
    M2 (broadcastTo ⟨2, ![n, k]⟩ x b) fun _ c => f 0 c := fun j => by
  have hj1 : (j 1).val < k := (j 1).isLt
  refine hx.at ?_ ?_
  · rw [dif_pos (show (⟨2, ![1, k]⟩ : Shape).size 0 = 1 from rfl)]
  · by_cases h1 : k = 1
    · rw [dif_pos (show (⟨2, ![1, k]⟩ : Shape).size 1 = 1 from h1)]; show 0 = (j 1).val; omega
    · rw [dif_neg (show ¬ (⟨2, ![1, k]⟩ : Shape).size 1 = 1 from h1)]; rfl

theorem M2.colsTo {x : (⟨2, ![n, 1]⟩ : Shape).Idx → EReal} (hx : M2 x f) (b : (⟨2, ![n, 1]⟩ : Shape).Broadcasts ⟨2, ![n, k]⟩) :
    M2 (broadcastTo ⟨2, ![n, k]⟩ x b) fun r _ => f r 0 := fun j => by
  have hj1 : (j 0).val < n := (j 0).isLt
  refine hx.at ?_ ?_
  · by_cases h1 : n = 1
    · rw [dif_pos (show (⟨2, ![n, 1]⟩ : Shape).size 0 = 1 from h1)]; show 0 = (j 0).val; omega
    · rw [dif_neg (show ¬ (⟨2, ![n, 1]⟩ : Shape).size 0 = 1 from h1)]; rfl
  · rw [dif_pos (show (⟨2, ![n, 1]⟩ : Shape).size 1 = 1 from rfl)]

/-- A column as a matrix of one column, and a row as a matrix of one row. -/
theorem M1.asCol {x : (⟨1, ![n]⟩ : Shape).Idx → EReal} {v : ℕ → ℝ} (hx : M1 x v) (h : (⟨1, ![n]⟩ : Shape).ShapeCasts ⟨2, ![n, 1]⟩) :
    M2 (shapeCast ⟨2, ![n, 1]⟩ x h) fun r _ => v r := fun j => by
  have hj : (j 1).val < 1 := (j 1).isLt
  have e : Shape.reshapeEquiv h j = ix1 (⟨(j 0).val, (j 0).isLt⟩ : Fin n) := by
    refine Shape.reshapeEquiv_eq_of_rowMajor _ ?_
    rw [Shape.rowMajor_val_one, Shape.rowMajor_val_two]
    show (j 0).val = (j 0).val * 1 + (j 1).val
    omega
  rw [Pointwise.shapeCast_apply, e]
  exact hx.at rfl

theorem M1.asRow {x : (⟨1, ![k]⟩ : Shape).Idx → EReal} {v : ℕ → ℝ} (hx : M1 x v) (h : (⟨1, ![k]⟩ : Shape).ShapeCasts ⟨2, ![1, k]⟩) :
    M2 (shapeCast ⟨2, ![1, k]⟩ x h) fun _ c => v c := fun j => by
  have hj : (j 0).val < 1 := (j 0).isLt
  have e : Shape.reshapeEquiv h j = ix1 (⟨(j 1).val, (j 1).isLt⟩ : Fin k) := by
    refine Shape.reshapeEquiv_eq_of_rowMajor _ ?_
    rw [Shape.rowMajor_val_one, Shape.rowMajor_val_two]
    show (j 1).val = (j 0).val * k + (j 1).val
    have : (j 0).val = 0 := by omega
    rw [this]; omega
  rw [Pointwise.shapeCast_apply, e]
  exact hx.at rfl

/-! ## Sums -/

theorem coe_sum (n : ℕ) (f : ℕ → ℝ) : ∑ i : Fin n, ((f i.val : ℝ) : EReal) = ((∑ i ∈ Finset.range n, f i : ℝ) : EReal) := by
  rw [Finset.sum_range]
  induction n with
  | zero => simp
  | succ n ih => rw [Fin.sum_univ_castSucc, Fin.sum_univ_castSucc, EReal.coe_add]; exact congrArg (· + _) ih

theorem M2.sumRows (hX : M2 X f) {z : (⟨0, ![]⟩ : Shape).Idx → EReal} (hz : ∀ i, z i = ((0 : ℝ) : EReal))
    (h : (⟨2, ![n, k]⟩ : Shape).ReducesTo [1] ⟨1, ![n]⟩) (hu : 0 < (⟨0, ![]⟩ : Shape).numel) :
    M1 (Host.reduceAdd (F := Ideal) (φ := .f32) X z h hu) fun r => ∑ c ∈ Finset.range k, f r c := fun j => by
  show Ideal.hostReduceAdd h X (z _) j = _
  rw [Ideal.hostReduceAdd_r2_a1, hz, EReal.coe_zero, zero_add, ← coe_sum]
  exact Finset.sum_congr rfl fun c _ => hX.at rfl rfl

theorem M2.sumCols (hX : M2 X f) {z : (⟨0, ![]⟩ : Shape).Idx → EReal} (hz : ∀ i, z i = ((0 : ℝ) : EReal))
    (h : (⟨2, ![n, k]⟩ : Shape).ReducesTo [0] ⟨1, ![k]⟩) (hu : 0 < (⟨0, ![]⟩ : Shape).numel) :
    M1 (Host.reduceAdd (F := Ideal) (φ := .f32) X z h hu) fun c => ∑ r ∈ Finset.range n, f r c := fun j => by
  show Ideal.hostReduceAdd h X (z _) j = _
  rw [Ideal.hostReduceAdd_r2_a0, hz, EReal.coe_zero, zero_add, ← coe_sum n fun r => f r (j 0).val]
  exact Finset.sum_congr rfl fun c _ => hX.at rfl rfl

end

end Cert.Lru

end
-- ==== Proof.Seq.lean ====
/- The recurrence h_t = a_t h_(t-1) + b_t over the reals, its adjoint, and how both halve. -/
module

public import Mathlib.Data.Real.Basic
public import Mathlib.Tactic.Ring
public import Mathlib.Tactic.Linarith
public import Mathlib.Algebra.BigOperators.Group.Finset.Basic

@[expose] public section

noncomputable section

namespace Cert.Lru

/-- The states of the recurrence from rest. -/
def hseq (a b : ℕ → ℝ) : ℕ → ℝ
  | 0 => b 0
  | t + 1 => a (t + 1) * hseq a b t + b (t + 1)

/-- The state before row `t`: zero before the first. -/
def hprev (a b : ℕ → ℝ) (t : ℕ) : ℝ := if t = 0 then 0 else hseq a b (t - 1)

theorem hseq_eq (a b : ℕ → ℝ) (t : ℕ) : hseq a b t = a t * hprev a b t + b t := by
  cases t with
  | zero => simp [hseq, hprev]
  | succ t => simp [hseq, hprev]

/-- The products of neighbouring pairs of steps. -/
def upA (a : ℕ → ℝ) (j : ℕ) : ℝ := a (2 * j + 1) * a (2 * j)
def upB (a b : ℕ → ℝ) (j : ℕ) : ℝ := a (2 * j + 1) * b (2 * j) + b (2 * j + 1)

theorem hseq_up (a b : ℕ → ℝ) (j : ℕ) : hseq (upA a) (upB a b) j = hseq a b (2 * j + 1) := by
  induction j with
  | zero => simp [hseq, upB]
  | succ j ih =>
    show upA a (j + 1) * _ + upB a b (j + 1) = _
    rw [ih, show 2 * (j + 1) + 1 = (2 * j + 1) + 1 + 1 by ring]
    simp only [hseq, upA, upB, show 2 * (j + 1) + 1 = (2 * j + 1) + 1 + 1 by ring, show 2 * (j + 1) = (2 * j + 1) + 1 by ring]
    ring

theorem hprev_up (a b : ℕ → ℝ) (j : ℕ) : hprev (upA a) (upB a b) j = hprev a b (2 * j) := by
  cases j with
  | zero => simp [hprev]
  | succ j =>
    simp only [hprev, Nat.succ_ne_zero, if_false, Nat.add_sub_cancel, hseq_up, show 2 * (j + 1) = (2 * j + 1) + 1 by ring]

/-- `L` rows of the adjoint from row `r`, the factor of what comes after them. -/
def spanP (a : ℕ → ℝ) : ℕ → ℕ → ℝ
  | 0, _ => 1
  | L + 1, r => a r * spanP a L (r + 1)
/-- `L` rows of the adjoint from row `r`, with nothing after them. -/
def spanQ (a c : ℕ → ℝ) : ℕ → ℕ → ℝ
  | 0, _ => 0
  | L + 1, r => c r + a r * spanQ a c L (r + 1)

theorem spanP_add (a : ℕ → ℝ) (L M r : ℕ) : spanP a (L + M) r = spanP a L r * spanP a M (r + L) := by
  induction L generalizing r with
  | zero => simp [spanP]
  | succ L ih =>
    rw [show L + 1 + M = (L + M) + 1 by ring]
    simp only [spanP]
    rw [ih, show r + 1 + L = r + (L + 1) by ring]; ring

theorem spanQ_add (a c : ℕ → ℝ) (L M r : ℕ) :
    spanQ a c (L + M) r = spanQ a c L r + spanP a L r * spanQ a c M (r + L) := by
  induction L generalizing r with
  | zero => simp [spanP, spanQ]
  | succ L ih =>
    rw [show L + 1 + M = (L + M) + 1 by ring]
    simp only [spanP, spanQ]
    rw [ih, show r + 1 + L = r + (L + 1) by ring]; ring

theorem spanP_congr {a a' : ℕ → ℝ} (L r : ℕ) (h : ∀ s, r ≤ s → s < r + L → a s = a' s) : spanP a L r = spanP a' L r := by
  induction L generalizing r with
  | zero => rfl
  | succ L ih =>
    simp only [spanP]
    rw [h r le_rfl (by omega), ih (r + 1) fun s h1 h2 => h s (by omega) (by omega)]

theorem spanQ_congr {a a' c c' : ℕ → ℝ} (L r : ℕ) (h : ∀ s, r ≤ s → s < r + L → a s = a' s) (hc : ∀ s, r ≤ s → s < r + L → c s = c' s) :
    spanQ a c L r = spanQ a' c' L r := by
  induction L generalizing r with
  | zero => rfl
  | succ L ih =>
    simp only [spanQ]
    rw [h r le_rfl (by omega), hc r le_rfl (by omega),
      ih (r + 1) (fun s h1 h2 => h s (by omega) (by omega)) fun s h1 h2 => hc s (by omega) (by omega)]

theorem spanP_shift (a : ℕ → ℝ) (o L r : ℕ) : spanP (fun s => a (o + s)) L r = spanP a L (o + r) := by
  induction L generalizing r with
  | zero => rfl
  | succ L ih => simp only [spanP]; rw [ih, add_assoc]

theorem spanQ_shift (a c : ℕ → ℝ) (o L r : ℕ) : spanQ (fun s => a (o + s)) (fun s => c (o + s)) L r = spanQ a c L (o + r) := by
  induction L generalizing r with
  | zero => rfl
  | succ L ih => simp only [spanQ]; rw [ih, add_assoc]

/-- The adjoint of the recurrence over `n` rows: g_r = c_r + a_(r+1) g_(r+1), zero from row `n`. -/
def rev (a c : ℕ → ℝ) (n r : ℕ) : ℝ := spanQ (fun s => a (s + 1)) c (n - r) r

theorem rev_of_le {a c : ℕ → ℝ} {n r : ℕ} (h : n ≤ r) : rev a c n r = 0 := by
  rw [rev, Nat.sub_eq_zero_of_le h]; rfl

theorem rev_of_lt {a c : ℕ → ℝ} {n r : ℕ} (h : r < n) : rev a c n r = c r + a (r + 1) * rev a c n (r + 1) := by
  rw [rev, show n - r = (n - (r + 1)) + 1 by omega]; rfl

/-- The adjoint's source on pairs of rows. -/
def upC (n : ℕ) (a c : ℕ → ℝ) (j : ℕ) : ℝ := c (2 * j + 1) + if j + 1 < n then a (2 * j + 2) * c (2 * j + 2) else 0

theorem rev_up (a c : ℕ → ℝ) (n : ℕ) (d j : ℕ) (h : j + d = n) : rev (upA a) (upC n a c) n j = rev a c (2 * n) (2 * j + 1) := by
  induction d generalizing j with
  | zero => rw [rev_of_le (by omega), rev_of_le (by omega)]
  | succ d ih =>
    rw [rev_of_lt (by omega), ih (j + 1) (by omega), rev_of_lt (show 2 * j + 1 < 2 * n by omega)]
    by_cases hj : j + 1 < n
    · rw [rev_of_lt (show 2 * j + 1 + 1 < 2 * n by omega)]
      simp only [upC, upA, if_pos hj, show 2 * (j + 1) = 2 * j + 2 by ring, show 2 * j + 1 + 1 = 2 * j + 2 by ring]
      ring
    · rw [rev_of_le (show 2 * n ≤ 2 * j + 1 + 1 by omega), rev_of_le (show 2 * n ≤ 2 * (j + 1) + 1 by omega)]
      simp only [upC, if_neg hj]; ring

theorem rev_odd (a c : ℕ → ℝ) (n j : ℕ) (h : j < n) : rev a c (2 * n) (2 * j + 1) = rev (upA a) (upC n a c) n j :=
  (rev_up a c n (n - j) j (by omega)).symm

theorem rev_even (a c : ℕ → ℝ) (n j : ℕ) (h : j < n) :
    rev a c (2 * n) (2 * j) = c (2 * j) + a (2 * j + 1) * rev (upA a) (upC n a c) n j := by
  rw [rev_of_lt (by omega), rev_odd a c n j h]

/-- The gradient of the recurrence's factor. -/
def gradA (a b c : ℕ → ℝ) (n r : ℕ) : ℝ := rev a c n r * hprev a b r

theorem gradA_odd (a b c : ℕ → ℝ) (n j : ℕ) (h : j < n) :
    gradA a b c (2 * n) (2 * j + 1) = rev (upA a) (upC n a c) n j * b (2 * j)
      + gradA (upA a) (upB a b) (upC n a c) n j * a (2 * j) := by
  rw [gradA, gradA, rev_odd a c n j h, hprev_up,
    show hprev a b (2 * j + 1) = hseq a b (2 * j) by simp [hprev], hseq_eq]
  ring

theorem gradA_even (a b c : ℕ → ℝ) (n j : ℕ) (h : j < n) :
    gradA a b c (2 * n) (2 * j) = c (2 * j) * hprev (upA a) (upB a b) j
      + a (2 * j + 1) * gradA (upA a) (upB a b) (upC n a c) n j := by
  rw [gradA, gradA, rev_even a c n j h, hprev_up]
  ring

end Cert.Lru

end
-- ==== Proof.Level.lean ====
/- One level of the recurrence written as a tree: what its halving, its return and their adjoints hold. -/
module

public import proofs.«01_k».proof.Proof.Rows
public import proofs.«01_k».proof.Proof.Seq

@[expose] public section

noncomputable section

namespace Cert.Lru

open Idealize.ShloMosaic

variable {n k m N : ℕ}

/-! The sequences of `Seq`, one for every column. -/

def UA (a : ℕ → ℕ → ℝ) (r c : ℕ) : ℝ := upA (fun t => a t c) r
def UB (a b : ℕ → ℕ → ℝ) (r c : ℕ) : ℝ := upB (fun t => a t c) (fun t => b t c) r
def UC (n : ℕ) (a d : ℕ → ℕ → ℝ) (r c : ℕ) : ℝ := upC n (fun t => a t c) (fun t => d t c) r
def HS (a b : ℕ → ℕ → ℝ) (r c : ℕ) : ℝ := hseq (fun t => a t c) (fun t => b t c) r
def HP (a b : ℕ → ℕ → ℝ) (r c : ℕ) : ℝ := hprev (fun t => a t c) (fun t => b t c) r
def RV (n : ℕ) (a d : ℕ → ℕ → ℝ) (r c : ℕ) : ℝ := rev (fun t => a t c) (fun t => d t c) n r
def GA (n : ℕ) (a b d : ℕ → ℕ → ℝ) (r c : ℕ) : ℝ := gradA (fun t => a t c) (fun t => b t c) (fun t => d t c) n r

/-- The factors, the sources and the adjoint's sources of every level. -/
def At (a : ℕ → ℕ → ℝ) : ℕ → ℕ → ℕ → ℝ
  | 0 => a
  | l + 1 => UA (At a l)
def Bt (a b : ℕ → ℕ → ℝ) : ℕ → ℕ → ℕ → ℝ
  | 0 => b
  | l + 1 => UB (At a l) (Bt a b l)
def Dt (a d : ℕ → ℕ → ℝ) : ℕ → ℕ → ℕ → ℝ
  | 0 => d
  | l + 1 => UC (2048 / 2 ^ l) (At a l) (Dt a d l)

section
variable {X Y : (⟨2, ![N, k]⟩ : Shape).Idx → EReal} {f g a b d : ℕ → ℕ → ℝ}

theorem M2.evens (hX : M2 X f) (h : (⟨2, ![N, k]⟩ : Shape).SlicesBy ![0, 0] ![2, 1] ⟨2, ![n, k]⟩) :
    M2 (Host.slice ⟨2, ![n, k]⟩ ![0, 0] ![2, 1] X h) fun r c => f (2 * r) c :=
  (hX.every 0 h).congr fun r _ c _ => by rw [Nat.zero_add]

theorem M2.odds (hX : M2 X f) (h : (⟨2, ![N, k]⟩ : Shape).SlicesBy ![1, 0] ![2, 1] ⟨2, ![n, k]⟩) :
    M2 (Host.slice ⟨2, ![n, k]⟩ ![1, 0] ![2, 1] X h) fun r c => f (2 * r + 1) c :=
  (hX.every 1 h).congr fun r _ c _ => by rw [Nat.add_comm]

end

section
variable {X Y Z W : (⟨2, ![n, k]⟩ : Shape).Idx → EReal} {f g a b d : ℕ → ℕ → ℝ}

/-- The last level has one row. -/
theorem M2.bottom {X : (⟨2, ![1, k]⟩ : Shape).Idx → EReal} (hX : M2 X b) : M2 X (HS a b) :=
  hX.congr fun r hr c _ => by obtain rfl : r = 0 := by omega
                              rfl

theorem M2.before {z : (⟨2, ![1, k]⟩ : Shape).Idx → EReal} (hZ : M2 z fun _ _ => 0) (hX : M2 X (HS a b))
    (h : (⟨2, ![n, k]⟩ : Shape).Slices ![0, 0] ⟨2, ![m, k]⟩) (hc : Shape.Concatenates [⟨2, ![1, k]⟩, ⟨2, ![m, k]⟩] ⟨2, ![n, k]⟩ 0) :
    M2 (concatenate ⟨2, ![n, k]⟩ 0 [⟨⟨2, ![1, k]⟩, z⟩, ⟨⟨2, ![m, k]⟩, extractStridedSlice ⟨2, ![m, k]⟩ ![0, 0] X h⟩] hc) (HP a b) :=
  M2.shift hZ hX h hc

/-- The states of a level from the states of the next. -/
theorem M2.return (hE : M2 X fun r c => a (2 * r) c) (hP : M2 Y (HP (UA a) (UB a b))) (hB : M2 Z fun r c => b (2 * r) c)
    (hS : M2 W (HS (UA a) (UB a b))) (b₁ b₂ : (⟨2, ![n, k]⟩ : Shape).BroadcastsInDim ⟨3, ![n, 1, k]⟩ ![0, 2])
    (hc : Shape.Concatenates [⟨3, ![n, 1, k]⟩, ⟨3, ![n, 1, k]⟩] ⟨3, ![n, 2, k]⟩ 1) (hs : (⟨3, ![n, 2, k]⟩ : Shape).ShapeCasts ⟨2, ![N, k]⟩)
    (hN : N = 2 * n) :
    M2 (shapeCast ⟨2, ![N, k]⟩ (concatenate ⟨3, ![n, 2, k]⟩ 1
      [⟨⟨3, ![n, 1, k]⟩, broadcastInDim ⟨3, ![n, 1, k]⟩ ![0, 2] b₁ (addf (F := Ideal) (φ := .f32) (mulf (F := Ideal) (φ := .f32) X Y) Z)⟩,
       ⟨⟨3, ![n, 1, k]⟩, broadcastInDim ⟨3, ![n, 1, k]⟩ ![0, 2] b₂ W⟩] hc) hs) (HS a b) :=
  (((hE.mul hP).add hB).interleave hS b₁ b₂ hc hs hN).congr fun r _ c _ => by
    rcases Nat.mod_two_eq_zero_or_one r with h | h
    · simp only [if_pos h, HS, HP]
      obtain ⟨j, rfl⟩ : ∃ j, r = 2 * j := ⟨r / 2, by omega⟩
      rw [Nat.mul_div_cancel_left _ (by decide), hseq_eq _ _ (2 * j)]
      exact congrArg (fun x => a (2 * j) c * x + b (2 * j) c) (hprev_up (fun t => a t c) (fun t => b t c) j)
    · rw [if_neg (by omega)]
      obtain ⟨j, rfl⟩ : ∃ j, r = 2 * j + 1 := ⟨r / 2, by omega⟩
      rw [show (2 * j + 1) / 2 = j by omega]
      exact hseq_up (fun t => a t c) (fun t => b t c) j

/-- The adjoint's source of the next level. -/
theorem M2.source {z : (⟨0, ![]⟩ : Shape).Idx → EReal} (hz : ∀ i, z i = ((0 : ℝ) : EReal))
    (hO : M2 X fun r c => d (2 * r + 1) c) (hP : M2 Y fun r c => a (2 * r) c * d (2 * r) c)
    (h : (⟨2, ![n, k]⟩ : Shape).Slices ![1, 0] ⟨2, ![m, k]⟩) (hp : (⟨2, ![m, k]⟩ : Shape).Pads ![0, 0] ![1, 0] ![0, 0] ⟨2, ![n, k]⟩)
    (hu : 0 < (⟨0, ![]⟩ : Shape).numel) (hn : n = m + 1) :
    M2 (addf (F := Ideal) (φ := .f32) X (pad ⟨2, ![n, k]⟩ ![0, 0] ![1, 0] ![0, 0] (extractStridedSlice ⟨2, ![m, k]⟩ ![1, 0] Y h) z hp hu))
      (UC n a d) :=
  hO.add (hP.up hz h hp hu hn)

theorem M2.bottomRV {X : (⟨2, ![1, k]⟩ : Shape).Idx → EReal} (hX : M2 X d) : M2 X (RV 1 a d) :=
  hX.congr fun r hr c _ => by
    obtain rfl : r = 0 := by omega
    simp [RV, rev, spanQ]

/-- The gradient of the recurrence's source from that of the next level. -/
theorem M2.adjoint {z : (⟨0, ![]⟩ : Shape).Idx → EReal} (hz : ∀ i, z i = ((0 : ℝ) : EReal))
    (hR : M2 X (RV n (UA a) (UC n a d))) (hD : M2 Y fun r c => d (2 * r) c) (hA : M2 Z fun r c => a (2 * r + 1) c)
    (hp : (⟨2, ![n, k]⟩ : Shape).Pads ![1, 0] ![0, 0] ![1, 0] ⟨2, ![N, k]⟩) (hq : (⟨2, ![n, k]⟩ : Shape).Pads ![0, 0] ![1, 0] ![1, 0] ⟨2, ![N, k]⟩)
    (hu hv : 0 < (⟨0, ![]⟩ : Shape).numel) (hN : N = 2 * n) :
    M2 (addf (F := Ideal) (φ := .f32) (pad ⟨2, ![N, k]⟩ ![1, 0] ![0, 0] ![1, 0] X z hp hu)
      (pad ⟨2, ![N, k]⟩ ![0, 0] ![1, 0] ![1, 0] (addf (F := Ideal) (φ := .f32) Y (mulf (F := Ideal) (φ := .f32) Z X)) z hq hv))
      (RV N a d) :=
  ((hR.odd hz hp hu hN).add ((hD.add (hA.mul hR)).even hz hq hv hN)).congr fun r hr c _ => by
    rcases Nat.mod_two_eq_zero_or_one r with h | h
    · simp only [if_pos h, zero_add]
      obtain ⟨j, rfl⟩ : ∃ j, r = 2 * j := ⟨r / 2, by omega⟩
      rw [Nat.mul_div_cancel_left _ (by decide), hN]
      exact (rev_even (fun t => a t c) (fun t => d t c) n j (by omega)).symm
    · simp only [if_neg (show ¬ r % 2 = 0 by omega), add_zero]
      obtain ⟨j, rfl⟩ : ∃ j, r = 2 * j + 1 := ⟨r / 2, by omega⟩
      rw [show (2 * j + 1) / 2 = j by omega, hN]
      exact (rev_odd (fun t => a t c) (fun t => d t c) n j (by omega)).symm

/-- The gradient of the recurrence's factor from that of the next level. -/
theorem M2.factor {P Q : (⟨2, ![n, k]⟩ : Shape).Idx → EReal} {z : (⟨0, ![]⟩ : Shape).Idx → EReal} (hz : ∀ i, z i = ((0 : ℝ) : EReal))
    (hP : M2 P fun r c => RV n (UA a) (UC n a d) r c * b (2 * r) c + GA n (UA a) (UB a b) (UC n a d) r c * a (2 * r) c)
    (hQ : M2 Q fun r c => d (2 * r) c * HP (UA a) (UB a b) r c + a (2 * r + 1) c * GA n (UA a) (UB a b) (UC n a d) r c)
    (hp : (⟨2, ![n, k]⟩ : Shape).Pads ![1, 0] ![0, 0] ![1, 0] ⟨2, ![N, k]⟩) (hq : (⟨2, ![n, k]⟩ : Shape).Pads ![0, 0] ![1, 0] ![1, 0] ⟨2, ![N, k]⟩)
    (hu hv : 0 < (⟨0, ![]⟩ : Shape).numel) (hN : N = 2 * n) :
    M2 (addf (F := Ideal) (φ := .f32) (pad ⟨2, ![N, k]⟩ ![1, 0] ![0, 0] ![1, 0] P z hp hu) (pad ⟨2, ![N, k]⟩ ![0, 0] ![1, 0] ![1, 0] Q z hq hv))
      (GA N a b d) :=
  ((hP.odd hz hp hu hN).add (hQ.even hz hq hv hN)).congr fun r hr c _ => by
    rcases Nat.mod_two_eq_zero_or_one r with h | h
    · simp only [if_pos h, zero_add]
      obtain ⟨j, rfl⟩ : ∃ j, r = 2 * j := ⟨r / 2, by omega⟩
      rw [Nat.mul_div_cancel_left _ (by decide), hN]
      exact (gradA_even (fun t => a t c) (fun t => b t c) (fun t => d t c) n j (by omega)).symm
    · simp only [if_neg (show ¬ r % 2 = 0 by omega), add_zero]
      obtain ⟨j, rfl⟩ : ∃ j, r = 2 * j + 1 := ⟨r / 2, by omega⟩
      rw [show (2 * j + 1) / 2 = j by omega, hN]
      exact (gradA_odd (fun t => a t c) (fun t => b t c) (fun t => d t c) n j (by omega)).symm

/-- One row has nothing before it. -/
theorem GA_one (r c : ℕ) (hr : r < 1) : GA 1 a b d r c = 0 := by
  obtain rfl : r = 0 := by omega
  simp [GA, gradA, hprev]

end

end Cert.Lru

end
-- ==== Proof.Spec.lean ====
/- The gradient of the gated recurrence over the reals. -/
module

public import proofs.«01_k».proof.Proof.Level

@[expose] public section

noncomputable section

namespace Cert.Lru

open Idealize.ShloMosaic
open scoped BigOperators

/-- The arguments: cotangent, input, projections, the two gates' weights and biases, the decay and the norm's scale. -/
structure Par where
  dout : ℕ → ℕ → ℝ
  x : ℕ → ℕ → ℝ
  p : ℕ → ℕ → ℝ
  wa : ℕ → ℕ → ℕ → ℝ
  wx : ℕ → ℕ → ℕ → ℝ
  ba : ℕ → ℝ
  bx : ℕ → ℝ
  lam : ℕ → ℝ
  lnw : ℕ → ℝ

def sig (t : ℝ) : ℝ := 1 / (1 + Real.exp (-t))
def softp (t : ℝ) : ℝ := max t 0 + Real.log (1 + Real.exp (-|t|))

/-- A product with a block-diagonal matrix of eight blocks, and with its transpose. -/
def blk (w : ℕ → ℕ → ℕ → ℝ) (x : ℕ → ℕ → ℝ) (r c : ℕ) : ℝ := ∑ e ∈ Finset.range 64, w (c / 64) e (c % 64) * x r (64 * (c / 64) + e)
def blkT (w : ℕ → ℕ → ℕ → ℝ) (d : ℕ → ℕ → ℝ) (r c : ℕ) : ℝ := ∑ e ∈ Finset.range 64, d r (64 * (c / 64) + e) * w (c / 64) (c % 64) e

def κ₁ : ℝ := cst 0x3F4C422A#32
def κ₂ : ℝ := cst 0x3D372713#32
def ε₁ : ℝ := cst 0x2B8CBCCC#32
def ε₂ : ℝ := cst 0x358637BD#32

theorem bits_κ₁ : Ideal.ofBits .f32 0x3F4C422A#32 = ((κ₁ : ℝ) : EReal) :=
  cst_eq (x := 13386282 / 16777216) (by simp [Ideal.ofBits, Ideal.ieee, -EReal.coe_mul, -EReal.coe_neg]; try norm_num)
theorem bits_κ₂ : Ideal.ofBits .f32 0x3D372713#32 = ((κ₂ : ℝ) : EReal) :=
  cst_eq (x := 12003091 / 268435456) (by simp [Ideal.ofBits, Ideal.ieee, -EReal.coe_mul, -EReal.coe_neg]; try norm_num)
theorem bits_ε₁' : Ideal.ofBits .f32 0x2B8CBCCC#32 = ((9223372 / 9223372036854775808 : ℝ) : EReal) := by
  simp [Ideal.ofBits, Ideal.ieee, -EReal.coe_mul, -EReal.coe_neg]; try norm_num
theorem bits_ε₂' : Ideal.ofBits .f32 0x358637BD#32 = ((8796093 / 8796093022208 : ℝ) : EReal) := by
  simp [Ideal.ofBits, Ideal.ieee, -EReal.coe_mul, -EReal.coe_neg]; try norm_num
theorem bits_ε₁ : Ideal.ofBits .f32 0x2B8CBCCC#32 = ((ε₁ : ℝ) : EReal) := cst_eq bits_ε₁'
theorem bits_ε₂ : Ideal.ofBits .f32 0x358637BD#32 = ((ε₂ : ℝ) : EReal) := cst_eq bits_ε₂'
theorem ε₁_pos : 0 < ε₁ := by rw [ε₁, cst, bits_ε₁', EReal.toReal_coe]; norm_num
theorem ε₂_pos : 0 < ε₂ := by rw [ε₂, cst, bits_ε₂', EReal.toReal_coe]; norm_num

namespace Par
variable (P : Par)

/-- The columns of the projection that gate. -/
def y (r c : ℕ) : ℝ := P.p r (512 + c)

def ra (r c : ℕ) : ℝ := sig (blk P.wa P.x r c + P.ba c)
def rx (r c : ℕ) : ℝ := sig (blk P.wx P.x r c + P.bx c)
/-- The logarithm of the decay's sigmoid. -/
def lsg (c : ℕ) : ℝ := -softp (-P.lam c)
def ra8 (r c : ℕ) : ℝ := 8 * P.ra r c
def la (r c : ℕ) : ℝ := P.ra8 r c * P.lsg c
def a (r c : ℕ) : ℝ := Real.exp (P.la r c)
def e2 (r c : ℕ) : ℝ := Real.exp (2 * P.la r c)
def om (r c : ℕ) : ℝ := -(Real.exp (2 * P.la r c) - 1)
def mult (r c : ℕ) : ℝ := Real.sqrt (max (P.om r c) ε₁)
def gx (r c : ℕ) : ℝ := P.rx r c * P.x r c
def b (r c : ℕ) : ℝ := P.mult r c * P.gx r c
/-- The states. -/
def h : ℕ → ℕ → ℝ := HS P.a P.b

/-! The gate, the norm and their gradients. -/
def th (r c : ℕ) : ℝ := Real.tanh (κ₁ * (P.y r c + κ₂ * (P.y r c * P.y r c * P.y r c)))
def cdf (r c : ℕ) : ℝ := 1 / 2 * (1 + P.th r c)
def gl (r c : ℕ) : ℝ := P.y r c * P.cdf r c
def hg (r c : ℕ) : ℝ := P.h r c * P.gl r c
def ms (r : ℕ) : ℝ := (∑ c ∈ Finset.range 512, P.hg r c * P.hg r c) / 512 + ε₂
def rs (r : ℕ) : ℝ := (Real.sqrt (P.ms r))⁻¹
def dn (r c : ℕ) : ℝ := P.dout r c * P.lnw c
def t (r : ℕ) : ℝ := (∑ c ∈ Finset.range 512, P.hg r c * P.dn r c) * (-(1 / 2) * (P.rs r / P.ms r)) / 512
def dhg (r c : ℕ) : ℝ := P.dn r c * P.rs r + P.hg r c * P.t r + P.t r * P.hg r c
def dh (r c : ℕ) : ℝ := P.dhg r c * P.gl r c
def hd (r c : ℕ) : ℝ := P.h r c * P.dhg r c
def dth (r c : ℕ) : ℝ := κ₁ * (1 / 2 * (P.y r c * P.hd r c) * ((1 + P.th r c) * (1 - P.th r c)))
def dly (r c : ℕ) : ℝ := P.hd r c * P.cdf r c + P.dth r c + κ₂ * P.dth r c * (3 * (P.y r c * P.y r c))

/-! The recurrence's gradient. -/
def g : ℕ → ℕ → ℝ := RV 4096 P.a P.dh
def ga : ℕ → ℕ → ℝ := GA 4096 P.a P.b P.dh
def sel (r c : ℕ) : ℝ := if ε₁ < P.om r c then 1 else if P.om r c = ε₁ then 1 / 2 else 0
def dla (r c : ℕ) : ℝ := 2 * (-(P.g r c * P.gx r c * (1 / 2 / P.mult r c) * P.sel r c) * P.e2 r c) + P.ga r c * P.a r c
def mg (r c : ℕ) : ℝ := P.mult r c * P.g r c
def dpx (r c : ℕ) : ℝ := P.mg r c * P.x r c * (P.rx r c * (1 - P.rx r c))
def dpa (r c : ℕ) : ℝ := 8 * (P.dla r c * P.lsg c) * (P.ra r c * (1 - P.ra r c))

/-! The gradients of the arguments. -/
def dxr (r c : ℕ) : ℝ := P.rx r c * P.mg r c + (blkT P.wx P.dpx r c + blkT P.wa P.dpa r c)
def dwa (i c : ℕ) : ℝ := ∑ r ∈ Finset.range 4096, P.dpa r (64 * (i / 64) + c % 64) * P.x r i
def dwx (i c : ℕ) : ℝ := ∑ r ∈ Finset.range 4096, P.dpx r (64 * (i / 64) + c % 64) * P.x r i
def dba (c : ℕ) : ℝ := ∑ r ∈ Finset.range 4096, P.dpa r c
def dbx (c : ℕ) : ℝ := ∑ r ∈ Finset.range 4096, P.dpx r c
def dlam (c : ℕ) : ℝ := (∑ r ∈ Finset.range 4096, P.ra8 r c * P.dla r c) * Real.exp (-P.lam c - softp (-P.lam c))
def dlnw (c : ℕ) : ℝ := ∑ r ∈ Finset.range 4096, P.hg r c * P.rs r * P.dout r c

theorem ms_pos (r : ℕ) : 0 < P.ms r := by
  have : 0 ≤ ∑ c ∈ Finset.range 512, P.hg r c * P.hg r c := Finset.sum_nonneg fun c _ => mul_self_nonneg _
  have := ε₂_pos
  unfold ms; positivity

theorem mult_pos (r c : ℕ) : 0 < P.mult r c := Real.sqrt_pos.2 (lt_max_of_lt_right ε₁_pos)

end Par

end Cert.Lru

end
-- ==== Proof.Inputs.lean ====
/- The real inputs behind finite arguments, and what the two masks say. -/
module

public import proofs.«01_k».proof.Defs
public import proofs.«01_k».proof.Proof.Mat
public import proofs.«01_k».proof.Proof.Spec
public import Idealize.ShloMosaic.Lib.ReduceAll
public import Idealize.ShloMosaic.Lib.Pipeline.ValueKit

@[expose] public section

set_option maxRecDepth 16384

noncomputable section

namespace Cert.Lru

open Idealize.ShloMosaic
open scoped BigOperators

theorem preFacts : Cert.Pre_finite.Facts where
  bcast_S_S4096x512 := by decide
  reducesTo_S4096x512_S_d0_1 := by decide
  h_S_ := by decide
  bcast_S_S4096x3200 := by decide
  reducesTo_S4096x3200_S_d0_1 := by decide
  bcast_S_S8x64x64 := by decide
  reducesTo_S8x64x64_S_d0_1_2 := by decide
  bcast_S_S512 := by decide
  reducesTo_S512_S_d0 := by decide

theorem onFacts : Cert.On_diagonal.Facts where
  shapeCasts_S8x64x8x64_S512x512 := by decide
  bcast_S_S4096x512 := by decide
  bcast_S_S1x512 := by decide
  bcast_S_S512 := by decide
  shapeCasts_S512_S1x512 := by decide

/-! ## Finite arguments are reals -/

theorem both {a b : BitVec 1} (h : IntOp.andi a b = 1#1) : a = 1#1 ∧ b = 1#1 := by
  revert a b; decide

theorem real_of_bit {x : EReal} (h : BitVec.ofBool (decide (max x (-x) < Ideal.ofBits .f32 0x7F800000#32)) = 1#1) :
    x = ((x.toReal : ℝ) : EReal) := by
  have ht : Ideal.ofBits .f32 0x7F800000#32 = (⊤ : EReal) := by simp [Ideal.ofBits, Ideal.ieee]
  rw [ht] at h
  have h3 : max x (-x) < ⊤ := by
    by_contra q
    rw [decide_eq_false q] at h
    exact absurd h (by decide)
  refine (EReal.coe_toReal (fun q => ?_) fun q => ?_).symm
  · rw [q] at h3; simp at h3
  · rw [q] at h3; simp at h3

/-- Every element of the array is real. -/
def AllReal {s : Shape} (X : s.Idx → EReal) : Prop := ∀ i, X i = (((X i).toReal : ℝ) : EReal)

theorem real_of_all {s t u : Shape} [Subsingleton t.Idx] {X : s.Idx → EReal} {d : Shape} {dims : Fin d.rank → Fin s.rank} {hb : d.BroadcastsInDim s dims}
    {axes : List (Fin s.rank)} {init : u.Idx → BitVec 1} {hr : s.ReducesTo axes t} {hu : 0 < u.numel} {j : t.Idx}
    (h : Host.reduce IntOp.andi (cmpf (F := Ideal) (φ := .f32) .olt (Host.absf X) (broadcastInDim s dims hb (constant (F := Ideal) d .f32 0x7F800000#32))) init hr hu j = 1#1) : AllReal X := fun i =>
  real_of_bit (Host.reduce_andi_all _ init hr hu j h i)

/-! ## Real functions of natural indices -/

def re1 {k : ℕ} (X : (⟨1, ![k]⟩ : Shape).Idx → EReal) (c : ℕ) : ℝ :=
  open scoped Classical in if h : ∃ j : (⟨1, ![k]⟩ : Shape).Idx, (j 0).val = c then (X h.choose).toReal else 0
def re2 {n k : ℕ} (X : (⟨2, ![n, k]⟩ : Shape).Idx → EReal) (r c : ℕ) : ℝ :=
  open scoped Classical in if h : ∃ j : (⟨2, ![n, k]⟩ : Shape).Idx, (j 0).val = r ∧ (j 1).val = c then (X h.choose).toReal else 0
def re3 {n k l : ℕ} (X : (⟨3, ![n, k, l]⟩ : Shape).Idx → EReal) (a b c : ℕ) : ℝ :=
  open scoped Classical in if h : ∃ j : (⟨3, ![n, k, l]⟩ : Shape).Idx, (j 0).val = a ∧ (j 1).val = b ∧ (j 2).val = c then (X h.choose).toReal else 0

theorem AllReal.m1 {k : ℕ} {X : (⟨1, ![k]⟩ : Shape).Idx → EReal} (hX : AllReal X) : M1 X (re1 X) := fun j => by
  have h : ∃ i : (⟨1, ![k]⟩ : Shape).Idx, (i 0).val = (j 0).val := ⟨j, rfl⟩
  have e : h.choose = j := funext fun a => match a with | ⟨0, _⟩ => Fin.ext h.choose_spec
  rw [re1, dif_pos h, e]
  exact hX j

theorem AllReal.m2 {n k : ℕ} {X : (⟨2, ![n, k]⟩ : Shape).Idx → EReal} (hX : AllReal X) : M2 X (re2 X) := fun j => by
  have h : ∃ i : (⟨2, ![n, k]⟩ : Shape).Idx, (i 0).val = (j 0).val ∧ (i 1).val = (j 1).val := ⟨j, rfl, rfl⟩
  have e : h.choose = j := funext fun a => match a with
    | ⟨0, _⟩ => Fin.ext h.choose_spec.1
    | ⟨1, _⟩ => Fin.ext h.choose_spec.2
  rw [re2, dif_pos h, e]
  exact hX j

theorem AllReal.m3 {n k l : ℕ} {X : (⟨3, ![n, k, l]⟩ : Shape).Idx → EReal} (hX : AllReal X) : M3 X (re3 X) := fun j => by
  have h : ∃ i : (⟨3, ![n, k, l]⟩ : Shape).Idx, (i 0).val = (j 0).val ∧ (i 1).val = (j 1).val ∧ (i 2).val = (j 2).val := ⟨j, rfl, rfl, rfl⟩
  have e : h.choose = j := funext fun a => match a with
    | ⟨0, _⟩ => Fin.ext h.choose_spec.1
    | ⟨1, _⟩ => Fin.ext h.choose_spec.2.1
    | ⟨2, _⟩ => Fin.ext h.choose_spec.2.2
  rw [re3, dif_pos h, e]
  exact hX j

section fn
open Cert.Pre_finite

variable [Cert.Pre_finite.Facts] {a0 a1 : S4096x512.Idx → EReal} {a2 : S4096x3200.Idx → EReal} {a3 a5 : S8x64x64.Idx → EReal} {a4 a6 a7 a8 : S512.Idx → EReal}

instance : Subsingleton S_.Idx := ⟨fun a b => funext fun i => i.elim0⟩

/-- Where the precondition holds, all nine arguments are real. -/
theorem args_real (h : Cert.Pre_finite.fn (F := Ideal) a0 a1 a2 a3 a4 a5 a6 a7 a8 = fun _ => 1#1) :
    AllReal a0 ∧ AllReal a1 ∧ AllReal a2 ∧ AllReal a3 ∧ AllReal a4 ∧ AllReal a5 ∧ AllReal a6 ∧ AllReal a7 ∧ AllReal a8 := by
  have e := congrFun h fun i => i.elim0
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨e, h2⟩ := both e
  obtain ⟨h0, h1⟩ := both e
  exact ⟨real_of_all h0, real_of_all h1, real_of_all h2, real_of_all h3, real_of_all h4, real_of_all h5, real_of_all h6, real_of_all h7, real_of_all h8⟩

/-- The inputs behind the arguments. -/
def par (a0 a1 : S4096x512.Idx → EReal) (a2 : S4096x3200.Idx → EReal) (a3 : S8x64x64.Idx → EReal) (a4 : S512.Idx → EReal) (a5 : S8x64x64.Idx → EReal) (a6 a7 a8 : S512.Idx → EReal) : Par where
  dout := re2 a0
  x := re2 a1
  p := re2 a2
  wa := re3 a3
  wx := re3 a5
  ba := re1 a4
  bx := re1 a6
  lam := re1 a7
  lnw := re1 a8

end fn

/-! ## The masks -/

section masks
open Cert.On_diagonal Idealize.ShloMosaic.Tactic

variable [Cert.On_diagonal.Facts] {a0 a1 : S4096x512.Idx → EReal} {a2 : S4096x3200.Idx → EReal} {a3 a5 : S8x64x64.Idx → EReal} {a4 a6 a7 a8 : S512.Idx → EReal}

theorem word_eq (a b : ℕ) (ha : a < 8) (hb : b < 8) (h : IntOp.cmpi CmpIPredicate.eq (BitVec.ofNat 32 a) (BitVec.ofNat 32 b) = 1#1) : a = b := by
  interval_cases a <;> interval_cases b <;> first | rfl | exact absurd h (by decide)

theorem block_of_bit (i : S512x512.Idx) (hs : S8x64x8x64.ShapeCasts S512x512)
    (h : shapeCast S512x512 (cmpi .eq (iotaInDim S8x64x8x64 32 0) (iotaInDim S8x64x8x64 32 2)) hs i = 1#1) : (i 0).val / 64 = (i 1).val / 64 := by
  have h0 : (i 0).val < 512 := (i 0).isLt
  have h1 : (i 1).val < 512 := (i 1).isLt
  idx_vars i
  pointwise at h
  exact word_eq _ _ (by omega) (by omega) h

theorem lam_of_bit (i : S1x512.Idx) (hs : S512.ShapeCasts S1x512) (hb : (⟨0, ![]⟩ : Shape).BroadcastsInDim S512 ![]) {l : ℕ → ℝ} (hl : M1 (k := 512) a7 l)
    (h : shapeCast S1x512 (cmpf (F := Ideal) (φ := .f32) .une a7 (broadcastInDim S512 ![] hb (constant (F := Ideal) S_ .f32 0x00000000#32))) hs i = 1#1) : l (i 1).val ≠ 0 := by
  idx_vars i
  pointwise at h
  have h2 : BitVec.ofBool (decide (a7 (ix1 i1) ≠ 0)) = 1#1 := h
  have e : a7 (ix1 i1) = ((l i1.val : ℝ) : EReal) := hl (ix1 i1)
  intro q
  have q' : l i1.val = 0 := q
  rw [e, q', EReal.coe_zero, decide_eq_false (not_not.2 rfl)] at h2
  exact absurd h2 (by decide)

end masks

end Cert.Lru

end
-- ==== Proof.Words.lean ====
/- The words of one grid point's body over the blocks it loads, each by the payload that makes it. -/
module

public import proofs.«01_k».proof.Proof.Gen.KernelIdeal.Frame.RunB
public import Idealize.ShloMosaic.Lib.Claim

@[expose] public section

noncomputable section

namespace Cert.KernelIdeal.Gen

open Idealize.ShloMosaic Idealize.ShloMosaic.TcCoe Idealize.ShloMosaic.Tactic

/-- What a grid point loads: its blocks, the two carried rows, and the row of `h` before the tile. -/
structure Tile (F : FTy → Type) [FloatOps F] where
  i : grid0.Coords
  x0 : Vec F S256x512 .f32
  x1 : Vec F S256x512 .f32
  x2 : Vec F S256x512 .f32
  x3 : Vec F S256x512 .f32
  x5 : Vec F S512x512 .bf16
  x6 : Vec F S1x512 .f32
  x7 : Vec F S512x512 .bf16
  x8 : Vec F S1x512 .f32
  x9 : Vec F S1x512 .f32
  x10 : Vec F S1x512 .f32
  r0 : Vec F S1x512 .f32
  r1 : Vec F S1x512 .f32
  hp : Vec F S1x512 .f32

namespace Tile

variable {F : FTy → Type} [FloatOps F]

def arg0 (T : Tile F) : BitVec 32 := BitVec.ofNat 32 (T.i 0).val
def v4 (T : Tile F) : FVec F S256x512 .bf16 := k0_pay7 T.x1
def v21 (T : Tile F) : FVec F S256x512 .f32 := k0_pay8 T.x1 T.x5 T.x6
def v24 (T : Tile F) : FVec F S256x512 .f32 := k0_pay9 T.x1 T.x5 T.x6
def v25 (T : Tile F) : FVec F S256x512 .f32 := k0_pay10 T.x1 T.x7 T.x8
def v28 (T : Tile F) : FVec F S256x512 .f32 := k0_pay11 T.x1 T.x7 T.x8
def v30 (T : Tile F) : FVec F S1x512 .f32 := k0_pay12 T.x9
def v32 (T : Tile F) : FVec F S1x512 .f32 := k0_pay13 T.x9
def v34 (T : Tile F) : IVec S1x512 1 := k0_pay14 T.x9
def v35 (T : Tile F) : FVec F S1x512 .f32 := k0_pay15 (F := F)
def v41 (T : Tile F) : FVec F S1x512 .f32 := k0_pay16 T.v30 T.v34 T.v35
def v44 (T : Tile F) : IVec S1x512 1 := k0_pay17 T.v30
def v47 (T : Tile F) : FVec F S1x512 .f32 := k0_pay18 T.v30
def v50 (T : Tile F) : FVec F S1x512 .f32 := k0_pay19 T.v30
def v53 (T : Tile F) : FVec F S1x512 .f32 := k0_pay20 T.v30 T.v32
def v55 (T : Tile F) : FVec F S256x512 .f32 := k0_pay21 T.v21
def v58 (T : Tile F) : FVec F S256x512 .f32 := k0_pay23 T.v21 T.v30 T.v32
def v64 (T : Tile F) : FVec F S256x512 .f32 := k0_pay25 T.v21 T.v30 T.v32
def v66 (T : Tile F) : FVec F S256x512 .f32 := k0_pay26 T.v21 T.v30 T.v32
def v68 (T : Tile F) : FVec F S256x512 .f32 := k0_pay27 T.v21 T.v30 T.v32
def v72 (T : Tile F) : FVec F S256x512 .f32 := k0_pay29 T.v21 T.v30 T.v32
def v74 (T : Tile F) : FVec F S256x512 .f32 := k0_pay30 T.v21 T.v30 T.v32
def v76 (T : Tile F) : IVec S256x512 1 := k0_pay31 T.v21 T.v30 T.v32
def v78 (T : Tile F) : IVec S256x512 1 := k0_pay32 T.v21 T.v30 T.v32
def cst_35 (T : Tile F) : F .f32 := Scalar.ofBits .f32 0x3F800000#32
def v83 (T : Tile F) : FVec F S256x512 .f32 := k0_pay33 T.v76 T.v78 T.cst_35
def v84 (T : Tile F) : FVec F S256x512 .f32 := k0_pay34 T.v74
def v86 (T : Tile F) : FVec F S256x512 .f32 := k0_pay35 T.v74
def v87 (T : Tile F) : FVec F S256x512 .f32 := k0_pay36 T.x1 T.v25
def v89 (T : Tile F) : FVec F S256x512 .f32 := k0_pay37 T.x3
def v92 (T : Tile F) : FVec F S1x512 .f32 := k0_pay38 T.x10
def v97 (T : Tile F) : FVec F S256x512 .f32 := k0_pay39 T.x2
def v108 (T : Tile F) : FVec F S256x512 .f32 := k0_pay41 T.x2
def v112 (T : Tile F) : FVec F S256x512 .f32 := k0_pay42 T.x2
def v113 (T : Tile F) : FVec F S256x512 .f32 := k0_pay43 T.x2
def v114 (T : Tile F) : FVec F S256x512 .f32 := k0_pay44 T.x3 T.x2
def v119 (T : Tile F) : FVec F S256x1 .f32 := k0_pay45 T.x3 T.x2
def cst_54 (T : Tile F) : F .f32 := Scalar.ofBits .f32 0x358637BD#32
def v131 (T : Tile F) : FVec F S1x512 .f32 := k0_pay48 T.v114 T.v119 T.cst_54 T.x0
def v150 (T : Tile F) : FVec F S256x512 .f32 := k0_pay50 T.v92 T.v113 T.v114 T.v119 T.cst_54 T.x0
def v164 (T : Tile F) : IVec S256x512 32 := iota .tc S256x512 32 [0] iota_S256x512_d0_w32
def v165 (T : Tile F) : IVec S256x512 32 := k0_pay52
def v174 (T : Tile F) : IVec S256x512 32 := k0_pay54
def v196 (T : Tile F) : FVec F S256x512 .f32 := k0_pay58 T.v58 T.v164 T.v165 T.r0
def v201 (T : Tile F) : FVec F S256x512 .f32 := k0_pay60 T.v58 T.v164 T.v165 T.r0
def v206 (T : Tile F) : FVec F S256x512 .f32 := k0_pay61 T.v58 T.v150 T.v164 T.v165 T.r0
def v228 (T : Tile F) : FVec F S256x512 .f32 := k0_pay66 T.v174 T.v196 T.v201 T.v206
def v229 (T : Tile F) : FVec F S256x512 .f32 := k0_pay67 T.v174 T.v196 T.v201
def v230 (T : Tile F) : FVec F S32x512 .f32 := k0_pay68 T.v174 T.v196 T.v201
def v231 (T : Tile F) : FVec F S32x512 .f32 := k0_pay69 T.v174 T.v196 T.v201 T.v206
def v237 (T : Tile F) : FVec F S32x512 .f32 := k0_pay71 T.v174 T.v196 T.v201 T.v206
def v240 (T : Tile F) : FVec F S32x512 .f32 := k0_pay72 T.v174 T.v196 T.v201
def v246 (T : Tile F) : FVec F S32x512 .f32 := k0_pay74 T.v174 T.v196 T.v201 T.v206
def v249 (T : Tile F) : FVec F S32x512 .f32 := k0_pay75 T.v174 T.v196 T.v201
def v250 (T : Tile F) : FVec F S32x512 .f32 := k0_pay76 T.v174 T.v196 T.v201
def v255 (T : Tile F) : FVec F S32x512 .f32 := k0_pay77 T.v174 T.v196 T.v201 T.v206
def v256 (T : Tile F) : FVec F S1x512 .f32 := k0_pay78 T.v174 T.v196 T.v201
def v300 (T : Tile F) : FVec F S256x512 .f32 := k0_pay79 T.v228 T.v229 T.v230 T.v231 T.v237 T.v240 T.v246 T.v249 T.v250 T.v255 T.v256 T.r1
def v323 (T : Tile F) : FVec F S256x512 .f32 := k0_pay83 T.v25 T.v84 T.v300
def v324 (T : Tile F) : FVec F S256x512 .f32 := k0_pay84 T.x1 T.v84 T.v300
def v346 (T : Tile F) : FVec F S256x512 .f32 := k0_pay86 T.arg0 T.v53 T.v58 T.v64 T.v66 T.v68 T.v72 T.v83 T.v86 T.v87 T.v89 T.v164 T.v300 T.hp
def v348 (T : Tile F) : FVec F S1x512 .f32 := k0_pay87 T.arg0 T.v55 T.v58 T.v64 T.v66 T.v68 T.v72 T.v83 T.v86 T.v87 T.v89 T.v164 T.v300 T.hp
def v352 (T : Tile F) : FVec F S1x512 .f32 := k0_pay88 T.arg0 T.v47 T.v50 T.v55 T.v58 T.v64 T.v66 T.v68 T.v72 T.v83 T.v86 T.v87 T.v89 T.v164 T.v300 T.hp
def v353 (T : Tile F) : FVec F S1x512 .f32 := k0_pay89 (F := F)
def v354 (T : Tile F) : FVec F S1x512 .f32 := k0_pay90 T.arg0 T.v44 T.v47 T.v50 T.v55 T.v58 T.v64 T.v66 T.v68 T.v72 T.v83 T.v86 T.v87 T.v89 T.v164 T.v300 T.hp
def v362 (T : Tile F) : FVec F S1x512 .f32 := k0_pay91 T.v41 T.v44 T.v348 T.v352 T.v353 T.v354
def v363 (T : Tile F) : FVec F S256x512 .f32 := k0_pay92 T.v28 T.v324
def v389 (T : Tile F) : FVec F S1x512 .f32 := k0_pay101 T.v24 T.v346
def o51 (T : Tile F) : FVec F S256x512 .f32 := k0_pay51 T.v89 T.x2 T.v92 T.v97 T.v108 T.v112 T.v114 T.v119 T.cst_54 T.x0
def o80 (T : Tile F) : FVec F S1x512 .f32 := k0_pay80 T.v58
def o81 (T : Tile F) : FVec F S1x512 .f32 := k0_pay81 T.v228 T.v229 T.v230 T.v231 T.v237 T.v240 T.v246 T.v249 T.v250 T.v255 T.v256 T.r1
def o96 (T : Tile F) : FVec F S256x512 .f32 := k0_pay96 T.v24 T.v28 T.v323 T.v324 T.v346 T.x5 T.x7
def o97 (T : Tile F) : FVec F S512x512 .f32 := k0_pay97 T.v4 T.v24 T.v346
def o99 (T : Tile F) : FVec F S512x512 .f32 := k0_pay99 T.v4 T.v28 T.v324
def o2 (T : Tile F) : FVec F S1x512 .f32 := k0_pay2 T.v363

end Tile

end Cert.KernelIdeal.Gen

end

end
-- ==== Proof.Kit.lean ====
/- What the operations of a grid point's body do to arrays given by real functions. -/
module

public import proofs.«01_k».proof.Proof.Rows
public import proofs.«01_k».proof.Proof.Spec
public import Idealize.ShloMosaic.Lib.Pipeline.ValueKit
public import Idealize.ShloMosaic.Lib.KernelVsHost
public import Idealize.ShloMosaic.Lib.Claim

@[expose] public section

noncomputable section

namespace Cert.Lru

open Idealize.ShloMosaic
open scoped BigOperators

variable {n k l m N : ℕ}

theorem M2.splat {b : BitVec 32} {v : ℝ} (h : Ideal.ofBits .f32 b = (v : EReal)) :
    M2 (n := n) (k := k) (broadcast ⟨2, ![n, k]⟩ (Scalar.ofBits (F := Ideal) .f32 b)) fun _ _ => v := fun _ => h

section
variable {X Y : (⟨2, ![n, k]⟩ : Shape).Idx → EReal} {f g : ℕ → ℕ → ℝ}

theorem M2.cast (hX : M2 X f) (h : (⟨2, ![n, k]⟩ : Shape).ShapeCasts ⟨2, ![n, k]⟩) : M2 (shapeCast ⟨2, ![n, k]⟩ X h) f := fun j => by
  rw [Pointwise.shapeCast_apply, Shape.reshapeEquiv_eq_of_rowMajor _ (rfl : (Shape.rowMajor _ j).val = _)]
  exact hX j

theorem M2.addRows (hX : M2 X f) (a : BitVec 32) (h : (⟨2, ![n, k]⟩ : Shape).Reduces [0] ⟨1, ![k]⟩) (hp) (ha)
    (hs : (⟨1, ![k]⟩ : Shape).ShapeCasts ⟨2, ![1, k]⟩) :
    M2 (shapeCast ⟨2, ![1, k]⟩ (multiReduction (F := Ideal) (φ := .f32) .add [0] ⟨1, ![k]⟩ X a h hp ha) hs)
      fun _ c => ∑ r ∈ Finset.range n, f r c :=
  M1.asRow (v := fun c => ∑ r ∈ Finset.range n, f r c) (fun j => by
    show Ideal.reduceAdd h X j = _
    rw [Ideal.reduceAdd_r2_a0, ← coe_sum]
    exact Finset.sum_congr rfl fun i _ => hX.at rfl rfl) hs

theorem M2.addCols (hX : M2 X f) (a : BitVec 32) (h : (⟨2, ![n, k]⟩ : Shape).Reduces [1] ⟨1, ![n]⟩) (hp) (ha)
    (hs : (⟨1, ![n]⟩ : Shape).ShapeCasts ⟨2, ![n, 1]⟩) :
    M2 (shapeCast ⟨2, ![n, 1]⟩ (multiReduction (F := Ideal) (φ := .f32) .add [1] ⟨1, ![n]⟩ X a h hp ha) hs)
      fun r _ => ∑ c ∈ Finset.range k, f r c :=
  M1.asCol (v := fun r => ∑ c ∈ Finset.range k, f r c) (fun j => by
    show Ideal.reduceAdd h X j = _
    rw [Ideal.reduceAdd_r2_a1, ← coe_sum]
    exact Finset.sum_congr rfl fun i _ => hX.at rfl rfl) hs

/-- Rows rotated: row `r` reads row `r + s`, around the end. -/
theorem M2.rot (hX : M2 X f) (b : BitVec 32) (s : ℕ) (hs : s ≤ n) (hb : b.toNat % n = (n - s) % n) (hn : 0 < n)
    (h : (⟨2, ![n, k]⟩ : Shape).Rotates 0 none) :
    M2 (dynamicRotate 0 b none X h) fun r c => f ((r + s) % n) c := fun j => by
  have hj : (j 0).val < n := (j 0).isLt
  let e : (⟨2, ![n, k]⟩ : Shape).Idx := fun a => if h0 : a = 0 then ⟨((j 0).val + s) % n, by subst h0; exact Nat.mod_lt _ hn⟩ else j a
  rw [dynamicRotate_apply (0 : Fin 2) b X h j e]
  · exact hX.at rfl rfl
  · intro a
    match a with
    | 0 =>
      show ((j 0).val + s) % n = ((j 0).val + n - b.toNat % n) % n
      rw [hb]
      rcases Nat.eq_zero_or_pos s with h0 | h0
      · rw [h0, Nat.sub_zero, Nat.mod_self, Nat.sub_zero, Nat.add_mod_right, Nat.add_zero]
      · rw [Nat.mod_eq_of_lt (show n - s < n by omega)]
        congr 1; omega
    | 1 => rfl

/-- A choice by the row. -/
theorem M2.sel (hX : M2 X f) (hY : M2 Y g) {p : ℕ → Prop} [DecidablePred p] {w : IVec ⟨2, ![n, k]⟩ 1}
    (hw : ∀ j, w j = if p (j 0).val then 1#1 else 0#1) :
    M2 (select w X Y) fun r c => if p r then f r c else g r c := fun j => by
  have hx : X j = _ := hX j
  have hy : Y j = _ := hY j
  show (if w j = 1 then X j else Y j) = _
  rw [hw, hx, hy]
  by_cases h : p (j 0).val
  · beta_reduce; rw [if_pos h, if_pos h]; exact if_pos rfl
  · beta_reduce; rw [if_neg h, if_neg h]; exact if_neg (by decide)

end

/-- Eight pieces of thirty-two rows. -/
theorem M2.concat8 {p0 p1 p2 p3 p4 p5 p6 p7 : (⟨2, ![32, k]⟩ : Shape).Idx → EReal} {F : ℕ → ℕ → ℝ}
    (h0 : M2 p0 fun r c => F (0 + r) c) (h1 : M2 p1 fun r c => F (32 + r) c) (h2 : M2 p2 fun r c => F (64 + r) c) (h3 : M2 p3 fun r c => F (96 + r) c) (h4 : M2 p4 fun r c => F (128 + r) c) (h5 : M2 p5 fun r c => F (160 + r) c) (h6 : M2 p6 fun r c => F (192 + r) c) (h7 : M2 p7 fun r c => F (224 + r) c)
    (hc : Shape.Concatenates [⟨2, ![32, k]⟩, ⟨2, ![32, k]⟩, ⟨2, ![32, k]⟩, ⟨2, ![32, k]⟩, ⟨2, ![32, k]⟩, ⟨2, ![32, k]⟩, ⟨2, ![32, k]⟩, ⟨2, ![32, k]⟩] ⟨2, ![256, k]⟩ 0) :
    M2 (concatenate ⟨2, ![256, k]⟩ 0 [⟨⟨2, ![32, k]⟩, p0⟩, ⟨⟨2, ![32, k]⟩, p1⟩, ⟨⟨2, ![32, k]⟩, p2⟩, ⟨⟨2, ![32, k]⟩, p3⟩, ⟨⟨2, ![32, k]⟩, p4⟩, ⟨⟨2, ![32, k]⟩, p5⟩, ⟨⟨2, ![32, k]⟩, p6⟩, ⟨⟨2, ![32, k]⟩, p7⟩] hc) F := fun j => by
  have hj : (j 0).val < 256 := (j 0).isLt
  let f : Fin 8 → (⟨2, ![32, k]⟩ : Shape).Idx → EReal := ![p0, p1, p2, p3, p4, p5, p6, p7]
  let e : (⟨2, ![32, k]⟩ : Shape).Idx := fun a => match a with
    | 0 => (⟨(j 0).val % 32, Nat.mod_lt _ (by omega)⟩ : Fin 32)
    | 1 => (⟨(j 1).val, (j 1).isLt⟩ : Fin k)
  have key : ∀ n : Fin 8, M2 (f n) fun r c => F (32 * n.val + r) c := by
    intro n
    fin_cases n
    exacts [h0, h1, h2, h3, h4, h5, h6, h7]
  have h := concatenate_ofFn_apply (t := ⟨2, ![256, k]⟩) (0 : Fin 2) f hc rfl 32 rfl j
    (⟨(j 0).val / 32, by omega⟩ : Fin 8) rfl e rfl (fun b hb => by
      match b with
      | 0 => exact absurd rfl hb
      | 1 => rfl)
  refine h.trans ((key _ e).trans ?_)
  show ((F (32 * ((j 0).val / 32) + (j 0).val % 32) (j 1).val : ℝ) : EReal) = _
  rw [Nat.div_add_mod]

/-! ## Products -/

theorem mul_sum {K : ℕ} {L R : Fin K → EReal} {p q : ℕ → ℝ} (hL : ∀ e, L e = ((p e.val : ℝ) : EReal)) (hR : ∀ e, R e = ((q e.val : ℝ) : EReal)) :
    (0 : EReal) + ∑ e : Fin K, L e * R e = ((∑ e ∈ Finset.range K, p e * q e : ℝ) : EReal) := by
  rw [zero_add, ← coe_sum K fun e => p e * q e]
  exact Finset.sum_congr rfl fun e _ => by rw [hL, hR]; exact (EReal.coe_mul _ _).symm

/-! ## The scan over a tile -/

/-- How far a row sees after steps of `1, 2, …` within its thirty-two rows. -/
def reach (w r : ℕ) : ℕ := min w (32 - r % 32)

variable {A C : ℕ → ℕ → ℝ}

theorem reach_two {w r : ℕ} (h : r % 32 + w < 32) : reach (2 * w) r = reach w r + reach w (r + w) := by
  simp only [reach]; omega

theorem reach_one {w r : ℕ} (h : ¬ r % 32 + w < 32) : reach (2 * w) r = reach w r := by
  simp only [reach]; omega

theorem reach_self {w r : ℕ} (h : r % 32 + w < 32) : reach w r = w := by
  simp only [reach]; omega

section
variable {X Y O Z : (⟨2, ![256, k]⟩ : Shape).Idx → EReal} {w : ℕ}

theorem scanA (hX : M2 X fun r c => spanP (fun s => A s c) (reach w r) r) (hO : M2 O fun _ _ => 1) {v : IVec ⟨2, ![256, k]⟩ 1}
    (hv : ∀ j, v j = if (j 0).val % 32 + w < 32 then 1#1 else 0#1) (b : BitVec 32) (hw : w < 32) (hb : b.toNat % 256 = (256 - w) % 256)
    (h : (⟨2, ![256, k]⟩ : Shape).Rotates 0 none) :
    M2 (mulf (F := Ideal) (φ := .f32) X (select v (dynamicRotate 0 b none X h) O)) fun r c => spanP (fun s => A s c) (reach (2 * w) r) r :=
  (hX.mul ((hX.rot b w (by omega) hb (by omega) h).sel hO (p := fun r => r % 32 + w < 32) hv)).congr fun r hr c _ => by
    split_ifs with h0
    · rw [Nat.mod_eq_of_lt (show r + w < 256 by omega), reach_two h0, spanP_add, reach_self h0]
    · rw [reach_one h0, mul_one]

theorem scanB (hX : M2 X fun r c => spanP (fun s => A s c) (reach w r) r) (hY : M2 Y fun r c => spanQ (fun s => A s c) (fun s => C s c) (reach w r) r)
    (hO : M2 O fun _ _ => 0) {v : IVec ⟨2, ![256, k]⟩ 1}
    (hv : ∀ j, v j = if (j 0).val % 32 + w < 32 then 1#1 else 0#1) (b : BitVec 32) (hw : w < 32) (hb : b.toNat % 256 = (256 - w) % 256)
    (h : (⟨2, ![256, k]⟩ : Shape).Rotates 0 none) :
    M2 (addf (F := Ideal) (φ := .f32) (mulf (F := Ideal) (φ := .f32) X (select v (dynamicRotate 0 b none Y h) O)) Y)
      fun r c => spanQ (fun s => A s c) (fun s => C s c) (reach (2 * w) r) r :=
  ((hX.mul ((hY.rot b w (by omega) hb (by omega) h).sel hO (p := fun r => r % 32 + w < 32) hv)).add hY).congr fun r hr c _ => by
    split_ifs with h0
    · rw [Nat.mod_eq_of_lt (show r + w < 256 by omega), reach_two h0, spanQ_add, reach_self h0, add_comm]
    · rw [reach_one h0, mul_zero, zero_add]

/-- A block of thirty-two rows from row `b`, with the rows after it behind it. -/
theorem blockA (hX : M2 X fun r c => spanP (fun s => A s c) (reach 32 r) r) {p : (⟨2, ![32, k]⟩ : Shape).Idx → EReal} (b b' : ℕ)
    (hp : M2 p fun r c => spanP (fun s => A s c) (256 - (b' + r)) (b' + r)) (hb : b % 32 = 0) (hb' : b + 32 = b') (hn : b' < 256)
    (h1 : (⟨2, ![256, k]⟩ : Shape).Slices ![b, 0] ⟨2, ![32, k]⟩) (h2 : (⟨2, ![32, k]⟩ : Shape).Slices ![0, 0] ⟨2, ![1, k]⟩)
    (h3 : (⟨2, ![1, k]⟩ : Shape).Broadcasts ⟨2, ![32, k]⟩) :
    M2 (mulf (F := Ideal) (φ := .f32) (extractStridedSlice ⟨2, ![32, k]⟩ ![b, 0] X h1) (broadcastTo ⟨2, ![32, k]⟩ (extractStridedSlice ⟨2, ![1, k]⟩ ![0, 0] p h2) h3))
      fun r c => spanP (fun s => A s c) (256 - (b + r)) (b + r) :=
  ((hX.slice b 0 h1).mul ((hp.slice 0 0 h2).rowsTo h3)).congr fun r hr c _ => by
    simp only [Nat.zero_add, Nat.add_zero]
    rw [show reach 32 (b + r) = 32 - r by simp only [reach]; omega, show 256 - (b + r) = 32 - r + (256 - b') by omega, spanP_add,
      show b + r + (32 - r) = b' by omega]

theorem blockB (hX : M2 X fun r c => spanP (fun s => A s c) (reach 32 r) r) (hY : M2 Y fun r c => spanQ (fun s => A s c) (fun s => C s c) (reach 32 r) r)
    {q : (⟨2, ![32, k]⟩ : Shape).Idx → EReal} (b b' : ℕ)
    (hq : M2 q fun r c => spanQ (fun s => A s c) (fun s => C s c) (256 - (b' + r)) (b' + r)) (hb : b % 32 = 0) (hb' : b + 32 = b') (hn : b' < 256)
    (h1 h1' : (⟨2, ![256, k]⟩ : Shape).Slices ![b, 0] ⟨2, ![32, k]⟩) (h2 : (⟨2, ![32, k]⟩ : Shape).Slices ![0, 0] ⟨2, ![1, k]⟩)
    (h3 : (⟨2, ![1, k]⟩ : Shape).Broadcasts ⟨2, ![32, k]⟩) :
    M2 (addf (F := Ideal) (φ := .f32) (extractStridedSlice ⟨2, ![32, k]⟩ ![b, 0] Y h1')
      (mulf (F := Ideal) (φ := .f32) (extractStridedSlice ⟨2, ![32, k]⟩ ![b, 0] X h1) (broadcastTo ⟨2, ![32, k]⟩ (extractStridedSlice ⟨2, ![1, k]⟩ ![0, 0] q h2) h3)))
      fun r c => spanQ (fun s => A s c) (fun s => C s c) (256 - (b + r)) (b + r) :=
  ((hY.slice b 0 h1').add ((hX.slice b 0 h1).mul ((hq.slice 0 0 h2).rowsTo h3))).congr fun r hr c _ => by
    simp only [Nat.zero_add, Nat.add_zero]
    rw [show reach 32 (b + r) = 32 - r by simp only [reach]; omega, show 256 - (b + r) = 32 - r + (256 - b') by omega, spanQ_add,
      show b + r + (32 - r) = b' by omega]

end

/-- The tile's scan, its last row known, is the whole recurrence's. -/
theorem tile_rev {g A C : ℕ → ℝ} {gn : ℕ → ℝ} (h : ∀ r < 255, g r = C r + A r * g (r + 1)) (h1 : g 255 = C 255 + A 255 * gn 0) (d : ℕ) :
    ∀ r, r + d = 255 → spanQ A C (256 - r) r + spanP A (256 - r) r * gn 0 = g r := by
  induction d with
  | zero =>
    intro r hr
    obtain rfl : r = 255 := by omega
    rw [h1]; simp [spanQ, spanP]
  | succ d ih =>
    intro r hr
    rw [h r (by omega), ← ih (r + 1) (by omega), show 256 - r = (256 - (r + 1)) + 1 by omega]
    simp only [spanQ, spanP]; ring

end Cert.Lru

end
-- ==== Proof.Dots.lean ====
/- The body's three matrix products over the reals. -/
module

public import proofs.«01_k».proof.Proof.Words
public import proofs.«01_k».proof.Proof.Kit

@[expose] public section

noncomputable section

namespace Cert.KernelIdeal.Gen

open Idealize.ShloMosaic Idealize.ShloMosaic.TcCoe Idealize.ShloMosaic.Tactic Cert.Lru
open scoped BigOperators

variable {f g : ℕ → ℕ → ℝ}

theorem gateDot_is {X : FVec Ideal S256x512 .bf16} {W : FVec Ideal S512x512 .bf16} (hX : M2 (n := 256) (k := 512) X f) (hW : M2 (n := 512) (k := 512) W g) :
    M2 (n := 256) (k := 512) (matmul dot_S256x512_S512x512_S256x512_1_0_0_1_n_n none X W (constant (F := Ideal) S256x512 .f32 0x00000000#32))
      fun r c => ∑ e ∈ Finset.range 512, f r e * g e c := fun j => by
  idx_vars j
  pointwise
  exact (zero_add _).symm.trans (mul_sum (K := 512) (p := fun e => f j0.val e) (q := fun e => g e j1.val) (fun e => hX.at rfl rfl) (fun e => hW.at rfl rfl))

theorem gateDotT_is {X : FVec Ideal S256x512 .bf16} {W : FVec Ideal S512x512 .bf16} (hX : M2 (n := 256) (k := 512) X f) (hW : M2 (n := 512) (k := 512) W g) :
    M2 (n := 256) (k := 512) (matmul dot_S256x512_S512x512_S256x512_1_1_0_0_n_n none X W (constant (F := Ideal) S256x512 .f32 0x00000000#32))
      fun r c => ∑ e ∈ Finset.range 512, f r e * g c e := fun j => by
  idx_vars j
  pointwise
  exact (zero_add _).symm.trans (mul_sum (K := 512) (p := fun e => f j0.val e) (q := fun e => g j1.val e) (fun e => hX.at rfl rfl) (fun e => hW.at rfl rfl))

theorem rowDot_is {X W : FVec Ideal S256x512 .bf16} (hX : M2 (n := 256) (k := 512) X f) (hW : M2 (n := 256) (k := 512) W g) :
    M2 (n := 512) (k := 512) (matmul dot_S256x512_S256x512_S512x512_0_0_1_1_n_n none X W (constant (F := Ideal) S512x512 .f32 0x00000000#32))
      fun i c => ∑ e ∈ Finset.range 256, f e i * g e c := fun j => by
  idx_vars j
  pointwise
  exact (zero_add _).symm.trans (mul_sum (K := 256) (p := fun e => f e j0.val) (q := fun e => g e j1.val) (fun e => hX.at rfl rfl) (fun e => hW.at rfl rfl))

/-! ## Masks by the row -/

theorem bit_of {P Q : Prop} [Decidable P] [Decidable Q] (h : P ↔ Q) : (if P then 1#1 else 0#1) = if Q then 1#1 else 0#1 := by
  by_cases hP : P
  · rw [if_pos hP, if_pos (h.1 hP)]
  · rw [if_neg hP, if_neg fun hQ => hP (h.2 hQ)]

theorem iota_row (j : S256x512.Idx) : iota .tc S256x512 32 [0] iota_S256x512_d0_w32 j = BitVec.ofNat 32 (j 0).val := by
  rw [iota_single_apply]

theorem row_last (j : S256x512.Idx) :
    (cmpi .eq (iota .tc S256x512 32 [0] iota_S256x512_d0_w32) k0_pay52) j = if (j 0).val = 255 then 1#1 else 0#1 := by
  have h : ∀ r : Fin 256, Scalar.cmpi .eq (BitVec.ofNat 32 r.val) 255#32 = if r.val = 255 then 1#1 else 0#1 := by decide +kernel
  show Scalar.cmpi .eq (iota .tc S256x512 32 [0] iota_S256x512_d0_w32 j) 255#32 = _
  rw [iota_row]
  exact h (j 0)

theorem row_first (j : S256x512.Idx) :
    (cmpi .eq (iota .tc S256x512 32 [0] iota_S256x512_d0_w32) (broadcast S256x512 0#32)) j = if (j 0).val = 0 then 1#1 else 0#1 := by
  have h : ∀ r : Fin 256, Scalar.cmpi .eq (BitVec.ofNat 32 r.val) 0#32 = if r.val = 0 then 1#1 else 0#1 := by decide +kernel
  show Scalar.cmpi .eq (iota .tc S256x512 32 [0] iota_S256x512_d0_w32 j) 0#32 = _
  rw [iota_row]
  exact h (j 0)

theorem row_31 (j : S256x512.Idx) : k0_pay55 j = if (j 0).val % 32 + 1 < 32 then 1#1 else 0#1 := by
  have h : ∀ r : Fin 256, Scalar.cmpi .slt (BitVec.ofNat 32 r.val &&& 31#32) 31#32 = if r.val % 32 + 1 < 32 then 1#1 else 0#1 := by decide +kernel
  show Scalar.cmpi .slt (iota .tc S256x512 32 [0] iota_S256x512_d0_w32 j &&& 31#32) 31#32 = _
  rw [iota_row]
  exact h (j 0)

theorem row_30 (j : S256x512.Idx) : k0_pay57 j = if (j 0).val % 32 + 2 < 32 then 1#1 else 0#1 := by
  have h : ∀ r : Fin 256, Scalar.cmpi .slt (BitVec.ofNat 32 r.val &&& 31#32) 30#32 = if r.val % 32 + 2 < 32 then 1#1 else 0#1 := by decide +kernel
  show Scalar.cmpi .slt (iota .tc S256x512 32 [0] iota_S256x512_d0_w32 j &&& 31#32) 30#32 = _
  rw [iota_row]
  exact h (j 0)

theorem row_28 (j : S256x512.Idx) : k0_pay59 j = if (j 0).val % 32 + 4 < 32 then 1#1 else 0#1 := by
  have h : ∀ r : Fin 256, Scalar.cmpi .slt (BitVec.ofNat 32 r.val &&& 31#32) 28#32 = if r.val % 32 + 4 < 32 then 1#1 else 0#1 := by decide +kernel
  show Scalar.cmpi .slt (iota .tc S256x512 32 [0] iota_S256x512_d0_w32 j &&& 31#32) 28#32 = _
  rw [iota_row]
  exact h (j 0)

theorem row_24 (j : S256x512.Idx) : k0_pay63 k0_pay54 j = if (j 0).val % 32 + 8 < 32 then 1#1 else 0#1 := by
  have h : ∀ r : Fin 256, Scalar.cmpi .slt (BitVec.ofNat 32 r.val &&& 31#32) 24#32 = if r.val % 32 + 8 < 32 then 1#1 else 0#1 := by decide +kernel
  show Scalar.cmpi .slt (iota .tc S256x512 32 [0] iota_S256x512_d0_w32 j &&& 31#32) 24#32 = _
  rw [iota_row]
  exact h (j 0)

theorem row_16 (j : S256x512.Idx) : k0_pay65 k0_pay54 j = if (j 0).val % 32 + 16 < 32 then 1#1 else 0#1 := by
  have h : ∀ r : Fin 256, Scalar.cmpi .slt (BitVec.ofNat 32 r.val &&& 31#32) 16#32 = if r.val % 32 + 16 < 32 then 1#1 else 0#1 := by decide +kernel
  show Scalar.cmpi .slt (iota .tc S256x512 32 [0] iota_S256x512_d0_w32 j &&& 31#32) 16#32 = _
  rw [iota_row]
  exact h (j 0)

end Cert.KernelIdeal.Gen

end

end
-- ==== Proof.HostBase.lean ====
/- The host operations before the kernel's region, one equation each. -/
module

public import proofs.«01_k».proof.Proof.Gen.KernelIdeal.Frame.Runs
public import Idealize.ShloMosaic.Lib.StableHlo.RunRead
public import proofs.«01_k».proof.Proof.Mat

@[expose] public section

set_option maxRecDepth 16384

noncomputable section

namespace Cert.KernelIdeal.Gen

open Cert.KernelIdeal Idealize.ShloMosaic Idealize.ShloMosaic.TcCoe Idealize.SL.Sem Idealize.ShloMosaic.StableHlo

/-- The host operations before the region, in order. -/
abbrev hostLine : List (HloOp τ sig (Elt Ideal)) := List.flatten [hostOps0, hostOps0_1, hostOps0_2]

/-- What they write, in order. -/
def hostWrites : List (Ref sig .tc) :=
  [main_v0, main_v1, main_c, main_v2, main_v3, main_v4, main_v5, main_v6,
   main_v7, main_v8, main_v9, main_v10, main_v11, main_v12, main_v13, main_c_0,
   main_v14, main_v15, main_v16, main_v17, main_v18, main_v19, main_v20, main_v21,
   main_v22, main_v23, main_v24, main_v25, main_v26, main_v27, main_v28, main_v29,
   main_v30, main_v31, main_v32, main_v33, main_cst, main_v34, main_v35, main_cst_1,
   main_v36, main_v37, main_v38, main_v39, main_cst_2, main_v40, main_v41, main_cst_3,
   main_v42, main_v43, main_cst_4, main_v44, main_v45, main_call0_v0, main_call0_call0_cst, main_call0_call0_v0,
   main_call0_call0_v1, main_call0_call0_v2, main_call0_call0_v3, main_call0_call0_v4, main_call0_call0_v5, main_call0_call0_v6, main_call0_call0_v7, main_call0_call0_v8,
   main_call0_call0_v9, main_call0_call0_v10, main_call0_call0_v11, main_call0_v1, main_v46, main_v47, main_v48, main_v49,
   main_v50, main_cst_5, main_v51, main_v52, main_v53, main_v54, main_cst_6, main_v55,
   main_v56, main_v57, main_v58, main_v59, main_v60, main_v61, main_v62, main_v63,
   main_v64, main_v65, main_v66, main_v67, main_v68, main_v69, main_v70, main_v71,
   main_v72, main_v73, main_v74, main_v75, main_v76, main_v77, main_v78, main_v79,
   main_v80, main_v81, main_v82, main_v83, main_v84, main_v85, main_v86, main_v87,
   main_v88, main_v89, main_v90, main_v91, main_v92, main_v93, main_v94, main_v95,
   main_v96, main_v97, main_v98, main_v99, main_v100, main_v101, main_v102, main_v103,
   main_v104, main_v105, main_v106, main_v107, main_v108, main_v109, main_v110, main_v111,
   main_v112, main_v113, main_v114, main_v115, main_v116, main_v117, main_v118, main_v119,
   main_v120, main_v121, main_v122, main_v123, main_v124, main_v125, main_v126, main_v127,
   main_v128, main_v129, main_v130, main_v131, main_v132, main_v133, main_v134, main_v135,
   main_v136, main_v137, main_v138, main_v139, main_v140, main_v141, main_v142, main_v143,
   main_cst_7, main_v144, main_v145, main_v146, main_v147, main_v148, main_v149, main_v150,
   main_v151, main_v152, main_cst_8, main_v153, main_v154, main_v155, main_v156, main_v157,
   main_v158, main_v159, main_v160, main_v161, main_cst_9, main_v162, main_v163, main_v164,
   main_v165, main_v166, main_v167, main_v168, main_v169, main_v170, main_cst_10, main_v171,
   main_v172, main_v173, main_v174, main_v175, main_v176, main_v177, main_v178, main_v179,
   main_cst_11, main_v180, main_v181, main_v182, main_v183, main_v184, main_v185, main_v186,
   main_v187, main_v188, main_cst_12, main_v189, main_v190, main_v191, main_v192, main_v193,
   main_v194, main_v195, main_v196, main_v197, main_cst_13, main_v198, main_v199, main_v200,
   main_v201, main_v202, main_v203, main_v204, main_v205, main_v206, main_cst_14, main_v207,
   main_v208, main_v209, main_v210, main_v211, main_v212, main_v213, main_v214, main_v215,
   main_cst_15, main_v216, main_v217, main_v218, main_v219, main_v220, main_v221, main_v222,
   main_v223, main_v224, main_cst_16, main_v225, main_v226, main_v227, main_v228, main_v229,
   main_v230, main_v231, main_v232, main_v233, main_cst_17, main_v234, main_v235, main_v236,
   main_v237, main_v238, main_v239, main_v240, main_v241, main_v242, main_cst_18, main_v243,
   main_v244, main_v245, main_v246, main_v247, main_v248, main_v249, main_v250, main_v251,
   main_v252, main_v253, main_v254, main_v255, main_v256, main_v257]

theorem hostLine_writes : hostLine.map HloOp.writes = hostWrites.map fun w => {Proc.devRef (τ := τ) .tc w} := rfl

variable (m : (ℓ : Loc nD τ sig) → Buf (Elt Ideal) ℓ) (c : Dev nD)

/-- A buffer after the line is what its one writer leaves there. -/
theorem line_at {i : ℕ} {op : HloOp τ sig (Elt Ideal)} {r : Ref sig .tc} (h : hostLine[i]? = some op) (hr : r ∉ hostWrites.drop (i + 1)) :
    V m c r = op.result (upto hostLine (fun b => m (c, b)) i) (Proc.devRef .tc r) := by
  obtain ⟨hi, rfl⟩ := List.getElem?_eq_some_iff.1 h
  exact after_last_write (hostWrites.drop (i + 1)) (List.drop_eq_getElem_cons hi)
    (by rw [List.map_drop, hostLine_writes, List.map_drop]) hr _

/-- An operand at that point is what it is after the line. -/
theorem line_upto (i : ℕ) {r : Ref sig .tc} (hr : r ∉ hostWrites.drop i) :
    upto hostLine (fun b => m (c, b)) i (Proc.devRef .tc r) = V m c r := by
  have h := after_append (hostLine.take i) (hostLine.drop i) fun b => m (c, b)
  rw [List.take_append_drop] at h
  exact ((congrFun h _).trans (after_unwritten (hostWrites.drop i) (by rw [List.map_drop, hostLine_writes, List.map_drop]) hr _)).symm

theorem line0 {y : Ref sig .tc} {v : y.ty.Contents (Elt Ideal)} {hy} (i : ℕ) (h : hostLine[i]? = some (nullary (τ := τ) y v hy))
    (hr : y ∉ hostWrites.drop (i + 1)) : V m c y = v :=
  (line_at m c h hr).trans (nullary_result' v hy _)

theorem line1 {x y : Ref sig .tc} {f : x.ty.Contents (Elt Ideal) → y.ty.Contents (Elt Ideal)} {hx hy} (i : ℕ)
    (h : hostLine[i]? = some (unary (τ := τ) x y f hx hy)) (hr : y ∉ hostWrites.drop (i + 1)) (h₁ : x ∉ hostWrites.drop i) :
    V m c y = f (V m c x) :=
  ((line_at m c h hr).trans (unary_result' f hx hy _)).trans (congrArg f (line_upto m c i h₁))

theorem line2 {a b y : Ref sig .tc} {f : a.ty.Contents (Elt Ideal) → b.ty.Contents (Elt Ideal) → y.ty.Contents (Elt Ideal)} {ha hb hy} (i : ℕ)
    (h : hostLine[i]? = some (binary (τ := τ) a b y f ha hb hy)) (hr : y ∉ hostWrites.drop (i + 1)) (h₁ : a ∉ hostWrites.drop i) (h₂ : b ∉ hostWrites.drop i) :
    V m c y = f (V m c a) (V m c b) :=
  ((line_at m c h hr).trans (binary_result' f ha hb hy _)).trans (congrArg₂ f (line_upto m c i h₁) (line_upto m c i h₂))

theorem line3 {a b d y : Ref sig .tc} {f : a.ty.Contents (Elt Ideal) → b.ty.Contents (Elt Ideal) → d.ty.Contents (Elt Ideal) → y.ty.Contents (Elt Ideal)} {ha hb hd hy} (i : ℕ)
    (h : hostLine[i]? = some (ternary (τ := τ) a b d y f ha hb hd hy)) (hr : y ∉ hostWrites.drop (i + 1)) (h₁ : a ∉ hostWrites.drop i) (h₂ : b ∉ hostWrites.drop i)
    (h₃ : d ∉ hostWrites.drop i) : V m c y = f (V m c a) (V m c b) (V m c d) := by
  rw [line_at m c h hr, ternary_result', line_upto m c i h₁, line_upto m c i h₂, line_upto m c i h₃]

theorem lineS {x y : Ref sig .tc} {he : x.ty.elt = y.ty.elt} {hn hx hy} (i : ℕ)
    (h : hostLine[i]? = some (reshape (τ := τ) (Val := Elt Ideal) x y he hn hx hy)) (hr : y ∉ hostWrites.drop (i + 1)) (h₁ : x ∉ hostWrites.drop i) :
    V m c y = fun j => he ▸ shapeCast y.ty.shape (V m c x) hn j := by
  rw [line_at m c h hr, reshape_result', line_upto m c i h₁]

end Cert.KernelIdeal.Gen

end
-- ==== Proof.HostLine.lean ====
/- The host operations before the kernel's region, one equation each. -/
module

public import proofs.«01_k».proof.Proof.HostBase

@[expose] public section

set_option maxRecDepth 16384

noncomputable section

namespace Cert.KernelIdeal.Gen

open Cert.KernelIdeal Idealize.ShloMosaic Idealize.ShloMosaic.TcCoe Idealize.SL.Sem Idealize.ShloMosaic.StableHlo

variable (m : (ℓ : Loc nD τ sig) → Buf (Elt Ideal) ℓ) (c : Dev nD)

theorem h_v0 : V m c main_v0 = iotaInDim S8x8 32 0 :=
  line0 m c 0 rfl (by decide +kernel)

theorem h_v1 : V m c main_v1 = iotaInDim S8x8 32 1 :=
  line0 m c 1 rfl (by decide +kernel)

theorem h_c : V m c main_c = constantI S_ 32 0#32 :=
  line0 m c 2 rfl (by decide +kernel)

theorem h_v2 : V m c main_v2 = broadcastInDim S8x8 ![] bcast_S_S8x8 (V m c main_c) :=
  line1 m c 3 rfl (by decide +kernel) (by decide +kernel)

theorem h_v3 : V m c main_v3 = addi (V m c main_v0) (V m c main_v2) :=
  line2 m c 4 rfl (by decide +kernel) (by decide +kernel) (by decide +kernel)

theorem h_v4 : V m c main_v4 = cmpi .eq (V m c main_v3) (V m c main_v1) :=
  line2 m c 5 rfl (by decide +kernel) (by decide +kernel) (by decide +kernel)

theorem h_v5 : V m c main_v5 = uitofp (F := Ideal) .f32 (V m c main_v4) :=
  line1 m c 6 rfl (by decide +kernel) (by decide +kernel)

theorem h_v6 : V m c main_v6 = broadcastInDim S8x1x8x1 ![0, 2] bcast_S8x8_S8x1x8x1_0_2 (V m c main_v5) :=
  line1 m c 7 rfl (by decide +kernel) (by decide +kernel)

theorem h_v7 : V m c main_v7 = broadcastInDim S8x64x1x64 ![0, 1, 3] bcast_S8x64x64_S8x64x1x64_0_1_3 (V m c main_arg3) :=
  line1 m c 8 rfl (by decide +kernel) (by decide +kernel)

theorem h_v8 : V m c main_v8 = broadcastInDim S8x64x8x64 ![0, 1, 2, 3] bcast_S8x1x8x1_S8x64x8x64_0_1_2_3 (V m c main_v6) :=
  line1 m c 9 rfl (by decide +kernel) (by decide +kernel)

theorem h_v9 : V m c main_v9 = broadcastInDim S8x64x8x64 ![0, 1, 2, 3] bcast_S8x64x1x64_S8x64x8x64_0_1_2_3 (V m c main_v7) :=
  line1 m c 10 rfl (by decide +kernel) (by decide +kernel)

theorem h_v10 : V m c main_v10 = mulf (F := Ideal) (φ := .f32) (V m c main_v8) (V m c main_v9) :=
  line2 m c 11 rfl (by decide +kernel) (by decide +kernel) (by decide +kernel)

theorem h_v11 : V m c main_v11 = shapeCast S512x512 (V m c main_v10) shapeCasts_S8x64x8x64_S512x512 := by
  have h := lineS m c (x := main_v10) (y := main_v11) (he := rfl) (hn := shapeCasts_S8x64x8x64_S512x512) 12 rfl (by decide +kernel) (by decide +kernel)
  exact h

theorem h_v12 : V m c main_v12 = iotaInDim S8x8 32 0 :=
  line0 m c 13 rfl (by decide +kernel)

theorem h_v13 : V m c main_v13 = iotaInDim S8x8 32 1 :=
  line0 m c 14 rfl (by decide +kernel)

theorem h_c_0 : V m c main_c_0 = constantI S_ 32 0#32 :=
  line0 m c 15 rfl (by decide +kernel)

theorem h_v14 : V m c main_v14 = broadcastInDim S8x8 ![] bcast_S_S8x8 (V m c main_c_0) :=
  line1 m c 16 rfl (by decide +kernel) (by decide +kernel)

theorem h_v15 : V m c main_v15 = addi (V m c main_v12) (V m c main_v14) :=
  line2 m c 17 rfl (by decide +kernel) (by decide +kernel) (by decide +kernel)

theorem h_v16 : V m c main_v16 = cmpi .eq (V m c main_v15) (V m c main_v13) :=
  line2 m c 18 rfl (by decide +kernel) (by decide +kernel) (by decide +kernel)

theorem h_v17 : V m c main_v17 = uitofp (F := Ideal) .f32 (V m c main_v16) :=
  line1 m c 19 rfl (by decide +kernel) (by decide +kernel)

theorem h_v18 : V m c main_v18 = broadcastInDim S8x1x8x1 ![0, 2] bcast_S8x8_S8x1x8x1_0_2 (V m c main_v17) :=
  line1 m c 20 rfl (by decide +kernel) (by decide +kernel)

theorem h_v19 : V m c main_v19 = broadcastInDim S8x64x1x64 ![0, 1, 3] bcast_S8x64x64_S8x64x1x64_0_1_3 (V m c main_arg5) :=
  line1 m c 21 rfl (by decide +kernel) (by decide +kernel)

theorem h_v20 : V m c main_v20 = broadcastInDim S8x64x8x64 ![0, 1, 2, 3] bcast_S8x1x8x1_S8x64x8x64_0_1_2_3 (V m c main_v18) :=
  line1 m c 22 rfl (by decide +kernel) (by decide +kernel)

theorem h_v21 : V m c main_v21 = broadcastInDim S8x64x8x64 ![0, 1, 2, 3] bcast_S8x64x1x64_S8x64x8x64_0_1_2_3 (V m c main_v19) :=
  line1 m c 23 rfl (by decide +kernel) (by decide +kernel)

theorem h_v22 : V m c main_v22 = mulf (F := Ideal) (φ := .f32) (V m c main_v20) (V m c main_v21) :=
  line2 m c 24 rfl (by decide +kernel) (by decide +kernel) (by decide +kernel)

theorem h_v23 : V m c main_v23 = shapeCast S512x512 (V m c main_v22) shapeCasts_S8x64x8x64_S512x512 := by
  have h := lineS m c (x := main_v22) (y := main_v23) (he := rfl) (hn := shapeCasts_S8x64x8x64_S512x512) 25 rfl (by decide +kernel) (by decide +kernel)
  exact h

theorem h_v24 : V m c main_v24 = Host.dotGeneral (F := Ideal) (φ₁ := .f32) (φ₂ := .f32) dot_S4096x512_S512x512_S4096x512_1_0_0_1_n_n none (V m c main_arg1) (V m c main_v11) :=
  line2 m c 26 rfl (by decide +kernel) (by decide +kernel) (by decide +kernel)

theorem h_v25 : V m c main_v25 = broadcastInDim S1x512 ![1] bcast_S512_S1x512_1 (V m c main_arg4) :=
  line1 m c 27 rfl (by decide +kernel) (by decide +kernel)

theorem h_v26 : V m c main_v26 = broadcastInDim S4096x512 ![0, 1] bcast_S1x512_S4096x512_0_1 (V m c main_v25) :=
  line1 m c 28 rfl (by decide +kernel) (by decide +kernel)

theorem h_v27 : V m c main_v27 = addf (F := Ideal) (φ := .f32) (V m c main_v24) (V m c main_v26) :=
  line2 m c 29 rfl (by decide +kernel) (by decide +kernel) (by decide +kernel)

theorem h_v28 : V m c main_v28 = Host.dotGeneral (F := Ideal) (φ₁ := .f32) (φ₂ := .f32) dot_S4096x512_S512x512_S4096x512_1_0_0_1_n_n none (V m c main_arg1) (V m c main_v23) :=
  line2 m c 30 rfl (by decide +kernel) (by decide +kernel) (by decide +kernel)

theorem h_v29 : V m c main_v29 = broadcastInDim S1x512 ![1] bcast_S512_S1x512_1 (V m c main_arg6) :=
  line1 m c 31 rfl (by decide +kernel) (by decide +kernel)

theorem h_v30 : V m c main_v30 = broadcastInDim S4096x512 ![0, 1] bcast_S1x512_S4096x512_0_1 (V m c main_v29) :=
  line1 m c 32 rfl (by decide +kernel) (by decide +kernel)

theorem h_v31 : V m c main_v31 = addf (F := Ideal) (φ := .f32) (V m c main_v28) (V m c main_v30) :=
  line2 m c 33 rfl (by decide +kernel) (by decide +kernel) (by decide +kernel)

theorem h_v32 : V m c main_v32 = Host.negf (F := Ideal) (φ := .f32) (V m c main_v27) :=
  line1 m c 34 rfl (by decide +kernel) (by decide +kernel)

theorem h_v33 : V m c main_v33 = Host.exp (F := Ideal) (φ := .f32) (V m c main_v32) :=
  line1 m c 35 rfl (by decide +kernel) (by decide +kernel)

theorem h_cst : V m c main_cst = constant (F := Ideal) S_ .f32 0x3F800000#32 :=
  line0 m c 36 rfl (by decide +kernel)

theorem h_v34 : V m c main_v34 = broadcastInDim S4096x512 ![] bcast_S_S4096x512 (V m c main_cst) :=
  line1 m c 37 rfl (by decide +kernel) (by decide +kernel)

theorem h_v35 : V m c main_v35 = addf (F := Ideal) (φ := .f32) (V m c main_v34) (V m c main_v33) :=
  line2 m c 38 rfl (by decide +kernel) (by decide +kernel) (by decide +kernel)

theorem h_cst_1 : V m c main_cst_1 = constant (F := Ideal) S_ .f32 0x3F800000#32 :=
  line0 m c 39 rfl (by decide +kernel)

theorem h_v36 : V m c main_v36 = broadcastInDim S4096x512 ![] bcast_S_S4096x512 (V m c main_cst_1) :=
  line1 m c 40 rfl (by decide +kernel) (by decide +kernel)

theorem h_v37 : V m c main_v37 = Host.divf (F := Ideal) (φ := .f32) (V m c main_v36) (V m c main_v35) :=
  line2 m c 41 rfl (by decide +kernel) (by decide +kernel) (by decide +kernel)

theorem h_v38 : V m c main_v38 = Host.negf (F := Ideal) (φ := .f32) (V m c main_v31) :=
  line1 m c 42 rfl (by decide +kernel) (by decide +kernel)

theorem h_v39 : V m c main_v39 = Host.exp (F := Ideal) (φ := .f32) (V m c main_v38) :=
  line1 m c 43 rfl (by decide +kernel) (by decide +kernel)

theorem h_cst_2 : V m c main_cst_2 = constant (F := Ideal) S_ .f32 0x3F800000#32 :=
  line0 m c 44 rfl (by decide +kernel)

theorem h_v40 : V m c main_v40 = broadcastInDim S4096x512 ![] bcast_S_S4096x512 (V m c main_cst_2) :=
  line1 m c 45 rfl (by decide +kernel) (by decide +kernel)

theorem h_v41 : V m c main_v41 = addf (F := Ideal) (φ := .f32) (V m c main_v40) (V m c main_v39) :=
  line2 m c 46 rfl (by decide +kernel) (by decide +kernel) (by decide +kernel)

theorem h_cst_3 : V m c main_cst_3 = constant (F := Ideal) S_ .f32 0x3F800000#32 :=
  line0 m c 47 rfl (by decide +kernel)

theorem h_v42 : V m c main_v42 = broadcastInDim S4096x512 ![] bcast_S_S4096x512 (V m c main_cst_3) :=
  line1 m c 48 rfl (by decide +kernel) (by decide +kernel)

theorem h_v43 : V m c main_v43 = Host.divf (F := Ideal) (φ := .f32) (V m c main_v42) (V m c main_v41) :=
  line2 m c 49 rfl (by decide +kernel) (by decide +kernel) (by decide +kernel)

theorem h_cst_4 : V m c main_cst_4 = constant (F := Ideal) S_ .f32 0x41000000#32 :=
  line0 m c 50 rfl (by decide +kernel)

theorem h_v44 : V m c main_v44 = broadcastInDim S4096x512 ![] bcast_S_S4096x512 (V m c main_cst_4) :=
  line1 m c 51 rfl (by decide +kernel) (by decide +kernel)

theorem h_v45 : V m c main_v45 = mulf (F := Ideal) (φ := .f32) (V m c main_v44) (V m c main_v37) :=
  line2 m c 52 rfl (by decide +kernel) (by decide +kernel) (by decide +kernel)

theorem h_call0_v0 : V m c main_call0_v0 = Host.negf (F := Ideal) (φ := .f32) (V m c main_arg7) :=
  line1 m c 53 rfl (by decide +kernel) (by decide +kernel)

theorem h_call0_call0_cst : V m c main_call0_call0_cst = (constant (F := Ideal) S_ .f32 0x00000000#32) :=
  line0 m c 54 rfl (by decide +kernel)

theorem h_call0_call0_v0 : V m c main_call0_call0_v0 = broadcastInDim S512 ![] bcast_S_S512 (V m c main_call0_call0_cst) :=
  line1 m c 55 rfl (by decide +kernel) (by decide +kernel)

theorem h_call0_call0_v1 : V m c main_call0_call0_v1 = maximumf (F := Ideal) (φ := .f32) (V m c main_call0_v0) (V m c main_call0_call0_v0) :=
  line2 m c 56 rfl (by decide +kernel) (by decide +kernel) (by decide +kernel)

theorem h_call0_call0_v2 : V m c main_call0_call0_v2 = broadcastInDim S512 ![] bcast_S_S512 (V m c main_call0_call0_cst) :=
  line1 m c 57 rfl (by decide +kernel) (by decide +kernel)

theorem h_call0_call0_v3 : V m c main_call0_call0_v3 = subf (F := Ideal) (φ := .f32) (V m c main_call0_v0) (V m c main_call0_call0_v2) :=
  line2 m c 58 rfl (by decide +kernel) (by decide +kernel) (by decide +kernel)

theorem h_call0_call0_v4 : V m c main_call0_call0_v4 = cmpf (F := Ideal) (φ := .f32) .une (V m c main_call0_call0_v3) (V m c main_call0_call0_v3) :=
  line2 m c 59 rfl (by decide +kernel) (by decide +kernel) (by decide +kernel)

theorem h_call0_call0_v5 : V m c main_call0_call0_v5 = broadcastInDim S512 ![] bcast_S_S512 (V m c main_call0_call0_cst) :=
  line1 m c 60 rfl (by decide +kernel) (by decide +kernel)

theorem h_call0_call0_v6 : V m c main_call0_call0_v6 = addf (F := Ideal) (φ := .f32) (V m c main_call0_v0) (V m c main_call0_call0_v5) :=
  line2 m c 61 rfl (by decide +kernel) (by decide +kernel) (by decide +kernel)

theorem h_call0_call0_v7 : V m c main_call0_call0_v7 = Host.absf (F := Ideal) (φ := .f32) (V m c main_call0_call0_v3) :=
  line1 m c 62 rfl (by decide +kernel) (by decide +kernel)

theorem h_call0_call0_v8 : V m c main_call0_call0_v8 = Host.negf (F := Ideal) (φ := .f32) (V m c main_call0_call0_v7) :=
  line1 m c 63 rfl (by decide +kernel) (by decide +kernel)

theorem h_call0_call0_v9 : V m c main_call0_call0_v9 = Host.exp (F := Ideal) (φ := .f32) (V m c main_call0_call0_v8) :=
  line1 m c 64 rfl (by decide +kernel) (by decide +kernel)

theorem h_call0_call0_v10 : V m c main_call0_call0_v10 = Host.log1p (F := Ideal) (φ := .f32) (V m c main_call0_call0_v9) :=
  line1 m c 65 rfl (by decide +kernel) (by decide +kernel)

theorem h_call0_call0_v11 : V m c main_call0_call0_v11 = addf (F := Ideal) (φ := .f32) (V m c main_call0_call0_v1) (V m c main_call0_call0_v10) :=
  line2 m c 66 rfl (by decide +kernel) (by decide +kernel) (by decide +kernel)

theorem h_call0_v1 : V m c main_call0_v1 = select (V m c main_call0_call0_v4) (V m c main_call0_call0_v6) (V m c main_call0_call0_v11) :=
  line3 m c 67 rfl (by decide +kernel) (by decide +kernel) (by decide +kernel) (by decide +kernel)

theorem h_v46 : V m c main_v46 = Host.negf (F := Ideal) (φ := .f32) (V m c main_call0_v1) :=
  line1 m c 68 rfl (by decide +kernel) (by decide +kernel)

theorem h_v47 : V m c main_v47 = broadcastInDim S1x512 ![1] bcast_S512_S1x512_1 (V m c main_v46) :=
  line1 m c 69 rfl (by decide +kernel) (by decide +kernel)

theorem h_v48 : V m c main_v48 = broadcastInDim S4096x512 ![0, 1] bcast_S1x512_S4096x512_0_1 (V m c main_v47) :=
  line1 m c 70 rfl (by decide +kernel) (by decide +kernel)

theorem h_v49 : V m c main_v49 = mulf (F := Ideal) (φ := .f32) (V m c main_v45) (V m c main_v48) :=
  line2 m c 71 rfl (by decide +kernel) (by decide +kernel) (by decide +kernel)

theorem h_v50 : V m c main_v50 = Host.exp (F := Ideal) (φ := .f32) (V m c main_v49) :=
  line1 m c 72 rfl (by decide +kernel) (by decide +kernel)

theorem h_cst_5 : V m c main_cst_5 = constant (F := Ideal) S_ .f32 0x40000000#32 :=
  line0 m c 73 rfl (by decide +kernel)

theorem h_v51 : V m c main_v51 = broadcastInDim S4096x512 ![] bcast_S_S4096x512 (V m c main_cst_5) :=
  line1 m c 74 rfl (by decide +kernel) (by decide +kernel)

theorem h_v52 : V m c main_v52 = mulf (F := Ideal) (φ := .f32) (V m c main_v51) (V m c main_v49) :=
  line2 m c 75 rfl (by decide +kernel) (by decide +kernel) (by decide +kernel)

theorem h_v53 : V m c main_v53 = Host.expm1 (F := Ideal) (φ := .f32) (V m c main_v52) :=
  line1 m c 76 rfl (by decide +kernel) (by decide +kernel)

theorem h_v54 : V m c main_v54 = Host.negf (F := Ideal) (φ := .f32) (V m c main_v53) :=
  line1 m c 77 rfl (by decide +kernel) (by decide +kernel)

theorem h_cst_6 : V m c main_cst_6 = constant (F := Ideal) S_ .f32 0x2B8CBCCC#32 :=
  line0 m c 78 rfl (by decide +kernel)

theorem h_v55 : V m c main_v55 = broadcastInDim S4096x512 ![] bcast_S_S4096x512 (V m c main_cst_6) :=
  line1 m c 79 rfl (by decide +kernel) (by decide +kernel)

theorem h_v56 : V m c main_v56 = maximumf (F := Ideal) (φ := .f32) (V m c main_v54) (V m c main_v55) :=
  line2 m c 80 rfl (by decide +kernel) (by decide +kernel) (by decide +kernel)

theorem h_v57 : V m c main_v57 = Host.sqrt (F := Ideal) (φ := .f32) (V m c main_v56) :=
  line1 m c 81 rfl (by decide +kernel) (by decide +kernel)

theorem h_v58 : V m c main_v58 = mulf (F := Ideal) (φ := .f32) (V m c main_v43) (V m c main_arg1) :=
  line2 m c 82 rfl (by decide +kernel) (by decide +kernel) (by decide +kernel)

theorem h_v59 : V m c main_v59 = mulf (F := Ideal) (φ := .f32) (V m c main_v57) (V m c main_v58) :=
  line2 m c 83 rfl (by decide +kernel) (by decide +kernel) (by decide +kernel)

theorem h_v60 : V m c main_v60 = Host.slice S2048x512 ![0, 0] ![2, 1] (V m c main_v50) slicesBy_S4096x512_S2048x512_0s2_0s1 :=
  line1 m c 84 rfl (by decide +kernel) (by decide +kernel)

theorem h_v61 : V m c main_v61 = Host.slice S2048x512 ![1, 0] ![2, 1] (V m c main_v50) slicesBy_S4096x512_S2048x512_1s2_0s1 :=
  line1 m c 85 rfl (by decide +kernel) (by decide +kernel)

theorem h_v62 : V m c main_v62 = Host.slice S2048x512 ![0, 0] ![2, 1] (V m c main_v59) slicesBy_S4096x512_S2048x512_0s2_0s1 :=
  line1 m c 86 rfl (by decide +kernel) (by decide +kernel)

theorem h_v63 : V m c main_v63 = Host.slice S2048x512 ![1, 0] ![2, 1] (V m c main_v59) slicesBy_S4096x512_S2048x512_1s2_0s1 :=
  line1 m c 87 rfl (by decide +kernel) (by decide +kernel)

theorem h_v64 : V m c main_v64 = mulf (F := Ideal) (φ := .f32) (V m c main_v61) (V m c main_v60) :=
  line2 m c 88 rfl (by decide +kernel) (by decide +kernel) (by decide +kernel)

theorem h_v65 : V m c main_v65 = mulf (F := Ideal) (φ := .f32) (V m c main_v61) (V m c main_v62) :=
  line2 m c 89 rfl (by decide +kernel) (by decide +kernel) (by decide +kernel)

theorem h_v66 : V m c main_v66 = addf (F := Ideal) (φ := .f32) (V m c main_v65) (V m c main_v63) :=
  line2 m c 90 rfl (by decide +kernel) (by decide +kernel) (by decide +kernel)

theorem h_v67 : V m c main_v67 = Host.slice S1024x512 ![0, 0] ![2, 1] (V m c main_v64) slicesBy_S2048x512_S1024x512_0s2_0s1 :=
  line1 m c 91 rfl (by decide +kernel) (by decide +kernel)

theorem h_v68 : V m c main_v68 = Host.slice S1024x512 ![1, 0] ![2, 1] (V m c main_v64) slicesBy_S2048x512_S1024x512_1s2_0s1 :=
  line1 m c 92 rfl (by decide +kernel) (by decide +kernel)

theorem h_v69 : V m c main_v69 = Host.slice S1024x512 ![0, 0] ![2, 1] (V m c main_v66) slicesBy_S2048x512_S1024x512_0s2_0s1 :=
  line1 m c 93 rfl (by decide +kernel) (by decide +kernel)

theorem h_v70 : V m c main_v70 = Host.slice S1024x512 ![1, 0] ![2, 1] (V m c main_v66) slicesBy_S2048x512_S1024x512_1s2_0s1 :=
  line1 m c 94 rfl (by decide +kernel) (by decide +kernel)

theorem h_v71 : V m c main_v71 = mulf (F := Ideal) (φ := .f32) (V m c main_v68) (V m c main_v67) :=
  line2 m c 95 rfl (by decide +kernel) (by decide +kernel) (by decide +kernel)

theorem h_v72 : V m c main_v72 = mulf (F := Ideal) (φ := .f32) (V m c main_v68) (V m c main_v69) :=
  line2 m c 96 rfl (by decide +kernel) (by decide +kernel) (by decide +kernel)

theorem h_v73 : V m c main_v73 = addf (F := Ideal) (φ := .f32) (V m c main_v72) (V m c main_v70) :=
  line2 m c 97 rfl (by decide +kernel) (by decide +kernel) (by decide +kernel)

theorem h_v74 : V m c main_v74 = Host.slice S512x512 ![0, 0] ![2, 1] (V m c main_v71) slicesBy_S1024x512_S512x512_0s2_0s1 :=
  line1 m c 98 rfl (by decide +kernel) (by decide +kernel)

theorem h_v75 : V m c main_v75 = Host.slice S512x512 ![1, 0] ![2, 1] (V m c main_v71) slicesBy_S1024x512_S512x512_1s2_0s1 :=
  line1 m c 99 rfl (by decide +kernel) (by decide +kernel)

theorem h_v76 : V m c main_v76 = Host.slice S512x512 ![0, 0] ![2, 1] (V m c main_v73) slicesBy_S1024x512_S512x512_0s2_0s1 :=
  line1 m c 100 rfl (by decide +kernel) (by decide +kernel)

theorem h_v77 : V m c main_v77 = Host.slice S512x512 ![1, 0] ![2, 1] (V m c main_v73) slicesBy_S1024x512_S512x512_1s2_0s1 :=
  line1 m c 101 rfl (by decide +kernel) (by decide +kernel)

theorem h_v78 : V m c main_v78 = mulf (F := Ideal) (φ := .f32) (V m c main_v75) (V m c main_v74) :=
  line2 m c 102 rfl (by decide +kernel) (by decide +kernel) (by decide +kernel)

theorem h_v79 : V m c main_v79 = mulf (F := Ideal) (φ := .f32) (V m c main_v75) (V m c main_v76) :=
  line2 m c 103 rfl (by decide +kernel) (by decide +kernel) (by decide +kernel)

theorem h_v80 : V m c main_v80 = addf (F := Ideal) (φ := .f32) (V m c main_v79) (V m c main_v77) :=
  line2 m c 104 rfl (by decide +kernel) (by decide +kernel) (by decide +kernel)

theorem h_v81 : V m c main_v81 = Host.slice S256x512 ![0, 0] ![2, 1] (V m c main_v78) slicesBy_S512x512_S256x512_0s2_0s1 :=
  line1 m c 105 rfl (by decide +kernel) (by decide +kernel)

theorem h_v82 : V m c main_v82 = Host.slice S256x512 ![1, 0] ![2, 1] (V m c main_v78) slicesBy_S512x512_S256x512_1s2_0s1 :=
  line1 m c 106 rfl (by decide +kernel) (by decide +kernel)

theorem h_v83 : V m c main_v83 = Host.slice S256x512 ![0, 0] ![2, 1] (V m c main_v80) slicesBy_S512x512_S256x512_0s2_0s1 :=
  line1 m c 107 rfl (by decide +kernel) (by decide +kernel)

theorem h_v84 : V m c main_v84 = Host.slice S256x512 ![1, 0] ![2, 1] (V m c main_v80) slicesBy_S512x512_S256x512_1s2_0s1 :=
  line1 m c 108 rfl (by decide +kernel) (by decide +kernel)

theorem h_v85 : V m c main_v85 = mulf (F := Ideal) (φ := .f32) (V m c main_v82) (V m c main_v81) :=
  line2 m c 109 rfl (by decide +kernel) (by decide +kernel) (by decide +kernel)

theorem h_v86 : V m c main_v86 = mulf (F := Ideal) (φ := .f32) (V m c main_v82) (V m c main_v83) :=
  line2 m c 110 rfl (by decide +kernel) (by decide +kernel) (by decide +kernel)

theorem h_v87 : V m c main_v87 = addf (F := Ideal) (φ := .f32) (V m c main_v86) (V m c main_v84) :=
  line2 m c 111 rfl (by decide +kernel) (by decide +kernel) (by decide +kernel)

theorem h_v88 : V m c main_v88 = Host.slice S128x512 ![0, 0] ![2, 1] (V m c main_v85) slicesBy_S256x512_S128x512_0s2_0s1 :=
  line1 m c 112 rfl (by decide +kernel) (by decide +kernel)

theorem h_v89 : V m c main_v89 = Host.slice S128x512 ![1, 0] ![2, 1] (V m c main_v85) slicesBy_S256x512_S128x512_1s2_0s1 :=
  line1 m c 113 rfl (by decide +kernel) (by decide +kernel)

theorem h_v90 : V m c main_v90 = Host.slice S128x512 ![0, 0] ![2, 1] (V m c main_v87) slicesBy_S256x512_S128x512_0s2_0s1 :=
  line1 m c 114 rfl (by decide +kernel) (by decide +kernel)

theorem h_v91 : V m c main_v91 = Host.slice S128x512 ![1, 0] ![2, 1] (V m c main_v87) slicesBy_S256x512_S128x512_1s2_0s1 :=
  line1 m c 115 rfl (by decide +kernel) (by decide +kernel)

theorem h_v92 : V m c main_v92 = mulf (F := Ideal) (φ := .f32) (V m c main_v89) (V m c main_v88) :=
  line2 m c 116 rfl (by decide +kernel) (by decide +kernel) (by decide +kernel)

theorem h_v93 : V m c main_v93 = mulf (F := Ideal) (φ := .f32) (V m c main_v89) (V m c main_v90) :=
  line2 m c 117 rfl (by decide +kernel) (by decide +kernel) (by decide +kernel)

theorem h_v94 : V m c main_v94 = addf (F := Ideal) (φ := .f32) (V m c main_v93) (V m c main_v91) :=
  line2 m c 118 rfl (by decide +kernel) (by decide +kernel) (by decide +kernel)

theorem h_v95 : V m c main_v95 = Host.slice S64x512 ![0, 0] ![2, 1] (V m c main_v92) slicesBy_S128x512_S64x512_0s2_0s1 :=
  line1 m c 119 rfl (by decide +kernel) (by decide +kernel)

theorem h_v96 : V m c main_v96 = Host.slice S64x512 ![1, 0] ![2, 1] (V m c main_v92) slicesBy_S128x512_S64x512_1s2_0s1 :=
  line1 m c 120 rfl (by decide +kernel) (by decide +kernel)

theorem h_v97 : V m c main_v97 = Host.slice S64x512 ![0, 0] ![2, 1] (V m c main_v94) slicesBy_S128x512_S64x512_0s2_0s1 :=
  line1 m c 121 rfl (by decide +kernel) (by decide +kernel)

theorem h_v98 : V m c main_v98 = Host.slice S64x512 ![1, 0] ![2, 1] (V m c main_v94) slicesBy_S128x512_S64x512_1s2_0s1 :=
  line1 m c 122 rfl (by decide +kernel) (by decide +kernel)

theorem h_v99 : V m c main_v99 = mulf (F := Ideal) (φ := .f32) (V m c main_v96) (V m c main_v95) :=
  line2 m c 123 rfl (by decide +kernel) (by decide +kernel) (by decide +kernel)

theorem h_v100 : V m c main_v100 = mulf (F := Ideal) (φ := .f32) (V m c main_v96) (V m c main_v97) :=
  line2 m c 124 rfl (by decide +kernel) (by decide +kernel) (by decide +kernel)

theorem h_v101 : V m c main_v101 = addf (F := Ideal) (φ := .f32) (V m c main_v100) (V m c main_v98) :=
  line2 m c 125 rfl (by decide +kernel) (by decide +kernel) (by decide +kernel)

theorem h_v102 : V m c main_v102 = Host.slice S32x512 ![0, 0] ![2, 1] (V m c main_v99) slicesBy_S64x512_S32x512_0s2_0s1 :=
  line1 m c 126 rfl (by decide +kernel) (by decide +kernel)

theorem h_v103 : V m c main_v103 = Host.slice S32x512 ![1, 0] ![2, 1] (V m c main_v99) slicesBy_S64x512_S32x512_1s2_0s1 :=
  line1 m c 127 rfl (by decide +kernel) (by decide +kernel)

theorem h_v104 : V m c main_v104 = Host.slice S32x512 ![0, 0] ![2, 1] (V m c main_v101) slicesBy_S64x512_S32x512_0s2_0s1 :=
  line1 m c 128 rfl (by decide +kernel) (by decide +kernel)

theorem h_v105 : V m c main_v105 = Host.slice S32x512 ![1, 0] ![2, 1] (V m c main_v101) slicesBy_S64x512_S32x512_1s2_0s1 :=
  line1 m c 129 rfl (by decide +kernel) (by decide +kernel)

theorem h_v106 : V m c main_v106 = mulf (F := Ideal) (φ := .f32) (V m c main_v103) (V m c main_v102) :=
  line2 m c 130 rfl (by decide +kernel) (by decide +kernel) (by decide +kernel)

theorem h_v107 : V m c main_v107 = mulf (F := Ideal) (φ := .f32) (V m c main_v103) (V m c main_v104) :=
  line2 m c 131 rfl (by decide +kernel) (by decide +kernel) (by decide +kernel)

theorem h_v108 : V m c main_v108 = addf (F := Ideal) (φ := .f32) (V m c main_v107) (V m c main_v105) :=
  line2 m c 132 rfl (by decide +kernel) (by decide +kernel) (by decide +kernel)

theorem h_v109 : V m c main_v109 = Host.slice S16x512 ![0, 0] ![2, 1] (V m c main_v106) slicesBy_S32x512_S16x512_0s2_0s1 :=
  line1 m c 133 rfl (by decide +kernel) (by decide +kernel)

theorem h_v110 : V m c main_v110 = Host.slice S16x512 ![1, 0] ![2, 1] (V m c main_v106) slicesBy_S32x512_S16x512_1s2_0s1 :=
  line1 m c 134 rfl (by decide +kernel) (by decide +kernel)

theorem h_v111 : V m c main_v111 = Host.slice S16x512 ![0, 0] ![2, 1] (V m c main_v108) slicesBy_S32x512_S16x512_0s2_0s1 :=
  line1 m c 135 rfl (by decide +kernel) (by decide +kernel)

theorem h_v112 : V m c main_v112 = Host.slice S16x512 ![1, 0] ![2, 1] (V m c main_v108) slicesBy_S32x512_S16x512_1s2_0s1 :=
  line1 m c 136 rfl (by decide +kernel) (by decide +kernel)

theorem h_v113 : V m c main_v113 = mulf (F := Ideal) (φ := .f32) (V m c main_v110) (V m c main_v109) :=
  line2 m c 137 rfl (by decide +kernel) (by decide +kernel) (by decide +kernel)

theorem h_v114 : V m c main_v114 = mulf (F := Ideal) (φ := .f32) (V m c main_v110) (V m c main_v111) :=
  line2 m c 138 rfl (by decide +kernel) (by decide +kernel) (by decide +kernel)

theorem h_v115 : V m c main_v115 = addf (F := Ideal) (φ := .f32) (V m c main_v114) (V m c main_v112) :=
  line2 m c 139 rfl (by decide +kernel) (by decide +kernel) (by decide +kernel)

theorem h_v116 : V m c main_v116 = Host.slice S8x512 ![0, 0] ![2, 1] (V m c main_v113) slicesBy_S16x512_S8x512_0s2_0s1 :=
  line1 m c 140 rfl (by decide +kernel) (by decide +kernel)

theorem h_v117 : V m c main_v117 = Host.slice S8x512 ![1, 0] ![2, 1] (V m c main_v113) slicesBy_S16x512_S8x512_1s2_0s1 :=
  line1 m c 141 rfl (by decide +kernel) (by decide +kernel)

theorem h_v118 : V m c main_v118 = Host.slice S8x512 ![0, 0] ![2, 1] (V m c main_v115) slicesBy_S16x512_S8x512_0s2_0s1 :=
  line1 m c 142 rfl (by decide +kernel) (by decide +kernel)

theorem h_v119 : V m c main_v119 = Host.slice S8x512 ![1, 0] ![2, 1] (V m c main_v115) slicesBy_S16x512_S8x512_1s2_0s1 :=
  line1 m c 143 rfl (by decide +kernel) (by decide +kernel)

theorem h_v120 : V m c main_v120 = mulf (F := Ideal) (φ := .f32) (V m c main_v117) (V m c main_v116) :=
  line2 m c 144 rfl (by decide +kernel) (by decide +kernel) (by decide +kernel)

theorem h_v121 : V m c main_v121 = mulf (F := Ideal) (φ := .f32) (V m c main_v117) (V m c main_v118) :=
  line2 m c 145 rfl (by decide +kernel) (by decide +kernel) (by decide +kernel)

theorem h_v122 : V m c main_v122 = addf (F := Ideal) (φ := .f32) (V m c main_v121) (V m c main_v119) :=
  line2 m c 146 rfl (by decide +kernel) (by decide +kernel) (by decide +kernel)

theorem h_v123 : V m c main_v123 = Host.slice S4x512 ![0, 0] ![2, 1] (V m c main_v120) slicesBy_S8x512_S4x512_0s2_0s1 :=
  line1 m c 147 rfl (by decide +kernel) (by decide +kernel)

theorem h_v124 : V m c main_v124 = Host.slice S4x512 ![1, 0] ![2, 1] (V m c main_v120) slicesBy_S8x512_S4x512_1s2_0s1 :=
  line1 m c 148 rfl (by decide +kernel) (by decide +kernel)

theorem h_v125 : V m c main_v125 = Host.slice S4x512 ![0, 0] ![2, 1] (V m c main_v122) slicesBy_S8x512_S4x512_0s2_0s1 :=
  line1 m c 149 rfl (by decide +kernel) (by decide +kernel)

theorem h_v126 : V m c main_v126 = Host.slice S4x512 ![1, 0] ![2, 1] (V m c main_v122) slicesBy_S8x512_S4x512_1s2_0s1 :=
  line1 m c 150 rfl (by decide +kernel) (by decide +kernel)

theorem h_v127 : V m c main_v127 = mulf (F := Ideal) (φ := .f32) (V m c main_v124) (V m c main_v123) :=
  line2 m c 151 rfl (by decide +kernel) (by decide +kernel) (by decide +kernel)

theorem h_v128 : V m c main_v128 = mulf (F := Ideal) (φ := .f32) (V m c main_v124) (V m c main_v125) :=
  line2 m c 152 rfl (by decide +kernel) (by decide +kernel) (by decide +kernel)

theorem h_v129 : V m c main_v129 = addf (F := Ideal) (φ := .f32) (V m c main_v128) (V m c main_v126) :=
  line2 m c 153 rfl (by decide +kernel) (by decide +kernel) (by decide +kernel)

theorem h_v130 : V m c main_v130 = Host.slice S2x512 ![0, 0] ![2, 1] (V m c main_v127) slicesBy_S4x512_S2x512_0s2_0s1 :=
  line1 m c 154 rfl (by decide +kernel) (by decide +kernel)

theorem h_v131 : V m c main_v131 = Host.slice S2x512 ![1, 0] ![2, 1] (V m c main_v127) slicesBy_S4x512_S2x512_1s2_0s1 :=
  line1 m c 155 rfl (by decide +kernel) (by decide +kernel)

theorem h_v132 : V m c main_v132 = Host.slice S2x512 ![0, 0] ![2, 1] (V m c main_v129) slicesBy_S4x512_S2x512_0s2_0s1 :=
  line1 m c 156 rfl (by decide +kernel) (by decide +kernel)

theorem h_v133 : V m c main_v133 = Host.slice S2x512 ![1, 0] ![2, 1] (V m c main_v129) slicesBy_S4x512_S2x512_1s2_0s1 :=
  line1 m c 157 rfl (by decide +kernel) (by decide +kernel)

theorem h_v134 : V m c main_v134 = mulf (F := Ideal) (φ := .f32) (V m c main_v131) (V m c main_v130) :=
  line2 m c 158 rfl (by decide +kernel) (by decide +kernel) (by decide +kernel)

theorem h_v135 : V m c main_v135 = mulf (F := Ideal) (φ := .f32) (V m c main_v131) (V m c main_v132) :=
  line2 m c 159 rfl (by decide +kernel) (by decide +kernel) (by decide +kernel)

theorem h_v136 : V m c main_v136 = addf (F := Ideal) (φ := .f32) (V m c main_v135) (V m c main_v133) :=
  line2 m c 160 rfl (by decide +kernel) (by decide +kernel) (by decide +kernel)

theorem h_v137 : V m c main_v137 = Host.slice S1x512 ![0, 0] ![2, 1] (V m c main_v134) slicesBy_S2x512_S1x512_0s2_0s1 :=
  line1 m c 161 rfl (by decide +kernel) (by decide +kernel)

theorem h_v138 : V m c main_v138 = Host.slice S1x512 ![1, 0] ![2, 1] (V m c main_v134) slicesBy_S2x512_S1x512_1s2_0s1 :=
  line1 m c 162 rfl (by decide +kernel) (by decide +kernel)

theorem h_v139 : V m c main_v139 = Host.slice S1x512 ![0, 0] ![2, 1] (V m c main_v136) slicesBy_S2x512_S1x512_0s2_0s1 :=
  line1 m c 163 rfl (by decide +kernel) (by decide +kernel)

theorem h_v140 : V m c main_v140 = Host.slice S1x512 ![1, 0] ![2, 1] (V m c main_v136) slicesBy_S2x512_S1x512_1s2_0s1 :=
  line1 m c 164 rfl (by decide +kernel) (by decide +kernel)

theorem h_v141 : V m c main_v141 = mulf (F := Ideal) (φ := .f32) (V m c main_v138) (V m c main_v137) :=
  line2 m c 165 rfl (by decide +kernel) (by decide +kernel) (by decide +kernel)

theorem h_v142 : V m c main_v142 = mulf (F := Ideal) (φ := .f32) (V m c main_v138) (V m c main_v139) :=
  line2 m c 166 rfl (by decide +kernel) (by decide +kernel) (by decide +kernel)

theorem h_v143 : V m c main_v143 = addf (F := Ideal) (φ := .f32) (V m c main_v142) (V m c main_v140) :=
  line2 m c 167 rfl (by decide +kernel) (by decide +kernel) (by decide +kernel)

theorem h_cst_7 : V m c main_cst_7 = constant (F := Ideal) S_ .f32 0x00000000#32 :=
  line0 m c 168 rfl (by decide +kernel)

theorem h_v144 : V m c main_v144 = broadcastInDim S1x512 ![] bcast_S_S1x512 (V m c main_cst_7) :=
  line1 m c 169 rfl (by decide +kernel) (by decide +kernel)

theorem h_v145 : V m c main_v145 = extractStridedSlice S0x512 ![0, 0] (V m c main_v143) slices_S1x512_S0x512_0_0 :=
  line1 m c 170 rfl (by decide +kernel) (by decide +kernel)

theorem h_v146 : V m c main_v146 = concatenate S1x512 0 [⟨S1x512, V m c main_v144⟩, ⟨S0x512, V m c main_v145⟩] concatenates_S1x512_S0x512_S1x512_d0 :=
  line2 m c 171 rfl (by decide +kernel) (by decide +kernel) (by decide +kernel)

theorem h_v147 : V m c main_v147 = mulf (F := Ideal) (φ := .f32) (V m c main_v137) (V m c main_v146) :=
  line2 m c 172 rfl (by decide +kernel) (by decide +kernel) (by decide +kernel)

theorem h_v148 : V m c main_v148 = addf (F := Ideal) (φ := .f32) (V m c main_v147) (V m c main_v139) :=
  line2 m c 173 rfl (by decide +kernel) (by decide +kernel) (by decide +kernel)

theorem h_v149 : V m c main_v149 = broadcastInDim S1x1x512 ![0, 2] bcast_S1x512_S1x1x512_0_2 (V m c main_v148) :=
  line1 m c 174 rfl (by decide +kernel) (by decide +kernel)

theorem h_v150 : V m c main_v150 = broadcastInDim S1x1x512 ![0, 2] bcast_S1x512_S1x1x512_0_2 (V m c main_v143) :=
  line1 m c 175 rfl (by decide +kernel) (by decide +kernel)

theorem h_v151 : V m c main_v151 = concatenate S1x2x512 1 [⟨S1x1x512, V m c main_v149⟩, ⟨S1x1x512, V m c main_v150⟩] concatenates_S1x1x512_S1x1x512_S1x2x512_d1 :=
  line2 m c 176 rfl (by decide +kernel) (by decide +kernel) (by decide +kernel)

theorem h_v152 : V m c main_v152 = shapeCast S2x512 (V m c main_v151) shapeCasts_S1x2x512_S2x512 := by
  have h := lineS m c (x := main_v151) (y := main_v152) (he := rfl) (hn := shapeCasts_S1x2x512_S2x512) 177 rfl (by decide +kernel) (by decide +kernel)
  exact h

theorem h_cst_8 : V m c main_cst_8 = constant (F := Ideal) S_ .f32 0x00000000#32 :=
  line0 m c 178 rfl (by decide +kernel)

theorem h_v153 : V m c main_v153 = broadcastInDim S1x512 ![] bcast_S_S1x512 (V m c main_cst_8) :=
  line1 m c 179 rfl (by decide +kernel) (by decide +kernel)

theorem h_v154 : V m c main_v154 = extractStridedSlice S1x512 ![0, 0] (V m c main_v152) slices_S2x512_S1x512_0_0 :=
  line1 m c 180 rfl (by decide +kernel) (by decide +kernel)

theorem h_v155 : V m c main_v155 = concatenate S2x512 0 [⟨S1x512, V m c main_v153⟩, ⟨S1x512, V m c main_v154⟩] concatenates_S1x512_S1x512_S2x512_d0 :=
  line2 m c 181 rfl (by decide +kernel) (by decide +kernel) (by decide +kernel)

theorem h_v156 : V m c main_v156 = mulf (F := Ideal) (φ := .f32) (V m c main_v130) (V m c main_v155) :=
  line2 m c 182 rfl (by decide +kernel) (by decide +kernel) (by decide +kernel)

theorem h_v157 : V m c main_v157 = addf (F := Ideal) (φ := .f32) (V m c main_v156) (V m c main_v132) :=
  line2 m c 183 rfl (by decide +kernel) (by decide +kernel) (by decide +kernel)

theorem h_v158 : V m c main_v158 = broadcastInDim S2x1x512 ![0, 2] bcast_S2x512_S2x1x512_0_2 (V m c main_v157) :=
  line1 m c 184 rfl (by decide +kernel) (by decide +kernel)

theorem h_v159 : V m c main_v159 = broadcastInDim S2x1x512 ![0, 2] bcast_S2x512_S2x1x512_0_2 (V m c main_v152) :=
  line1 m c 185 rfl (by decide +kernel) (by decide +kernel)

theorem h_v160 : V m c main_v160 = concatenate S2x2x512 1 [⟨S2x1x512, V m c main_v158⟩, ⟨S2x1x512, V m c main_v159⟩] concatenates_S2x1x512_S2x1x512_S2x2x512_d1 :=
  line2 m c 186 rfl (by decide +kernel) (by decide +kernel) (by decide +kernel)

theorem h_v161 : V m c main_v161 = shapeCast S4x512 (V m c main_v160) shapeCasts_S2x2x512_S4x512 := by
  have h := lineS m c (x := main_v160) (y := main_v161) (he := rfl) (hn := shapeCasts_S2x2x512_S4x512) 187 rfl (by decide +kernel) (by decide +kernel)
  exact h

theorem h_cst_9 : V m c main_cst_9 = constant (F := Ideal) S_ .f32 0x00000000#32 :=
  line0 m c 188 rfl (by decide +kernel)

theorem h_v162 : V m c main_v162 = broadcastInDim S1x512 ![] bcast_S_S1x512 (V m c main_cst_9) :=
  line1 m c 189 rfl (by decide +kernel) (by decide +kernel)

theorem h_v163 : V m c main_v163 = extractStridedSlice S3x512 ![0, 0] (V m c main_v161) slices_S4x512_S3x512_0_0 :=
  line1 m c 190 rfl (by decide +kernel) (by decide +kernel)

theorem h_v164 : V m c main_v164 = concatenate S4x512 0 [⟨S1x512, V m c main_v162⟩, ⟨S3x512, V m c main_v163⟩] concatenates_S1x512_S3x512_S4x512_d0 :=
  line2 m c 191 rfl (by decide +kernel) (by decide +kernel) (by decide +kernel)

theorem h_v165 : V m c main_v165 = mulf (F := Ideal) (φ := .f32) (V m c main_v123) (V m c main_v164) :=
  line2 m c 192 rfl (by decide +kernel) (by decide +kernel) (by decide +kernel)

theorem h_v166 : V m c main_v166 = addf (F := Ideal) (φ := .f32) (V m c main_v165) (V m c main_v125) :=
  line2 m c 193 rfl (by decide +kernel) (by decide +kernel) (by decide +kernel)

theorem h_v167 : V m c main_v167 = broadcastInDim S4x1x512 ![0, 2] bcast_S4x512_S4x1x512_0_2 (V m c main_v166) :=
  line1 m c 194 rfl (by decide +kernel) (by decide +kernel)

theorem h_v168 : V m c main_v168 = broadcastInDim S4x1x512 ![0, 2] bcast_S4x512_S4x1x512_0_2 (V m c main_v161) :=
  line1 m c 195 rfl (by decide +kernel) (by decide +kernel)

theorem h_v169 : V m c main_v169 = concatenate S4x2x512 1 [⟨S4x1x512, V m c main_v167⟩, ⟨S4x1x512, V m c main_v168⟩] concatenates_S4x1x512_S4x1x512_S4x2x512_d1 :=
  line2 m c 196 rfl (by decide +kernel) (by decide +kernel) (by decide +kernel)

theorem h_v170 : V m c main_v170 = shapeCast S8x512 (V m c main_v169) shapeCasts_S4x2x512_S8x512 := by
  have h := lineS m c (x := main_v169) (y := main_v170) (he := rfl) (hn := shapeCasts_S4x2x512_S8x512) 197 rfl (by decide +kernel) (by decide +kernel)
  exact h

theorem h_cst_10 : V m c main_cst_10 = constant (F := Ideal) S_ .f32 0x00000000#32 :=
  line0 m c 198 rfl (by decide +kernel)

theorem h_v171 : V m c main_v171 = broadcastInDim S1x512 ![] bcast_S_S1x512 (V m c main_cst_10) :=
  line1 m c 199 rfl (by decide +kernel) (by decide +kernel)

theorem h_v172 : V m c main_v172 = extractStridedSlice S7x512 ![0, 0] (V m c main_v170) slices_S8x512_S7x512_0_0 :=
  line1 m c 200 rfl (by decide +kernel) (by decide +kernel)

theorem h_v173 : V m c main_v173 = concatenate S8x512 0 [⟨S1x512, V m c main_v171⟩, ⟨S7x512, V m c main_v172⟩] concatenates_S1x512_S7x512_S8x512_d0 :=
  line2 m c 201 rfl (by decide +kernel) (by decide +kernel) (by decide +kernel)

theorem h_v174 : V m c main_v174 = mulf (F := Ideal) (φ := .f32) (V m c main_v116) (V m c main_v173) :=
  line2 m c 202 rfl (by decide +kernel) (by decide +kernel) (by decide +kernel)

theorem h_v175 : V m c main_v175 = addf (F := Ideal) (φ := .f32) (V m c main_v174) (V m c main_v118) :=
  line2 m c 203 rfl (by decide +kernel) (by decide +kernel) (by decide +kernel)

theorem h_v176 : V m c main_v176 = broadcastInDim S8x1x512 ![0, 2] bcast_S8x512_S8x1x512_0_2 (V m c main_v175) :=
  line1 m c 204 rfl (by decide +kernel) (by decide +kernel)

theorem h_v177 : V m c main_v177 = broadcastInDim S8x1x512 ![0, 2] bcast_S8x512_S8x1x512_0_2 (V m c main_v170) :=
  line1 m c 205 rfl (by decide +kernel) (by decide +kernel)

theorem h_v178 : V m c main_v178 = concatenate S8x2x512 1 [⟨S8x1x512, V m c main_v176⟩, ⟨S8x1x512, V m c main_v177⟩] concatenates_S8x1x512_S8x1x512_S8x2x512_d1 :=
  line2 m c 206 rfl (by decide +kernel) (by decide +kernel) (by decide +kernel)

theorem h_v179 : V m c main_v179 = shapeCast S16x512 (V m c main_v178) shapeCasts_S8x2x512_S16x512 := by
  have h := lineS m c (x := main_v178) (y := main_v179) (he := rfl) (hn := shapeCasts_S8x2x512_S16x512) 207 rfl (by decide +kernel) (by decide +kernel)
  exact h

theorem h_cst_11 : V m c main_cst_11 = constant (F := Ideal) S_ .f32 0x00000000#32 :=
  line0 m c 208 rfl (by decide +kernel)

theorem h_v180 : V m c main_v180 = broadcastInDim S1x512 ![] bcast_S_S1x512 (V m c main_cst_11) :=
  line1 m c 209 rfl (by decide +kernel) (by decide +kernel)

theorem h_v181 : V m c main_v181 = extractStridedSlice S15x512 ![0, 0] (V m c main_v179) slices_S16x512_S15x512_0_0 :=
  line1 m c 210 rfl (by decide +kernel) (by decide +kernel)

theorem h_v182 : V m c main_v182 = concatenate S16x512 0 [⟨S1x512, V m c main_v180⟩, ⟨S15x512, V m c main_v181⟩] concatenates_S1x512_S15x512_S16x512_d0 :=
  line2 m c 211 rfl (by decide +kernel) (by decide +kernel) (by decide +kernel)

theorem h_v183 : V m c main_v183 = mulf (F := Ideal) (φ := .f32) (V m c main_v109) (V m c main_v182) :=
  line2 m c 212 rfl (by decide +kernel) (by decide +kernel) (by decide +kernel)

theorem h_v184 : V m c main_v184 = addf (F := Ideal) (φ := .f32) (V m c main_v183) (V m c main_v111) :=
  line2 m c 213 rfl (by decide +kernel) (by decide +kernel) (by decide +kernel)

theorem h_v185 : V m c main_v185 = broadcastInDim S16x1x512 ![0, 2] bcast_S16x512_S16x1x512_0_2 (V m c main_v184) :=
  line1 m c 214 rfl (by decide +kernel) (by decide +kernel)

theorem h_v186 : V m c main_v186 = broadcastInDim S16x1x512 ![0, 2] bcast_S16x512_S16x1x512_0_2 (V m c main_v179) :=
  line1 m c 215 rfl (by decide +kernel) (by decide +kernel)

theorem h_v187 : V m c main_v187 = concatenate S16x2x512 1 [⟨S16x1x512, V m c main_v185⟩, ⟨S16x1x512, V m c main_v186⟩] concatenates_S16x1x512_S16x1x512_S16x2x512_d1 :=
  line2 m c 216 rfl (by decide +kernel) (by decide +kernel) (by decide +kernel)

theorem h_v188 : V m c main_v188 = shapeCast S32x512 (V m c main_v187) shapeCasts_S16x2x512_S32x512 := by
  have h := lineS m c (x := main_v187) (y := main_v188) (he := rfl) (hn := shapeCasts_S16x2x512_S32x512) 217 rfl (by decide +kernel) (by decide +kernel)
  exact h

theorem h_cst_12 : V m c main_cst_12 = constant (F := Ideal) S_ .f32 0x00000000#32 :=
  line0 m c 218 rfl (by decide +kernel)

theorem h_v189 : V m c main_v189 = broadcastInDim S1x512 ![] bcast_S_S1x512 (V m c main_cst_12) :=
  line1 m c 219 rfl (by decide +kernel) (by decide +kernel)

theorem h_v190 : V m c main_v190 = extractStridedSlice S31x512 ![0, 0] (V m c main_v188) slices_S32x512_S31x512_0_0 :=
  line1 m c 220 rfl (by decide +kernel) (by decide +kernel)

theorem h_v191 : V m c main_v191 = concatenate S32x512 0 [⟨S1x512, V m c main_v189⟩, ⟨S31x512, V m c main_v190⟩] concatenates_S1x512_S31x512_S32x512_d0 :=
  line2 m c 221 rfl (by decide +kernel) (by decide +kernel) (by decide +kernel)

theorem h_v192 : V m c main_v192 = mulf (F := Ideal) (φ := .f32) (V m c main_v102) (V m c main_v191) :=
  line2 m c 222 rfl (by decide +kernel) (by decide +kernel) (by decide +kernel)

theorem h_v193 : V m c main_v193 = addf (F := Ideal) (φ := .f32) (V m c main_v192) (V m c main_v104) :=
  line2 m c 223 rfl (by decide +kernel) (by decide +kernel) (by decide +kernel)

theorem h_v194 : V m c main_v194 = broadcastInDim S32x1x512 ![0, 2] bcast_S32x512_S32x1x512_0_2 (V m c main_v193) :=
  line1 m c 224 rfl (by decide +kernel) (by decide +kernel)

theorem h_v195 : V m c main_v195 = broadcastInDim S32x1x512 ![0, 2] bcast_S32x512_S32x1x512_0_2 (V m c main_v188) :=
  line1 m c 225 rfl (by decide +kernel) (by decide +kernel)

theorem h_v196 : V m c main_v196 = concatenate S32x2x512 1 [⟨S32x1x512, V m c main_v194⟩, ⟨S32x1x512, V m c main_v195⟩] concatenates_S32x1x512_S32x1x512_S32x2x512_d1 :=
  line2 m c 226 rfl (by decide +kernel) (by decide +kernel) (by decide +kernel)

theorem h_v197 : V m c main_v197 = shapeCast S64x512 (V m c main_v196) shapeCasts_S32x2x512_S64x512 := by
  have h := lineS m c (x := main_v196) (y := main_v197) (he := rfl) (hn := shapeCasts_S32x2x512_S64x512) 227 rfl (by decide +kernel) (by decide +kernel)
  exact h

theorem h_cst_13 : V m c main_cst_13 = constant (F := Ideal) S_ .f32 0x00000000#32 :=
  line0 m c 228 rfl (by decide +kernel)

theorem h_v198 : V m c main_v198 = broadcastInDim S1x512 ![] bcast_S_S1x512 (V m c main_cst_13) :=
  line1 m c 229 rfl (by decide +kernel) (by decide +kernel)

theorem h_v199 : V m c main_v199 = extractStridedSlice S63x512 ![0, 0] (V m c main_v197) slices_S64x512_S63x512_0_0 :=
  line1 m c 230 rfl (by decide +kernel) (by decide +kernel)

theorem h_v200 : V m c main_v200 = concatenate S64x512 0 [⟨S1x512, V m c main_v198⟩, ⟨S63x512, V m c main_v199⟩] concatenates_S1x512_S63x512_S64x512_d0 :=
  line2 m c 231 rfl (by decide +kernel) (by decide +kernel) (by decide +kernel)

theorem h_v201 : V m c main_v201 = mulf (F := Ideal) (φ := .f32) (V m c main_v95) (V m c main_v200) :=
  line2 m c 232 rfl (by decide +kernel) (by decide +kernel) (by decide +kernel)

theorem h_v202 : V m c main_v202 = addf (F := Ideal) (φ := .f32) (V m c main_v201) (V m c main_v97) :=
  line2 m c 233 rfl (by decide +kernel) (by decide +kernel) (by decide +kernel)

theorem h_v203 : V m c main_v203 = broadcastInDim S64x1x512 ![0, 2] bcast_S64x512_S64x1x512_0_2 (V m c main_v202) :=
  line1 m c 234 rfl (by decide +kernel) (by decide +kernel)

theorem h_v204 : V m c main_v204 = broadcastInDim S64x1x512 ![0, 2] bcast_S64x512_S64x1x512_0_2 (V m c main_v197) :=
  line1 m c 235 rfl (by decide +kernel) (by decide +kernel)

theorem h_v205 : V m c main_v205 = concatenate S64x2x512 1 [⟨S64x1x512, V m c main_v203⟩, ⟨S64x1x512, V m c main_v204⟩] concatenates_S64x1x512_S64x1x512_S64x2x512_d1 :=
  line2 m c 236 rfl (by decide +kernel) (by decide +kernel) (by decide +kernel)

theorem h_v206 : V m c main_v206 = shapeCast S128x512 (V m c main_v205) shapeCasts_S64x2x512_S128x512 := by
  have h := lineS m c (x := main_v205) (y := main_v206) (he := rfl) (hn := shapeCasts_S64x2x512_S128x512) 237 rfl (by decide +kernel) (by decide +kernel)
  exact h

theorem h_cst_14 : V m c main_cst_14 = constant (F := Ideal) S_ .f32 0x00000000#32 :=
  line0 m c 238 rfl (by decide +kernel)

theorem h_v207 : V m c main_v207 = broadcastInDim S1x512 ![] bcast_S_S1x512 (V m c main_cst_14) :=
  line1 m c 239 rfl (by decide +kernel) (by decide +kernel)

theorem h_v208 : V m c main_v208 = extractStridedSlice S127x512 ![0, 0] (V m c main_v206) slices_S128x512_S127x512_0_0 :=
  line1 m c 240 rfl (by decide +kernel) (by decide +kernel)

theorem h_v209 : V m c main_v209 = concatenate S128x512 0 [⟨S1x512, V m c main_v207⟩, ⟨S127x512, V m c main_v208⟩] concatenates_S1x512_S127x512_S128x512_d0 :=
  line2 m c 241 rfl (by decide +kernel) (by decide +kernel) (by decide +kernel)

theorem h_v210 : V m c main_v210 = mulf (F := Ideal) (φ := .f32) (V m c main_v88) (V m c main_v209) :=
  line2 m c 242 rfl (by decide +kernel) (by decide +kernel) (by decide +kernel)

theorem h_v211 : V m c main_v211 = addf (F := Ideal) (φ := .f32) (V m c main_v210) (V m c main_v90) :=
  line2 m c 243 rfl (by decide +kernel) (by decide +kernel) (by decide +kernel)

theorem h_v212 : V m c main_v212 = broadcastInDim S128x1x512 ![0, 2] bcast_S128x512_S128x1x512_0_2 (V m c main_v211) :=
  line1 m c 244 rfl (by decide +kernel) (by decide +kernel)

theorem h_v213 : V m c main_v213 = broadcastInDim S128x1x512 ![0, 2] bcast_S128x512_S128x1x512_0_2 (V m c main_v206) :=
  line1 m c 245 rfl (by decide +kernel) (by decide +kernel)

theorem h_v214 : V m c main_v214 = concatenate S128x2x512 1 [⟨S128x1x512, V m c main_v212⟩, ⟨S128x1x512, V m c main_v213⟩] concatenates_S128x1x512_S128x1x512_S128x2x512_d1 :=
  line2 m c 246 rfl (by decide +kernel) (by decide +kernel) (by decide +kernel)

theorem h_v215 : V m c main_v215 = shapeCast S256x512 (V m c main_v214) shapeCasts_S128x2x512_S256x512 := by
  have h := lineS m c (x := main_v214) (y := main_v215) (he := rfl) (hn := shapeCasts_S128x2x512_S256x512) 247 rfl (by decide +kernel) (by decide +kernel)
  exact h

theorem h_cst_15 : V m c main_cst_15 = constant (F := Ideal) S_ .f32 0x00000000#32 :=
  line0 m c 248 rfl (by decide +kernel)

theorem h_v216 : V m c main_v216 = broadcastInDim S1x512 ![] bcast_S_S1x512 (V m c main_cst_15) :=
  line1 m c 249 rfl (by decide +kernel) (by decide +kernel)

theorem h_v217 : V m c main_v217 = extractStridedSlice S255x512 ![0, 0] (V m c main_v215) slices_S256x512_S255x512_0_0 :=
  line1 m c 250 rfl (by decide +kernel) (by decide +kernel)

theorem h_v218 : V m c main_v218 = concatenate S256x512 0 [⟨S1x512, V m c main_v216⟩, ⟨S255x512, V m c main_v217⟩] concatenates_S1x512_S255x512_S256x512_d0 :=
  line2 m c 251 rfl (by decide +kernel) (by decide +kernel) (by decide +kernel)

theorem h_v219 : V m c main_v219 = mulf (F := Ideal) (φ := .f32) (V m c main_v81) (V m c main_v218) :=
  line2 m c 252 rfl (by decide +kernel) (by decide +kernel) (by decide +kernel)

theorem h_v220 : V m c main_v220 = addf (F := Ideal) (φ := .f32) (V m c main_v219) (V m c main_v83) :=
  line2 m c 253 rfl (by decide +kernel) (by decide +kernel) (by decide +kernel)

theorem h_v221 : V m c main_v221 = broadcastInDim S256x1x512 ![0, 2] bcast_S256x512_S256x1x512_0_2 (V m c main_v220) :=
  line1 m c 254 rfl (by decide +kernel) (by decide +kernel)

theorem h_v222 : V m c main_v222 = broadcastInDim S256x1x512 ![0, 2] bcast_S256x512_S256x1x512_0_2 (V m c main_v215) :=
  line1 m c 255 rfl (by decide +kernel) (by decide +kernel)

theorem h_v223 : V m c main_v223 = concatenate S256x2x512 1 [⟨S256x1x512, V m c main_v221⟩, ⟨S256x1x512, V m c main_v222⟩] concatenates_S256x1x512_S256x1x512_S256x2x512_d1 :=
  line2 m c 256 rfl (by decide +kernel) (by decide +kernel) (by decide +kernel)

theorem h_v224 : V m c main_v224 = shapeCast S512x512 (V m c main_v223) shapeCasts_S256x2x512_S512x512 := by
  have h := lineS m c (x := main_v223) (y := main_v224) (he := rfl) (hn := shapeCasts_S256x2x512_S512x512) 257 rfl (by decide +kernel) (by decide +kernel)
  exact h

theorem h_cst_16 : V m c main_cst_16 = constant (F := Ideal) S_ .f32 0x00000000#32 :=
  line0 m c 258 rfl (by decide +kernel)

theorem h_v225 : V m c main_v225 = broadcastInDim S1x512 ![] bcast_S_S1x512 (V m c main_cst_16) :=
  line1 m c 259 rfl (by decide +kernel) (by decide +kernel)

theorem h_v226 : V m c main_v226 = extractStridedSlice S511x512 ![0, 0] (V m c main_v224) slices_S512x512_S511x512_0_0 :=
  line1 m c 260 rfl (by decide +kernel) (by decide +kernel)

theorem h_v227 : V m c main_v227 = concatenate S512x512 0 [⟨S1x512, V m c main_v225⟩, ⟨S511x512, V m c main_v226⟩] concatenates_S1x512_S511x512_S512x512_d0 :=
  line2 m c 261 rfl (by decide +kernel) (by decide +kernel) (by decide +kernel)

theorem h_v228 : V m c main_v228 = mulf (F := Ideal) (φ := .f32) (V m c main_v74) (V m c main_v227) :=
  line2 m c 262 rfl (by decide +kernel) (by decide +kernel) (by decide +kernel)

theorem h_v229 : V m c main_v229 = addf (F := Ideal) (φ := .f32) (V m c main_v228) (V m c main_v76) :=
  line2 m c 263 rfl (by decide +kernel) (by decide +kernel) (by decide +kernel)

theorem h_v230 : V m c main_v230 = broadcastInDim S512x1x512 ![0, 2] bcast_S512x512_S512x1x512_0_2 (V m c main_v229) :=
  line1 m c 264 rfl (by decide +kernel) (by decide +kernel)

theorem h_v231 : V m c main_v231 = broadcastInDim S512x1x512 ![0, 2] bcast_S512x512_S512x1x512_0_2 (V m c main_v224) :=
  line1 m c 265 rfl (by decide +kernel) (by decide +kernel)

theorem h_v232 : V m c main_v232 = concatenate S512x2x512 1 [⟨S512x1x512, V m c main_v230⟩, ⟨S512x1x512, V m c main_v231⟩] concatenates_S512x1x512_S512x1x512_S512x2x512_d1 :=
  line2 m c 266 rfl (by decide +kernel) (by decide +kernel) (by decide +kernel)

theorem h_v233 : V m c main_v233 = shapeCast S1024x512 (V m c main_v232) shapeCasts_S512x2x512_S1024x512 := by
  have h := lineS m c (x := main_v232) (y := main_v233) (he := rfl) (hn := shapeCasts_S512x2x512_S1024x512) 267 rfl (by decide +kernel) (by decide +kernel)
  exact h

theorem h_cst_17 : V m c main_cst_17 = constant (F := Ideal) S_ .f32 0x00000000#32 :=
  line0 m c 268 rfl (by decide +kernel)

theorem h_v234 : V m c main_v234 = broadcastInDim S1x512 ![] bcast_S_S1x512 (V m c main_cst_17) :=
  line1 m c 269 rfl (by decide +kernel) (by decide +kernel)

theorem h_v235 : V m c main_v235 = extractStridedSlice S1023x512 ![0, 0] (V m c main_v233) slices_S1024x512_S1023x512_0_0 :=
  line1 m c 270 rfl (by decide +kernel) (by decide +kernel)

theorem h_v236 : V m c main_v236 = concatenate S1024x512 0 [⟨S1x512, V m c main_v234⟩, ⟨S1023x512, V m c main_v235⟩] concatenates_S1x512_S1023x512_S1024x512_d0 :=
  line2 m c 271 rfl (by decide +kernel) (by decide +kernel) (by decide +kernel)

theorem h_v237 : V m c main_v237 = mulf (F := Ideal) (φ := .f32) (V m c main_v67) (V m c main_v236) :=
  line2 m c 272 rfl (by decide +kernel) (by decide +kernel) (by decide +kernel)

theorem h_v238 : V m c main_v238 = addf (F := Ideal) (φ := .f32) (V m c main_v237) (V m c main_v69) :=
  line2 m c 273 rfl (by decide +kernel) (by decide +kernel) (by decide +kernel)

theorem h_v239 : V m c main_v239 = broadcastInDim S1024x1x512 ![0, 2] bcast_S1024x512_S1024x1x512_0_2 (V m c main_v238) :=
  line1 m c 274 rfl (by decide +kernel) (by decide +kernel)

theorem h_v240 : V m c main_v240 = broadcastInDim S1024x1x512 ![0, 2] bcast_S1024x512_S1024x1x512_0_2 (V m c main_v233) :=
  line1 m c 275 rfl (by decide +kernel) (by decide +kernel)

theorem h_v241 : V m c main_v241 = concatenate S1024x2x512 1 [⟨S1024x1x512, V m c main_v239⟩, ⟨S1024x1x512, V m c main_v240⟩] concatenates_S1024x1x512_S1024x1x512_S1024x2x512_d1 :=
  line2 m c 276 rfl (by decide +kernel) (by decide +kernel) (by decide +kernel)

theorem h_v242 : V m c main_v242 = shapeCast S2048x512 (V m c main_v241) shapeCasts_S1024x2x512_S2048x512 := by
  have h := lineS m c (x := main_v241) (y := main_v242) (he := rfl) (hn := shapeCasts_S1024x2x512_S2048x512) 277 rfl (by decide +kernel) (by decide +kernel)
  exact h

theorem h_cst_18 : V m c main_cst_18 = constant (F := Ideal) S_ .f32 0x00000000#32 :=
  line0 m c 278 rfl (by decide +kernel)

theorem h_v243 : V m c main_v243 = broadcastInDim S1x512 ![] bcast_S_S1x512 (V m c main_cst_18) :=
  line1 m c 279 rfl (by decide +kernel) (by decide +kernel)

theorem h_v244 : V m c main_v244 = extractStridedSlice S2047x512 ![0, 0] (V m c main_v242) slices_S2048x512_S2047x512_0_0 :=
  line1 m c 280 rfl (by decide +kernel) (by decide +kernel)

theorem h_v245 : V m c main_v245 = concatenate S2048x512 0 [⟨S1x512, V m c main_v243⟩, ⟨S2047x512, V m c main_v244⟩] concatenates_S1x512_S2047x512_S2048x512_d0 :=
  line2 m c 281 rfl (by decide +kernel) (by decide +kernel) (by decide +kernel)

theorem h_v246 : V m c main_v246 = mulf (F := Ideal) (φ := .f32) (V m c main_v60) (V m c main_v245) :=
  line2 m c 282 rfl (by decide +kernel) (by decide +kernel) (by decide +kernel)

theorem h_v247 : V m c main_v247 = addf (F := Ideal) (φ := .f32) (V m c main_v246) (V m c main_v62) :=
  line2 m c 283 rfl (by decide +kernel) (by decide +kernel) (by decide +kernel)

theorem h_v248 : V m c main_v248 = broadcastInDim S2048x1x512 ![0, 2] bcast_S2048x512_S2048x1x512_0_2 (V m c main_v247) :=
  line1 m c 284 rfl (by decide +kernel) (by decide +kernel)

theorem h_v249 : V m c main_v249 = broadcastInDim S2048x1x512 ![0, 2] bcast_S2048x512_S2048x1x512_0_2 (V m c main_v242) :=
  line1 m c 285 rfl (by decide +kernel) (by decide +kernel)

theorem h_v250 : V m c main_v250 = concatenate S2048x2x512 1 [⟨S2048x1x512, V m c main_v248⟩, ⟨S2048x1x512, V m c main_v249⟩] concatenates_S2048x1x512_S2048x1x512_S2048x2x512_d1 :=
  line2 m c 286 rfl (by decide +kernel) (by decide +kernel) (by decide +kernel)

theorem h_v251 : V m c main_v251 = shapeCast S4096x512 (V m c main_v250) shapeCasts_S2048x2x512_S4096x512 := by
  have h := lineS m c (x := main_v250) (y := main_v251) (he := rfl) (hn := shapeCasts_S2048x2x512_S4096x512) 287 rfl (by decide +kernel) (by decide +kernel)
  exact h

theorem h_v252 : V m c main_v252 = truncf (F := Ideal) (φ := .f32) .bf16 (V m c main_v11) bitsLt_bf16_f32 :=
  line1 m c 288 rfl (by decide +kernel) (by decide +kernel)

theorem h_v253 : V m c main_v253 = shapeCast S1x512 (V m c main_arg4) shapeCasts_S512_S1x512 := by
  have h := lineS m c (x := main_arg4) (y := main_v253) (he := rfl) (hn := shapeCasts_S512_S1x512) 289 rfl (by decide +kernel) (by decide +kernel)
  exact h

theorem h_v254 : V m c main_v254 = truncf (F := Ideal) (φ := .f32) .bf16 (V m c main_v23) bitsLt_bf16_f32 :=
  line1 m c 290 rfl (by decide +kernel) (by decide +kernel)

theorem h_v255 : V m c main_v255 = shapeCast S1x512 (V m c main_arg6) shapeCasts_S512_S1x512 := by
  have h := lineS m c (x := main_arg6) (y := main_v255) (he := rfl) (hn := shapeCasts_S512_S1x512) 291 rfl (by decide +kernel) (by decide +kernel)
  exact h

theorem h_v256 : V m c main_v256 = shapeCast S1x512 (V m c main_arg7) shapeCasts_S512_S1x512 := by
  have h := lineS m c (x := main_arg7) (y := main_v256) (he := rfl) (hn := shapeCasts_S512_S1x512) 292 rfl (by decide +kernel) (by decide +kernel)
  exact h

theorem h_v257 : V m c main_v257 = shapeCast S1x512 (V m c main_arg8) shapeCasts_S512_S1x512 := by
  have h := lineS m c (x := main_arg8) (y := main_v257) (he := rfl) (hn := shapeCasts_S512_S1x512) 293 rfl (by decide +kernel) (by decide +kernel)
  exact h

end Cert.KernelIdeal.Gen

end
-- ==== Proof.RefTree.lean ====
/- The reference's recurrence and its gradient, level by level. -/
module

public import proofs.«01_k».proof.Proof.Level
public import proofs.«01_k».proof.Proof.Gen.ReferenceIdeal.Run

@[expose] public section

set_option maxRecDepth 16384

noncomputable section

namespace Cert.ReferenceIdeal.Value

open Cert.Lru Cert.ReferenceIdeal Cert.ReferenceIdeal.Gen Idealize.ShloMosaic

theorem zeros_is (i : S_.Idx) : constant (F := Ideal) S_ .f32 0x00000000#32 i = ((0 : ℝ) : EReal) := bits_0

theorem zrow_is : M2 (n := 1) (k := 512) (broadcastInDim S1x512 ![] bcast_S_S1x512 (constant (F := Ideal) S_ .f32 0x00000000#32)) fun _ _ => 0 := fun _ => bits_0

variable {V : Valuation τ sig (Elt Ideal)} {a b d : ℕ → ℕ → ℝ}

theorem v60_is (hA : M2 (n := 4096) (k := 512) (res_main_v38 V) a) : M2 (n := 2048) (k := 512) (res_main_v60 V) (fun r c => At a 0 (2 * r) c) :=
  M2.evens (f := At a 0) hA _

theorem v61_is (hA : M2 (n := 4096) (k := 512) (res_main_v38 V) a) : M2 (n := 2048) (k := 512) (res_main_v61 V) (fun r c => At a 0 (2 * r + 1) c) :=
  M2.odds (f := At a 0) hA _

theorem v62_is (hA : M2 (n := 4096) (k := 512) (res_main_v38 V) a) (hB : M2 (n := 4096) (k := 512) (res_main_v59 V) b) : M2 (n := 2048) (k := 512) (res_main_v62 V) (fun r c => Bt a b 0 (2 * r) c) :=
  M2.evens (f := Bt a b 0) hB _

theorem v64_is (hA : M2 (n := 4096) (k := 512) (res_main_v38 V) a) : M2 (n := 2048) (k := 512) (res_main_v64 V) (At a 1) :=
  (v61_is hA).mul (v60_is hA)

theorem v66_is (hA : M2 (n := 4096) (k := 512) (res_main_v38 V) a) (hB : M2 (n := 4096) (k := 512) (res_main_v59 V) b) : M2 (n := 2048) (k := 512) (res_main_v66 V) (Bt a b 1) :=
  ((v61_is hA).mul (v62_is hA hB)).add (M2.odds (f := Bt a b 0) hB _)

theorem v67_is (hA : M2 (n := 4096) (k := 512) (res_main_v38 V) a) : M2 (n := 1024) (k := 512) (res_main_v67 V) (fun r c => At a 1 (2 * r) c) :=
  M2.evens (f := At a 1) (v64_is hA) _

theorem v68_is (hA : M2 (n := 4096) (k := 512) (res_main_v38 V) a) : M2 (n := 1024) (k := 512) (res_main_v68 V) (fun r c => At a 1 (2 * r + 1) c) :=
  M2.odds (f := At a 1) (v64_is hA) _

theorem v69_is (hA : M2 (n := 4096) (k := 512) (res_main_v38 V) a) (hB : M2 (n := 4096) (k := 512) (res_main_v59 V) b) : M2 (n := 1024) (k := 512) (res_main_v69 V) (fun r c => Bt a b 1 (2 * r) c) :=
  M2.evens (f := Bt a b 1) (v66_is hA hB) _

theorem v71_is (hA : M2 (n := 4096) (k := 512) (res_main_v38 V) a) : M2 (n := 1024) (k := 512) (res_main_v71 V) (At a 2) :=
  (v68_is hA).mul (v67_is hA)

theorem v73_is (hA : M2 (n := 4096) (k := 512) (res_main_v38 V) a) (hB : M2 (n := 4096) (k := 512) (res_main_v59 V) b) : M2 (n := 1024) (k := 512) (res_main_v73 V) (Bt a b 2) :=
  ((v68_is hA).mul (v69_is hA hB)).add (M2.odds (f := Bt a b 1) (v66_is hA hB) _)

theorem v74_is (hA : M2 (n := 4096) (k := 512) (res_main_v38 V) a) : M2 (n := 512) (k := 512) (res_main_v74 V) (fun r c => At a 2 (2 * r) c) :=
  M2.evens (f := At a 2) (v71_is hA) _

theorem v75_is (hA : M2 (n := 4096) (k := 512) (res_main_v38 V) a) : M2 (n := 512) (k := 512) (res_main_v75 V) (fun r c => At a 2 (2 * r + 1) c) :=
  M2.odds (f := At a 2) (v71_is hA) _

theorem v76_is (hA : M2 (n := 4096) (k := 512) (res_main_v38 V) a) (hB : M2 (n := 4096) (k := 512) (res_main_v59 V) b) : M2 (n := 512) (k := 512) (res_main_v76 V) (fun r c => Bt a b 2 (2 * r) c) :=
  M2.evens (f := Bt a b 2) (v73_is hA hB) _

theorem v78_is (hA : M2 (n := 4096) (k := 512) (res_main_v38 V) a) : M2 (n := 512) (k := 512) (res_main_v78 V) (At a 3) :=
  (v75_is hA).mul (v74_is hA)

theorem v80_is (hA : M2 (n := 4096) (k := 512) (res_main_v38 V) a) (hB : M2 (n := 4096) (k := 512) (res_main_v59 V) b) : M2 (n := 512) (k := 512) (res_main_v80 V) (Bt a b 3) :=
  ((v75_is hA).mul (v76_is hA hB)).add (M2.odds (f := Bt a b 2) (v73_is hA hB) _)

theorem v81_is (hA : M2 (n := 4096) (k := 512) (res_main_v38 V) a) : M2 (n := 256) (k := 512) (res_main_v81 V) (fun r c => At a 3 (2 * r) c) :=
  M2.evens (f := At a 3) (v78_is hA) _

theorem v82_is (hA : M2 (n := 4096) (k := 512) (res_main_v38 V) a) : M2 (n := 256) (k := 512) (res_main_v82 V) (fun r c => At a 3 (2 * r + 1) c) :=
  M2.odds (f := At a 3) (v78_is hA) _

theorem v83_is (hA : M2 (n := 4096) (k := 512) (res_main_v38 V) a) (hB : M2 (n := 4096) (k := 512) (res_main_v59 V) b) : M2 (n := 256) (k := 512) (res_main_v83 V) (fun r c => Bt a b 3 (2 * r) c) :=
  M2.evens (f := Bt a b 3) (v80_is hA hB) _

theorem v85_is (hA : M2 (n := 4096) (k := 512) (res_main_v38 V) a) : M2 (n := 256) (k := 512) (res_main_v85 V) (At a 4) :=
  (v82_is hA).mul (v81_is hA)

theorem v87_is (hA : M2 (n := 4096) (k := 512) (res_main_v38 V) a) (hB : M2 (n := 4096) (k := 512) (res_main_v59 V) b) : M2 (n := 256) (k := 512) (res_main_v87 V) (Bt a b 4) :=
  ((v82_is hA).mul (v83_is hA hB)).add (M2.odds (f := Bt a b 3) (v80_is hA hB) _)

theorem v88_is (hA : M2 (n := 4096) (k := 512) (res_main_v38 V) a) : M2 (n := 128) (k := 512) (res_main_v88 V) (fun r c => At a 4 (2 * r) c) :=
  M2.evens (f := At a 4) (v85_is hA) _

theorem v89_is (hA : M2 (n := 4096) (k := 512) (res_main_v38 V) a) : M2 (n := 128) (k := 512) (res_main_v89 V) (fun r c => At a 4 (2 * r + 1) c) :=
  M2.odds (f := At a 4) (v85_is hA) _

theorem v90_is (hA : M2 (n := 4096) (k := 512) (res_main_v38 V) a) (hB : M2 (n := 4096) (k := 512) (res_main_v59 V) b) : M2 (n := 128) (k := 512) (res_main_v90 V) (fun r c => Bt a b 4 (2 * r) c) :=
  M2.evens (f := Bt a b 4) (v87_is hA hB) _

theorem v92_is (hA : M2 (n := 4096) (k := 512) (res_main_v38 V) a) : M2 (n := 128) (k := 512) (res_main_v92 V) (At a 5) :=
  (v89_is hA).mul (v88_is hA)

theorem v94_is (hA : M2 (n := 4096) (k := 512) (res_main_v38 V) a) (hB : M2 (n := 4096) (k := 512) (res_main_v59 V) b) : M2 (n := 128) (k := 512) (res_main_v94 V) (Bt a b 5) :=
  ((v89_is hA).mul (v90_is hA hB)).add (M2.odds (f := Bt a b 4) (v87_is hA hB) _)

theorem v95_is (hA : M2 (n := 4096) (k := 512) (res_main_v38 V) a) : M2 (n := 64) (k := 512) (res_main_v95 V) (fun r c => At a 5 (2 * r) c) :=
  M2.evens (f := At a 5) (v92_is hA) _

theorem v96_is (hA : M2 (n := 4096) (k := 512) (res_main_v38 V) a) : M2 (n := 64) (k := 512) (res_main_v96 V) (fun r c => At a 5 (2 * r + 1) c) :=
  M2.odds (f := At a 5) (v92_is hA) _

theorem v97_is (hA : M2 (n := 4096) (k := 512) (res_main_v38 V) a) (hB : M2 (n := 4096) (k := 512) (res_main_v59 V) b) : M2 (n := 64) (k := 512) (res_main_v97 V) (fun r c => Bt a b 5 (2 * r) c) :=
  M2.evens (f := Bt a b 5) (v94_is hA hB) _

theorem v99_is (hA : M2 (n := 4096) (k := 512) (res_main_v38 V) a) : M2 (n := 64) (k := 512) (res_main_v99 V) (At a 6) :=
  (v96_is hA).mul (v95_is hA)

theorem v101_is (hA : M2 (n := 4096) (k := 512) (res_main_v38 V) a) (hB : M2 (n := 4096) (k := 512) (res_main_v59 V) b) : M2 (n := 64) (k := 512) (res_main_v101 V) (Bt a b 6) :=
  ((v96_is hA).mul (v97_is hA hB)).add (M2.odds (f := Bt a b 5) (v94_is hA hB) _)

theorem v102_is (hA : M2 (n := 4096) (k := 512) (res_main_v38 V) a) : M2 (n := 32) (k := 512) (res_main_v102 V) (fun r c => At a 6 (2 * r) c) :=
  M2.evens (f := At a 6) (v99_is hA) _

theorem v103_is (hA : M2 (n := 4096) (k := 512) (res_main_v38 V) a) : M2 (n := 32) (k := 512) (res_main_v103 V) (fun r c => At a 6 (2 * r + 1) c) :=
  M2.odds (f := At a 6) (v99_is hA) _

theorem v104_is (hA : M2 (n := 4096) (k := 512) (res_main_v38 V) a) (hB : M2 (n := 4096) (k := 512) (res_main_v59 V) b) : M2 (n := 32) (k := 512) (res_main_v104 V) (fun r c => Bt a b 6 (2 * r) c) :=
  M2.evens (f := Bt a b 6) (v101_is hA hB) _

theorem v106_is (hA : M2 (n := 4096) (k := 512) (res_main_v38 V) a) : M2 (n := 32) (k := 512) (res_main_v106 V) (At a 7) :=
  (v103_is hA).mul (v102_is hA)

theorem v108_is (hA : M2 (n := 4096) (k := 512) (res_main_v38 V) a) (hB : M2 (n := 4096) (k := 512) (res_main_v59 V) b) : M2 (n := 32) (k := 512) (res_main_v108 V) (Bt a b 7) :=
  ((v103_is hA).mul (v104_is hA hB)).add (M2.odds (f := Bt a b 6) (v101_is hA hB) _)

theorem v109_is (hA : M2 (n := 4096) (k := 512) (res_main_v38 V) a) : M2 (n := 16) (k := 512) (res_main_v109 V) (fun r c => At a 7 (2 * r) c) :=
  M2.evens (f := At a 7) (v106_is hA) _

theorem v110_is (hA : M2 (n := 4096) (k := 512) (res_main_v38 V) a) : M2 (n := 16) (k := 512) (res_main_v110 V) (fun r c => At a 7 (2 * r + 1) c) :=
  M2.odds (f := At a 7) (v106_is hA) _

theorem v111_is (hA : M2 (n := 4096) (k := 512) (res_main_v38 V) a) (hB : M2 (n := 4096) (k := 512) (res_main_v59 V) b) : M2 (n := 16) (k := 512) (res_main_v111 V) (fun r c => Bt a b 7 (2 * r) c) :=
  M2.evens (f := Bt a b 7) (v108_is hA hB) _

theorem v113_is (hA : M2 (n := 4096) (k := 512) (res_main_v38 V) a) : M2 (n := 16) (k := 512) (res_main_v113 V) (At a 8) :=
  (v110_is hA).mul (v109_is hA)

theorem v115_is (hA : M2 (n := 4096) (k := 512) (res_main_v38 V) a) (hB : M2 (n := 4096) (k := 512) (res_main_v59 V) b) : M2 (n := 16) (k := 512) (res_main_v115 V) (Bt a b 8) :=
  ((v110_is hA).mul (v111_is hA hB)).add (M2.odds (f := Bt a b 7) (v108_is hA hB) _)

theorem v116_is (hA : M2 (n := 4096) (k := 512) (res_main_v38 V) a) : M2 (n := 8) (k := 512) (res_main_v116 V) (fun r c => At a 8 (2 * r) c) :=
  M2.evens (f := At a 8) (v113_is hA) _

theorem v117_is (hA : M2 (n := 4096) (k := 512) (res_main_v38 V) a) : M2 (n := 8) (k := 512) (res_main_v117 V) (fun r c => At a 8 (2 * r + 1) c) :=
  M2.odds (f := At a 8) (v113_is hA) _

theorem v118_is (hA : M2 (n := 4096) (k := 512) (res_main_v38 V) a) (hB : M2 (n := 4096) (k := 512) (res_main_v59 V) b) : M2 (n := 8) (k := 512) (res_main_v118 V) (fun r c => Bt a b 8 (2 * r) c) :=
  M2.evens (f := Bt a b 8) (v115_is hA hB) _

theorem v120_is (hA : M2 (n := 4096) (k := 512) (res_main_v38 V) a) : M2 (n := 8) (k := 512) (res_main_v120 V) (At a 9) :=
  (v117_is hA).mul (v116_is hA)

theorem v122_is (hA : M2 (n := 4096) (k := 512) (res_main_v38 V) a) (hB : M2 (n := 4096) (k := 512) (res_main_v59 V) b) : M2 (n := 8) (k := 512) (res_main_v122 V) (Bt a b 9) :=
  ((v117_is hA).mul (v118_is hA hB)).add (M2.odds (f := Bt a b 8) (v115_is hA hB) _)

theorem v123_is (hA : M2 (n := 4096) (k := 512) (res_main_v38 V) a) : M2 (n := 4) (k := 512) (res_main_v123 V) (fun r c => At a 9 (2 * r) c) :=
  M2.evens (f := At a 9) (v120_is hA) _

theorem v124_is (hA : M2 (n := 4096) (k := 512) (res_main_v38 V) a) : M2 (n := 4) (k := 512) (res_main_v124 V) (fun r c => At a 9 (2 * r + 1) c) :=
  M2.odds (f := At a 9) (v120_is hA) _

theorem v125_is (hA : M2 (n := 4096) (k := 512) (res_main_v38 V) a) (hB : M2 (n := 4096) (k := 512) (res_main_v59 V) b) : M2 (n := 4) (k := 512) (res_main_v125 V) (fun r c => Bt a b 9 (2 * r) c) :=
  M2.evens (f := Bt a b 9) (v122_is hA hB) _

theorem v127_is (hA : M2 (n := 4096) (k := 512) (res_main_v38 V) a) : M2 (n := 4) (k := 512) (res_main_v127 V) (At a 10) :=
  (v124_is hA).mul (v123_is hA)

theorem v129_is (hA : M2 (n := 4096) (k := 512) (res_main_v38 V) a) (hB : M2 (n := 4096) (k := 512) (res_main_v59 V) b) : M2 (n := 4) (k := 512) (res_main_v129 V) (Bt a b 10) :=
  ((v124_is hA).mul (v125_is hA hB)).add (M2.odds (f := Bt a b 9) (v122_is hA hB) _)

theorem v130_is (hA : M2 (n := 4096) (k := 512) (res_main_v38 V) a) : M2 (n := 2) (k := 512) (res_main_v130 V) (fun r c => At a 10 (2 * r) c) :=
  M2.evens (f := At a 10) (v127_is hA) _

theorem v131_is (hA : M2 (n := 4096) (k := 512) (res_main_v38 V) a) : M2 (n := 2) (k := 512) (res_main_v131 V) (fun r c => At a 10 (2 * r + 1) c) :=
  M2.odds (f := At a 10) (v127_is hA) _

theorem v132_is (hA : M2 (n := 4096) (k := 512) (res_main_v38 V) a) (hB : M2 (n := 4096) (k := 512) (res_main_v59 V) b) : M2 (n := 2) (k := 512) (res_main_v132 V) (fun r c => Bt a b 10 (2 * r) c) :=
  M2.evens (f := Bt a b 10) (v129_is hA hB) _

theorem v134_is (hA : M2 (n := 4096) (k := 512) (res_main_v38 V) a) : M2 (n := 2) (k := 512) (res_main_v134 V) (At a 11) :=
  (v131_is hA).mul (v130_is hA)

theorem v136_is (hA : M2 (n := 4096) (k := 512) (res_main_v38 V) a) (hB : M2 (n := 4096) (k := 512) (res_main_v59 V) b) : M2 (n := 2) (k := 512) (res_main_v136 V) (Bt a b 11) :=
  ((v131_is hA).mul (v132_is hA hB)).add (M2.odds (f := Bt a b 10) (v129_is hA hB) _)

theorem v137_is (hA : M2 (n := 4096) (k := 512) (res_main_v38 V) a) : M2 (n := 1) (k := 512) (res_main_v137 V) (fun r c => At a 11 (2 * r) c) :=
  M2.evens (f := At a 11) (v134_is hA) _

theorem v138_is (hA : M2 (n := 4096) (k := 512) (res_main_v38 V) a) : M2 (n := 1) (k := 512) (res_main_v138 V) (fun r c => At a 11 (2 * r + 1) c) :=
  M2.odds (f := At a 11) (v134_is hA) _

theorem v139_is (hA : M2 (n := 4096) (k := 512) (res_main_v38 V) a) (hB : M2 (n := 4096) (k := 512) (res_main_v59 V) b) : M2 (n := 1) (k := 512) (res_main_v139 V) (fun r c => Bt a b 11 (2 * r) c) :=
  M2.evens (f := Bt a b 11) (v136_is hA hB) _

theorem v143_is (hA : M2 (n := 4096) (k := 512) (res_main_v38 V) a) (hB : M2 (n := 4096) (k := 512) (res_main_v59 V) b) : M2 (n := 1) (k := 512) (res_main_v143 V) (Bt a b 12) :=
  ((v138_is hA).mul (v139_is hA hB)).add (M2.odds (f := Bt a b 11) (v136_is hA hB) _)

theorem s12_is (hA : M2 (n := 4096) (k := 512) (res_main_v38 V) a) (hB : M2 (n := 4096) (k := 512) (res_main_v59 V) b) : M2 (n := 1) (k := 512) (res_main_v143 V) (HS (At a 12) (Bt a b 12)) := M2.bottom (v143_is hA hB)

theorem v146_is (hA : M2 (n := 4096) (k := 512) (res_main_v38 V) a) (hB : M2 (n := 4096) (k := 512) (res_main_v59 V) b) : M2 (n := 1) (k := 512) (res_main_v146 V) (HP (At a 12) (Bt a b 12)) :=
  M2.before zrow_is (s12_is hA hB) _ _

theorem v153_is (hA : M2 (n := 4096) (k := 512) (res_main_v38 V) a) (hB : M2 (n := 4096) (k := 512) (res_main_v59 V) b) : M2 (n := 2) (k := 512) (res_main_v153 V) (HS (At a 11) (Bt a b 11)) :=
  M2.return (a := At a 11) (b := Bt a b 11) (v137_is hA) (v146_is hA hB) (v139_is hA hB) (s12_is hA hB) _ _ _ _ rfl

theorem v156_is (hA : M2 (n := 4096) (k := 512) (res_main_v38 V) a) (hB : M2 (n := 4096) (k := 512) (res_main_v59 V) b) : M2 (n := 2) (k := 512) (res_main_v156 V) (HP (At a 11) (Bt a b 11)) :=
  M2.before zrow_is (v153_is hA hB) _ _

theorem v163_is (hA : M2 (n := 4096) (k := 512) (res_main_v38 V) a) (hB : M2 (n := 4096) (k := 512) (res_main_v59 V) b) : M2 (n := 4) (k := 512) (res_main_v163 V) (HS (At a 10) (Bt a b 10)) :=
  M2.return (a := At a 10) (b := Bt a b 10) (v130_is hA) (v156_is hA hB) (v132_is hA hB) (v153_is hA hB) _ _ _ _ rfl

theorem v166_is (hA : M2 (n := 4096) (k := 512) (res_main_v38 V) a) (hB : M2 (n := 4096) (k := 512) (res_main_v59 V) b) : M2 (n := 4) (k := 512) (res_main_v166 V) (HP (At a 10) (Bt a b 10)) :=
  M2.before zrow_is (v163_is hA hB) _ _

theorem v173_is (hA : M2 (n := 4096) (k := 512) (res_main_v38 V) a) (hB : M2 (n := 4096) (k := 512) (res_main_v59 V) b) : M2 (n := 8) (k := 512) (res_main_v173 V) (HS (At a 9) (Bt a b 9)) :=
  M2.return (a := At a 9) (b := Bt a b 9) (v123_is hA) (v166_is hA hB) (v125_is hA hB) (v163_is hA hB) _ _ _ _ rfl

theorem v176_is (hA : M2 (n := 4096) (k := 512) (res_main_v38 V) a) (hB : M2 (n := 4096) (k := 512) (res_main_v59 V) b) : M2 (n := 8) (k := 512) (res_main_v176 V) (HP (At a 9) (Bt a b 9)) :=
  M2.before zrow_is (v173_is hA hB) _ _

theorem v183_is (hA : M2 (n := 4096) (k := 512) (res_main_v38 V) a) (hB : M2 (n := 4096) (k := 512) (res_main_v59 V) b) : M2 (n := 16) (k := 512) (res_main_v183 V) (HS (At a 8) (Bt a b 8)) :=
  M2.return (a := At a 8) (b := Bt a b 8) (v116_is hA) (v176_is hA hB) (v118_is hA hB) (v173_is hA hB) _ _ _ _ rfl

theorem v186_is (hA : M2 (n := 4096) (k := 512) (res_main_v38 V) a) (hB : M2 (n := 4096) (k := 512) (res_main_v59 V) b) : M2 (n := 16) (k := 512) (res_main_v186 V) (HP (At a 8) (Bt a b 8)) :=
  M2.before zrow_is (v183_is hA hB) _ _

theorem v193_is (hA : M2 (n := 4096) (k := 512) (res_main_v38 V) a) (hB : M2 (n := 4096) (k := 512) (res_main_v59 V) b) : M2 (n := 32) (k := 512) (res_main_v193 V) (HS (At a 7) (Bt a b 7)) :=
  M2.return (a := At a 7) (b := Bt a b 7) (v109_is hA) (v186_is hA hB) (v111_is hA hB) (v183_is hA hB) _ _ _ _ rfl

theorem v196_is (hA : M2 (n := 4096) (k := 512) (res_main_v38 V) a) (hB : M2 (n := 4096) (k := 512) (res_main_v59 V) b) : M2 (n := 32) (k := 512) (res_main_v196 V) (HP (At a 7) (Bt a b 7)) :=
  M2.before zrow_is (v193_is hA hB) _ _

theorem v203_is (hA : M2 (n := 4096) (k := 512) (res_main_v38 V) a) (hB : M2 (n := 4096) (k := 512) (res_main_v59 V) b) : M2 (n := 64) (k := 512) (res_main_v203 V) (HS (At a 6) (Bt a b 6)) :=
  M2.return (a := At a 6) (b := Bt a b 6) (v102_is hA) (v196_is hA hB) (v104_is hA hB) (v193_is hA hB) _ _ _ _ rfl

theorem v206_is (hA : M2 (n := 4096) (k := 512) (res_main_v38 V) a) (hB : M2 (n := 4096) (k := 512) (res_main_v59 V) b) : M2 (n := 64) (k := 512) (res_main_v206 V) (HP (At a 6) (Bt a b 6)) :=
  M2.before zrow_is (v203_is hA hB) _ _

theorem v213_is (hA : M2 (n := 4096) (k := 512) (res_main_v38 V) a) (hB : M2 (n := 4096) (k := 512) (res_main_v59 V) b) : M2 (n := 128) (k := 512) (res_main_v213 V) (HS (At a 5) (Bt a b 5)) :=
  M2.return (a := At a 5) (b := Bt a b 5) (v95_is hA) (v206_is hA hB) (v97_is hA hB) (v203_is hA hB) _ _ _ _ rfl

theorem v216_is (hA : M2 (n := 4096) (k := 512) (res_main_v38 V) a) (hB : M2 (n := 4096) (k := 512) (res_main_v59 V) b) : M2 (n := 128) (k := 512) (res_main_v216 V) (HP (At a 5) (Bt a b 5)) :=
  M2.before zrow_is (v213_is hA hB) _ _

theorem v223_is (hA : M2 (n := 4096) (k := 512) (res_main_v38 V) a) (hB : M2 (n := 4096) (k := 512) (res_main_v59 V) b) : M2 (n := 256) (k := 512) (res_main_v223 V) (HS (At a 4) (Bt a b 4)) :=
  M2.return (a := At a 4) (b := Bt a b 4) (v88_is hA) (v216_is hA hB) (v90_is hA hB) (v213_is hA hB) _ _ _ _ rfl

theorem v226_is (hA : M2 (n := 4096) (k := 512) (res_main_v38 V) a) (hB : M2 (n := 4096) (k := 512) (res_main_v59 V) b) : M2 (n := 256) (k := 512) (res_main_v226 V) (HP (At a 4) (Bt a b 4)) :=
  M2.before zrow_is (v223_is hA hB) _ _

theorem v233_is (hA : M2 (n := 4096) (k := 512) (res_main_v38 V) a) (hB : M2 (n := 4096) (k := 512) (res_main_v59 V) b) : M2 (n := 512) (k := 512) (res_main_v233 V) (HS (At a 3) (Bt a b 3)) :=
  M2.return (a := At a 3) (b := Bt a b 3) (v81_is hA) (v226_is hA hB) (v83_is hA hB) (v223_is hA hB) _ _ _ _ rfl

theorem v236_is (hA : M2 (n := 4096) (k := 512) (res_main_v38 V) a) (hB : M2 (n := 4096) (k := 512) (res_main_v59 V) b) : M2 (n := 512) (k := 512) (res_main_v236 V) (HP (At a 3) (Bt a b 3)) :=
  M2.before zrow_is (v233_is hA hB) _ _

theorem v243_is (hA : M2 (n := 4096) (k := 512) (res_main_v38 V) a) (hB : M2 (n := 4096) (k := 512) (res_main_v59 V) b) : M2 (n := 1024) (k := 512) (res_main_v243 V) (HS (At a 2) (Bt a b 2)) :=
  M2.return (a := At a 2) (b := Bt a b 2) (v74_is hA) (v236_is hA hB) (v76_is hA hB) (v233_is hA hB) _ _ _ _ rfl

theorem v246_is (hA : M2 (n := 4096) (k := 512) (res_main_v38 V) a) (hB : M2 (n := 4096) (k := 512) (res_main_v59 V) b) : M2 (n := 1024) (k := 512) (res_main_v246 V) (HP (At a 2) (Bt a b 2)) :=
  M2.before zrow_is (v243_is hA hB) _ _

theorem v253_is (hA : M2 (n := 4096) (k := 512) (res_main_v38 V) a) (hB : M2 (n := 4096) (k := 512) (res_main_v59 V) b) : M2 (n := 2048) (k := 512) (res_main_v253 V) (HS (At a 1) (Bt a b 1)) :=
  M2.return (a := At a 1) (b := Bt a b 1) (v67_is hA) (v246_is hA hB) (v69_is hA hB) (v243_is hA hB) _ _ _ _ rfl

theorem v256_is (hA : M2 (n := 4096) (k := 512) (res_main_v38 V) a) (hB : M2 (n := 4096) (k := 512) (res_main_v59 V) b) : M2 (n := 2048) (k := 512) (res_main_v256 V) (HP (At a 1) (Bt a b 1)) :=
  M2.before zrow_is (v253_is hA hB) _ _

theorem v263_is (hA : M2 (n := 4096) (k := 512) (res_main_v38 V) a) (hB : M2 (n := 4096) (k := 512) (res_main_v59 V) b) : M2 (n := 4096) (k := 512) (res_main_v263 V) (HS (At a 0) (Bt a b 0)) :=
  M2.return (a := At a 0) (b := Bt a b 0) (v60_is hA) (v256_is hA hB) (v62_is hA hB) (v253_is hA hB) _ _ _ _ rfl

theorem v338_is (hA : M2 (n := 4096) (k := 512) (res_main_v38 V) a) (hD : M3 (n := 2048) (k := 2) (l := 512) (res_main_v336 V) fun r p c => d (2 * r + p) c) : M2 (n := 2048) (k := 512) (res_main_v338 V) (fun r c => Dt a d 0 (2 * r) c) :=
  M3.half hD 0 _ _

theorem v341_is (hA : M2 (n := 4096) (k := 512) (res_main_v38 V) a) (hD : M3 (n := 2048) (k := 2) (l := 512) (res_main_v336 V) fun r p c => d (2 * r + p) c) : M2 (n := 2048) (k := 512) (res_main_v341 V) (fun r c => At a 0 (2 * r) c * Dt a d 0 (2 * r) c) :=
  (v60_is hA).mul (v338_is hA hD)

theorem v347_is (hA : M2 (n := 4096) (k := 512) (res_main_v38 V) a) (hD : M3 (n := 2048) (k := 2) (l := 512) (res_main_v336 V) fun r p c => d (2 * r + p) c) : M3 (n := 1024) (k := 2) (l := 512) (res_main_v347 V) fun r p c => Dt a d 1 (2 * r + p) c :=
  M2.pairs (f := Dt a d 1) (M2.source (a := At a 0) (d := Dt a d 0) zeros_is (M3.half hD 1 _ _) (v341_is hA hD) _ _ _ rfl) _

theorem v349_is (hA : M2 (n := 4096) (k := 512) (res_main_v38 V) a) (hD : M3 (n := 2048) (k := 2) (l := 512) (res_main_v336 V) fun r p c => d (2 * r + p) c) : M2 (n := 1024) (k := 512) (res_main_v349 V) (fun r c => Dt a d 1 (2 * r) c) :=
  M3.half (v347_is hA hD) 0 _ _

theorem v352_is (hA : M2 (n := 4096) (k := 512) (res_main_v38 V) a) (hD : M3 (n := 2048) (k := 2) (l := 512) (res_main_v336 V) fun r p c => d (2 * r + p) c) : M2 (n := 1024) (k := 512) (res_main_v352 V) (fun r c => At a 1 (2 * r) c * Dt a d 1 (2 * r) c) :=
  (v67_is hA).mul (v349_is hA hD)

theorem v358_is (hA : M2 (n := 4096) (k := 512) (res_main_v38 V) a) (hD : M3 (n := 2048) (k := 2) (l := 512) (res_main_v336 V) fun r p c => d (2 * r + p) c) : M3 (n := 512) (k := 2) (l := 512) (res_main_v358 V) fun r p c => Dt a d 2 (2 * r + p) c :=
  M2.pairs (f := Dt a d 2) (M2.source (a := At a 1) (d := Dt a d 1) zeros_is (M3.half (v347_is hA hD) 1 _ _) (v352_is hA hD) _ _ _ rfl) _

theorem v360_is (hA : M2 (n := 4096) (k := 512) (res_main_v38 V) a) (hD : M3 (n := 2048) (k := 2) (l := 512) (res_main_v336 V) fun r p c => d (2 * r + p) c) : M2 (n := 512) (k := 512) (res_main_v360 V) (fun r c => Dt a d 2 (2 * r) c) :=
  M3.half (v358_is hA hD) 0 _ _

theorem v363_is (hA : M2 (n := 4096) (k := 512) (res_main_v38 V) a) (hD : M3 (n := 2048) (k := 2) (l := 512) (res_main_v336 V) fun r p c => d (2 * r + p) c) : M2 (n := 512) (k := 512) (res_main_v363 V) (fun r c => At a 2 (2 * r) c * Dt a d 2 (2 * r) c) :=
  (v74_is hA).mul (v360_is hA hD)

theorem v369_is (hA : M2 (n := 4096) (k := 512) (res_main_v38 V) a) (hD : M3 (n := 2048) (k := 2) (l := 512) (res_main_v336 V) fun r p c => d (2 * r + p) c) : M3 (n := 256) (k := 2) (l := 512) (res_main_v369 V) fun r p c => Dt a d 3 (2 * r + p) c :=
  M2.pairs (f := Dt a d 3) (M2.source (a := At a 2) (d := Dt a d 2) zeros_is (M3.half (v358_is hA hD) 1 _ _) (v363_is hA hD) _ _ _ rfl) _

theorem v371_is (hA : M2 (n := 4096) (k := 512) (res_main_v38 V) a) (hD : M3 (n := 2048) (k := 2) (l := 512) (res_main_v336 V) fun r p c => d (2 * r + p) c) : M2 (n := 256) (k := 512) (res_main_v371 V) (fun r c => Dt a d 3 (2 * r) c) :=
  M3.half (v369_is hA hD) 0 _ _

theorem v374_is (hA : M2 (n := 4096) (k := 512) (res_main_v38 V) a) (hD : M3 (n := 2048) (k := 2) (l := 512) (res_main_v336 V) fun r p c => d (2 * r + p) c) : M2 (n := 256) (k := 512) (res_main_v374 V) (fun r c => At a 3 (2 * r) c * Dt a d 3 (2 * r) c) :=
  (v81_is hA).mul (v371_is hA hD)

theorem v380_is (hA : M2 (n := 4096) (k := 512) (res_main_v38 V) a) (hD : M3 (n := 2048) (k := 2) (l := 512) (res_main_v336 V) fun r p c => d (2 * r + p) c) : M3 (n := 128) (k := 2) (l := 512) (res_main_v380 V) fun r p c => Dt a d 4 (2 * r + p) c :=
  M2.pairs (f := Dt a d 4) (M2.source (a := At a 3) (d := Dt a d 3) zeros_is (M3.half (v369_is hA hD) 1 _ _) (v374_is hA hD) _ _ _ rfl) _

theorem v382_is (hA : M2 (n := 4096) (k := 512) (res_main_v38 V) a) (hD : M3 (n := 2048) (k := 2) (l := 512) (res_main_v336 V) fun r p c => d (2 * r + p) c) : M2 (n := 128) (k := 512) (res_main_v382 V) (fun r c => Dt a d 4 (2 * r) c) :=
  M3.half (v380_is hA hD) 0 _ _

theorem v385_is (hA : M2 (n := 4096) (k := 512) (res_main_v38 V) a) (hD : M3 (n := 2048) (k := 2) (l := 512) (res_main_v336 V) fun r p c => d (2 * r + p) c) : M2 (n := 128) (k := 512) (res_main_v385 V) (fun r c => At a 4 (2 * r) c * Dt a d 4 (2 * r) c) :=
  (v88_is hA).mul (v382_is hA hD)

theorem v391_is (hA : M2 (n := 4096) (k := 512) (res_main_v38 V) a) (hD : M3 (n := 2048) (k := 2) (l := 512) (res_main_v336 V) fun r p c => d (2 * r + p) c) : M3 (n := 64) (k := 2) (l := 512) (res_main_v391 V) fun r p c => Dt a d 5 (2 * r + p) c :=
  M2.pairs (f := Dt a d 5) (M2.source (a := At a 4) (d := Dt a d 4) zeros_is (M3.half (v380_is hA hD) 1 _ _) (v385_is hA hD) _ _ _ rfl) _

theorem v393_is (hA : M2 (n := 4096) (k := 512) (res_main_v38 V) a) (hD : M3 (n := 2048) (k := 2) (l := 512) (res_main_v336 V) fun r p c => d (2 * r + p) c) : M2 (n := 64) (k := 512) (res_main_v393 V) (fun r c => Dt a d 5 (2 * r) c) :=
  M3.half (v391_is hA hD) 0 _ _

theorem v396_is (hA : M2 (n := 4096) (k := 512) (res_main_v38 V) a) (hD : M3 (n := 2048) (k := 2) (l := 512) (res_main_v336 V) fun r p c => d (2 * r + p) c) : M2 (n := 64) (k := 512) (res_main_v396 V) (fun r c => At a 5 (2 * r) c * Dt a d 5 (2 * r) c) :=
  (v95_is hA).mul (v393_is hA hD)

theorem v402_is (hA : M2 (n := 4096) (k := 512) (res_main_v38 V) a) (hD : M3 (n := 2048) (k := 2) (l := 512) (res_main_v336 V) fun r p c => d (2 * r + p) c) : M3 (n := 32) (k := 2) (l := 512) (res_main_v402 V) fun r p c => Dt a d 6 (2 * r + p) c :=
  M2.pairs (f := Dt a d 6) (M2.source (a := At a 5) (d := Dt a d 5) zeros_is (M3.half (v391_is hA hD) 1 _ _) (v396_is hA hD) _ _ _ rfl) _

theorem v404_is (hA : M2 (n := 4096) (k := 512) (res_main_v38 V) a) (hD : M3 (n := 2048) (k := 2) (l := 512) (res_main_v336 V) fun r p c => d (2 * r + p) c) : M2 (n := 32) (k := 512) (res_main_v404 V) (fun r c => Dt a d 6 (2 * r) c) :=
  M3.half (v402_is hA hD) 0 _ _

theorem v407_is (hA : M2 (n := 4096) (k := 512) (res_main_v38 V) a) (hD : M3 (n := 2048) (k := 2) (l := 512) (res_main_v336 V) fun r p c => d (2 * r + p) c) : M2 (n := 32) (k := 512) (res_main_v407 V) (fun r c => At a 6 (2 * r) c * Dt a d 6 (2 * r) c) :=
  (v102_is hA).mul (v404_is hA hD)

theorem v413_is (hA : M2 (n := 4096) (k := 512) (res_main_v38 V) a) (hD : M3 (n := 2048) (k := 2) (l := 512) (res_main_v336 V) fun r p c => d (2 * r + p) c) : M3 (n := 16) (k := 2) (l := 512) (res_main_v413 V) fun r p c => Dt a d 7 (2 * r + p) c :=
  M2.pairs (f := Dt a d 7) (M2.source (a := At a 6) (d := Dt a d 6) zeros_is (M3.half (v402_is hA hD) 1 _ _) (v407_is hA hD) _ _ _ rfl) _

theorem v415_is (hA : M2 (n := 4096) (k := 512) (res_main_v38 V) a) (hD : M3 (n := 2048) (k := 2) (l := 512) (res_main_v336 V) fun r p c => d (2 * r + p) c) : M2 (n := 16) (k := 512) (res_main_v415 V) (fun r c => Dt a d 7 (2 * r) c) :=
  M3.half (v413_is hA hD) 0 _ _

theorem v418_is (hA : M2 (n := 4096) (k := 512) (res_main_v38 V) a) (hD : M3 (n := 2048) (k := 2) (l := 512) (res_main_v336 V) fun r p c => d (2 * r + p) c) : M2 (n := 16) (k := 512) (res_main_v418 V) (fun r c => At a 7 (2 * r) c * Dt a d 7 (2 * r) c) :=
  (v109_is hA).mul (v415_is hA hD)

theorem v424_is (hA : M2 (n := 4096) (k := 512) (res_main_v38 V) a) (hD : M3 (n := 2048) (k := 2) (l := 512) (res_main_v336 V) fun r p c => d (2 * r + p) c) : M3 (n := 8) (k := 2) (l := 512) (res_main_v424 V) fun r p c => Dt a d 8 (2 * r + p) c :=
  M2.pairs (f := Dt a d 8) (M2.source (a := At a 7) (d := Dt a d 7) zeros_is (M3.half (v413_is hA hD) 1 _ _) (v418_is hA hD) _ _ _ rfl) _

theorem v426_is (hA : M2 (n := 4096) (k := 512) (res_main_v38 V) a) (hD : M3 (n := 2048) (k := 2) (l := 512) (res_main_v336 V) fun r p c => d (2 * r + p) c) : M2 (n := 8) (k := 512) (res_main_v426 V) (fun r c => Dt a d 8 (2 * r) c) :=
  M3.half (v424_is hA hD) 0 _ _

theorem v429_is (hA : M2 (n := 4096) (k := 512) (res_main_v38 V) a) (hD : M3 (n := 2048) (k := 2) (l := 512) (res_main_v336 V) fun r p c => d (2 * r + p) c) : M2 (n := 8) (k := 512) (res_main_v429 V) (fun r c => At a 8 (2 * r) c * Dt a d 8 (2 * r) c) :=
  (v116_is hA).mul (v426_is hA hD)

theorem v435_is (hA : M2 (n := 4096) (k := 512) (res_main_v38 V) a) (hD : M3 (n := 2048) (k := 2) (l := 512) (res_main_v336 V) fun r p c => d (2 * r + p) c) : M3 (n := 4) (k := 2) (l := 512) (res_main_v435 V) fun r p c => Dt a d 9 (2 * r + p) c :=
  M2.pairs (f := Dt a d 9) (M2.source (a := At a 8) (d := Dt a d 8) zeros_is (M3.half (v424_is hA hD) 1 _ _) (v429_is hA hD) _ _ _ rfl) _

theorem v437_is (hA : M2 (n := 4096) (k := 512) (res_main_v38 V) a) (hD : M3 (n := 2048) (k := 2) (l := 512) (res_main_v336 V) fun r p c => d (2 * r + p) c) : M2 (n := 4) (k := 512) (res_main_v437 V) (fun r c => Dt a d 9 (2 * r) c) :=
  M3.half (v435_is hA hD) 0 _ _

theorem v440_is (hA : M2 (n := 4096) (k := 512) (res_main_v38 V) a) (hD : M3 (n := 2048) (k := 2) (l := 512) (res_main_v336 V) fun r p c => d (2 * r + p) c) : M2 (n := 4) (k := 512) (res_main_v440 V) (fun r c => At a 9 (2 * r) c * Dt a d 9 (2 * r) c) :=
  (v123_is hA).mul (v437_is hA hD)

theorem v446_is (hA : M2 (n := 4096) (k := 512) (res_main_v38 V) a) (hD : M3 (n := 2048) (k := 2) (l := 512) (res_main_v336 V) fun r p c => d (2 * r + p) c) : M3 (n := 2) (k := 2) (l := 512) (res_main_v446 V) fun r p c => Dt a d 10 (2 * r + p) c :=
  M2.pairs (f := Dt a d 10) (M2.source (a := At a 9) (d := Dt a d 9) zeros_is (M3.half (v435_is hA hD) 1 _ _) (v440_is hA hD) _ _ _ rfl) _

theorem v448_is (hA : M2 (n := 4096) (k := 512) (res_main_v38 V) a) (hD : M3 (n := 2048) (k := 2) (l := 512) (res_main_v336 V) fun r p c => d (2 * r + p) c) : M2 (n := 2) (k := 512) (res_main_v448 V) (fun r c => Dt a d 10 (2 * r) c) :=
  M3.half (v446_is hA hD) 0 _ _

theorem v451_is (hA : M2 (n := 4096) (k := 512) (res_main_v38 V) a) (hD : M3 (n := 2048) (k := 2) (l := 512) (res_main_v336 V) fun r p c => d (2 * r + p) c) : M2 (n := 2) (k := 512) (res_main_v451 V) (fun r c => At a 10 (2 * r) c * Dt a d 10 (2 * r) c) :=
  (v130_is hA).mul (v448_is hA hD)

theorem v457_is (hA : M2 (n := 4096) (k := 512) (res_main_v38 V) a) (hD : M3 (n := 2048) (k := 2) (l := 512) (res_main_v336 V) fun r p c => d (2 * r + p) c) : M3 (n := 1) (k := 2) (l := 512) (res_main_v457 V) fun r p c => Dt a d 11 (2 * r + p) c :=
  M2.pairs (f := Dt a d 11) (M2.source (a := At a 10) (d := Dt a d 10) zeros_is (M3.half (v446_is hA hD) 1 _ _) (v451_is hA hD) _ _ _ rfl) _

theorem v459_is (hA : M2 (n := 4096) (k := 512) (res_main_v38 V) a) (hD : M3 (n := 2048) (k := 2) (l := 512) (res_main_v336 V) fun r p c => d (2 * r + p) c) : M2 (n := 1) (k := 512) (res_main_v459 V) (fun r c => Dt a d 11 (2 * r) c) :=
  M3.half (v457_is hA hD) 0 _ _

theorem v462_is (hA : M2 (n := 4096) (k := 512) (res_main_v38 V) a) (hD : M3 (n := 2048) (k := 2) (l := 512) (res_main_v336 V) fun r p c => d (2 * r + p) c) : M2 (n := 1) (k := 512) (res_main_v462 V) (fun r c => At a 11 (2 * r) c * Dt a d 11 (2 * r) c) :=
  (v137_is hA).mul (v459_is hA hD)

theorem v467_is (hA : M2 (n := 4096) (k := 512) (res_main_v38 V) a) (hD : M3 (n := 2048) (k := 2) (l := 512) (res_main_v336 V) fun r p c => d (2 * r + p) c) : M2 (n := 1) (k := 512) (res_main_v467 V) (Dt a d 12) :=
  M2.source (a := At a 11) (d := Dt a d 11) zeros_is (M3.half (v457_is hA hD) 1 _ _) (v462_is hA hD) _ _ _ rfl

theorem r12_is (hA : M2 (n := 4096) (k := 512) (res_main_v38 V) a) (hD : M3 (n := 2048) (k := 2) (l := 512) (res_main_v336 V) fun r p c => d (2 * r + p) c) : M2 (n := 1) (k := 512) (res_main_v467 V) (RV 1 (At a 12) (Dt a d 12)) := M2.bottomRV (v467_is hA hD)

theorem v473_is (hA : M2 (n := 4096) (k := 512) (res_main_v38 V) a) (hD : M3 (n := 2048) (k := 2) (l := 512) (res_main_v336 V) fun r p c => d (2 * r + p) c) : M2 (n := 2) (k := 512) (res_main_v473 V) (RV 2 (At a 11) (Dt a d 11)) :=
  M2.adjoint (a := At a 11) (d := Dt a d 11) zeros_is (r12_is hA hD) (v459_is hA hD) (v138_is hA) _ _ _ _ rfl

theorem v476_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 2) (k := 512) (res_main_v476 V) (GA 2 (At a 11) (Bt a b 11) (Dt a d 11)) :=
  M2.factor (a := At a 11) (b := Bt a b 11) (d := Dt a d 11) zeros_is
    (((r12_is hA hD).mul (v139_is hA hB)).congr fun r hr c _ => by
      rw [show GA 1 (UA (At a 11)) (UB (At a 11) (Bt a b 11)) (UC 1 (At a 11) (Dt a d 11)) r c = 0 from GA_one r c hr, zero_mul, add_zero]; rfl)
    (((v459_is hA hD).mul (v146_is hA hB)).congr fun r hr c _ => by
      rw [show GA 1 (UA (At a 11)) (UB (At a 11) (Bt a b 11)) (UC 1 (At a 11) (Dt a d 11)) r c = 0 from GA_one r c hr, mul_zero, add_zero]; rfl) _ _ _ _ rfl

theorem v486_is (hA : M2 (n := 4096) (k := 512) (res_main_v38 V) a) (hD : M3 (n := 2048) (k := 2) (l := 512) (res_main_v336 V) fun r p c => d (2 * r + p) c) : M2 (n := 4) (k := 512) (res_main_v486 V) (RV 4 (At a 10) (Dt a d 10)) :=
  M2.adjoint (a := At a 10) (d := Dt a d 10) zeros_is (v473_is hA hD) (v448_is hA hD) (v131_is hA) _ _ _ _ rfl

theorem v489_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 4) (k := 512) (res_main_v489 V) (GA 4 (At a 10) (Bt a b 10) (Dt a d 10)) :=
  M2.factor (a := At a 10) (b := Bt a b 10) (d := Dt a d 10) zeros_is
    (((v473_is hA hD).mul (v132_is hA hB)).add ((v476_is hA hB hD).mul (v130_is hA)))
    (((v448_is hA hD).mul (v156_is hA hB)).add ((v131_is hA).mul (v476_is hA hB hD))) _ _ _ _ rfl

theorem v499_is (hA : M2 (n := 4096) (k := 512) (res_main_v38 V) a) (hD : M3 (n := 2048) (k := 2) (l := 512) (res_main_v336 V) fun r p c => d (2 * r + p) c) : M2 (n := 8) (k := 512) (res_main_v499 V) (RV 8 (At a 9) (Dt a d 9)) :=
  M2.adjoint (a := At a 9) (d := Dt a d 9) zeros_is (v486_is hA hD) (v437_is hA hD) (v124_is hA) _ _ _ _ rfl

theorem v502_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 8) (k := 512) (res_main_v502 V) (GA 8 (At a 9) (Bt a b 9) (Dt a d 9)) :=
  M2.factor (a := At a 9) (b := Bt a b 9) (d := Dt a d 9) zeros_is
    (((v486_is hA hD).mul (v125_is hA hB)).add ((v489_is hA hB hD).mul (v123_is hA)))
    (((v437_is hA hD).mul (v166_is hA hB)).add ((v124_is hA).mul (v489_is hA hB hD))) _ _ _ _ rfl

theorem v512_is (hA : M2 (n := 4096) (k := 512) (res_main_v38 V) a) (hD : M3 (n := 2048) (k := 2) (l := 512) (res_main_v336 V) fun r p c => d (2 * r + p) c) : M2 (n := 16) (k := 512) (res_main_v512 V) (RV 16 (At a 8) (Dt a d 8)) :=
  M2.adjoint (a := At a 8) (d := Dt a d 8) zeros_is (v499_is hA hD) (v426_is hA hD) (v117_is hA) _ _ _ _ rfl

theorem v515_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 16) (k := 512) (res_main_v515 V) (GA 16 (At a 8) (Bt a b 8) (Dt a d 8)) :=
  M2.factor (a := At a 8) (b := Bt a b 8) (d := Dt a d 8) zeros_is
    (((v499_is hA hD).mul (v118_is hA hB)).add ((v502_is hA hB hD).mul (v116_is hA)))
    (((v426_is hA hD).mul (v176_is hA hB)).add ((v117_is hA).mul (v502_is hA hB hD))) _ _ _ _ rfl

theorem v525_is (hA : M2 (n := 4096) (k := 512) (res_main_v38 V) a) (hD : M3 (n := 2048) (k := 2) (l := 512) (res_main_v336 V) fun r p c => d (2 * r + p) c) : M2 (n := 32) (k := 512) (res_main_v525 V) (RV 32 (At a 7) (Dt a d 7)) :=
  M2.adjoint (a := At a 7) (d := Dt a d 7) zeros_is (v512_is hA hD) (v415_is hA hD) (v110_is hA) _ _ _ _ rfl

theorem v528_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 32) (k := 512) (res_main_v528 V) (GA 32 (At a 7) (Bt a b 7) (Dt a d 7)) :=
  M2.factor (a := At a 7) (b := Bt a b 7) (d := Dt a d 7) zeros_is
    (((v512_is hA hD).mul (v111_is hA hB)).add ((v515_is hA hB hD).mul (v109_is hA)))
    (((v415_is hA hD).mul (v186_is hA hB)).add ((v110_is hA).mul (v515_is hA hB hD))) _ _ _ _ rfl

theorem v538_is (hA : M2 (n := 4096) (k := 512) (res_main_v38 V) a) (hD : M3 (n := 2048) (k := 2) (l := 512) (res_main_v336 V) fun r p c => d (2 * r + p) c) : M2 (n := 64) (k := 512) (res_main_v538 V) (RV 64 (At a 6) (Dt a d 6)) :=
  M2.adjoint (a := At a 6) (d := Dt a d 6) zeros_is (v525_is hA hD) (v404_is hA hD) (v103_is hA) _ _ _ _ rfl

theorem v541_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 64) (k := 512) (res_main_v541 V) (GA 64 (At a 6) (Bt a b 6) (Dt a d 6)) :=
  M2.factor (a := At a 6) (b := Bt a b 6) (d := Dt a d 6) zeros_is
    (((v525_is hA hD).mul (v104_is hA hB)).add ((v528_is hA hB hD).mul (v102_is hA)))
    (((v404_is hA hD).mul (v196_is hA hB)).add ((v103_is hA).mul (v528_is hA hB hD))) _ _ _ _ rfl

theorem v551_is (hA : M2 (n := 4096) (k := 512) (res_main_v38 V) a) (hD : M3 (n := 2048) (k := 2) (l := 512) (res_main_v336 V) fun r p c => d (2 * r + p) c) : M2 (n := 128) (k := 512) (res_main_v551 V) (RV 128 (At a 5) (Dt a d 5)) :=
  M2.adjoint (a := At a 5) (d := Dt a d 5) zeros_is (v538_is hA hD) (v393_is hA hD) (v96_is hA) _ _ _ _ rfl

theorem v554_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 128) (k := 512) (res_main_v554 V) (GA 128 (At a 5) (Bt a b 5) (Dt a d 5)) :=
  M2.factor (a := At a 5) (b := Bt a b 5) (d := Dt a d 5) zeros_is
    (((v538_is hA hD).mul (v97_is hA hB)).add ((v541_is hA hB hD).mul (v95_is hA)))
    (((v393_is hA hD).mul (v206_is hA hB)).add ((v96_is hA).mul (v541_is hA hB hD))) _ _ _ _ rfl

theorem v564_is (hA : M2 (n := 4096) (k := 512) (res_main_v38 V) a) (hD : M3 (n := 2048) (k := 2) (l := 512) (res_main_v336 V) fun r p c => d (2 * r + p) c) : M2 (n := 256) (k := 512) (res_main_v564 V) (RV 256 (At a 4) (Dt a d 4)) :=
  M2.adjoint (a := At a 4) (d := Dt a d 4) zeros_is (v551_is hA hD) (v382_is hA hD) (v89_is hA) _ _ _ _ rfl

theorem v567_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 256) (k := 512) (res_main_v567 V) (GA 256 (At a 4) (Bt a b 4) (Dt a d 4)) :=
  M2.factor (a := At a 4) (b := Bt a b 4) (d := Dt a d 4) zeros_is
    (((v551_is hA hD).mul (v90_is hA hB)).add ((v554_is hA hB hD).mul (v88_is hA)))
    (((v382_is hA hD).mul (v216_is hA hB)).add ((v89_is hA).mul (v554_is hA hB hD))) _ _ _ _ rfl

theorem v577_is (hA : M2 (n := 4096) (k := 512) (res_main_v38 V) a) (hD : M3 (n := 2048) (k := 2) (l := 512) (res_main_v336 V) fun r p c => d (2 * r + p) c) : M2 (n := 512) (k := 512) (res_main_v577 V) (RV 512 (At a 3) (Dt a d 3)) :=
  M2.adjoint (a := At a 3) (d := Dt a d 3) zeros_is (v564_is hA hD) (v371_is hA hD) (v82_is hA) _ _ _ _ rfl

theorem v580_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 512) (k := 512) (res_main_v580 V) (GA 512 (At a 3) (Bt a b 3) (Dt a d 3)) :=
  M2.factor (a := At a 3) (b := Bt a b 3) (d := Dt a d 3) zeros_is
    (((v564_is hA hD).mul (v83_is hA hB)).add ((v567_is hA hB hD).mul (v81_is hA)))
    (((v371_is hA hD).mul (v226_is hA hB)).add ((v82_is hA).mul (v567_is hA hB hD))) _ _ _ _ rfl

theorem v590_is (hA : M2 (n := 4096) (k := 512) (res_main_v38 V) a) (hD : M3 (n := 2048) (k := 2) (l := 512) (res_main_v336 V) fun r p c => d (2 * r + p) c) : M2 (n := 1024) (k := 512) (res_main_v590 V) (RV 1024 (At a 2) (Dt a d 2)) :=
  M2.adjoint (a := At a 2) (d := Dt a d 2) zeros_is (v577_is hA hD) (v360_is hA hD) (v75_is hA) _ _ _ _ rfl

theorem v593_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 1024) (k := 512) (res_main_v593 V) (GA 1024 (At a 2) (Bt a b 2) (Dt a d 2)) :=
  M2.factor (a := At a 2) (b := Bt a b 2) (d := Dt a d 2) zeros_is
    (((v577_is hA hD).mul (v76_is hA hB)).add ((v580_is hA hB hD).mul (v74_is hA)))
    (((v360_is hA hD).mul (v236_is hA hB)).add ((v75_is hA).mul (v580_is hA hB hD))) _ _ _ _ rfl

theorem v603_is (hA : M2 (n := 4096) (k := 512) (res_main_v38 V) a) (hD : M3 (n := 2048) (k := 2) (l := 512) (res_main_v336 V) fun r p c => d (2 * r + p) c) : M2 (n := 2048) (k := 512) (res_main_v603 V) (RV 2048 (At a 1) (Dt a d 1)) :=
  M2.adjoint (a := At a 1) (d := Dt a d 1) zeros_is (v590_is hA hD) (v349_is hA hD) (v68_is hA) _ _ _ _ rfl

theorem v606_is (hA : M2 (n := 4096) (k := 512) (res_main_v38 V) a) (hB : M2 (n := 4096) (k := 512) (res_main_v59 V) b) (hD : M3 (n := 2048) (k := 2) (l := 512) (res_main_v336 V) fun r p c => d (2 * r + p) c) : M2 (n := 2048) (k := 512) (res_main_v606 V) (GA 2048 (At a 1) (Bt a b 1) (Dt a d 1)) :=
  M2.factor (a := At a 1) (b := Bt a b 1) (d := Dt a d 1) zeros_is
    (((v590_is hA hD).mul (v69_is hA hB)).add ((v593_is hA hB hD).mul (v67_is hA)))
    (((v349_is hA hD).mul (v246_is hA hB)).add ((v68_is hA).mul (v593_is hA hB hD))) _ _ _ _ rfl

theorem v616_is (hA : M2 (n := 4096) (k := 512) (res_main_v38 V) a) (hD : M3 (n := 2048) (k := 2) (l := 512) (res_main_v336 V) fun r p c => d (2 * r + p) c) : M2 (n := 4096) (k := 512) (res_main_v616 V) (RV 4096 (At a 0) (Dt a d 0)) :=
  M2.adjoint (a := At a 0) (d := Dt a d 0) zeros_is (v603_is hA hD) (v338_is hA hD) (v61_is hA) _ _ _ _ rfl

end Cert.ReferenceIdeal.Value

end
-- ==== Proof.RefVal.lean ====
/- What the reference leaves in its results, as reals. -/
module

public import proofs.«01_k».proof.Proof.Spec
public import proofs.«01_k».proof.Proof.RefTree
public import Idealize.ShloMosaic.Lib.Pipeline.ValueKit

@[expose] public section

set_option maxRecDepth 16384

noncomputable section

namespace Cert.ReferenceIdeal.Value

open Cert.Lru Cert.ReferenceIdeal Cert.ReferenceIdeal.Gen Idealize.ShloMosaic Idealize.ShloMosaic.TcCoe Idealize.SL.Sem Idealize.ShloMosaic.StableHlo
open scoped BigOperators

/-! ## The products by blocks -/

theorem heads_is {x : S4096x512.Idx → EReal} {f : ℕ → ℕ → ℝ} (hx : M2 (n := 4096) (k := 512) x f) :
    M3 (n := 4096) (k := 8) (l := 64) (shapeCast S4096x8x64 x shapeCasts_S4096x512_S4096x8x64) fun r b e => f r (64 * b + e) := fun j => by
  idx_vars j
  pointwise
  exact hx.at rfl (congrArg (· + _) (Nat.mul_comm _ _))

theorem headsT_is {x : S4096x512.Idx → EReal} {f : ℕ → ℕ → ℝ} (hx : M2 (n := 4096) (k := 512) x f) :
    M3 (n := 8) (k := 64) (l := 4096) (transpose S8x64x4096 [1, 2, 0] (shapeCast S4096x8x64 x shapeCasts_S4096x512_S4096x8x64) transposes_S4096x8x64_S8x64x4096_1_2_0)
      fun b e r => f r (64 * b + e) := fun j => by
  idx_vars j
  pointwise
  exact hx.at rfl (congrArg (· + _) (Nat.mul_comm _ _))

theorem gate_is {w : S8x64x64.Idx → EReal} {x : S4096x8x64.Idx → EReal} {fw : ℕ → ℕ → ℕ → ℝ} {f : ℕ → ℕ → ℝ} (hw : M3 (n := 8) (k := 64) (l := 64) w fw)
    (hx : M3 (n := 4096) (k := 8) (l := 64) x fun r b e => f r (64 * b + e)) :
    M2 (n := 4096) (k := 512) (shapeCast S4096x512 (transpose S4096x8x64 [2, 0, 1] (Host.dotGeneral (F := Ideal) (φ₁ := .f32) (φ₂ := .f32) dot_S8x64x64_S4096x8x64_S8x64x4096_1_2_2_0_0_1 none w x) transposes_S8x64x4096_S4096x8x64_2_0_1) shapeCasts_S4096x8x64_S4096x512)
      (blk fw f) := fun j => by
  idx_vars j
  pointwise
  rw [blk, ← coe_sum 64 fun e => _]
  exact Finset.sum_congr rfl fun e _ => (congrArg₂ (· * ·) (hw.at rfl rfl rfl) (hx.at rfl rfl rfl)).trans (EReal.coe_mul _ _).symm

theorem gateT_is {w : S8x64x64.Idx → EReal} {d : S8x64x4096.Idx → EReal} {fw : ℕ → ℕ → ℕ → ℝ} {f : ℕ → ℕ → ℝ} (hw : M3 (n := 8) (k := 64) (l := 64) w fw)
    (hd : M3 (n := 8) (k := 64) (l := 4096) d fun b e r => f r (64 * b + e))
    {w' : S8x64x64.Idx → EReal} {d' : S8x64x4096.Idx → EReal} {fw' : ℕ → ℕ → ℕ → ℝ} {f' : ℕ → ℕ → ℝ} (hw' : M3 (n := 8) (k := 64) (l := 64) w' fw')
    (hd' : M3 (n := 8) (k := 64) (l := 4096) d' fun b e r => f' r (64 * b + e)) :
    M2 (n := 4096) (k := 512) (shapeCast S4096x512 (addf (F := Ideal) (φ := .f32)
        (transpose S4096x8x64 [1, 0, 2] (Host.dotGeneral (F := Ideal) (φ₁ := .f32) (φ₂ := .f32) dot_S8x64x4096_S8x64x64_S8x4096x64_1_2_2_1_0_0 none d w) transposes_S8x4096x64_S4096x8x64_1_0_2)
        (transpose S4096x8x64 [1, 0, 2] (Host.dotGeneral (F := Ideal) (φ₁ := .f32) (φ₂ := .f32) dot_S8x64x4096_S8x64x64_S8x4096x64_1_2_2_1_0_0 none d' w') transposes_S8x4096x64_S4096x8x64_1_0_2)) shapeCasts_S4096x8x64_S4096x512)
      (fun r c => blkT fw f r c + blkT fw' f' r c) := fun j => by
  idx_vars j
  pointwise
  rw [EReal.coe_add, blkT, blkT, ← coe_sum 64 fun e => _, ← coe_sum 64 fun e => _]
  refine congrArg₂ (· + ·) ?_ ?_
  · exact Finset.sum_congr rfl fun e _ => (congrArg₂ (· * ·) (hd.at rfl rfl rfl) (hw.at rfl rfl rfl)).trans (EReal.coe_mul _ _).symm
  · exact Finset.sum_congr rfl fun e _ => (congrArg₂ (· * ·) (hd'.at rfl rfl rfl) (hw'.at rfl rfl rfl)).trans (EReal.coe_mul _ _).symm

set_option maxHeartbeats 2000000 in
theorem dw_is {d : S8x64x4096.Idx → EReal} {x : S4096x8x64.Idx → EReal} {f fx : ℕ → ℕ → ℝ} (hd : M3 (n := 8) (k := 64) (l := 4096) d fun b e r => f r (64 * b + e))
    (hx : M3 (n := 4096) (k := 8) (l := 64) x fun r b e => fx r (64 * b + e)) :
    M2 (n := 512) (k := 512) (shapeCast S512x512 (broadcastInDim S8x64x8x64 ![0, 1, 2, 3] bcast_S8x64x1x64_S8x64x8x64_0_1_2_3 (broadcastInDim S8x64x1x64 ![0, 1, 3] bcast_S8x64x64_S8x64x1x64_0_1_3 (transpose S8x64x64 [0, 2, 1] (Host.dotGeneral (F := Ideal) (φ₁ := .f32) (φ₂ := .f32) dot_S8x64x4096_S4096x8x64_S8x64x64_2_0_1_2_0_1 none d x) transposes_S8x64x64_S8x64x64_0_2_1))) shapeCasts_S8x64x8x64_S512x512)
      fun i c => ∑ r ∈ Finset.range 4096, f r (64 * (i / 64) + c % 64) * fx r i := fun j => by
  idx_vars j
  pointwise
  rw [← coe_sum 4096 fun e => _]
  refine Finset.sum_congr rfl fun e _ => (congrArg₂ (· * ·) (hd.at rfl rfl rfl) ((hx.at rfl rfl rfl).trans ?_)).trans (EReal.coe_mul _ _).symm
  exact congrArg (fun i => ((fx e.val i : ℝ) : EReal)) (Nat.div_add_mod j0.val 64)

/-! ## The reference's terms -/

/-- The arguments a valuation holds, as reals. -/
structure Ins (V : Valuation τ sig (Elt Ideal)) (P : Par) : Prop where
  dout : M2 (n := 4096) (k := 512) (V (Proc.devRef .tc main_arg0)) P.dout
  x : M2 (n := 4096) (k := 512) (V (Proc.devRef .tc main_arg1)) P.x
  p : M2 (n := 4096) (k := 3200) (V (Proc.devRef .tc main_arg2)) P.p
  wa : M3 (n := 8) (k := 64) (l := 64) (V (Proc.devRef .tc main_arg3)) P.wa
  ba : M1 (k := 512) (V (Proc.devRef .tc main_arg4)) P.ba
  wx : M3 (n := 8) (k := 64) (l := 64) (V (Proc.devRef .tc main_arg5)) P.wx
  bx : M1 (k := 512) (V (Proc.devRef .tc main_arg6)) P.bx
  lam : M1 (k := 512) (V (Proc.devRef .tc main_arg7)) P.lam
  lnw : M1 (k := 512) (V (Proc.devRef .tc main_arg8)) P.lnw

theorem const_is {b : BitVec 32} {x : ℝ} (h : Ideal.ofBits .f32 b = (x : EReal)) :
    M2 (n := 4096) (k := 512) (broadcastInDim S4096x512 ![] bcast_S_S4096x512 (constant (F := Ideal) S_ .f32 b)) fun _ _ => x := fun _ => h

theorem constc_is {b : BitVec 32} {x : ℝ} (h : Ideal.ofBits .f32 b = (x : EReal)) :
    M2 (n := 4096) (k := 1) (broadcastInDim S4096x1 ![] bcast_S_S4096x1 (constant (F := Ideal) S_ .f32 b)) fun _ _ => x := fun _ => h

theorem softp_core {e z d : EReal} {x : ℝ} (he : e = (x : EReal)) (hz : z = ((0 : ℝ) : EReal)) (hd : d = (x : EReal)) (w : EReal) :
    (if Ideal.cmp .une d d = 1 then w else max e z + Ideal.log1p (Ideal.exp (-(max d (-d))))) = ((softp x : ℝ) : EReal) := by
  rw [if_neg (by simp [Ideal.cmp]), he, hz, hd, ideal_max, ← EReal.coe_neg, ideal_max, ← EReal.coe_neg, Ideal.exp_coe,
    ideal_log1p (Real.exp_pos _).le, ← EReal.coe_add]
  rfl

theorem dlam_core {S e s t w w' : EReal} {S' e' s' : ℝ} (hS : S = (S' : EReal)) (he : e = (e' : EReal)) (hs : s = (s' : EReal)) (ht : t = ⊤) :
    -((-S) * Ideal.exp ((if Ideal.cmp .oeq e t = 1 then w else e) - (if Ideal.cmp .oeq s t = 1 then w' else s))) = ((S' * Real.exp (e' - s') : ℝ) : EReal) := by
  have q : ∀ x : ℝ, ∀ y : EReal, (if Ideal.cmp .oeq (x : EReal) ⊤ = 1 then y else (x : EReal)) = x := fun x y => by simp [Ideal.cmp]
  rw [hS, he, hs, ht, q, q, ← EReal.coe_sub, Ideal.exp_coe, ← EReal.coe_neg, ← EReal.coe_mul, ← EReal.coe_neg, neg_mul, neg_neg]

theorem sums_is {X : S4096x512.Idx → EReal} {f : ℕ → ℕ → ℝ} (hX : M2 (n := 4096) (k := 512) X f) :
    M1 (k := 512) (Host.reduceAdd (F := Ideal) (φ := .f32) (shapeCast S1x512 (Host.reduceAdd (F := Ideal) (φ := .f32) X (constant S_ .f32 0x00000000#32) reducesTo_S4096x512_S512_d0 h_S_) shapeCasts_S512_S1x512) (constant S_ .f32 0x00000000#32) reducesTo_S1x512_S512_d0 h_S_)
      fun c => ∑ r ∈ Finset.range 4096, f r c :=
  (M2.sumCols (M1.asRow (M2.sumCols hX zeros_is _ _) _) zeros_is _ _).congr fun c _ => by simp only [Finset.sum_range_one]

variable {V : Valuation τ sig (Elt Ideal)} {P : Par} (I : Ins V P)
include I

local notation "T" => M2 (n := 4096) (k := 512)

theorem v0_is : T (res_main_v0 V) P.y := (M2.slice I.p 0 512 _).congr fun r _ c _ => by rw [Nat.zero_add]; rfl

theorem v19_is : T (res_main_v19 V) P.ra :=
  (const_is bits_1).hdiv ((const_is bits_1).add (M2.hexp (M2.hneg ((gate_is I.wa (heads_is I.x)).add ((I.ba.row _).rows _)))))
    fun _ _ _ _ => (by positivity : (0 : ℝ) < 1 + Real.exp _).ne'

theorem v28_is : T (res_main_v28 V) P.rx :=
  (const_is bits_1).hdiv ((const_is bits_1).add (M2.hexp (M2.hneg ((gate_is I.wx (heads_is I.x)).add ((I.bx.row _).rows _)))))
    fun _ _ _ _ => (by positivity : (0 : ℝ) < 1 + Real.exp _).ne'

theorem v33_is : T (res_main_v33 V) P.ra8 := (const_is bits_8).mul (v19_is I)

theorem nlam_is : M1 (k := 512) (res_main_call0_v0 V) fun c => -P.lam c := fun j =>
  (congrArg (fun z : EReal => -z) (I.lam j)).trans (EReal.coe_neg _).symm

theorem softp_is : M1 (k := 512) (res_main_call0_v1_0 V) fun c => softp (-P.lam c) := fun j =>
  softp_core (nlam_is I j) bits_0 ((congrArg₂ (fun a b : EReal => a - b) (nlam_is I j) bits_0).trans (by rw [← EReal.coe_sub, sub_zero])) _

theorem v35_is : M2 (n := 1) (k := 512) (res_main_v35 V) fun _ c => P.lsg c :=
  M1.row ((softp_is I).map (fun x => -x) (fun x => -x) fun x => (EReal.coe_neg x).symm) _

theorem v37_is : T (res_main_v37 V) P.la := (v33_is I).mul ((v35_is I).rows _)
theorem v38_is : T (res_main_v38 V) P.a := M2.hexp (v37_is I)
theorem v40_is : T (res_main_v40 V) fun r c => 2 * P.la r c := (const_is bits_2).mul (v37_is I)
theorem v43_is : T (res_main_v43 V) P.om := M2.hneg (M2.hexpm1 (v40_is I))
theorem v55_is : T (res_main_v55 V) P.mult :=
  M2.hsqrt (M2.max (v43_is I) (const_is bits_ε₁)) fun _ _ _ _ => (lt_max_of_lt_right ε₁_pos).le
theorem v58_is : T (res_main_v58 V) P.gx := (v28_is I).mul I.x
theorem v59_is : T (res_main_v59 V) P.b := (v55_is I).mul (v58_is I)
theorem v263_is' : T (res_main_v263 V) P.h := v263_is (v38_is I) (v59_is I)

theorem v274_is : T (res_main_v274 V) P.th :=
  M2.htanh ((const_is bits_κ₁).mul ((v0_is I).add ((const_is bits_κ₂).mul (((v0_is I).mul (v0_is I)).mul (v0_is I)))))
theorem v283_is : T (res_main_v283 V) P.cdf := (const_is bits_half).mul ((const_is bits_1).add (v274_is I))
theorem v284_is : T (res_main_v284 V) P.gl := (v0_is I).mul (v283_is I)
theorem v285_is : T (res_main_v285 V) P.hg := (v263_is' I).mul (v284_is I)
theorem v292_is : M2 (n := 4096) (k := 1) (res_main_v292 V) fun r _ => P.ms r :=
  ((M1.col (M2.sumRows ((v285_is I).mul (v285_is I)) zeros_is _ _) _).hdiv (constc_is bits_512) fun _ _ _ _ => by norm_num).add (constc_is bits_ε₂)
theorem v293_is : M2 (n := 4096) (k := 1) (res_main_v293 V) fun r _ => P.rs r := M2.hrsqrt (v292_is I) fun r _ _ _ => P.ms_pos r
theorem v298_is : T (res_main_v298 V) fun r c => P.hg r c * P.rs r := (v285_is I).mul ((v293_is I).cols _)
theorem v306_is : T (res_main_v306 V) P.dn := I.dout.mul (M2.rows (I.lnw.row _) _)
theorem v317_is : T (res_main_v317 V) fun r _ => P.t r :=
  (M1.col (M2.sumRows (((M1.asCol (M2.sumRows ((v285_is I).mul (v306_is I)) zeros_is _ _) _).mul
    ((constc_is bits_mhalf).mul ((v293_is I).hdiv (v292_is I) fun r _ _ _ => (P.ms_pos r).ne'))).hdiv (constc_is bits_512) fun _ _ _ _ => by norm_num) zeros_is _ _) _).congr
    fun r _ c _ => by simp only [Finset.sum_range_one]; rfl
theorem v321_is : T (res_main_v321 V) P.dhg :=
  (((v306_is I).mul ((v293_is I).cols _)).add ((v285_is I).mul (v317_is I))).add ((v317_is I).mul (v285_is I))
theorem v322_is : T (res_main_v322 V) P.hd := (v263_is' I).mul (v321_is I)
theorem v330_is : T (res_main_v330 V) P.dth :=
  (const_is bits_κ₁).mul (((const_is bits_half).mul ((v0_is I).mul (v322_is I))).mul
    (((const_is bits_1).add (v274_is I)).mul ((const_is bits_1).sub (v274_is I))))
theorem v336_is : M3 (n := 2048) (k := 2) (l := 512) (res_main_v336 V) fun r p c => P.dh (2 * r + p) c :=
  M2.pairs (f := P.dh) ((v321_is I).mul (v284_is I)) _

theorem v616_is' : T (res_main_v616 V) P.g := v616_is (v38_is I) (v336_is I)
theorem v620_is : T (res_main_v620 V) P.mg := (v55_is I).mul (v616_is' I)
theorem v631_is : T (res_main_v631 V) P.dla :=
  ((const_is bits_2).mul ((M2.hneg ((((v616_is' I).mul (v58_is I)).mul ((const_is bits_half).hdiv (v55_is I) fun r _ c _ => (P.mult_pos r c).ne')).mul
    (M2.selGt (v43_is I) (const_is bits_ε₁) (const_is bits_1) (M2.selEq (v43_is I) (const_is bits_ε₁) (const_is bits_half) (const_is bits_0))))).mul (M2.hexp (v40_is I)))).add
  ((show T _ P.ga from
    M2.factor (a := At P.a 0) (b := Bt P.a P.b 0) (d := Dt P.a P.dh 0) zeros_is
    (((v603_is (v38_is I) (v336_is I)).mul (v62_is (v38_is I) (v59_is I))).add ((v606_is (v38_is I) (v59_is I) (v336_is I)).mul (v60_is (v38_is I))))
    (((v338_is (v38_is I) (v336_is I)).mul (v256_is (v38_is I) (v59_is I))).add ((v61_is (v38_is I)).mul (v606_is (v38_is I) (v59_is I) (v336_is I)))) _ _ _ _ rfl).mul (v38_is I))
theorem v641_is : T (res_main_v641 V) P.dpx := ((v620_is I).mul I.x).mul ((v28_is I).mul ((const_is bits_1).sub (v28_is I)))
theorem v642_is : T (res_main_v642 V) P.dpa :=
  ((const_is bits_8).mul ((v631_is I).mul ((v35_is I).rows _))).mul ((v19_is I).mul ((const_is bits_1).sub (v19_is I)))

/-! ## The results -/

theorem dlam_is : M1 (k := 512) (Host.negf (F := Ideal) (φ := .f32) (mulf (Host.negf (Host.reduceAdd (shapeCast S1x512 (Host.reduceAdd (mulf (res_main_v33 V) (res_main_v631 V)) (constant S_ .f32 0x00000000#32) reducesTo_S4096x512_S512_d0 h_S_) shapeCasts_S512_S1x512) (constant S_ .f32 0x00000000#32) reducesTo_S1x512_S512_d0 h_S_)) (Host.exp (subf (select (cmpf .oeq (res_main_call0_v0 V) (broadcastInDim S512 ![] bcast_S_S512 (constant S_ .f32 0x7F800000#32))) (broadcastInDim S512 ![] bcast_S_S512 (constant S_ .f32 0x00000000#32)) (res_main_call0_v0 V)) (select (cmpf .oeq (res_main_call0_v1_0 V) (broadcastInDim S512 ![] bcast_S_S512 (constant S_ .f32 0x7F800000#32))) (broadcastInDim S512 ![] bcast_S_S512 (constant S_ .f32 0x00000000#32)) (res_main_call0_v1_0 V)))))) P.dlam := fun j =>
  dlam_core (sums_is ((v33_is I).mul (v631_is I)) j) (nlam_is I j) (softp_is I j) bits_inf

omit I in
/-- What the reference's run leaves in its results. -/
structure Outs (Q : Par) (r : (ℓ : Loc nD τ sig) → Buf (Elt Ideal) ℓ) (c : Dev nD) : Prop where
  dxr : M2 (n := 4096) (k := 512) (r ((c.tc : Thread nD τ).loc main_v663)) Q.dxr
  dly : M2 (n := 4096) (k := 512) (r ((c.tc : Thread nD τ).loc main_v335)) Q.dly
  dwa : M2 (n := 512) (k := 512) (r ((c.tc : Thread nD τ).loc main_v666)) Q.dwa
  dba : M2 (n := 1) (k := 512) (r ((c.tc : Thread nD τ).loc main_v667)) fun _ => Q.dba
  dwx : M2 (n := 512) (k := 512) (r ((c.tc : Thread nD τ).loc main_v670)) Q.dwx
  dbx : M2 (n := 1) (k := 512) (r ((c.tc : Thread nD τ).loc main_v671)) fun _ => Q.dbx
  dlam : M2 (n := 1) (k := 512) (r ((c.tc : Thread nD τ).loc main_v672)) fun _ => Q.dlam
  dlnw : M2 (n := 1) (k := 512) (r ((c.tc : Thread nD τ).loc main_v673)) fun _ => Q.dlnw

omit I in
theorem outs {m : (ℓ : Loc nD τ sig) → Buf (Elt Ideal) ℓ} (Q : Dev nD → Par) (hI : ∀ c, Ins (launchContents m c) (Q c)) (ρ : Dev nD → PrngReg) :
    θ_run defs (onTc (τ := τ) (main (F := Ideal))) ⟨m, fun _ => 0, ρ⟩ fun r => ∀ c : Dev nD, Outs (Q c) r.2.mem c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, h4, h5, h6, h7, hk⟩ := h c
    have J := hI c
    refine ⟨⟨?_, ?_, ?_, ?_, ?_, ?_, ?_, ?_⟩, hk⟩
    · rw [h0]
      exact ((v28_is J).mul (v620_is J)).add (gateT_is J.wx (headsT_is (v641_is J)) J.wa (headsT_is (v642_is J)))
    · rw [h1]
      exact (((v322_is J).mul (v283_is J)).add (v330_is J)).add (((const_is bits_κ₂).mul (v330_is J)).mul ((const_is bits_3).mul ((v0_is J).mul (v0_is J))))
    · rw [h2]
      exact dw_is (headsT_is (v642_is J)) (heads_is J.x)
    · rw [h3]
      exact M1.asRow (sums_is (v642_is J)) _
    · rw [h4]
      exact dw_is (headsT_is (v641_is J)) (heads_is J.x)
    · rw [h5]
      exact M1.asRow (sums_is (v641_is J)) _
    · rw [h6]
      exact M1.asRow (dlam_is J) _
    · rw [h7]
      exact M1.asRow (sums_is ((v298_is J).mul J.dout)) _) (run m ρ)

end Cert.ReferenceIdeal.Value

end
-- ==== Proof.HostVal.lean ====
/- The kernel's windows before its region, as reals. -/
module

public import proofs.«01_k».proof.Proof.HostLine
public import proofs.«01_k».proof.Proof.RefVal

@[expose] public section

set_option maxRecDepth 16384

noncomputable section

namespace Cert.KernelIdeal.Gen

open Cert.Lru Cert.KernelIdeal Idealize.ShloMosaic Idealize.ShloMosaic.TcCoe Idealize.SL.Sem Idealize.ShloMosaic.StableHlo
open scoped BigOperators

theorem M1.of {k : ℕ} {X Y : (⟨1, ![k]⟩ : Shape).Idx → EReal} {f : ℕ → ℝ} (h : X = Y) (hY : M1 Y f) : M1 X f := h ▸ hY
theorem M2.of {n k : ℕ} {X Y : (⟨2, ![n, k]⟩ : Shape).Idx → EReal} {f : ℕ → ℕ → ℝ} (h : X = Y) (hY : M2 Y f) : M2 X f := h ▸ hY

/-- A block-diagonal matrix of eight blocks, written out. -/
def dense (w : ℕ → ℕ → ℕ → ℝ) (i c : ℕ) : ℝ := (if i / 64 = c / 64 then 1 else 0) * w (i / 64) (i % 64) (c % 64)

theorem sum_blocks (n k : ℕ) (f : ℕ → ℝ) : ∑ i ∈ Finset.range (n * k), f i = ∑ b ∈ Finset.range n, ∑ e ∈ Finset.range k, f (k * b + e) := by
  induction n with
  | zero => simp
  | succ n ih => rw [Nat.succ_mul, Finset.sum_range_add, ih, Finset.sum_range_succ, Nat.mul_comm n k]

theorem block_sum {f g : ℕ → ℝ} {b : ℕ} (hb : b < 8) (h : ∀ i e, e < 64 → f (64 * i + e) = if i = b then g e else 0) :
    ∑ i ∈ Finset.range 512, f i = ∑ e ∈ Finset.range 64, g e := by
  rw [show 512 = 8 * 64 from rfl, sum_blocks, Finset.sum_eq_single_of_mem b (Finset.mem_range.2 hb) fun i _ hi =>
    Finset.sum_eq_zero fun e he => by rw [h i e (Finset.mem_range.1 he), if_neg hi]]
  exact Finset.sum_congr rfl fun e he => by rw [h b e (Finset.mem_range.1 he), if_pos rfl]

theorem dense_mul (w : ℕ → ℕ → ℕ → ℝ) (x : ℕ → ℕ → ℝ) {r c : ℕ} (hc : c < 512) : ∑ i ∈ Finset.range 512, x r i * dense w i c = blk w x r c :=
  block_sum (b := c / 64) (by omega) fun i e he => by
    have h1 : (64 * i + e) / 64 = i := by omega
    have h2 : (64 * i + e) % 64 = e := by omega
    rw [dense, h1, h2]
    split_ifs with h
    · rw [h]; ring
    · ring

theorem dense_mulT (w : ℕ → ℕ → ℕ → ℝ) (d : ℕ → ℕ → ℝ) {r c : ℕ} (hc : c < 512) : ∑ i ∈ Finset.range 512, d r i * dense w c i = blkT w d r c :=
  block_sum (b := c / 64) (by omega) fun i e he => by
    have h1 : (64 * i + e) / 64 = i := by omega
    have h2 : (64 * i + e) % 64 = e := by omega
    rw [dense, h1, h2]
    by_cases h : i = c / 64
    · rw [if_pos h, if_pos h.symm, h]; ring
    · rw [if_neg h, if_neg fun q => h q.symm]; ring

theorem ind_is (a b : ℕ) (ha : a < 8) (hb : b < 8) :
    FloatOps.uitofp (F := Ideal) FTy.f32 (IntOp.cmpi CmpIPredicate.eq (IntOp.addi (BitVec.ofNat 32 a) 0#32) (BitVec.ofNat 32 b)) = (((if a = b then 1 else 0 : ℝ) : ℝ) : EReal) := by
  have h : IntOp.cmpi CmpIPredicate.eq (IntOp.addi (BitVec.ofNat 32 a) 0#32) (BitVec.ofNat 32 b) = if a = b then 1#1 else 0#1 := by
    interval_cases a <;> interval_cases b <;> rfl
  rw [h]
  split_ifs <;> simp [FloatOps.uitofp]

theorem sp_is {e z d w : S512.Idx → EReal} {x : ℕ → ℝ} (he : M1 (k := 512) e x) (hz : M1 (k := 512) z fun _ => 0) (hd : M1 (k := 512) d x) :
    M1 (k := 512) (select (cmpf (F := Ideal) (φ := .f32) .une d d) w (addf (F := Ideal) (φ := .f32) (maximumf (F := Ideal) (φ := .f32) e z)
      (Host.log1p (F := Ideal) (φ := .f32) (Host.exp (F := Ideal) (φ := .f32) (Host.negf (F := Ideal) (φ := .f32) (Host.absf (F := Ideal) (φ := .f32) d)))))) fun c => softp (x c) := fun j =>
  Cert.ReferenceIdeal.Value.softp_core (he j) (hz j) (hd j) _

theorem neg_is {e : S512.Idx → EReal} {x : ℕ → ℝ} (he : M1 (k := 512) e x) : M1 (k := 512) (Host.negf (F := Ideal) (φ := .f32) e) fun c => -x c :=
  he.map (fun x => -x) _ fun _ => rfl

theorem eye_is {w : S8x64x64.Idx → EReal} {fw : ℕ → ℕ → ℕ → ℝ} (hw : M3 (n := 8) (k := 64) (l := 64) w fw) :
    M2 (n := 512) (k := 512) (shapeCast S512x512 (mulf (F := Ideal) (φ := .f32)
      (broadcastInDim S8x64x8x64 ![0, 1, 2, 3] bcast_S8x1x8x1_S8x64x8x64_0_1_2_3 (broadcastInDim S8x1x8x1 ![0, 2] bcast_S8x8_S8x1x8x1_0_2
        (uitofp (F := Ideal) .f32 (cmpi .eq (addi (iotaInDim S8x8 32 0) (broadcastInDim S8x8 ![] bcast_S_S8x8 (constantI S_ 32 0#32))) (iotaInDim S8x8 32 1)))))
      (broadcastInDim S8x64x8x64 ![0, 1, 2, 3] bcast_S8x64x1x64_S8x64x8x64_0_1_2_3 (broadcastInDim S8x64x1x64 ![0, 1, 3] bcast_S8x64x64_S8x64x1x64_0_1_3 w)))
      shapeCasts_S8x64x8x64_S512x512) (dense fw) := fun j => by
  idx_vars j
  pointwise
  rw [dense, EReal.coe_mul]
  refine congrArg₂ (· * ·) ?_ (hw.at rfl rfl rfl)
  exact ind_is _ _ (by omega) (by omega)

theorem dot_is {x : S4096x512.Idx → EReal} {w : S512x512.Idx → EReal} {f : ℕ → ℕ → ℝ} {fw : ℕ → ℕ → ℕ → ℝ} (hx : M2 (n := 4096) (k := 512) x f) (hw : M2 (n := 512) (k := 512) w (dense fw)) :
    M2 (n := 4096) (k := 512) (Host.dotGeneral (F := Ideal) (φ₁ := .f32) (φ₂ := .f32) dot_S4096x512_S512x512_S4096x512_1_0_0_1_n_n none x w) (blk fw f) := fun j => by
  idx_vars j
  pointwise
  rw [← dense_mul fw f j1.isLt, ← coe_sum 512 fun e => _]
  exact Finset.sum_congr rfl fun e _ => (congrArg₂ (· * ·) (hx.at rfl rfl) (hw.at rfl rfl)).trans (EReal.coe_mul _ _).symm

theorem constH_is {b : BitVec 32} {x : ℝ} {z : S_.Idx → EReal} (e : z = constant (F := Ideal) S_ .f32 b) (h : Ideal.ofBits .f32 b = (x : EReal)) :
    M2 (n := 4096) (k := 512) (broadcastInDim S4096x512 ![] bcast_S_S4096x512 z) fun _ _ => x := fun _ => by
  rw [e]; exact h

theorem zrowH_is {z : S_.Idx → EReal} (e : z = constant (F := Ideal) S_ .f32 0x00000000#32) : M2 (n := 1) (k := 512) (broadcastInDim S1x512 ![] bcast_S_S1x512 z) fun _ _ => 0 := fun _ => by
  rw [e]; exact bits_0

/-- The arguments as reals. -/
structure Ins (m : (ℓ : Loc nD τ sig) → Buf (Elt Ideal) ℓ) (c : Dev nD) (P : Par) : Prop where
  dout : M2 (n := 4096) (k := 512) (V m c main_arg0) P.dout
  x : M2 (n := 4096) (k := 512) (V m c main_arg1) P.x
  p : M2 (n := 4096) (k := 3200) (V m c main_arg2) P.p
  wa : M3 (n := 8) (k := 64) (l := 64) (V m c main_arg3) P.wa
  ba : M1 (k := 512) (V m c main_arg4) P.ba
  wx : M3 (n := 8) (k := 64) (l := 64) (V m c main_arg5) P.wx
  bx : M1 (k := 512) (V m c main_arg6) P.bx
  lam : M1 (k := 512) (V m c main_arg7) P.lam
  lnw : M1 (k := 512) (V m c main_arg8) P.lnw

variable {m : (ℓ : Loc nD τ sig) → Buf (Elt Ideal) ℓ} {c : Dev nD} {P : Par} (I : Ins m c P)
include I

local notation "T" => M2 (n := 4096) (k := 512)

theorem hv11 : M2 (n := 512) (k := 512) (V m c main_v11) (dense P.wa) :=
  M2.of (by rw [h_v11, h_v10, h_v8, h_v6, h_v5, h_v4, h_v3, h_v0, h_v2, h_c, h_v1, h_v9, h_v7]) (eye_is I.wa)
theorem hv23 : M2 (n := 512) (k := 512) (V m c main_v23) (dense P.wx) :=
  M2.of (by rw [h_v23, h_v22, h_v20, h_v18, h_v17, h_v16, h_v15, h_v12, h_v14, h_c_0, h_v13, h_v21, h_v19]) (eye_is I.wx)
theorem hv37 : T (V m c main_v37) P.ra :=
  M2.of (by rw [h_v37, h_v36, h_v35, h_v34, h_v33, h_v32, h_v27, h_v26, h_v25, h_v24]) ((constH_is (h_cst_1 m c) bits_1).hdiv ((constH_is (h_cst m c) bits_1).add
    (M2.hexp (M2.hneg ((dot_is I.x (hv11 I)).add ((I.ba.row _).rows _))))) fun _ _ _ _ => (by positivity : (0 : ℝ) < 1 + Real.exp _).ne')
theorem hv43 : T (V m c main_v43) P.rx :=
  M2.of (by rw [h_v43, h_v42, h_v41, h_v40, h_v39, h_v38, h_v31, h_v30, h_v29, h_v28]) ((constH_is (h_cst_3 m c) bits_1).hdiv ((constH_is (h_cst_2 m c) bits_1).add
    (M2.hexp (M2.hneg ((dot_is I.x (hv23 I)).add ((I.bx.row _).rows _))))) fun _ _ _ _ => (by positivity : (0 : ℝ) < 1 + Real.exp _).ne')
theorem hv45 : T (V m c main_v45) P.ra8 := M2.of (by rw [h_v45, h_v44]) ((constH_is (h_cst_4 m c) bits_8).mul (hv37 I))
theorem hnlam : M1 (k := 512) (V m c main_call0_v0) fun c => -P.lam c := M1.of (h_call0_v0 m c) (neg_is I.lam)
theorem hsp : M1 (k := 512) (V m c main_call0_v1) fun c => softp (-P.lam c) :=
  M1.of (by rw [h_call0_v1, h_call0_call0_v4, h_call0_call0_v11, h_call0_call0_v1, h_call0_call0_v10, h_call0_call0_v9, h_call0_call0_v8, h_call0_call0_v7]) (sp_is (hnlam I)
    (M1.of (by rw [h_call0_call0_v0, h_call0_call0_cst]; rfl) fun _ => bits_0)
    (M1.of (by rw [h_call0_call0_v3, h_call0_call0_v2, h_call0_call0_cst]; rfl) fun j => (congrArg₂ (fun a b : EReal => a - b) (hnlam I j) bits_0).trans (by rw [← EReal.coe_sub, sub_zero])))
theorem hv47 : M2 (n := 1) (k := 512) (V m c main_v47) fun _ c => P.lsg c :=
  M2.of (by rw [h_v47, h_v46]) (M1.row (neg_is (hsp I)) _)
theorem hv49 : T (V m c main_v49) P.la := M2.of (by rw [h_v49, h_v48]) ((hv45 I).mul ((hv47 I).rows _))
theorem hv50 : T (V m c main_v50) P.a := M2.of (h_v50 m c) (M2.hexp (hv49 I))
theorem hv52 : T (V m c main_v52) fun r c => 2 * P.la r c := M2.of (by rw [h_v52, h_v51]) ((constH_is (h_cst_5 m c) bits_2).mul (hv49 I))
theorem hv54 : T (V m c main_v54) P.om := M2.of (by rw [h_v54, h_v53]) (M2.hneg (M2.hexpm1 (hv52 I)))
theorem hv57 : T (V m c main_v57) P.mult :=
  M2.of (by rw [h_v57, h_v56, h_v55]) (M2.hsqrt (M2.max (hv54 I) (constH_is (h_cst_6 m c) bits_ε₁)) fun _ _ _ _ => (lt_max_of_lt_right ε₁_pos).le)
theorem hv59 : T (V m c main_v59) P.b := M2.of (by rw [h_v59, h_v58]) ((hv57 I).mul ((hv43 I).mul I.x))

theorem hv60 : M2 (n := 2048) (k := 512) (V m c main_v60) (fun r c => At P.a 0 (2 * r) c) := M2.of (h_v60 m c) (M2.evens (f := At P.a 0) (hv50 I) _)
theorem hv61 : M2 (n := 2048) (k := 512) (V m c main_v61) (fun r c => At P.a 0 (2 * r + 1) c) := M2.of (h_v61 m c) (M2.odds (f := At P.a 0) (hv50 I) _)
theorem hv62 : M2 (n := 2048) (k := 512) (V m c main_v62) (fun r c => Bt P.a P.b 0 (2 * r) c) := M2.of (h_v62 m c) (M2.evens (f := Bt P.a P.b 0) (hv59 I) _)
theorem hv64 : M2 (n := 2048) (k := 512) (V m c main_v64) (At P.a 1) := M2.of (h_v64 m c) ((hv61 I).mul (hv60 I))
theorem hv66 : M2 (n := 2048) (k := 512) (V m c main_v66) (Bt P.a P.b 1) := M2.of (by rw [h_v66, h_v65, h_v63]) (((hv61 I).mul (hv62 I)).add (M2.odds (f := Bt P.a P.b 0) (hv59 I) _))

theorem hv67 : M2 (n := 1024) (k := 512) (V m c main_v67) (fun r c => At P.a 1 (2 * r) c) := M2.of (h_v67 m c) (M2.evens (f := At P.a 1) (hv64 I) _)
theorem hv68 : M2 (n := 1024) (k := 512) (V m c main_v68) (fun r c => At P.a 1 (2 * r + 1) c) := M2.of (h_v68 m c) (M2.odds (f := At P.a 1) (hv64 I) _)
theorem hv69 : M2 (n := 1024) (k := 512) (V m c main_v69) (fun r c => Bt P.a P.b 1 (2 * r) c) := M2.of (h_v69 m c) (M2.evens (f := Bt P.a P.b 1) (hv66 I) _)
theorem hv71 : M2 (n := 1024) (k := 512) (V m c main_v71) (At P.a 2) := M2.of (h_v71 m c) ((hv68 I).mul (hv67 I))
theorem hv73 : M2 (n := 1024) (k := 512) (V m c main_v73) (Bt P.a P.b 2) := M2.of (by rw [h_v73, h_v72, h_v70]) (((hv68 I).mul (hv69 I)).add (M2.odds (f := Bt P.a P.b 1) (hv66 I) _))

theorem hv74 : M2 (n := 512) (k := 512) (V m c main_v74) (fun r c => At P.a 2 (2 * r) c) := M2.of (h_v74 m c) (M2.evens (f := At P.a 2) (hv71 I) _)
theorem hv75 : M2 (n := 512) (k := 512) (V m c main_v75) (fun r c => At P.a 2 (2 * r + 1) c) := M2.of (h_v75 m c) (M2.odds (f := At P.a 2) (hv71 I) _)
theorem hv76 : M2 (n := 512) (k := 512) (V m c main_v76) (fun r c => Bt P.a P.b 2 (2 * r) c) := M2.of (h_v76 m c) (M2.evens (f := Bt P.a P.b 2) (hv73 I) _)
theorem hv78 : M2 (n := 512) (k := 512) (V m c main_v78) (At P.a 3) := M2.of (h_v78 m c) ((hv75 I).mul (hv74 I))
theorem hv80 : M2 (n := 512) (k := 512) (V m c main_v80) (Bt P.a P.b 3) := M2.of (by rw [h_v80, h_v79, h_v77]) (((hv75 I).mul (hv76 I)).add (M2.odds (f := Bt P.a P.b 2) (hv73 I) _))

theorem hv81 : M2 (n := 256) (k := 512) (V m c main_v81) (fun r c => At P.a 3 (2 * r) c) := M2.of (h_v81 m c) (M2.evens (f := At P.a 3) (hv78 I) _)
theorem hv82 : M2 (n := 256) (k := 512) (V m c main_v82) (fun r c => At P.a 3 (2 * r + 1) c) := M2.of (h_v82 m c) (M2.odds (f := At P.a 3) (hv78 I) _)
theorem hv83 : M2 (n := 256) (k := 512) (V m c main_v83) (fun r c => Bt P.a P.b 3 (2 * r) c) := M2.of (h_v83 m c) (M2.evens (f := Bt P.a P.b 3) (hv80 I) _)
theorem hv85 : M2 (n := 256) (k := 512) (V m c main_v85) (At P.a 4) := M2.of (h_v85 m c) ((hv82 I).mul (hv81 I))
theorem hv87 : M2 (n := 256) (k := 512) (V m c main_v87) (Bt P.a P.b 4) := M2.of (by rw [h_v87, h_v86, h_v84]) (((hv82 I).mul (hv83 I)).add (M2.odds (f := Bt P.a P.b 3) (hv80 I) _))

theorem hv88 : M2 (n := 128) (k := 512) (V m c main_v88) (fun r c => At P.a 4 (2 * r) c) := M2.of (h_v88 m c) (M2.evens (f := At P.a 4) (hv85 I) _)
theorem hv89 : M2 (n := 128) (k := 512) (V m c main_v89) (fun r c => At P.a 4 (2 * r + 1) c) := M2.of (h_v89 m c) (M2.odds (f := At P.a 4) (hv85 I) _)
theorem hv90 : M2 (n := 128) (k := 512) (V m c main_v90) (fun r c => Bt P.a P.b 4 (2 * r) c) := M2.of (h_v90 m c) (M2.evens (f := Bt P.a P.b 4) (hv87 I) _)
theorem hv92 : M2 (n := 128) (k := 512) (V m c main_v92) (At P.a 5) := M2.of (h_v92 m c) ((hv89 I).mul (hv88 I))
theorem hv94 : M2 (n := 128) (k := 512) (V m c main_v94) (Bt P.a P.b 5) := M2.of (by rw [h_v94, h_v93, h_v91]) (((hv89 I).mul (hv90 I)).add (M2.odds (f := Bt P.a P.b 4) (hv87 I) _))

theorem hv95 : M2 (n := 64) (k := 512) (V m c main_v95) (fun r c => At P.a 5 (2 * r) c) := M2.of (h_v95 m c) (M2.evens (f := At P.a 5) (hv92 I) _)
theorem hv96 : M2 (n := 64) (k := 512) (V m c main_v96) (fun r c => At P.a 5 (2 * r + 1) c) := M2.of (h_v96 m c) (M2.odds (f := At P.a 5) (hv92 I) _)
theorem hv97 : M2 (n := 64) (k := 512) (V m c main_v97) (fun r c => Bt P.a P.b 5 (2 * r) c) := M2.of (h_v97 m c) (M2.evens (f := Bt P.a P.b 5) (hv94 I) _)
theorem hv99 : M2 (n := 64) (k := 512) (V m c main_v99) (At P.a 6) := M2.of (h_v99 m c) ((hv96 I).mul (hv95 I))
theorem hv101 : M2 (n := 64) (k := 512) (V m c main_v101) (Bt P.a P.b 6) := M2.of (by rw [h_v101, h_v100, h_v98]) (((hv96 I).mul (hv97 I)).add (M2.odds (f := Bt P.a P.b 5) (hv94 I) _))

theorem hv102 : M2 (n := 32) (k := 512) (V m c main_v102) (fun r c => At P.a 6 (2 * r) c) := M2.of (h_v102 m c) (M2.evens (f := At P.a 6) (hv99 I) _)
theorem hv103 : M2 (n := 32) (k := 512) (V m c main_v103) (fun r c => At P.a 6 (2 * r + 1) c) := M2.of (h_v103 m c) (M2.odds (f := At P.a 6) (hv99 I) _)
theorem hv104 : M2 (n := 32) (k := 512) (V m c main_v104) (fun r c => Bt P.a P.b 6 (2 * r) c) := M2.of (h_v104 m c) (M2.evens (f := Bt P.a P.b 6) (hv101 I) _)
theorem hv106 : M2 (n := 32) (k := 512) (V m c main_v106) (At P.a 7) := M2.of (h_v106 m c) ((hv103 I).mul (hv102 I))
theorem hv108 : M2 (n := 32) (k := 512) (V m c main_v108) (Bt P.a P.b 7) := M2.of (by rw [h_v108, h_v107, h_v105]) (((hv103 I).mul (hv104 I)).add (M2.odds (f := Bt P.a P.b 6) (hv101 I) _))

theorem hv109 : M2 (n := 16) (k := 512) (V m c main_v109) (fun r c => At P.a 7 (2 * r) c) := M2.of (h_v109 m c) (M2.evens (f := At P.a 7) (hv106 I) _)
theorem hv110 : M2 (n := 16) (k := 512) (V m c main_v110) (fun r c => At P.a 7 (2 * r + 1) c) := M2.of (h_v110 m c) (M2.odds (f := At P.a 7) (hv106 I) _)
theorem hv111 : M2 (n := 16) (k := 512) (V m c main_v111) (fun r c => Bt P.a P.b 7 (2 * r) c) := M2.of (h_v111 m c) (M2.evens (f := Bt P.a P.b 7) (hv108 I) _)
theorem hv113 : M2 (n := 16) (k := 512) (V m c main_v113) (At P.a 8) := M2.of (h_v113 m c) ((hv110 I).mul (hv109 I))
theorem hv115 : M2 (n := 16) (k := 512) (V m c main_v115) (Bt P.a P.b 8) := M2.of (by rw [h_v115, h_v114, h_v112]) (((hv110 I).mul (hv111 I)).add (M2.odds (f := Bt P.a P.b 7) (hv108 I) _))

theorem hv116 : M2 (n := 8) (k := 512) (V m c main_v116) (fun r c => At P.a 8 (2 * r) c) := M2.of (h_v116 m c) (M2.evens (f := At P.a 8) (hv113 I) _)
theorem hv117 : M2 (n := 8) (k := 512) (V m c main_v117) (fun r c => At P.a 8 (2 * r + 1) c) := M2.of (h_v117 m c) (M2.odds (f := At P.a 8) (hv113 I) _)
theorem hv118 : M2 (n := 8) (k := 512) (V m c main_v118) (fun r c => Bt P.a P.b 8 (2 * r) c) := M2.of (h_v118 m c) (M2.evens (f := Bt P.a P.b 8) (hv115 I) _)
theorem hv120 : M2 (n := 8) (k := 512) (V m c main_v120) (At P.a 9) := M2.of (h_v120 m c) ((hv117 I).mul (hv116 I))
theorem hv122 : M2 (n := 8) (k := 512) (V m c main_v122) (Bt P.a P.b 9) := M2.of (by rw [h_v122, h_v121, h_v119]) (((hv117 I).mul (hv118 I)).add (M2.odds (f := Bt P.a P.b 8) (hv115 I) _))

theorem hv123 : M2 (n := 4) (k := 512) (V m c main_v123) (fun r c => At P.a 9 (2 * r) c) := M2.of (h_v123 m c) (M2.evens (f := At P.a 9) (hv120 I) _)
theorem hv124 : M2 (n := 4) (k := 512) (V m c main_v124) (fun r c => At P.a 9 (2 * r + 1) c) := M2.of (h_v124 m c) (M2.odds (f := At P.a 9) (hv120 I) _)
theorem hv125 : M2 (n := 4) (k := 512) (V m c main_v125) (fun r c => Bt P.a P.b 9 (2 * r) c) := M2.of (h_v125 m c) (M2.evens (f := Bt P.a P.b 9) (hv122 I) _)
theorem hv127 : M2 (n := 4) (k := 512) (V m c main_v127) (At P.a 10) := M2.of (h_v127 m c) ((hv124 I).mul (hv123 I))
theorem hv129 : M2 (n := 4) (k := 512) (V m c main_v129) (Bt P.a P.b 10) := M2.of (by rw [h_v129, h_v128, h_v126]) (((hv124 I).mul (hv125 I)).add (M2.odds (f := Bt P.a P.b 9) (hv122 I) _))

theorem hv130 : M2 (n := 2) (k := 512) (V m c main_v130) (fun r c => At P.a 10 (2 * r) c) := M2.of (h_v130 m c) (M2.evens (f := At P.a 10) (hv127 I) _)
theorem hv131 : M2 (n := 2) (k := 512) (V m c main_v131) (fun r c => At P.a 10 (2 * r + 1) c) := M2.of (h_v131 m c) (M2.odds (f := At P.a 10) (hv127 I) _)
theorem hv132 : M2 (n := 2) (k := 512) (V m c main_v132) (fun r c => Bt P.a P.b 10 (2 * r) c) := M2.of (h_v132 m c) (M2.evens (f := Bt P.a P.b 10) (hv129 I) _)
theorem hv134 : M2 (n := 2) (k := 512) (V m c main_v134) (At P.a 11) := M2.of (h_v134 m c) ((hv131 I).mul (hv130 I))
theorem hv136 : M2 (n := 2) (k := 512) (V m c main_v136) (Bt P.a P.b 11) := M2.of (by rw [h_v136, h_v135, h_v133]) (((hv131 I).mul (hv132 I)).add (M2.odds (f := Bt P.a P.b 10) (hv129 I) _))

theorem hv137 : M2 (n := 1) (k := 512) (V m c main_v137) (fun r c => At P.a 11 (2 * r) c) := M2.of (h_v137 m c) (M2.evens (f := At P.a 11) (hv134 I) _)
theorem hv138 : M2 (n := 1) (k := 512) (V m c main_v138) (fun r c => At P.a 11 (2 * r + 1) c) := M2.of (h_v138 m c) (M2.odds (f := At P.a 11) (hv134 I) _)
theorem hv139 : M2 (n := 1) (k := 512) (V m c main_v139) (fun r c => Bt P.a P.b 11 (2 * r) c) := M2.of (h_v139 m c) (M2.evens (f := Bt P.a P.b 11) (hv136 I) _)
theorem hv141 : M2 (n := 1) (k := 512) (V m c main_v141) (At P.a 12) := M2.of (h_v141 m c) ((hv138 I).mul (hv137 I))
theorem hv143 : M2 (n := 1) (k := 512) (V m c main_v143) (Bt P.a P.b 12) := M2.of (by rw [h_v143, h_v142, h_v140]) (((hv138 I).mul (hv139 I)).add (M2.odds (f := Bt P.a P.b 11) (hv136 I) _))

theorem hbot : M2 (n := 1) (k := 512) (V m c main_v143) (HS (At P.a 12) (Bt P.a P.b 12)) := M2.bottom (hv143 I)

theorem hv146 : M2 (n := 1) (k := 512) (V m c main_v146) (HP (At P.a 12) (Bt P.a P.b 12)) :=
  M2.of (by rw [h_v146, h_v144, h_v145]) (M2.before (zrowH_is (h_cst_7 m c)) (hbot I) _ _)
theorem hv152 : M2 (n := 2) (k := 512) (V m c main_v152) (HS (At P.a 11) (Bt P.a P.b 11)) :=
  M2.of (by rw [h_v152, h_v151, h_v149, h_v150, h_v148, h_v147]) (M2.return (a := At P.a 11) (b := Bt P.a P.b 11) (hv137 I) (hv146 I) (hv139 I) (hbot I) _ _ _ _ rfl)

theorem hv155 : M2 (n := 2) (k := 512) (V m c main_v155) (HP (At P.a 11) (Bt P.a P.b 11)) :=
  M2.of (by rw [h_v155, h_v153, h_v154]) (M2.before (zrowH_is (h_cst_8 m c)) (hv152 I) _ _)
theorem hv161 : M2 (n := 4) (k := 512) (V m c main_v161) (HS (At P.a 10) (Bt P.a P.b 10)) :=
  M2.of (by rw [h_v161, h_v160, h_v158, h_v159, h_v157, h_v156]) (M2.return (a := At P.a 10) (b := Bt P.a P.b 10) (hv130 I) (hv155 I) (hv132 I) (hv152 I) _ _ _ _ rfl)

theorem hv164 : M2 (n := 4) (k := 512) (V m c main_v164) (HP (At P.a 10) (Bt P.a P.b 10)) :=
  M2.of (by rw [h_v164, h_v162, h_v163]) (M2.before (zrowH_is (h_cst_9 m c)) (hv161 I) _ _)
theorem hv170 : M2 (n := 8) (k := 512) (V m c main_v170) (HS (At P.a 9) (Bt P.a P.b 9)) :=
  M2.of (by rw [h_v170, h_v169, h_v167, h_v168, h_v166, h_v165]) (M2.return (a := At P.a 9) (b := Bt P.a P.b 9) (hv123 I) (hv164 I) (hv125 I) (hv161 I) _ _ _ _ rfl)

theorem hv173 : M2 (n := 8) (k := 512) (V m c main_v173) (HP (At P.a 9) (Bt P.a P.b 9)) :=
  M2.of (by rw [h_v173, h_v171, h_v172]) (M2.before (zrowH_is (h_cst_10 m c)) (hv170 I) _ _)
theorem hv179 : M2 (n := 16) (k := 512) (V m c main_v179) (HS (At P.a 8) (Bt P.a P.b 8)) :=
  M2.of (by rw [h_v179, h_v178, h_v176, h_v177, h_v175, h_v174]) (M2.return (a := At P.a 8) (b := Bt P.a P.b 8) (hv116 I) (hv173 I) (hv118 I) (hv170 I) _ _ _ _ rfl)

theorem hv182 : M2 (n := 16) (k := 512) (V m c main_v182) (HP (At P.a 8) (Bt P.a P.b 8)) :=
  M2.of (by rw [h_v182, h_v180, h_v181]) (M2.before (zrowH_is (h_cst_11 m c)) (hv179 I) _ _)
theorem hv188 : M2 (n := 32) (k := 512) (V m c main_v188) (HS (At P.a 7) (Bt P.a P.b 7)) :=
  M2.of (by rw [h_v188, h_v187, h_v185, h_v186, h_v184, h_v183]) (M2.return (a := At P.a 7) (b := Bt P.a P.b 7) (hv109 I) (hv182 I) (hv111 I) (hv179 I) _ _ _ _ rfl)

theorem hv191 : M2 (n := 32) (k := 512) (V m c main_v191) (HP (At P.a 7) (Bt P.a P.b 7)) :=
  M2.of (by rw [h_v191, h_v189, h_v190]) (M2.before (zrowH_is (h_cst_12 m c)) (hv188 I) _ _)
theorem hv197 : M2 (n := 64) (k := 512) (V m c main_v197) (HS (At P.a 6) (Bt P.a P.b 6)) :=
  M2.of (by rw [h_v197, h_v196, h_v194, h_v195, h_v193, h_v192]) (M2.return (a := At P.a 6) (b := Bt P.a P.b 6) (hv102 I) (hv191 I) (hv104 I) (hv188 I) _ _ _ _ rfl)

theorem hv200 : M2 (n := 64) (k := 512) (V m c main_v200) (HP (At P.a 6) (Bt P.a P.b 6)) :=
  M2.of (by rw [h_v200, h_v198, h_v199]) (M2.before (zrowH_is (h_cst_13 m c)) (hv197 I) _ _)
theorem hv206 : M2 (n := 128) (k := 512) (V m c main_v206) (HS (At P.a 5) (Bt P.a P.b 5)) :=
  M2.of (by rw [h_v206, h_v205, h_v203, h_v204, h_v202, h_v201]) (M2.return (a := At P.a 5) (b := Bt P.a P.b 5) (hv95 I) (hv200 I) (hv97 I) (hv197 I) _ _ _ _ rfl)

theorem hv209 : M2 (n := 128) (k := 512) (V m c main_v209) (HP (At P.a 5) (Bt P.a P.b 5)) :=
  M2.of (by rw [h_v209, h_v207, h_v208]) (M2.before (zrowH_is (h_cst_14 m c)) (hv206 I) _ _)
theorem hv215 : M2 (n := 256) (k := 512) (V m c main_v215) (HS (At P.a 4) (Bt P.a P.b 4)) :=
  M2.of (by rw [h_v215, h_v214, h_v212, h_v213, h_v211, h_v210]) (M2.return (a := At P.a 4) (b := Bt P.a P.b 4) (hv88 I) (hv209 I) (hv90 I) (hv206 I) _ _ _ _ rfl)

theorem hv218 : M2 (n := 256) (k := 512) (V m c main_v218) (HP (At P.a 4) (Bt P.a P.b 4)) :=
  M2.of (by rw [h_v218, h_v216, h_v217]) (M2.before (zrowH_is (h_cst_15 m c)) (hv215 I) _ _)
theorem hv224 : M2 (n := 512) (k := 512) (V m c main_v224) (HS (At P.a 3) (Bt P.a P.b 3)) :=
  M2.of (by rw [h_v224, h_v223, h_v221, h_v222, h_v220, h_v219]) (M2.return (a := At P.a 3) (b := Bt P.a P.b 3) (hv81 I) (hv218 I) (hv83 I) (hv215 I) _ _ _ _ rfl)

theorem hv227 : M2 (n := 512) (k := 512) (V m c main_v227) (HP (At P.a 3) (Bt P.a P.b 3)) :=
  M2.of (by rw [h_v227, h_v225, h_v226]) (M2.before (zrowH_is (h_cst_16 m c)) (hv224 I) _ _)
theorem hv233 : M2 (n := 1024) (k := 512) (V m c main_v233) (HS (At P.a 2) (Bt P.a P.b 2)) :=
  M2.of (by rw [h_v233, h_v232, h_v230, h_v231, h_v229, h_v228]) (M2.return (a := At P.a 2) (b := Bt P.a P.b 2) (hv74 I) (hv227 I) (hv76 I) (hv224 I) _ _ _ _ rfl)

theorem hv236 : M2 (n := 1024) (k := 512) (V m c main_v236) (HP (At P.a 2) (Bt P.a P.b 2)) :=
  M2.of (by rw [h_v236, h_v234, h_v235]) (M2.before (zrowH_is (h_cst_17 m c)) (hv233 I) _ _)
theorem hv242 : M2 (n := 2048) (k := 512) (V m c main_v242) (HS (At P.a 1) (Bt P.a P.b 1)) :=
  M2.of (by rw [h_v242, h_v241, h_v239, h_v240, h_v238, h_v237]) (M2.return (a := At P.a 1) (b := Bt P.a P.b 1) (hv67 I) (hv236 I) (hv69 I) (hv233 I) _ _ _ _ rfl)

theorem hv245 : M2 (n := 2048) (k := 512) (V m c main_v245) (HP (At P.a 1) (Bt P.a P.b 1)) :=
  M2.of (by rw [h_v245, h_v243, h_v244]) (M2.before (zrowH_is (h_cst_18 m c)) (hv242 I) _ _)
theorem hv251 : M2 (n := 4096) (k := 512) (V m c main_v251) (HS (At P.a 0) (Bt P.a P.b 0)) :=
  M2.of (by rw [h_v251, h_v250, h_v248, h_v249, h_v247, h_v246]) (M2.return (a := At P.a 0) (b := Bt P.a P.b 0) (hv60 I) (hv245 I) (hv62 I) (hv242 I) _ _ _ _ rfl)

theorem hv252 : M2 (n := 512) (k := 512) (V m c main_v252) (dense P.wa) := M2.of (h_v252 m c) (hv11 I)
theorem hv254 : M2 (n := 512) (k := 512) (V m c main_v254) (dense P.wx) := M2.of (h_v254 m c) (hv23 I)
theorem hv253 : M2 (n := 1) (k := 512) (V m c main_v253) fun _ => P.ba := M2.of (h_v253 m c) (M1.asRow I.ba _)
theorem hv255 : M2 (n := 1) (k := 512) (V m c main_v255) fun _ => P.bx := M2.of (h_v255 m c) (M1.asRow I.bx _)
theorem hv256 : M2 (n := 1) (k := 512) (V m c main_v256) fun _ => P.lam := M2.of (h_v256 m c) (M1.asRow I.lam _)
theorem hv257 : M2 (n := 1) (k := 512) (V m c main_v257) fun _ => P.lnw := M2.of (h_v257 m c) (M1.asRow I.lnw _)
theorem hh : T (V m c main_v251) P.h := hv251 I

end Cert.KernelIdeal.Gen

end
-- ==== Proof.Body.lean ====
/- The body's words over the reals, up to the gradient that enters the recurrence. -/
module

public import proofs.«01_k».proof.Proof.Dots
public import proofs.«01_k».proof.Proof.HostVal

@[expose] public section

noncomputable section

namespace Cert.KernelIdeal.Gen

open Idealize.ShloMosaic Idealize.ShloMosaic.TcCoe Idealize.ShloMosaic.Tactic Cert.Lru
open scoped BigOperators

/-- A tile's array, and a row, as real functions. -/
abbrev B (X : S256x512.Idx → EReal) (f : ℕ → ℕ → ℝ) : Prop := M2 (n := 256) (k := 512) X f
abbrev R (X : S1x512.Idx → EReal) (f : ℕ → ℝ) : Prop := M2 (n := 1) (k := 512) X fun _ c => f c

/-- The tile from row `o`, its carried rows `an`, `gn` and the row of `h` before it. -/
structure Holds (T : Tile Ideal) (P : Par) (o : ℕ) (an gn hq : ℕ → ℝ) : Prop where
  x0 : B T.x0 fun r c => P.dout (o + r) c
  x1 : B T.x1 fun r c => P.x (o + r) c
  x2 : B T.x2 fun r c => P.y (o + r) c
  x3 : B T.x3 fun r c => P.h (o + r) c
  x5 : M2 (n := 512) (k := 512) T.x5 (dense P.wa)
  x6 : R T.x6 P.ba
  x7 : M2 (n := 512) (k := 512) T.x7 (dense P.wx)
  x8 : R T.x8 P.bx
  x9 : R T.x9 P.lam
  x10 : R T.x10 P.lnw
  r0 : R T.r0 an
  r1 : R T.r1 gn
  hp : R T.hp hq
  pos : (T.i 0).val * 256 + o = 3840
  before : o ≠ 0 → ∀ c < 512, hq c = P.h (o - 1) c
  after : ∀ c < 512, P.g (o + 255) c = P.dh (o + 255) c + an c * gn c

/-- The hyperbolic tangent by one exponential. -/
theorem tanh_as (x : ℝ) : Real.tanh x = (Real.exp (2 * x) - 1) / (Real.exp (2 * x) + 1) := by
  have h1 : Real.exp (2 * x) = Real.exp x * Real.exp x := by rw [← Real.exp_add]; ring_nf
  have h2 : Real.exp x * Real.exp (-x) = 1 := by rw [← Real.exp_add, add_neg_cancel, Real.exp_zero]
  have h3 := Real.exp_pos x
  have h4 := Real.exp_pos (-x)
  rw [Real.tanh_eq_sinh_div_cosh, Real.sinh_eq, Real.cosh_eq, h1, div_div_div_cancel_right₀ (by norm_num), div_eq_div_iff (by positivity) (by positivity)]
  linear_combination (-2 * Real.exp x) * h2 + (2 * Real.exp x - 2 * Real.exp x) * h2

theorem one_sub_tanh (x : ℝ) : 1 - Real.tanh x = 2 / (Real.exp (2 * x) + 1) := by
  have := Real.exp_pos (2 * x)
  rw [tanh_as]; field_simp; ring

theorem one_sub_tanh_ne (x : ℝ) : 1 - Real.tanh x ≠ 0 := by
  have := Real.exp_pos (2 * x)
  rw [one_sub_tanh]; positivity

theorem om_eq (x : ℝ) : -2 * Real.tanh x / (1 - Real.tanh x) = -(Real.exp (2 * x) - 1) := by
  have := Real.exp_pos (2 * x)
  rw [one_sub_tanh, tanh_as]; field_simp

theorem dla_eq (x W : ℝ) :
    ((0 - (0 - W * (1 / ((1 - Real.tanh x) * (1 - Real.tanh x))) * (-2 * Real.tanh x))) + -2 * (W / (1 - Real.tanh x))) *
      ((1 + Real.tanh x) * (1 - Real.tanh x)) = 2 * (-W * Real.exp (2 * x)) := by
  have := Real.exp_pos (2 * x)
  rw [one_sub_tanh, tanh_as]; field_simp; ring

theorem sig_eq (t : ℝ) : (1 + Real.exp (-t))⁻¹ = Cert.Lru.sig t := by rw [Cert.Lru.sig, one_div]

namespace Tile

variable {T : Tile Ideal} {P : Par} {o : ℕ} {an gn hq : ℕ → ℝ} (H : Holds T P o an gn hq)
include H

theorem v4_is : M2 (n := 256) (k := 512) T.v4 fun r c => P.x (o + r) c := M2.truncf H.x1 _

theorem v21_is : B T.v21 fun r c => P.ra (o + r) c :=
  (M2.logistic ((gateDot_is (v4_is H) (H.x5.cast _)).add ((H.x6.cast _).rowsTo _))).congr fun r _ c hc => by
    rw [sig_eq, dense_mul P.wa (fun r => P.x (o + r)) hc]; rfl

theorem v25_is : B T.v25 fun r c => P.rx (o + r) c :=
  (M2.logistic ((gateDot_is (v4_is H) (H.x7.cast _)).add ((H.x8.cast _).rowsTo _))).congr fun r _ c hc => by
    rw [sig_eq, dense_mul P.wx (fun r => P.x (o + r)) hc]; rfl

theorem v24_is : B T.v24 fun r c => P.ra (o + r) c * (1 - P.ra (o + r) c) := (v21_is H).mul ((M2.splat bits_1).sub (v21_is H))
theorem v28_is : B T.v28 fun r c => P.rx (o + r) c * (1 - P.rx (o + r) c) := (v25_is H).mul ((M2.splat bits_1).sub (v25_is H))

theorem v30_is : R T.v30 fun c => -P.lam c := ((M2.splat bits_0).sub (H.x9.cast _)).congr fun _ _ c _ => zero_sub _
theorem v32_is : R T.v32 fun c => max (-P.lam c) 0 := (v30_is H).max (M2.splat bits_0)
theorem v47_is : R T.v47 fun c => Real.exp (-|(-P.lam c)|) :=
  (M2.exp ((M2.splat bits_0).sub (v30_is H).abs)).congr fun _ _ c _ => by rw [zero_sub]
theorem v50_is : R T.v50 fun c => Real.exp (-|(-P.lam c)|) + 1 := (v47_is H).add (M2.splat bits_1)
theorem v53_is : R T.v53 P.lsg :=
  ((M2.splat bits_0).sub ((v32_is H).add ((v47_is H).log1p fun _ _ _ _ => (Real.exp_pos _).le))).congr fun _ _ c _ => zero_sub _

theorem v55_is : B T.v55 fun r c => P.ra8 (o + r) c := (M2.splat bits_8).mul (v21_is H)
theorem v57_is : B (k0_pay22 T.v21 T.v30 T.v32) fun r c => P.la (o + r) c := (v55_is H).mul ((v53_is H).rowsTo _)
theorem v58_is : B T.v58 fun r c => P.a (o + r) c := M2.exp (v57_is H)
theorem v59_is : B (k0_pay24 T.v21 T.v30 T.v32) fun r c => Real.tanh (P.la (o + r) c) := M2.tanh (v57_is H)
theorem v64_is : B T.v64 fun r c => (1 + Real.tanh (P.la (o + r) c)) * (1 - Real.tanh (P.la (o + r) c)) :=
  ((M2.splat bits_1).add (v59_is H)).mul ((M2.splat bits_1).sub (v59_is H))
theorem v66_is : B T.v66 fun r c => -2 * Real.tanh (P.la (o + r) c) := (M2.splat bits_m2).mul (v59_is H)
theorem v68_is : B T.v68 fun r c => 1 - Real.tanh (P.la (o + r) c) := (M2.splat bits_1).sub (v59_is H)
theorem v69_is : B (k0_pay28 T.v21 T.v30 T.v32) fun r c => P.om (o + r) c :=
  ((v66_is H).div (v68_is H) fun _ _ _ _ => one_sub_tanh_ne _).congr fun _ _ _ _ => om_eq _
theorem v72_is : B T.v72 fun r c => 1 / ((1 - Real.tanh (P.la (o + r) c)) * (1 - Real.tanh (P.la (o + r) c))) :=
  (M2.splat bits_1).div ((v68_is H).mul (v68_is H)) fun _ _ _ _ => mul_ne_zero (one_sub_tanh_ne _) (one_sub_tanh_ne _)
theorem v74_is : B T.v74 fun r c => max (P.om (o + r) c) ε₁ := (v69_is H).max (M2.splat bits_ε₁)
theorem v83_is : B T.v83 fun r c => P.sel (o + r) c :=
  (v69_is H).selGt (M2.splat bits_ε₁) (M2.splat bits_1) ((v69_is H).selEq (M2.splat bits_ε₁) (M2.splat bits_half) (M2.splat bits_0))
theorem v84_is : B T.v84 fun r c => P.mult (o + r) c := (v74_is H).sqrt fun _ _ _ _ => le_max_of_le_right ε₁_pos.le
theorem v86_is : B T.v86 fun r c => 1 / 2 / P.mult (o + r) c := (M2.splat bits_half).div (v84_is H) fun _ _ _ _ => (P.mult_pos _ _).ne'
theorem v87_is : B T.v87 fun r c => P.gx (o + r) c := (v25_is H).mul H.x1
theorem v89_is : B T.v89 fun r c => P.h (o + r) c := H.x3.cast _
theorem v92_is : R T.v92 P.lnw := H.x10.cast _

theorem v97_is : B T.v97 fun r c => 3 * (P.y (o + r) c * P.y (o + r) c) := (M2.splat bits_3).mul (H.x2.mul H.x2)
theorem v103_is : B (k0_pay40 T.x2) fun r c => P.th (o + r) c :=
  (M2.tanh ((M2.splat bits_κ₁).mul (H.x2.add ((M2.splat bits_κ₂).mul (H.x2.mul (H.x2.mul H.x2)))))).congr fun _ _ _ _ => by
    rw [Par.th, mul_assoc (P.y _ _)]
theorem v108_is : B T.v108 fun r c => (1 + P.th (o + r) c) * (1 - P.th (o + r) c) :=
  ((M2.splat bits_1).add (v103_is H)).mul ((M2.splat bits_1).sub (v103_is H))
theorem v112_is : B T.v112 fun r c => P.cdf (o + r) c := (M2.splat bits_half).mul ((M2.splat bits_1).add (v103_is H))
theorem v113_is : B T.v113 fun r c => P.gl (o + r) c := H.x2.mul (v112_is H)
theorem v114_is : B T.v114 fun r c => P.hg (o + r) c := (v89_is H).mul (v113_is H)

theorem v121_is : M2 (n := 256) (k := 1) (k0_pay46 T.v119 T.cst_54) fun r _ => P.ms (o + r) :=
  ((((v114_is H).mul (v114_is H)).addCols _ _ _ _ _).div (M2.splat bits_512) fun _ _ _ _ => by norm_num).add (M2.splat bits_ε₂)
theorem v122_is : M2 (n := 256) (k := 1) (k0_pay47 T.v119 T.cst_54) fun r _ => P.rs (o + r) := (v121_is H).rsqrt fun _ _ _ _ => P.ms_pos _

theorem v131_is : R T.v131 fun c => ∑ r ∈ Finset.range 256, P.hg (o + r) c * P.rs (o + r) * P.dout (o + r) c :=
  (((v114_is H).mul ((v122_is H).colsTo _)).mul H.x0).addRows 0x00000000#32 reduces_S256x512_S512 (.inl rfl) rfl shapeCasts_S512_S1x512

theorem v133_is : B (mulf (F := Ideal) (φ := .f32) T.x0 (broadcastTo S256x512 T.v92 broadcasts_S1x512_S256x512)) fun r c => P.dn (o + r) c :=
  H.x0.mul ((v92_is H).rowsTo _)

theorem v148_is : B (k0_pay49 T.v92 T.v114 T.v119 T.cst_54 T.x0) fun r c => P.dhg (o + r) c :=
  ((((v133_is H).mul ((v122_is H).colsTo _)).add ((v114_is H).mul (M2.colsTo (M2.addCols
      ((((v114_is H).mul (v133_is H)).addCols _ _ _ _ _).mul ((M2.splat bits_mhalf).mul ((v122_is H).div (v121_is H) fun _ _ _ _ => (P.ms_pos _).ne')) |>.div
        (M2.splat bits_512) fun _ _ _ _ => by norm_num) _ _ _ _ _) _))).add
    ((M2.colsTo (M2.addCols
      ((((v114_is H).mul (v133_is H)).addCols _ _ _ _ _).mul ((M2.splat bits_mhalf).mul ((v122_is H).div (v121_is H) fun _ _ _ _ => (P.ms_pos _).ne')) |>.div
        (M2.splat bits_512) fun _ _ _ _ => by norm_num) _ _ _ _ _) _).mul (v114_is H))).congr fun r _ c _ => by
    simp only [Finset.sum_range_one]; rfl

theorem v150_is : B T.v150 fun r c => P.dh (o + r) c := (v148_is H).mul (v113_is H)

theorem v149_is : B (mulf (F := Ideal) (φ := .f32) T.v89 (k0_pay49 T.v92 T.v114 T.v119 T.cst_54 T.x0)) fun r c => P.hd (o + r) c := (v89_is H).mul (v148_is H)

theorem o51_is : B T.o51 fun r c => P.dly (o + r) c :=
  (((v149_is H).mul (v112_is H)).add ((M2.splat bits_κ₁).mul (((M2.splat bits_half).mul (H.x2.mul (v149_is H))).mul (v108_is H)))).add
    (((M2.splat bits_κ₂).mul ((M2.splat bits_κ₁).mul (((M2.splat bits_half).mul (H.x2.mul (v149_is H))).mul (v108_is H)))).mul (v97_is H))

theorem o80_is : R T.o80 fun c => P.a o c := (((v58_is H).slice 0 0 slices_S256x512_o0_0_S1x512).cast _).congr fun r hr c _ => by
  obtain rfl : r = 0 := by omega
  simp

end Tile

end Cert.KernelIdeal.Gen

end

end
-- ==== Proof.Scan.lean ====
/- The body's scan, and the gradients that follow from it. -/
module

public import proofs.«01_k».proof.Proof.Body

@[expose] public section

noncomputable section

namespace Cert.KernelIdeal.Gen

open Idealize.ShloMosaic Idealize.ShloMosaic.TcCoe Idealize.ShloMosaic.Tactic Cert.Lru
open scoped BigOperators

/-- The factors a tile's scan multiplies: each row's successor, the last row's from the tile after. -/
def nextA (P : Par) (o : ℕ) (an : ℕ → ℝ) (r c : ℕ) : ℝ := if r = 255 then an c else P.a (o + (r + 1) % 256) c
def inC (P : Par) (o : ℕ) (r c : ℕ) : ℝ := P.dh (o + r) c

abbrev sA (P : Par) (o : ℕ) (an : ℕ → ℝ) (w r c : ℕ) : ℝ := spanP (fun s => nextA P o an s c) (reach w r) r
abbrev sB (P : Par) (o : ℕ) (an : ℕ → ℝ) (w r c : ℕ) : ℝ := spanQ (fun s => nextA P o an s c) (fun s => inC P o s c) (reach w r) r

namespace Tile

variable {T : Tile Ideal} {P : Par} {o : ℕ} {an gn hq : ℕ → ℝ} (H : Holds T P o an gn hq)
include H

theorem v171_is : B (k0_pay53 T.v58 T.v164 T.v165 T.r0) (sA P o an 1) :=
  (M2.sel ((H.r0.cast shapeCasts_S1x512_S1x512).rowsTo broadcasts_S1x512_S256x512)
    ((v58_is H).rot 255#32 1 (by decide) (by decide) (by decide) rotates_S256x512_d0) (p := fun r => r = 255) row_last).congr fun r hr c _ => by
    simp only [sA]
    rw [show reach 1 r = 1 by simp only [reach]; omega]
    simp only [spanP, mul_one, nextA]

theorem b1_is : B T.v150 (sB P o an 1) := (v150_is H).congr fun r hr c _ => by
    simp only [sB]
    rw [show reach 1 r = 1 by simp only [reach]; omega]
    simp only [spanQ, mul_zero, add_zero, inC]

theorem a2_is : B (k0_pay56 T.v58 T.v164 T.v165 T.r0) (sA P o an 2) := scanA (A := nextA P o an) (w := 1) (v171_is H) (M2.splat bits_1) row_31 255#32 (by decide) (by decide) rotates_S256x512_d0
theorem a4_is : B (T.v196) (sA P o an 4) := scanA (A := nextA P o an) (w := 2) (a2_is H) (M2.splat bits_1) row_30 254#32 (by decide) (by decide) rotates_S256x512_d0
theorem a8_is : B (k0_pay62 T.v196 T.v201) (sA P o an 8) := scanA (A := nextA P o an) (w := 4) (a4_is H) (M2.splat bits_1) row_28 252#32 (by decide) (by decide) rotates_S256x512_d0
theorem a16_is : B (k0_pay64 T.v174 T.v196 T.v201) (sA P o an 16) := scanA (A := nextA P o an) (w := 8) (a8_is H) (M2.splat bits_1) row_24 248#32 (by decide) (by decide) rotates_S256x512_d0
theorem a32_is : B (T.v229) (sA P o an 32) := scanA (A := nextA P o an) (w := 16) (a16_is H) (M2.splat bits_1) row_16 240#32 (by decide) (by decide) rotates_S256x512_d0

theorem b8_is : B T.v206 (sB P o an 8) :=
  have h2 := scanB (A := nextA P o an) (C := inC P o) (w := 1) (v171_is H) (b1_is H) (M2.splat bits_0) row_31 255#32 (by decide) (by decide) rotates_S256x512_d0
  have h4 := scanB (A := nextA P o an) (C := inC P o) (w := 2) (a2_is H) (h2) (M2.splat bits_0) row_30 254#32 (by decide) (by decide) rotates_S256x512_d0
  scanB (A := nextA P o an) (C := inC P o) (w := 4) (a4_is H) (h4) (M2.splat bits_0) row_28 252#32 (by decide) (by decide) rotates_S256x512_d0

theorem b32_is : B T.v228 (sB P o an 32) :=
  have h16 := scanB (A := nextA P o an) (C := inC P o) (w := 8) (a8_is H) (b8_is H) (M2.splat bits_0) row_24 248#32 (by decide) (by decide) rotates_S256x512_d0
  scanB (A := nextA P o an) (C := inC P o) (w := 16) (a16_is H) (h16) (M2.splat bits_0) row_16 240#32 (by decide) (by decide) rotates_S256x512_d0

omit H in
abbrev BA (P : Par) (o : ℕ) (an : ℕ → ℝ) (b : ℕ) (X : S32x512.Idx → EReal) : Prop :=
  M2 (n := 32) (k := 512) X fun r c => spanP (fun s => nextA P o an s c) (256 - (b + r)) (b + r)
omit H in
abbrev BB (P : Par) (o : ℕ) (an : ℕ → ℝ) (b : ℕ) (X : S32x512.Idx → EReal) : Prop :=
  M2 (n := 32) (k := 512) X fun r c => spanQ (fun s => nextA P o an s c) (fun s => inC P o s c) (256 - (b + r)) (b + r)

theorem p224_is : BA P o an 224 T.v230 := ((a32_is H).slice 224 0 slices_S256x512_o224_0_S32x512).congr fun r hr c _ => by
  simp only [Nat.zero_add, sA, sB]
  rw [show reach 32 (224 + r) = 256 - (224 + r) by simp only [reach]; omega]
theorem q224_is : BB P o an 224 T.v231 := ((b32_is H).slice 224 0 slices_S256x512_o224_0_S32x512).congr fun r hr c _ => by
  simp only [Nat.zero_add, sA, sB]
  rw [show reach 32 (224 + r) = 256 - (224 + r) by simp only [reach]; omega]

theorem p192_is : BA P o an 192 T.v240 := blockA (A := nextA P o an) (a32_is H) 192 224 (p224_is H) rfl rfl (by decide) slices_S256x512_o192_0_S32x512 slices_S32x512_o0_0_S1x512 broadcasts_S1x512_S32x512
theorem p160_is : BA P o an 160 T.v249 := blockA (A := nextA P o an) (a32_is H) 160 192 (p192_is H) rfl rfl (by decide) slices_S256x512_o160_0_S32x512 slices_S32x512_o0_0_S1x512 broadcasts_S1x512_S32x512
theorem q192_is : BB P o an 192 T.v237 := blockB (A := nextA P o an) (C := inC P o) (a32_is H) (b32_is H) 192 224 (q224_is H) rfl rfl (by decide) slices_S256x512_o192_0_S32x512 slices_S256x512_o192_0_S32x512 slices_S32x512_o0_0_S1x512 broadcasts_S1x512_S32x512
theorem q160_is : BB P o an 160 T.v246 := blockB (A := nextA P o an) (C := inC P o) (a32_is H) (b32_is H) 160 192 (q192_is H) rfl rfl (by decide) slices_S256x512_o160_0_S32x512 slices_S256x512_o160_0_S32x512 slices_S32x512_o0_0_S1x512 broadcasts_S1x512_S32x512
theorem q128_is : BB P o an 128 T.v255 := blockB (A := nextA P o an) (C := inC P o) (a32_is H) (b32_is H) 128 160 (q160_is H) rfl rfl (by decide) slices_S256x512_o128_0_S32x512 slices_S256x512_o128_0_S32x512 slices_S32x512_o0_0_S1x512 broadcasts_S1x512_S32x512

omit H in
/-- The whole tile's recurrence at a row. -/
theorem scan_is (P : Par) (o : ℕ) (an gn : ℕ → ℝ) (ho : o + 256 ≤ 4096) {c : ℕ} (h : P.g (o + 255) c = P.dh (o + 255) c + an c * gn c) {r : ℕ} (hr : r < 256) :
    spanQ (fun s => nextA P o an s c) (fun s => inC P o s c) (256 - r) r + spanP (fun s => nextA P o an s c) (256 - r) r * gn c = P.g (o + r) c :=
  tile_rev (g := fun r => P.g (o + r) c) (gn := fun _ => gn c) (fun s hs => by
    simp only [nextA, inC, if_neg (show s ≠ 255 by omega), Nat.mod_eq_of_lt (show s + 1 < 256 by omega)]
    exact rev_of_lt (a := fun t => P.a t c) (c := fun t => P.dh t c) (n := 4096) (r := o + s) (by omega)) (by
    simp only [nextA, inC, if_true]
    exact h) (255 - r) r (by omega)

theorem v300_is : B T.v300 fun r c => P.g (o + r) c :=
  have p128 := blockA (A := nextA P o an) (a32_is H) 128 160 (p160_is H) rfl rfl (by decide) slices_S256x512_o128_0_S32x512 slices_S32x512_o0_0_S1x512 broadcasts_S1x512_S32x512
  have p96 := blockA (A := nextA P o an) (a32_is H) 96 128 (p128) rfl rfl (by decide) slices_S256x512_o96_0_S32x512 slices_S32x512_o0_0_S1x512 broadcasts_S1x512_S32x512
  have p64 := blockA (A := nextA P o an) (a32_is H) 64 96 (p96) rfl rfl (by decide) slices_S256x512_o64_0_S32x512 slices_S32x512_o0_0_S1x512 broadcasts_S1x512_S32x512
  have p32 := blockA (A := nextA P o an) (a32_is H) 32 64 (p64) rfl rfl (by decide) slices_S256x512_o32_0_S32x512 slices_S32x512_o0_0_S1x512 broadcasts_S1x512_S32x512
  have p0 := blockA (A := nextA P o an) (a32_is H) 0 32 (p32) rfl rfl (by decide) slices_S256x512_o0_0_S32x512 slices_S32x512_o0_0_S1x512 broadcasts_S1x512_S32x512
  have q96 := blockB (A := nextA P o an) (C := inC P o) (a32_is H) (b32_is H) 96 128 (q128_is H) rfl rfl (by decide) slices_S256x512_o96_0_S32x512 slices_S256x512_o96_0_S32x512 slices_S32x512_o0_0_S1x512 broadcasts_S1x512_S32x512
  have q64 := blockB (A := nextA P o an) (C := inC P o) (a32_is H) (b32_is H) 64 96 (q96) rfl rfl (by decide) slices_S256x512_o64_0_S32x512 slices_S256x512_o64_0_S32x512 slices_S32x512_o0_0_S1x512 broadcasts_S1x512_S32x512
  have q32 := blockB (A := nextA P o an) (C := inC P o) (a32_is H) (b32_is H) 32 64 (q64) rfl rfl (by decide) slices_S256x512_o32_0_S32x512 slices_S256x512_o32_0_S32x512 slices_S32x512_o0_0_S1x512 broadcasts_S1x512_S32x512
  have q0 := blockB (A := nextA P o an) (C := inC P o) (a32_is H) (b32_is H) 0 32 (q32) rfl rfl (by decide) slices_S256x512_o0_0_S32x512 slices_S256x512_o0_0_S32x512 slices_S32x512_o0_0_S1x512 broadcasts_S1x512_S32x512
  have p := M2.concat8 (F := fun r c => spanP (fun s => nextA P o an s c) (256 - r) r) p0 p32 p64 p96 p128 (p160_is H) (p192_is H) (p224_is H) concatenates_S32x512_S32x512_S32x512_S32x512_S32x512_S32x512_S32x512_S32x512_S256x512_d0
  have q := M2.concat8 (F := fun r c => spanQ (fun s => nextA P o an s c) (fun s => inC P o s c) (256 - r) r) q0 q32 q64 q96 (q128_is H) (q160_is H) (q192_is H) (q224_is H) concatenates_S32x512_S32x512_S32x512_S32x512_S32x512_S32x512_S32x512_S32x512_S256x512_d0
  (q.add (p.mul (H.r1.rowsTo broadcasts_S1x512_S256x512))).congr fun r hr c hc =>
    scan_is P o an gn (by have := H.pos; omega) (H.after c hc) hr

theorem o81_is : R T.o81 fun c => P.g o c := (((v300_is H).slice 0 0 slices_S256x512_o0_0_S1x512).cast shapeCasts_S1x512_S1x512).congr fun r hr c _ => by
  obtain rfl : r = 0 := by omega
  simp

end Tile

end Cert.KernelIdeal.Gen

end

end
-- ==== Proof.Grad.lean ====
/- What a tile contributes to every result. -/
module

public import proofs.«01_k».proof.Proof.Scan

@[expose] public section

noncomputable section

namespace Cert.KernelIdeal.Gen

open Idealize.ShloMosaic Idealize.ShloMosaic.TcCoe Idealize.ShloMosaic.Tactic Cert.Lru
open scoped BigOperators

/-- The decay's factor; the kernel's is zero where the decay's argument is. -/
def lamF (l : ℝ) : ℝ := if l = 0 then 0 else Real.exp (-l - softp (-l))

theorem lam_eq (S l : ℝ) :
    0 - ((if (0 : ℝ) ≤ -l then 0 - (0 - S) / (Real.exp (-|(-l)|) + 1) * Real.exp (-|(-l)|) else 0) +
        (0 - if (0 : ℝ) ≤ -l then 0 else 0 - (0 - S) / (Real.exp (-|(-l)|) + 1) * Real.exp (-|(-l)|)) +
      (0 - S) * if 0 < -l then 1 else if -l = 0 then 1 / 2 else 0) = S * lamF l := by
  have hE := Real.exp_pos (-|(-l)|)
  have hlog : Real.exp (-Real.log (1 + Real.exp (-|(-l)|))) = (1 + Real.exp (-|(-l)|))⁻¹ := by
    rw [Real.exp_neg, Real.exp_log (by positivity)]
  rcases lt_trichotomy (-l) 0 with h | h | h
  · rw [if_neg (not_le.2 h), if_neg (not_le.2 h), if_neg (not_lt.2 h.le), if_neg h.ne, lamF, if_neg (by intro q; rw [q] at h; simp at h), softp,
      max_eq_right h.le, show -l - (0 + Real.log (1 + Real.exp (-|(-l)|))) = -l + -Real.log (1 + Real.exp (-|(-l)|)) by ring, Real.exp_add, hlog, show Real.exp (-l) = Real.exp (-|(-l)|) by rw [abs_of_neg h, neg_neg]]
    field_simp; ring
  · have hl : l = 0 := by linarith
    subst hl
    simp [lamF]; ring
  · rw [if_pos h.le, if_pos h.le, if_pos h, lamF, if_neg (by intro q; rw [q] at h; simp at h), softp,
      max_eq_left h.le, show -l - (-l + Real.log (1 + Real.exp (-|(-l)|))) = -Real.log (1 + Real.exp (-|(-l)|)) by ring, hlog]
    field_simp; ring

namespace Tile

variable {T : Tile Ideal} {P : Par} {o : ℕ} {an gn hq : ℕ → ℝ} (H : Holds T P o an gn hq)
include H

theorem first_is : Scalar.cmpi .eq T.arg0 15#32 = if o = 0 then 1#1 else 0#1 := by
  have hb : ∀ i : Fin 16, Scalar.cmpi .eq (BitVec.ofNat 32 i.val) 15#32 = if i.val = 15 then 1#1 else 0#1 := by decide +kernel
  have hp := H.pos
  exact (hb (T.i 0)).trans (bit_of (by
    show (T.i 0).val = 15 ↔ _
    omega))

theorem v313_is : R (Scalar.select (Scalar.cmpi .eq T.arg0 15#32) (broadcast S1x512 (Scalar.ofBits (F := Ideal) .f32 0x00000000#32))
    (shapeCast S1x512 T.hp shapeCasts_S1x512_S1x512)) fun c => if o = 0 then 0 else hq c := by
  rw [first_is H]
  by_cases h : o = 0
  · simp only [if_pos h]; exact M2.splat bits_0
  · simp only [if_neg h]; exact H.hp.cast _

theorem v319_is : B (select (cmpi .eq T.v164 (broadcast S256x512 0#32))
    (broadcastTo S256x512 (shapeCast S1x512 (Scalar.select (Scalar.cmpi .eq T.arg0 15#32) (broadcast S1x512 (Scalar.ofBits (F := Ideal) .f32 0x00000000#32))
      (shapeCast S1x512 T.hp shapeCasts_S1x512_S1x512)) shapeCasts_S1x512_S1x512) broadcasts_S1x512_S256x512)
    (dynamicRotate 0 1#32 none T.v89 rotates_S256x512_d0)) fun r c => HP P.a P.b (o + r) c :=
  (M2.sel (((v313_is H).cast shapeCasts_S1x512_S1x512).rowsTo broadcasts_S1x512_S256x512)
    ((v89_is H).rot 1#32 255 (by decide) (by decide) (by decide) rotates_S256x512_d0) (p := fun r => r = 0) row_first).congr fun r hr c hc => by
    simp only [HP, hprev]
    by_cases h0 : r = 0
    · subst h0
      rw [if_pos rfl, Nat.add_zero]
      by_cases ho : o = 0
      · rw [if_pos ho, if_pos ho]
      · rw [if_neg ho, if_neg ho]; exact H.before ho c hc
    · rw [if_neg h0, if_neg (show o + r ≠ 0 by omega), show o + (r + 255) % 256 = o + r - 1 by omega]; rfl

theorem v326_is : B (mulf (F := Ideal) (φ := .f32) (mulf (F := Ideal) (φ := .f32) (mulf (F := Ideal) (φ := .f32) T.v300 T.v87) T.v86) T.v83)
    fun r c => P.g (o + r) c * P.gx (o + r) c * (1 / 2 / P.mult (o + r) c) * P.sel (o + r) c :=
  (((v300_is H).mul (v87_is H)).mul (v86_is H)).mul (v83_is H)

theorem v339_is : B (k0_pay85 T.arg0 T.v58 T.v64 T.v66 T.v68 T.v72 T.v83 T.v86 T.v87 T.v89 T.v164 T.v300 T.hp) fun r c => P.dla (o + r) c :=
  (((((M2.splat bits_0).sub ((M2.splat bits_0).sub (((v326_is H).mul (v72_is H)).mul (v66_is H)))).add
      ((M2.splat bits_m2).mul ((v326_is H).div (v68_is H) fun _ _ _ _ => one_sub_tanh_ne _))).mul (v64_is H)).add
    (((v300_is H).mul (v319_is H)).mul (v58_is H))).congr fun r _ c _ => by
    rw [dla_eq]; rfl

theorem v346_is : B T.v346 fun r c => 8 * (P.dla (o + r) c * P.lsg c) := (M2.splat bits_8).mul ((v339_is H).mul ((v53_is H).rowsTo _))
theorem v364_is : B (k0_pay93 T.v24 T.v346) fun r c => P.dpa (o + r) c := (v346_is H).mul (v24_is H)
theorem v321_is : B (k0_pay82 T.v84 T.v300) fun r c => P.mg (o + r) c := (v84_is H).mul (v300_is H)
theorem v323_is : B T.v323 fun r c => P.rx (o + r) c * P.mg (o + r) c := (v25_is H).mul (v321_is H)
theorem v324_is : B T.v324 fun r c => P.mg (o + r) c * P.x (o + r) c := (v321_is H).mul H.x1
theorem v363_is : B T.v363 fun r c => P.dpx (o + r) c := (v324_is H).mul (v28_is H)

theorem o96_is : B T.o96 fun r c => P.dxr (o + r) c :=
  (((v323_is H).add (gateDotT_is (M2.truncf (v364_is H) _) (H.x5.cast _))).add (gateDotT_is (M2.truncf (v363_is H) _) (H.x7.cast _))).congr fun r _ c hc => by
    rw [dense_mulT P.wa (fun r => P.dpa (o + r)) hc, dense_mulT P.wx (fun r => P.dpx (o + r)) hc, add_assoc, add_comm (blkT P.wa _ _ _)]
    rfl

theorem o97_is : M2 (n := 512) (k := 512) T.o97 fun i c => ∑ r ∈ Finset.range 256, P.x (o + r) i * P.dpa (o + r) c :=
  rowDot_is (v4_is H) (M2.truncf (v364_is H) _)
theorem o99_is : M2 (n := 512) (k := 512) T.o99 fun i c => ∑ r ∈ Finset.range 256, P.x (o + r) i * P.dpx (o + r) c :=
  rowDot_is (v4_is H) (M2.truncf (v363_is H) _)
theorem v389_is : R T.v389 fun c => ∑ r ∈ Finset.range 256, P.dpa (o + r) c :=
  (v364_is H).addRows 0x00000000#32 reduces_S256x512_S512 (.inl rfl) rfl shapeCasts_S512_S1x512
theorem o2_is : R T.o2 fun c => ∑ r ∈ Finset.range 256, P.dpx (o + r) c :=
  (v363_is H).addRows 0x00000000#32 reduces_S256x512_S512 (.inl rfl) rfl shapeCasts_S512_S1x512

theorem v348_is : R T.v348 fun c => 0 - ∑ r ∈ Finset.range 256, P.ra8 (o + r) c * P.dla (o + r) c :=
  (M2.splat bits_0).sub (((v55_is H).mul (v339_is H)).addRows 0x00000000#32 reduces_S256x512_S512 (.inl rfl) rfl shapeCasts_S512_S1x512)
theorem v352_is : R T.v352 fun c => 0 - (0 - ∑ r ∈ Finset.range 256, P.ra8 (o + r) c * P.dla (o + r) c) / (Real.exp (-|(-P.lam c)|) + 1) * Real.exp (-|(-P.lam c)|) :=
  (M2.splat bits_0).sub (((v348_is H).div (v50_is H) fun _ _ c _ => by have := Real.exp_pos (-|(-P.lam c)|); positivity).mul (v47_is H))
theorem v41_is : R T.v41 fun c => if 0 < -P.lam c then 1 else if -P.lam c = 0 then 1 / 2 else 0 :=
  (v30_is H).selGt (M2.splat bits_0) (M2.splat bits_1) ((v30_is H).selEq (M2.splat bits_0) (M2.splat bits_half) (M2.splat bits_0))
theorem v362_is : R T.v362 fun c => (∑ r ∈ Finset.range 256, P.ra8 (o + r) c * P.dla (o + r) c) * lamF (P.lam c) :=
  ((M2.splat bits_0).sub ((((v30_is H).selGe (M2.splat bits_0) (v352_is H) (M2.splat bits_0)).add
    ((M2.splat bits_0).sub ((v30_is H).selGe (M2.splat bits_0) (M2.splat bits_0) (v352_is H)))).add ((v348_is H).mul (v41_is H)))).congr fun _ _ c _ =>
      lam_eq _ _

end Tile

end Cert.KernelIdeal.Gen

end

end
-- ==== Proof.Reads.lean ====
/- What the runs leave in each output and in the carry, as words of the point's body. -/
module

public import proofs.«01_k».proof.Proof.Step
public import proofs.«01_k».proof.Proof.Words
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first row of a block of eight, the second, the last. -/
abbrev row0 (X : Vec F S8x512 .f32) : Vec F S1x512 .f32 := View.ld X (Rect.unit (s := S8x512) ![0, 0] S1x512.size inb_S8x512_S1x512_0_0)
abbrev row1 (X : Vec F S8x512 .f32) : Vec F S1x512 .f32 := View.ld X (Rect.unit (s := S8x512) ![1, 0] S1x512.size inb_S8x512_S1x512_1_0)
abbrev row7 (X : Vec F S8x512 .f32) : Vec F S1x512 .f32 := View.ld X (Rect.unit (s := S8x512) ![7, 0] S1x512.size inb_S8x512_S1x512_7_0)

section
variable {sg : RefSig} {κ : Kind} {sp : Space} (v : View sg κ sp S8x512 .f32) (f : v.ty.Contents (Elt F)) (w0 w1 : Vec F S1x512 .f32)
  (L : List (View.Piece (Elt F) S8x512 .f32))

/-- The two carried rows, read back from what was stored. -/
theorem row0_writes : row0 (v.read (Elt F) (v.writes (Elt F) f (⟨Rect.unit (s := S8x512) ![1, 0] S1x512.size inb_S8x512_S1x512_1_0, w1⟩ ::
    ⟨Rect.unit (s := S8x512) ![0, 0] S1x512.size inb_S8x512_S1x512_0_0, w0⟩ :: L))) = w0 := by
  funext j
  have hj : (j 0).val < 1 := (j 0).isLt
  refine (View.read_writes_cons_rows_of_not_mem (v := v) (f := f) (W := 1) (o := 1) inb_S8x512_S1x512_1_0 w1 _ _ rfl rfl (.inl ?_)).trans
    (View.read_writes_cons_rows_of_mem (v := v) (f := f) (o := 0) inb_S8x512_S1x512_0_0 w0 _ _ j rfl ?_ ?_)
  · show 0 + 1 * (j 0).val < 1; omega
  · show 0 + 1 * (j 0).val = 0 + (j 0).val; omega
  · show 0 + 1 * (j 1).val = (j 1).val; omega

theorem row1_writes : row1 (v.read (Elt F) (v.writes (Elt F) f (⟨Rect.unit (s := S8x512) ![1, 0] S1x512.size inb_S8x512_S1x512_1_0, w1⟩ :: L))) = w1 := by
  funext j
  refine View.read_writes_cons_rows_of_mem (v := v) (f := f) (o := 1) inb_S8x512_S1x512_1_0 w1 _ _ j rfl ?_ ?_
  · show 1 + 1 * (j 0).val = 1 + (j 0).val; omega
  · show 0 + 1 * (j 1).val = (j 1).val; omega

end

/-- A point's words over its blocks and the carry `cr`. -/
abbrev tile (i : grid0.Coords) (x0 x1 x2 x3 : Vec F S256x512 .f32) (x4 : Vec F S8x512 .f32) (x5 : Vec F S512x512 .bf16) (x6 : Vec F S1x512 .f32) (x7 : Vec F S512x512 .bf16) (x8 x9 x10 : Vec F S1x512 .f32) (cr : Vec F S8x512 .f32) : Tile F :=
  ⟨i, x0, x1, x2, x3, x5, x6, x7, x8, x9, x10, row0 cr, row1 cr, row7 x4⟩

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S8x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S512x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S8x512 .f32) (harg20 : arg20.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (x0 : Vec F S256x512 .f32) (x1 : Vec F S256x512 .f32) (x2 : Vec F S256x512 .f32) (x3 : Vec F S256x512 .f32) (x4 : Vec F S8x512 .f32) (x5 : Vec F S512x512 .bf16) (x6 : Vec F S1x512 .f32) (x7 : Vec F S512x512 .bf16) (x8 : Vec F S1x512 .f32) (x9 : Vec F S1x512 .f32) (x10 : Vec F S1x512 .f32)

set_option maxHeartbeats 2000000 in
theorem out0_A_11_is : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.o96 (tile i x0 x1 x2 x3 x4 x5 x6 x7 x8 x9 x10 (k0_pay6 (F := F))) := by
  unfold out0_A_11
  frame_open
  try simp (disch := decide) only [↓ View.readCov_skip, ↓ View.readCov_cons_toLoadRect, ↓ View.readCov_fill]
  try frame_out
  try simp only [read_unread_whole]
  rfl

set_option maxHeartbeats 2000000 in
theorem out0_A_12_is : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.o51 (tile i x0 x1 x2 x3 x4 x5 x6 x7 x8 x9 x10 (k0_pay6 (F := F))) := by
  unfold out0_A_12
  frame_open
  try simp (disch := decide) only [↓ View.readCov_skip, ↓ View.readCov_cons_toLoadRect, ↓ View.readCov_fill]
  try frame_out
  try simp only [read_unread_whole]
  rfl

set_option maxHeartbeats 2000000 in
theorem out0_A_13_is : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.o97 (tile i x0 x1 x2 x3 x4 x5 x6 x7 x8 x9 x10 (k0_pay6 (F := F))) := by
  unfold out0_A_13
  frame_open
  try simp (disch := decide) only [↓ View.readCov_skip, ↓ View.readCov_cons_toLoadRect, ↓ View.readCov_fill]
  try frame_out
  try simp only [read_unread_whole]
  rfl

set_option maxHeartbeats 2000000 in
theorem out0_A_14_is : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.v389 (tile i x0 x1 x2 x3 x4 x5 x6 x7 x8 x9 x10 (k0_pay6 (F := F))) := by
  unfold out0_A_14
  frame_open
  try simp (disch := decide) only [↓ View.readCov_skip, ↓ View.readCov_cons_toLoadRect, ↓ View.readCov_fill]
  try frame_out
  try simp only [read_unread_whole]
  rfl

set_option maxHeartbeats 2000000 in
theorem out0_A_15_is : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.o99 (tile i x0 x1 x2 x3 x4 x5 x6 x7 x8 x9 x10 (k0_pay6 (F := F))) := by
  unfold out0_A_15
  frame_open
  try simp (disch := decide) only [↓ View.readCov_skip, ↓ View.readCov_cons_toLoadRect, ↓ View.readCov_fill]
  try frame_out
  try simp only [read_unread_whole]
  rfl

set_option maxHeartbeats 2000000 in
theorem out0_A_16_is : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.o2 (tile i x0 x1 x2 x3 x4 x5 x6 x7 x8 x9 x10 (k0_pay6 (F := F))) := by
  unfold out0_A_16
  frame_open
  try simp (disch := decide) only [↓ View.readCov_skip, ↓ View.readCov_cons_toLoadRect, ↓ View.readCov_fill]
  try frame_out
  try simp only [read_unread_whole]
  rfl

set_option maxHeartbeats 2000000 in
theorem out0_A_17_is : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.v362 (tile i x0 x1 x2 x3 x4 x5 x6 x7 x8 x9 x10 (k0_pay6 (F := F))) := by
  unfold out0_A_17
  frame_open
  try simp (disch := decide) only [↓ View.readCov_skip, ↓ View.readCov_cons_toLoadRect, ↓ View.readCov_fill]
  try frame_out
  try simp only [read_unread_whole]
  rfl

set_option maxHeartbeats 2000000 in
theorem out0_A_18_is : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 = Tile.v131 (tile i x0 x1 x2 x3 x4 x5 x6 x7 x8 x9 x10 (k0_pay6 (F := F))) := by
  unfold out0_A_18
  frame_open
  try simp (disch := decide) only [↓ View.readCov_skip, ↓ View.readCov_cons_toLoadRect, ↓ View.readCov_fill]
  try frame_out
  try simp only [read_unread_whole]
  rfl

set_option maxHeartbeats 2000000 in
theorem sout0_A_0_is0 : row0 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10) = Tile.o80 (tile i x0 x1 x2 x3 x4 x5 x6 x7 x8 x9 x10 (k0_pay6 (F := F))) := by
  unfold sout0_A_0
  frame_open
  refine (row0_writes _ _ _ _ _).trans ?_
  try simp (disch := decide) only [↓ View.readCov_skip, ↓ View.readCov_cons_toLoadRect, ↓ View.readCov_fill]
  try frame_out
  try simp only [read_unread_whole]
  rfl

set_option maxHeartbeats 2000000 in
theorem sout0_A_0_is1 : row1 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10) = Tile.o81 (tile i x0 x1 x2 x3 x4 x5 x6 x7 x8 x9 x10 (k0_pay6 (F := F))) := by
  unfold sout0_A_0
  frame_open
  refine (row1_writes _ _ _ _).trans ?_
  try simp (disch := decide) only [↓ View.readCov_skip, ↓ View.readCov_cons_toLoadRect, ↓ View.readCov_fill]
  try frame_out
  try simp only [read_unread_whole]
  rfl

end

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S8x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S512x512 .f32) (harg14 : arg14.IsWhole) (arg15 : Memref sig .tc .vmem S1x512 .f32) (harg15 : arg15.IsWhole) (arg16 : Memref sig .tc .vmem S512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S8x512 .f32) (harg20 : arg20.IsWhole) (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (x0 : Vec F S256x512 .f32) (x1 : Vec F S256x512 .f32) (x2 : Vec F S256x512 .f32) (x3 : Vec F S256x512 .f32) (x4 : Vec F S8x512 .f32) (x5 : Vec F S512x512 .bf16) (x6 : Vec F S1x512 .f32) (x7 : Vec F S512x512 .bf16) (x8 : Vec F S1x512 .f32) (x9 : Vec F S1x512 .f32) (x10 : Vec F S1x512 .f32) (xo13 : Vec F S512x512 .f32) (xo14 : Vec F S1x512 .f32) (xo15 : Vec F S512x512 .f32) (xo16 : Vec F S1x512 .f32) (xo17 : Vec F S1x512 .f32) (xo18 : Vec F S1x512 .f32) (xs0 : Vec F S8x512 .f32)

set_option maxHeartbeats 2000000 in
theorem out0_B_11_is : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = Tile.o96 (tile i x0 x1 x2 x3 x4 x5 x6 x7 x8 x9 x10 xs0) := by
  unfold out0_B_11
  frame_open
  try frame_out
  try simp only [read_unread_whole]
  rfl

set_option maxHeartbeats 2000000 in
theorem out0_B_12_is : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = Tile.o51 (tile i x0 x1 x2 x3 x4 x5 x6 x7 x8 x9 x10 xs0) := by
  unfold out0_B_12
  frame_open
  try frame_out
  try simp only [read_unread_whole]
  rfl

set_option maxHeartbeats 2000000 in
theorem out0_B_13_is : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = k0_pay98 (Tile.v4 (tile i x0 x1 x2 x3 x4 x5 x6 x7 x8 x9 x10 xs0)) (Tile.v24 (tile i x0 x1 x2 x3 x4 x5 x6 x7 x8 x9 x10 xs0)) (Tile.v346 (tile i x0 x1 x2 x3 x4 x5 x6 x7 x8 x9 x10 xs0)) xo13 := by
  unfold out0_B_13
  frame_open
  try frame_out
  try simp only [read_unread_whole]
  rfl

set_option maxHeartbeats 2000000 in
theorem out0_B_14_is : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = k0_pay1 (Tile.v389 (tile i x0 x1 x2 x3 x4 x5 x6 x7 x8 x9 x10 xs0)) xo14 := by
  unfold out0_B_14
  frame_open
  try frame_out
  try simp only [read_unread_whole]
  rfl

set_option maxHeartbeats 2000000 in
theorem out0_B_15_is : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = k0_pay100 (Tile.v4 (tile i x0 x1 x2 x3 x4 x5 x6 x7 x8 x9 x10 xs0)) (Tile.v28 (tile i x0 x1 x2 x3 x4 x5 x6 x7 x8 x9 x10 xs0)) (Tile.v324 (tile i x0 x1 x2 x3 x4 x5 x6 x7 x8 x9 x10 xs0)) xo15 := by
  unfold out0_B_15
  frame_open
  try frame_out
  try simp only [read_unread_whole]
  rfl

set_option maxHeartbeats 2000000 in
theorem out0_B_16_is : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = k0_pay3 (Tile.v363 (tile i x0 x1 x2 x3 x4 x5 x6 x7 x8 x9 x10 xs0)) xo16 := by
  unfold out0_B_16
  frame_open
  try frame_out
  try simp only [read_unread_whole]
  rfl

set_option maxHeartbeats 2000000 in
theorem out0_B_17_is : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = k0_pay4 (Tile.v362 (tile i x0 x1 x2 x3 x4 x5 x6 x7 x8 x9 x10 xs0)) xo17 := by
  unfold out0_B_17
  frame_open
  try frame_out
  try simp only [read_unread_whole]
  rfl

set_option maxHeartbeats 2000000 in
theorem out0_B_18_is : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0 = k0_pay5 (Tile.v131 (tile i x0 x1 x2 x3 x4 x5 x6 x7 x8 x9 x10 xs0)) xo18 := by
  unfold out0_B_18
  frame_open
  try frame_out
  try simp only [read_unread_whole]
  rfl

set_option maxHeartbeats 2000000 in
theorem sout0_B_0_is0 : row0 (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0) = Tile.o80 (tile i x0 x1 x2 x3 x4 x5 x6 x7 x8 x9 x10 xs0) := by
  unfold sout0_B_0
  frame_open
  refine (row0_writes _ _ _ _ _).trans ?_
  try frame_out
  try simp only [read_unread_whole]
  rfl

set_option maxHeartbeats 2000000 in
theorem sout0_B_0_is1 : row1 (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 hc4 hc5 hc6 hc7 hc8 hc9 hc10 hc11 hc12 x0 x1 x2 x3 x4 x5 x6 x7 x8 x9 x10 xo13 xo14 xo15 xo16 xo17 xo18 xs0) = Tile.o81 (tile i x0 x1 x2 x3 x4 x5 x6 x7 x8 x9 x10 xs0) := by
  unfold sout0_B_0
  frame_open
  refine (row1_writes _ _ _ _).trans ?_
  try frame_out
  try simp only [read_unread_whole]
  rfl

end

end Cert.KernelIdeal.Gen

end

end
-- ==== Proof.Blocks.lean ====
/- The windows' blocks as real functions. -/
module

public import proofs.«01_k».proof.Proof.Grad
public import proofs.«01_k».proof.Proof.Reads
public import proofs.«01_k».proof.Proof.Frame

@[expose] public section

set_option maxRecDepth 16384

noncomputable section

namespace Cert.KernelIdeal.Gen

open Idealize.ShloMosaic Idealize.ShloMosaic.TcCoe Idealize.ShloMosaic.Tactic Cert.Lru
open Idealize.SL Idealize.SL.Sem
open Idealize.ShloMosaic.Pipeline (Dat Cfg Window cellOf)
open scoped BigOperators

theorem idx0 : ∀ t : Fin cfg0.N, win0_0.index t 0 = 15 - t.val ∧ win0_0.index t 1 = 0 :=
  (by decide +kernel : ∀ t : Fin grid0.N, win0_0.index t 0 = 15 - t.val ∧ win0_0.index t 1 = 0)
theorem idx1 : ∀ t : Fin cfg0.N, win0_1.index t 0 = 15 - t.val ∧ win0_1.index t 1 = 0 :=
  (by decide +kernel : ∀ t : Fin grid0.N, win0_1.index t 0 = 15 - t.val ∧ win0_1.index t 1 = 0)
theorem idx2 : ∀ t : Fin cfg0.N, win0_2.index t 0 = 15 - t.val ∧ win0_2.index t 1 = 1 :=
  (by decide +kernel : ∀ t : Fin grid0.N, win0_2.index t 0 = 15 - t.val ∧ win0_2.index t 1 = 1)
theorem idx3 : ∀ t : Fin cfg0.N, win0_3.index t 0 = 15 - t.val ∧ win0_3.index t 1 = 0 :=
  (by decide +kernel : ∀ t : Fin grid0.N, win0_3.index t 0 = 15 - t.val ∧ win0_3.index t 1 = 0)
theorem idx4 : ∀ t : Fin cfg0.N, win0_4.index t 0 = (15 - t.val) * 32 - 1 ∧ win0_4.index t 1 = 0 :=
  (by decide +kernel : ∀ t : Fin grid0.N, win0_4.index t 0 = (15 - t.val) * 32 - 1 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem coord : ∀ t : Fin cfg0.N, (grid0.coords t 0).val = t.val :=
  (by decide +kernel : ∀ t : Fin grid0.N, (grid0.coords t 0).val = t.val)

/-- The first row of the tile that point `n` handles. -/
def off (n : ℕ) : ℕ := (15 - n) * 256

/-- The row before the tile's first; at the first tile, a row of no use. -/
def rowBefore (n : ℕ) : ℕ := ((15 - n) * 32 - 1) * 8 + 7

variable {m : (ℓ : Loc nD τ sig) → Buf (Elt Ideal) ℓ} {c : Dev nD} {P : Par} (I : Ins m c P)
include I

theorem blk0 (t : Fin cfg0.N) : B (iblk m c 0 t) fun r e => P.dout (off t.val + r) e := fun j => by
  show V m c main_arg0 (((cfg0.win 0).blk t).view.emb j) = _
  rw [I.dout _]
  blk_simp [idx0 t, off]
theorem blk1 (t : Fin cfg0.N) : B (iblk m c 1 t) fun r e => P.x (off t.val + r) e := fun j => by
  show V m c main_arg1 (((cfg0.win 1).blk t).view.emb j) = _
  rw [I.x _]
  blk_simp [idx1 t, off]
theorem blk3 (t : Fin cfg0.N) : B (iblk m c 3 t) fun r e => P.h (off t.val + r) e := fun j =>
  (hh I _).trans (by blk_simp [idx3 t, off])
theorem blk5 (t : Fin cfg0.N) : M2 (n := 512) (k := 512) (iblk m c 5 t) (dense P.wa) := fun j =>
  (hv252 I _).trans (by blk_simp [idx5 t])
theorem blk7 (t : Fin cfg0.N) : M2 (n := 512) (k := 512) (iblk m c 7 t) (dense P.wx) := fun j =>
  (hv254 I _).trans (by blk_simp [idx7 t])
theorem blk6 (t : Fin cfg0.N) : R (iblk m c 6 t) P.ba := fun j => (hv253 I _).trans (by blk_simp [idx6 t])
theorem blk8 (t : Fin cfg0.N) : R (iblk m c 8 t) P.bx := fun j => (hv255 I _).trans (by blk_simp [idx8 t])
theorem blk9 (t : Fin cfg0.N) : R (iblk m c 9 t) P.lam := fun j => (hv256 I _).trans (by blk_simp [idx9 t])
theorem blk10 (t : Fin cfg0.N) : R (iblk m c 10 t) P.lnw := fun j => (hv257 I _).trans (by blk_simp [idx10 t])
theorem blk2 (t : Fin cfg0.N) : B (X0_2 m c t) fun r e => P.y (off t.val + r) e := fun j => by
  show X0_2 m c t j = _
  unfold X0_2 Pipeline.Window.fill
  rw [dif_pos (moved0_2 t j)]
  exact (I.p _).trans (by blk_simp [idx2 t, off, Par.y])
theorem blk4 (t : Fin cfg0.N) : R (row7 (iblk m c 4 t)) fun e => P.h (rowBefore t.val) e := fun j =>
  (hh I _).trans (by
    blk_simp [idx4 t]
    have e0 : ((Rect.unit (s := S8x512) ![7, 0] S1x512.size inb_S8x512_S1x512_7_0).idx j 0).val = 7 := by
      show 7 + 1 * (j 0).val = 7
      have := (j 0).isLt
      have : (j 0).val < 1 := this
      omega
    have e1 : ((Rect.unit (s := S8x512) ![7, 0] S1x512.size inb_S8x512_S1x512_7_0).idx j 1).val = (j 1).val := by
      show 0 + 1 * (j 1).val = _
      omega
    rw [e0, e1, rowBefore])

end Cert.KernelIdeal.Gen

end
-- ==== Proof.Points.lean ====
/- What each point leaves, as words of its tile. -/
module

public import proofs.«01_k».proof.Proof.Reads
public import proofs.«01_k».proof.Proof.Frame

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window cellOf)
open scoped BigOperators

variable {F : FTy → Type} [FloatOps F]

variable (m : (ℓ : Loc nD τ sig) → Buf (Elt F) ℓ) (c : Dev nD) (t : Fin cfg0.N)

/-- Point `t`'s tile over the carry `cr`. -/
abbrev tileAt (m : (ℓ : Loc nD τ sig) → Buf (Elt F) ℓ) (c : Dev nD) (t : Fin cfg0.N) (cr : Vec F S8x512 .f32) : Tile F :=
  tile (grid0.coords t) (iblk m c 0 t) (iblk m c 1 t) (X0_2 m c t) (iblk m c 3 t) (iblk m c 4 t) (iblk m c 5 t) (iblk m c 6 t) (iblk m c 7 t) (iblk m c 8 t) (iblk m c 9 t) (iblk m c 10 t) cr

set_option maxHeartbeats 4000000 in
theorem stepA_11 (h0 : t.val % 16 = 0) : (stepA m c t h0).1 = Tile.o96 (tileAt m c t (k0_pay6 (F := F))) :=
  out0_A_11_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_12 (h0 : t.val % 16 = 0) : (stepA m c t h0).2.1 = Tile.o51 (tileAt m c t (k0_pay6 (F := F))) :=
  out0_A_12_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_13 (h0 : t.val % 16 = 0) : (stepA m c t h0).2.2.1 = Tile.o97 (tileAt m c t (k0_pay6 (F := F))) :=
  out0_A_13_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_14 (h0 : t.val % 16 = 0) : (stepA m c t h0).2.2.2.1 = Tile.v389 (tileAt m c t (k0_pay6 (F := F))) :=
  out0_A_14_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_15 (h0 : t.val % 16 = 0) : (stepA m c t h0).2.2.2.2.1 = Tile.o99 (tileAt m c t (k0_pay6 (F := F))) :=
  out0_A_15_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_16 (h0 : t.val % 16 = 0) : (stepA m c t h0).2.2.2.2.2.1 = Tile.o2 (tileAt m c t (k0_pay6 (F := F))) :=
  out0_A_16_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_17 (h0 : t.val % 16 = 0) : (stepA m c t h0).2.2.2.2.2.2.1 = Tile.v362 (tileAt m c t (k0_pay6 (F := F))) :=
  out0_A_17_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_18 (h0 : t.val % 16 = 0) : (stepA m c t h0).2.2.2.2.2.2.2.1 = Tile.v131 (tileAt m c t (k0_pay6 (F := F))) :=
  out0_A_18_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_row0 (h0 : t.val % 16 = 0) : row0 (stepA m c t h0).2.2.2.2.2.2.2.2 = Tile.o80 (tileAt m c t (k0_pay6 (F := F))) :=
  sout0_A_0_is0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepA_row1 (h0 : t.val % 16 = 0) : row1 (stepA m c t h0).2.2.2.2.2.2.2.2 = Tile.o81 (tileAt m c t (k0_pay6 (F := F))) :=
  sout0_A_0_is1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h0) (fun h => notLate t h0 ((hcond0_2 t).mp h)) ((hcond0_3 t).mpr h0) (fun h => notLate t h0 ((hcond0_4 t).mp h)) ((hcond0_5 t).mpr h0) (fun h => notLate t h0 ((hcond0_6 t).mp h)) ((hcond0_7 t).mpr h0) (fun h => notLate t h0 ((hcond0_8 t).mp h)) ((hcond0_9 t).mpr h0) (fun h => notLate t h0 ((hcond0_10 t).mp h)) ((hcond0_11 t).mpr h0) (fun h => notLate t h0 ((hcond0_12 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t)

set_option maxHeartbeats 4000000 in
theorem stepB_11 (h0 : ¬t.val % 16 = 0) (p : Outs F) : (stepB m c t h0 p).1 = Tile.o96 (tileAt m c t p.2.2.2.2.2.2.2.2) :=
  out0_B_11_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_12 (h0 : ¬t.val % 16 = 0) (p : Outs F) : (stepB m c t h0 p).2.1 = Tile.o51 (tileAt m c t p.2.2.2.2.2.2.2.2) :=
  out0_B_12_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_13 (h0 : ¬t.val % 16 = 0) (p : Outs F) : (stepB m c t h0 p).2.2.1 = k0_pay98 (Tile.v4 (tileAt m c t p.2.2.2.2.2.2.2.2)) (Tile.v24 (tileAt m c t p.2.2.2.2.2.2.2.2)) (Tile.v346 (tileAt m c t p.2.2.2.2.2.2.2.2)) p.2.2.1 :=
  out0_B_13_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_14 (h0 : ¬t.val % 16 = 0) (p : Outs F) : (stepB m c t h0 p).2.2.2.1 = k0_pay1 (Tile.v389 (tileAt m c t p.2.2.2.2.2.2.2.2)) p.2.2.2.1 :=
  out0_B_14_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_15 (h0 : ¬t.val % 16 = 0) (p : Outs F) : (stepB m c t h0 p).2.2.2.2.1 = k0_pay100 (Tile.v4 (tileAt m c t p.2.2.2.2.2.2.2.2)) (Tile.v28 (tileAt m c t p.2.2.2.2.2.2.2.2)) (Tile.v324 (tileAt m c t p.2.2.2.2.2.2.2.2)) p.2.2.2.2.1 :=
  out0_B_15_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_16 (h0 : ¬t.val % 16 = 0) (p : Outs F) : (stepB m c t h0 p).2.2.2.2.2.1 = k0_pay3 (Tile.v363 (tileAt m c t p.2.2.2.2.2.2.2.2)) p.2.2.2.2.2.1 :=
  out0_B_16_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_17 (h0 : ¬t.val % 16 = 0) (p : Outs F) : (stepB m c t h0 p).2.2.2.2.2.2.1 = k0_pay4 (Tile.v362 (tileAt m c t p.2.2.2.2.2.2.2.2)) p.2.2.2.2.2.2.1 :=
  out0_B_17_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_18 (h0 : ¬t.val % 16 = 0) (p : Outs F) : (stepB m c t h0 p).2.2.2.2.2.2.2.1 = k0_pay5 (Tile.v131 (tileAt m c t p.2.2.2.2.2.2.2.2)) p.2.2.2.2.2.2.2.1 :=
  out0_B_18_is c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_row0 (h0 : ¬t.val % 16 = 0) (p : Outs F) : row0 (stepB m c t h0 p).2.2.2.2.2.2.2.2 = Tile.o80 (tileAt m c t p.2.2.2.2.2.2.2.2) :=
  sout0_B_0_is0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

set_option maxHeartbeats 4000000 in
theorem stepB_row1 (h0 : ¬t.val % 16 = 0) (p : Outs F) : row1 (stepB m c t h0 p).2.2.2.2.2.2.2.2 = Tile.o81 (tileAt m c t p.2.2.2.2.2.2.2.2) :=
  sout0_B_0_is1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h0 ((hcond0_1 t).mp h)) ((hcond0_2 t).mpr (late t h0)) (fun h => h0 ((hcond0_3 t).mp h)) ((hcond0_4 t).mpr (late t h0)) (fun h => h0 ((hcond0_5 t).mp h)) ((hcond0_6 t).mpr (late t h0)) (fun h => h0 ((hcond0_7 t).mp h)) ((hcond0_8 t).mpr (late t h0)) (fun h => h0 ((hcond0_9 t).mp h)) ((hcond0_10 t).mpr (late t h0)) (fun h => h0 ((hcond0_11 t).mp h)) ((hcond0_12 t).mpr (late t h0)) (iblk m c 0 t) (iblk m c 1 t) (X0_2 m c t) (iblk m c 3 t) (iblk m c 4 t) (iblk m c 5 t) (iblk m c 6 t) (iblk m c 7 t) (iblk m c 8 t) (iblk m c 9 t) (iblk m c 10 t) p.2.2.1 p.2.2.2.1 p.2.2.2.2.1 p.2.2.2.2.2.1 p.2.2.2.2.2.2.1 p.2.2.2.2.2.2.2.1 p.2.2.2.2.2.2.2.2

end Cert.KernelIdeal.Gen

end
-- ==== Proof.Tiles.lean ====
/- The fold over the tiles. -/
module

public import proofs.«01_k».proof.Proof.Blocks
public import proofs.«01_k».proof.Proof.Points

@[expose] public section

set_option maxRecDepth 16384

noncomputable section

namespace Cert.KernelIdeal.Gen

open Idealize.ShloMosaic Idealize.ShloMosaic.TcCoe Idealize.ShloMosaic.Tactic Cert.Lru
open Idealize.SL Idealize.SL.Sem
open Idealize.ShloMosaic.Pipeline (Dat Cfg Window cellOf)
open scoped BigOperators

variable {m : (ℓ : Loc nD τ sig) → Buf (Elt Ideal) ℓ} {c : Dev nD} {P : Par}

theorem t_lt (t : Fin cfg0.N) : t.val < 16 := lt_of_lt_of_eq t.isLt N_0

theorem holds_of {i : grid0.Coords} {x0 x1 x2 x3 : Vec Ideal S256x512 .f32} {x4 : Vec Ideal S8x512 .f32} {x5 : Vec Ideal S512x512 .bf16} {x6 : Vec Ideal S1x512 .f32} {x7 : Vec Ideal S512x512 .bf16} {x8 x9 x10 : Vec Ideal S1x512 .f32} {cr : Vec Ideal S8x512 .f32}
    {o : ℕ} {an gn hq : ℕ → ℝ} (h0 : B x0 fun r e => P.dout (o + r) e) (h1 : B x1 fun r e => P.x (o + r) e) (h2 : B x2 fun r e => P.y (o + r) e)
    (h3 : B x3 fun r e => P.h (o + r) e) (h4 : R (row7 x4) hq) (h5 : M2 (n := 512) (k := 512) x5 (dense P.wa)) (h6 : R x6 P.ba)
    (h7 : M2 (n := 512) (k := 512) x7 (dense P.wx)) (h8 : R x8 P.bx) (h9 : R x9 P.lam) (h10 : R x10 P.lnw) (ha : R (row0 (F := Ideal) cr) an) (hg : R (row1 (F := Ideal) cr) gn)
    (pos : (i 0).val * 256 + o = 3840) (before : o ≠ 0 → ∀ e < 512, hq e = P.h (o - 1) e)
    (after : ∀ e < 512, P.g (o + 255) e = P.dh (o + 255) e + an e * gn e) :
    Holds (tile i x0 x1 x2 x3 x4 x5 x6 x7 x8 x9 x10 cr) P o an gn hq :=
  ⟨h0, h1, h2, h3, h5, h6, h7, h8, h9, h10, ha, hg, h4, pos, before, after⟩

theorem pos_of (t : Fin cfg0.N) : (grid0.coords t 0).val * 256 + off t.val = 3840 := by
  rw [coord t, off]
  have := t_lt t
  omega

theorem before_of (n : ℕ) (h : off n ≠ 0) : rowBefore n = off n - 1 := by unfold rowBefore off at *; omega

set_option maxHeartbeats 4000000 in
theorem holds (I : Ins m c P) (t : Fin cfg0.N) (cr : Vec Ideal S8x512 .f32) (an gn : ℕ → ℝ) (ha : R (row0 (F := Ideal) cr) an) (hg : R (row1 (F := Ideal) cr) gn)
    (after : ∀ e < 512, P.g (off t.val + 255) e = P.dh (off t.val + 255) e + an e * gn e) :
    Holds (tileAt m c t cr) P (off t.val) an gn (P.h (rowBefore t.val)) :=
  holds_of (blk0 I t) (blk1 I t) (blk2 I t) (blk3 I t) (blk4 I t) (blk5 I t) (blk6 I t) (blk7 I t) (blk8 I t) (blk9 I t) (blk10 I t) ha hg
    (pos_of t) (fun h _ _ => by rw [before_of _ h]) after

/-- What the tiles up to the `n`-th leave, as reals. -/
structure Inv (P : Par) (n : ℕ) (p : Outs Ideal) : Prop where
  xr : B p.1 fun r e => P.dxr (off n + r) e
  ly : B p.2.1 fun r e => P.dly (off n + r) e
  wa : M2 (n := 512) (k := 512) p.2.2.1 fun i e => ∑ j ∈ Finset.range (n + 1), ∑ r ∈ Finset.range 256, P.x (off j + r) i * P.dpa (off j + r) e
  ba : R p.2.2.2.1 fun e => ∑ j ∈ Finset.range (n + 1), ∑ r ∈ Finset.range 256, P.dpa (off j + r) e
  wx : M2 (n := 512) (k := 512) p.2.2.2.2.1 fun i e => ∑ j ∈ Finset.range (n + 1), ∑ r ∈ Finset.range 256, P.x (off j + r) i * P.dpx (off j + r) e
  bx : R p.2.2.2.2.2.1 fun e => ∑ j ∈ Finset.range (n + 1), ∑ r ∈ Finset.range 256, P.dpx (off j + r) e
  lam : R p.2.2.2.2.2.2.1 fun e => ∑ j ∈ Finset.range (n + 1), (∑ r ∈ Finset.range 256, P.ra8 (off j + r) e * P.dla (off j + r) e) * lamF (P.lam e)
  lnw : R p.2.2.2.2.2.2.2.1 fun e => ∑ j ∈ Finset.range (n + 1), ∑ r ∈ Finset.range 256, P.hg (off j + r) e * P.rs (off j + r) * P.dout (off j + r) e
  r0 : R (row0 (F := Ideal) p.2.2.2.2.2.2.2.2) fun e => P.a (off n) e
  r1 : R (row1 (F := Ideal) p.2.2.2.2.2.2.2.2) fun e => P.g (off n) e

theorem one (f : ℕ → ℝ) : f 0 = ∑ j ∈ Finset.range (0 + 1), f j := by rw [zero_add, Finset.sum_range_one]

theorem more (f : ℕ → ℝ) (n : ℕ) : (∑ j ∈ Finset.range (n + 1), f j) + f (n + 1) = ∑ j ∈ Finset.range (n + 1 + 1), f j := (Finset.sum_range_succ f (n + 1)).symm

set_option maxHeartbeats 4000000 in
theorem invA (I : Ins m c P) (t : Fin cfg0.N) (h0 : t.val % 16 = 0) : Inv P t.val (stepA m c t h0) := by
  have ht : t.val = 0 := by have := t_lt t; omega
  have z0 : R (row0 (F := Ideal) (k0_pay6 (F := Ideal))) fun _ => 0 := by intro j; exact bits_0
  have z1 : R (row1 (F := Ideal) (k0_pay6 (F := Ideal))) fun _ => 0 := by intro j; exact bits_0
  have H := holds I t (k0_pay6 (F := Ideal)) _ _ z0 z1 fun e _ => by
    show RV 4096 P.a P.dh _ e = _
    rw [RV, rev_of_lt (by rw [off]; omega), rev_of_le (by rw [off]; omega), mul_zero, mul_zero]
  refine ⟨?_, ?_, ?_, ?_, ?_, ?_, ?_, ?_, ?_, ?_⟩
  · exact M2.of (stepA_11 m c t h0) (Tile.o96_is H)
  · exact M2.of (stepA_12 m c t h0) (Tile.o51_is H)
  · refine M2.congr (M2.of (stepA_13 m c t h0) (Tile.o97_is H)) fun i _ e _ => ?_
    rw [ht]
    exact one fun j => ∑ r ∈ Finset.range 256, P.x (off j + r) i * P.dpa (off j + r) e
  · refine M2.congr (M2.of (stepA_14 m c t h0) (Tile.v389_is H)) fun _ _ e _ => ?_
    rw [ht]
    exact one fun j => ∑ r ∈ Finset.range 256, P.dpa (off j + r) e
  · refine M2.congr (M2.of (stepA_15 m c t h0) (Tile.o99_is H)) fun i _ e _ => ?_
    rw [ht]
    exact one fun j => ∑ r ∈ Finset.range 256, P.x (off j + r) i * P.dpx (off j + r) e
  · refine M2.congr (M2.of (stepA_16 m c t h0) (Tile.o2_is H)) fun _ _ e _ => ?_
    rw [ht]
    exact one fun j => ∑ r ∈ Finset.range 256, P.dpx (off j + r) e
  · refine M2.congr (M2.of (stepA_17 m c t h0) (Tile.v362_is H)) fun _ _ e _ => ?_
    rw [ht]
    exact one fun j => (∑ r ∈ Finset.range 256, P.ra8 (off j + r) e * P.dla (off j + r) e) * lamF (P.lam e)
  · refine M2.congr (M2.of (stepA_18 m c t h0) (Tile.v131_is H)) fun _ _ e _ => ?_
    rw [ht]
    exact one fun j => ∑ r ∈ Finset.range 256, P.hg (off j + r) e * P.rs (off j + r) * P.dout (off j + r) e
  · exact M2.of (stepA_row0 m c t h0) (Tile.o80_is H)
  · exact M2.of (stepA_row1 m c t h0) (Tile.o81_is H)

set_option maxHeartbeats 4000000 in
theorem invB (I : Ins m c P) (t : Fin cfg0.N) (h0 : ¬t.val % 16 = 0) (n : ℕ) (hn : t.val = n + 1) (p : Outs Ideal) (hp : Inv P n p) : Inv P t.val (stepB m c t h0 p) := by
  have ho : off n = off t.val + 255 + 1 := by have := t_lt t; unfold off; omega
  have H := holds I t p.2.2.2.2.2.2.2.2 _ _ hp.r0 hp.r1 fun e _ => by
    rw [ho]
    have hl : off t.val + 255 < 4096 := by unfold off; have := t_lt t; omega
    show RV 4096 P.a P.dh _ e = _ + _ * RV 4096 P.a P.dh _ e
    exact rev_of_lt hl
  refine ⟨?_, ?_, ?_, ?_, ?_, ?_, ?_, ?_, ?_, ?_⟩
  · exact M2.of (stepB_11 m c t h0 p) (Tile.o96_is H)
  · exact M2.of (stepB_12 m c t h0 p) (Tile.o51_is H)
  · refine M2.congr (M2.of (stepB_13 m c t h0 p) ((hp.wa.cast _).add (Tile.o97_is H))) fun i _ e _ => ?_
    rw [hn]
    exact more (fun j => ∑ r ∈ Finset.range 256, P.x (off j + r) i * P.dpa (off j + r) e) n
  · refine M2.congr (M2.of (stepB_14 m c t h0 p) ((hp.ba.cast _).add (Tile.v389_is H))) fun _ _ e _ => ?_
    rw [hn]
    exact more (fun j => ∑ r ∈ Finset.range 256, P.dpa (off j + r) e) n
  · refine M2.congr (M2.of (stepB_15 m c t h0 p) ((hp.wx.cast _).add (Tile.o99_is H))) fun i _ e _ => ?_
    rw [hn]
    exact more (fun j => ∑ r ∈ Finset.range 256, P.x (off j + r) i * P.dpx (off j + r) e) n
  · refine M2.congr (M2.of (stepB_16 m c t h0 p) ((hp.bx.cast _).add (Tile.o2_is H))) fun _ _ e _ => ?_
    rw [hn]
    exact more (fun j => ∑ r ∈ Finset.range 256, P.dpx (off j + r) e) n
  · refine M2.congr (M2.of (stepB_17 m c t h0 p) ((hp.lam.cast _).add (Tile.v362_is H))) fun _ _ e _ => ?_
    rw [hn]
    exact more (fun j => (∑ r ∈ Finset.range 256, P.ra8 (off j + r) e * P.dla (off j + r) e) * lamF (P.lam e)) n
  · refine M2.congr (M2.of (stepB_18 m c t h0 p) ((hp.lnw.cast _).add (Tile.v131_is H))) fun _ _ e _ => ?_
    rw [hn]
    exact more (fun j => ∑ r ∈ Finset.range 256, P.hg (off j + r) e * P.rs (off j + r) * P.dout (off j + r) e) n
  · exact M2.of (stepB_row0 m c t h0 p) (Tile.o80_is H)
  · exact M2.of (stepB_row1 m c t h0 p) (Tile.o81_is H)

set_option maxHeartbeats 4000000 in
theorem inv (I : Ins m c P) : ∀ (n : ℕ) (hn : n < cfg0.N), Inv P n (outsAt0 m c n hn)
  | 0, hn => by rw [outsAt0_A m c ⟨0, hn⟩ (Nat.zero_mod _)]; exact invA I ⟨0, hn⟩ _
  | n + 1, hn => by
    have h0 : ¬(n + 1) % 16 = 0 := by have : n + 1 < 16 := lt_of_lt_of_eq hn N_0; omega
    rw [outsAt0_B m c ⟨n + 1, hn⟩ h0]
    exact invB I ⟨n + 1, hn⟩ h0 n rfl _ (inv I n (Nat.lt_of_succ_lt hn))

end Cert.KernelIdeal.Gen

end
-- ==== Proof.Final.lean ====
/- What the run leaves in every output array. -/
module

public import proofs.«01_k».proof.Proof.Tiles

@[expose] public section

set_option maxRecDepth 16384

noncomputable section

namespace Cert.KernelIdeal.Gen

open Idealize.ShloMosaic Idealize.ShloMosaic.TcCoe Idealize.ShloMosaic.Tactic Cert.Lru
open Idealize.SL Idealize.SL.Sem
open Idealize.ShloMosaic.Pipeline (Dat Cfg Window cellOf)
open scoped BigOperators

variable {m : (ℓ : Loc nD τ sig) → Buf (Elt Ideal) ℓ} {c : Dev nD} {P : Par}

theorem all_tiles (f : ℕ → ℝ) : (∑ j ∈ Finset.range (15 + 1), ∑ r ∈ Finset.range 256, f (off j + r)) = ∑ r ∈ Finset.range 4096, f r := by
  rw [show 4096 = 16 * 256 from rfl, sum_blocks 16 256, ← Finset.sum_range_reflect]
  refine Finset.sum_congr rfl fun j hj => Finset.sum_congr rfl fun r _ => ?_
  have := Finset.mem_range.1 hj
  rw [off, show (15 - (16 - 1 - j)) * 256 = 256 * j by omega]

theorem idx11 : ∀ t : Fin cfg0.N, win0_11.index t 0 = 15 - t.val ∧ win0_11.index t 1 = 0 :=
  (by decide +kernel : ∀ t : Fin grid0.N, win0_11.index t 0 = 15 - t.val ∧ win0_11.index t 1 = 0)
theorem idx12 : ∀ t : Fin cfg0.N, win0_12.index t 0 = 15 - t.val ∧ win0_12.index t 1 = 0 :=
  (by decide +kernel : ∀ t : Fin grid0.N, win0_12.index t 0 = 15 - t.val ∧ win0_12.index t 1 = 0)

/-- The array that holds the reals `f`. -/
def of2 (n k : ℕ) (f : ℕ → ℕ → ℝ) : (⟨2, ![n, k]⟩ : Shape).Idx → EReal := fun i => ((f (i 0).val (i 1).val : ℝ) : EReal)

theorem all_tiles₀ (f : ℕ → ℝ) (z : ℝ) : (∑ j ∈ Finset.range (15 + 1), (∑ r ∈ Finset.range 256, f (off j + r)) * z) = (∑ r ∈ Finset.range 4096, f r) * z := by
  rw [← Finset.sum_mul, all_tiles]

variable (I : Ins m c P)
include I

theorem fin11 : (dats m 0 c).arrAt 11 cfg0.N = of2 4096 512 P.dxr := by
  refine (dats m 0 c).arrAt_eq_of_covers 11 _ (by decide +kernel) fun t hf y => ?_
  blk_simp
  rw [after0_11]
  refine ((inv I t.val t.isLt).xr _).trans ?_
  unfold of2
  blk_simp [idx11 t, off]

theorem fin12 : (dats m 0 c).arrAt 12 cfg0.N = of2 4096 512 P.dly := by
  refine (dats m 0 c).arrAt_eq_of_covers 12 _ (by decide +kernel) fun t hf y => ?_
  blk_simp
  rw [after0_12]
  refine ((inv I t.val t.isLt).ly _).trans ?_
  unfold of2
  blk_simp [idx12 t, off]

theorem fin13 : (dats m 0 c).arrAt 13 cfg0.N = of2 512 512 (fun i e => ∑ r ∈ Finset.range 4096, P.x r i * P.dpa r e) := by
  refine (dats m 0 c).arrAt_eq_of_after_last 13 t0_15 (by decide +kernel) _ fun j => ?_
  blk_simp
  rw [after0_13]
  refine ((inv I 15 t0_15.isLt).wa _).trans (congrArg _ ?_)
  exact all_tiles fun r => P.x r (j 0).val * P.dpa r (j 1).val

theorem fin14 : (dats m 0 c).arrAt 14 cfg0.N = of2 1 512 (fun _ e => ∑ r ∈ Finset.range 4096, P.dpa r e) := by
  refine (dats m 0 c).arrAt_eq_of_after_last 14 t0_15 (by decide +kernel) _ fun j => ?_
  blk_simp
  rw [after0_14]
  refine ((inv I 15 t0_15.isLt).ba _).trans (congrArg _ ?_)
  exact all_tiles fun r => P.dpa r (j 1).val

theorem fin15 : (dats m 0 c).arrAt 15 cfg0.N = of2 512 512 (fun i e => ∑ r ∈ Finset.range 4096, P.x r i * P.dpx r e) := by
  refine (dats m 0 c).arrAt_eq_of_after_last 15 t0_15 (by decide +kernel) _ fun j => ?_
  blk_simp
  rw [after0_15]
  refine ((inv I 15 t0_15.isLt).wx _).trans (congrArg _ ?_)
  exact all_tiles fun r => P.x r (j 0).val * P.dpx r (j 1).val

theorem fin16 : (dats m 0 c).arrAt 16 cfg0.N = of2 1 512 (fun _ e => ∑ r ∈ Finset.range 4096, P.dpx r e) := by
  refine (dats m 0 c).arrAt_eq_of_after_last 16 t0_15 (by decide +kernel) _ fun j => ?_
  blk_simp
  rw [after0_16]
  refine ((inv I 15 t0_15.isLt).bx _).trans (congrArg _ ?_)
  exact all_tiles fun r => P.dpx r (j 1).val

theorem fin17 : (dats m 0 c).arrAt 17 cfg0.N = of2 1 512 (fun _ e => (∑ r ∈ Finset.range 4096, P.ra8 r e * P.dla r e) * lamF (P.lam e)) := by
  refine (dats m 0 c).arrAt_eq_of_after_last 17 t0_15 (by decide +kernel) _ fun j => ?_
  blk_simp
  rw [after0_17]
  refine ((inv I 15 t0_15.isLt).lam _).trans (congrArg _ ?_)
  exact all_tiles₀ (fun r => P.ra8 r (j 1).val * P.dla r (j 1).val) (lamF (P.lam (j 1).val))

theorem fin18 : (dats m 0 c).arrAt 18 cfg0.N = of2 1 512 (fun _ e => ∑ r ∈ Finset.range 4096, P.hg r e * P.rs r * P.dout r e) := by
  refine (dats m 0 c).arrAt_eq_of_after_last 18 t0_15 (by decide +kernel) _ fun j => ?_
  blk_simp
  rw [after0_18]
  refine ((inv I 15 t0_15.isLt).lnw _).trans (congrArg _ ?_)
  exact all_tiles fun r => P.hg r (j 1).val * P.rs r * P.dout r (j 1).val

end Cert.KernelIdeal.Gen

end
-- ==== Proof.Halves.lean ====
/- A sum over 4096 rows, taken in blocks of rows. -/
module

public import Mathlib.Data.EReal.Operations
public import Mathlib.Algebra.BigOperators.Fin
public import Mathlib.Tactic.Ring

@[expose] public section

namespace Cert.Lru

open scoped BigOperators

theorem sum_halves (f : Fin 4096 → EReal) (g h : Fin 2048 → EReal) (hg : ∀ k : Fin 2048, g k = f ⟨k.val, by omega⟩) (hh : ∀ k : Fin 2048, h k = f ⟨2048 + k.val, by omega⟩) :
    ∑ k, g k + ∑ k, h k = ∑ r, f r := by
  refine Eq.trans ?_ (Fin.sum_univ_add (a := 2048) (b := 2048) f).symm
  exact congrArg₂ (· + ·) (Finset.sum_congr rfl fun k _ => hg k) (Finset.sum_congr rfl fun k _ => hh k)

/-- The sums over the four quarters of the rows, added in order, are the sum over all of them. -/
theorem sum_quarters (f : Fin 4096 → EReal) :
    (∑ k : Fin 1024, f ⟨1024 * (0 : Fin 4).val + k.val, by have := k.isLt; show 1024 * 0 + _ < _; omega⟩) + (∑ k : Fin 1024, f ⟨1024 * (1 : Fin 4).val + k.val, by have := k.isLt; show 1024 * 1 + _ < _; omega⟩)
      + (∑ k : Fin 1024, f ⟨1024 * (2 : Fin 4).val + k.val, by have := k.isLt; show 1024 * 2 + _ < _; omega⟩) + (∑ k : Fin 1024, f ⟨1024 * (3 : Fin 4).val + k.val, by have := k.isLt; show 1024 * 3 + _ < _; omega⟩) = ∑ r, f r := by
  have e : ∑ r, f r = ∑ q : Fin 4, ∑ k : Fin 1024, f ⟨1024 * q.val + k.val, by omega⟩ := by
    rw [← Fintype.sum_prod_type']
    refine (Fintype.sum_equiv (finProdFinEquiv (m := 4) (n := 1024)) _ _ fun x => ?_).symm
    refine congrArg f (Fin.ext ?_)
    show 1024 * x.1.val + x.2.val = x.2.val + 1024 * x.1.val
    omega
  rw [e, Fin.sum_univ_four]

theorem coe_sum_fin {ι : Type*} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

/-- Over the reals a factor goes into a sum. -/
theorem sum_scale {ι : Type*} [Fintype ι] (x y : ι → EReal) (g : EReal) (hx : ∀ i, x i = (((x i).toReal : ℝ) : EReal)) (hy : ∀ i, y i = (((y i).toReal : ℝ) : EReal))
    (hg : g = ((g.toReal : ℝ) : EReal)) : (∑ i, x i * y i) * g = ∑ i, (g * y i) * x i := by
  obtain ⟨x, rfl⟩ : ∃ a : ι → ℝ, x = fun i => (a i : EReal) := ⟨_, funext hx⟩
  obtain ⟨y, rfl⟩ : ∃ a : ι → ℝ, y = fun i => (a i : EReal) := ⟨_, funext hy⟩
  obtain ⟨g, rfl⟩ : ∃ a : ℝ, g = (a : EReal) := ⟨_, hg⟩
  simp only [← EReal.coe_mul, ← coe_sum_fin]
  rw [Finset.sum_mul]
  exact congrArg (fun t : ℝ => (t : EReal)) (Finset.sum_congr rfl fun i _ => by ring)

/-- Over the reals the two orders of a double sum agree. -/
theorem sum_swap {ι κ : Type*} [Fintype ι] [Fintype κ] (A : ι → κ → EReal) (D : ι → EReal) (W : κ → EReal) (hA : ∀ i k, A i k = (((A i k).toReal : ℝ) : EReal))
    (hD : ∀ i, D i = (((D i).toReal : ℝ) : EReal)) (hW : ∀ k, W k = (((W k).toReal : ℝ) : EReal)) :
    ∑ k, (∑ i, A i k * D i) * W k = ∑ i, D i * ∑ k, A i k * W k := by
  obtain ⟨A, rfl⟩ : ∃ a : ι → κ → ℝ, A = fun i k => (a i k : EReal) := ⟨_, funext fun i => funext (hA i)⟩
  obtain ⟨D, rfl⟩ : ∃ a : ι → ℝ, D = fun i => (a i : EReal) := ⟨_, funext hD⟩
  obtain ⟨W, rfl⟩ : ∃ a : κ → ℝ, W = fun i => (a i : EReal) := ⟨_, funext hW⟩
  simp only [← EReal.coe_mul, ← coe_sum_fin]
  refine congrArg (fun t : ℝ => (t : EReal)) ?_
  simp only [Finset.sum_mul, Finset.mul_sum]
  rw [Finset.sum_comm]
  exact Finset.sum_congr rfl fun i _ => Finset.sum_congr rfl fun k _ => by ring

end Cert.Lru
-- ==== Proof.UpVal.lean ====
/- What the product of the MLP's up weights' gradient leaves, block by block. -/
module

public import proofs.«01_k».proof.Proof.Gen.DwUpIdeal.Frame
public import proofs.«01_k».proof.Proof.Gen.DwUpReferenceIdeal.Run
public import proofs.«01_k».proof.Proof.Halves
public import Idealize.ShloMosaic.Lib.Pipeline.ValueKit
public import Idealize.ShloMosaic.Lib.Pipeline.ReadBack

@[expose] public section

set_option maxRecDepth 16384

noncomputable section

namespace Cert.DwUpIdeal.Val

open Cert.DwUpIdeal Cert.DwUpIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The inputs device `c` holds. -/
abbrev a0 (c : Dev nD) : FVec Ideal S4096x1024 .f32 := m ((c : Thread nD τ).loc main_arg0)
abbrev a1 (c : Dev nD) : FVec Ideal S4096x4096 .f32 := m ((c : Thread nD τ).loc main_arg1)

/-- The reference's composed term. -/
abbrev REF (a0 : FVec Ideal Cert.DwUpReferenceIdeal.S4096x1024 .f32) (a1 : FVec Ideal Cert.DwUpReferenceIdeal.S4096x4096 .f32) : FVec Ideal Cert.DwUpReferenceIdeal.S2x4x512x1024 .bf16 :=
  truncf .bf16 (transpose Cert.DwUpReferenceIdeal.S2x4x512x1024 [0, 2, 1, 3] (shapeCast Cert.DwUpReferenceIdeal.S2x512x4x1024 (transpose Cert.DwUpReferenceIdeal.S1024x4096 [1, 0]
    (Host.dotGeneral Cert.DwUpReferenceIdeal.dot_S4096x4096_S4096x1024_S4096x1024_0_0_1_1_n_n none a1 a0)
    Cert.DwUpReferenceIdeal.Gen.transposes_S4096x1024_S1024x4096_1_0) Cert.DwUpReferenceIdeal.Gen.shapeCasts_S1024x4096_S2x512x4x1024)
    Cert.DwUpReferenceIdeal.Gen.transposes_S2x512x4x1024_S2x4x512x1024_0_2_1_3) Cert.DwUpReferenceIdeal.Gen.bitsLt_bf16_f32

theorem idx_val : ∀ t : Fin cfg0.N, win0_0.index t = ![t.val % 2, 0] ∧ win0_1.index t = ![t.val % 2, t.val / 2] ∧ win0_2.index t = ![0, t.val / 2, 0, 0] :=
  (by decide +kernel : ∀ t : Fin grid0.N, _)

/-- A block's product. -/
theorem part (x : Vec Ideal S2048x1024 .bf16) (y : Vec Ideal S2048x1024 .bf16) (i : S1024x1024.Idx) :
    k0_pay1 (F := Ideal) x y i = ∑ k : Fin 2048, x (ix2 k (i 0)) * y (ix2 k (i 1)) := by
  pointwise [k0_pay1]

theorem acc_A (c : Dev nD) (t : Fin cfg0.N) (h : t.val % 2 = 0) : (outsAt0 m c t.val t.isLt).2 = k0_pay2 (F := Ideal) (iblk m c 0 t) (iblk m c 1 t) := by
  rw [outsAt0_A m c t h (by omega) (by omega)]
  frame_out

/-- The accumulator after a run of two points. -/
def acc (c : Dev nD) (t : Fin cfg0.N) : Vec Ideal S1024x1024 .f32 :=
  k0_pay3 (F := Ideal) (iblk m c 0 t) (iblk m c 1 t) (outsAt0 m c (t.val - 1) (Nat.lt_of_le_of_lt (Nat.sub_le _ _) t.isLt)).2

theorem out_B (c : Dev nD) (t : Fin cfg0.N) (h : t.val % 2 = 1) : (outsAt0 m c t.val t.isLt).1 = fun y => acc m c t (ix2 (n0 := 1024) (n1 := 1024) ⟨512 * (y 0).val + (y 2).val, by have h0 : (y 0).val < 2 := (y 0).isLt; have h2 : (y 2).val < 512 := (y 2).isLt; omega⟩ (y 3)) := by
  rw [outsAt0_B m c t (by omega) h h]
  frame_out
  simp (disch := decide) only [View.readCov_fill, read_unread_whole]
  unfold acc
  generalize k0_pay3 (F := Ideal) (iblk m c 0 t) (iblk m c 1 t) (outsAt0 m c (t.val - 1) _).2 = A
  funext y
  canon_tiles x h
  all_goals (open_payloads; pointwise; blk_ext)

theorem V0 (c : Dev nD) : (V m c main_v0 : FVec Ideal S4096x1024 .bf16) = (a0 m c : S4096x1024.Idx → EReal) := by
  entry_read
  rfl

theorem V1 (c : Dev nD) : (V m c main_v1 : FVec Ideal S4096x4096 .bf16) = (a1 m c : S4096x4096.Idx → EReal) := by
  entry_read
  rfl

theorem blk0 (c : Dev nD) (t : Fin cfg0.N) (k : Fin 2048) (j : Fin 1024) :
    (iblk m c 0 t : Vec Ideal S2048x1024 .bf16) (ix2 k j) = a0 m c (ix2 (n0 := 4096) (n1 := 1024) ⟨2048 * (t.val % 2) + k.val, by omega⟩ j) := by
  refine Eq.trans ?_ (congrFun (V0 m c) _)
  blk_ext [iblk, idx_val t]

theorem blk1 (c : Dev nD) (t : Fin cfg0.N) (k : Fin 2048) (j : Fin 1024) :
    (iblk m c 1 t : Vec Ideal S2048x1024 .bf16) (ix2 k j) = a1 m c (ix2 (n0 := 4096) (n1 := 4096) ⟨2048 * (t.val % 2) + k.val, by omega⟩
      ⟨1024 * (t.val / 2) + j.val, by have h2 : t.val < 8 := lt_of_lt_of_eq t.isLt N_0; omega⟩) := by
  refine Eq.trans ?_ (congrFun (V1 m c) _)
  blk_ext [iblk, idx_val t]

theorem acc_is (c : Dev nD) (t : Fin cfg0.N) (h : t.val % 2 = 1) (i : S1024x1024.Idx) :
    acc m c t i = ∑ r : Fin 4096, a0 m c (ix2 (n0 := 4096) (n1 := 1024) r (i 0)) * a1 m c (ix2 (n0 := 4096) (n1 := 4096) r ⟨1024 * (t.val / 2) + (i 1).val, by
      have h0 : (i 1).val < 1024 := (i 1).isLt; have h2 : t.val < 8 := lt_of_lt_of_eq t.isLt N_0; omega⟩) := by
  have ht : t.val - 1 < cfg0.N := Nat.lt_of_le_of_lt (Nat.sub_le _ _) t.isLt
  have e1 := acc_A m c ⟨t.val - 1, ht⟩ (by dsimp only; omega)
  dsimp only at e1
  unfold acc
  rw [e1]
  pointwise [k0_pay3, k0_pay2, k0_pay1]
  refine Cert.Lru.sum_halves _ _ _ (fun k => ?_) fun k => ?_
  · refine (congrArg₂ (fun a b : EReal => a * b) (blk0 m c ⟨t.val - 1, ht⟩ k (i 0)) (blk1 m c ⟨t.val - 1, ht⟩ k (i 1))).trans ?_
    blk_point []
  · refine (congrArg₂ (fun a b : EReal => a * b) (blk0 m c t k (i 0)) (blk1 m c t k (i 1))).trans ?_
    blk_point []

theorem final (c : Dev nD) : (dats m 0 c).arrAt 2 (cfgs 0).N = REF (a0 m c) (a1 m c) := by
  refine (dats m 0 c).arrAt_eq_of_covers 2 _ (by decide +kernel) fun t hf y => ?_
  have h : t.val % 2 = 1 := (flush0_2 t).mp hf
  blk_simp
  rw [after0_2, out_B m c t h]
  dsimp only
  refine (acc_is m c t h _).trans ?_
  pointwise [REF]
  refine Finset.sum_congr rfl fun r _ => (mul_comm _ _).trans ?_
  blk_point [idx_val t]

end Cert.DwUpIdeal.Val

end
-- ==== Proof.DownVal.lean ====
/- What the product of the MLP's down weights' gradient leaves, block by block. -/
module

public import proofs.«01_k».proof.Proof.Gen.DwDownIdeal.Frame
public import proofs.«01_k».proof.Proof.Gen.DwDownReferenceIdeal.Run
public import proofs.«01_k».proof.Proof.Halves
public import Idealize.ShloMosaic.Lib.Pipeline.ValueKit
public import Idealize.ShloMosaic.Lib.Pipeline.ReadBack

@[expose] public section

set_option maxRecDepth 16384

noncomputable section

namespace Cert.DwDownIdeal.Val

open Cert.DwDownIdeal Cert.DwDownIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The inputs device `c` holds. -/
abbrev a0 (c : Dev nD) : FVec Ideal S4096x4096 .f32 := m ((c : Thread nD τ).loc main_arg0)
abbrev a1 (c : Dev nD) : FVec Ideal S4096x1024 .f32 := m ((c : Thread nD τ).loc main_arg1)
abbrev a2 (c : Dev nD) : FVec Ideal S1024 .f32 := m ((c : Thread nD τ).loc main_arg2)
abbrev a3 (c : Dev nD) : FVec Ideal S4096x1024 .f32 := m ((c : Thread nD τ).loc main_arg3)

/-- The reference's composed terms. -/
abbrev REF4 (a0 : FVec Ideal Cert.DwDownReferenceIdeal.S4096x4096 .f32) (a1 : FVec Ideal Cert.DwDownReferenceIdeal.S4096x1024 .f32) (a2 : FVec Ideal Cert.DwDownReferenceIdeal.S1024 .f32) : FVec Ideal Cert.DwDownReferenceIdeal.S2x4x512x1024 .bf16 :=
  truncf .bf16 (transpose Cert.DwDownReferenceIdeal.S2x4x512x1024 [1, 0, 2, 3] (shapeCast Cert.DwDownReferenceIdeal.S4x2x512x1024 (transpose Cert.DwDownReferenceIdeal.S4096x1024 [1, 0]
    (Host.dotGeneral Cert.DwDownReferenceIdeal.dot_S4096x1024_S4096x4096_S1024x4096_0_0_1_1_n_n none
      (mulf (broadcastInDim Cert.DwDownReferenceIdeal.S4096x1024 ![0, 1] Cert.DwDownReferenceIdeal.Gen.bcast_S1x1024_S4096x1024_0_1 (broadcastInDim Cert.DwDownReferenceIdeal.S1x1024 ![1] Cert.DwDownReferenceIdeal.Gen.bcast_S1024_S1x1024_1 a2)) a1) a0)
    Cert.DwDownReferenceIdeal.Gen.transposes_S1024x4096_S4096x1024_1_0) Cert.DwDownReferenceIdeal.Gen.shapeCasts_S4096x1024_S4x2x512x1024)
    Cert.DwDownReferenceIdeal.Gen.transposes_S4x2x512x1024_S2x4x512x1024_1_0_2_3) Cert.DwDownReferenceIdeal.Gen.bitsLt_bf16_f32

abbrev REF5 (a0 : FVec Ideal Cert.DwDownReferenceIdeal.S4096x4096 .f32) (a1 : FVec Ideal Cert.DwDownReferenceIdeal.S4096x1024 .f32) (a3 : FVec Ideal Cert.DwDownReferenceIdeal.S4096x1024 .f32) : FVec Ideal Cert.DwDownReferenceIdeal.S1x1024 .f32 :=
  shapeCast Cert.DwDownReferenceIdeal.S1x1024 (Host.reduceAdd (shapeCast Cert.DwDownReferenceIdeal.S1x1024 (Host.reduceAdd
    (mulf a1 (Host.dotGeneral Cert.DwDownReferenceIdeal.dot_S4096x4096_S4096x1024_S4096x1024_1_0_0_1_n_n none a0 a3)) (constant Cert.DwDownReferenceIdeal.S_ .f32 0x00000000#32)
    Cert.DwDownReferenceIdeal.Gen.reducesTo_S4096x1024_S1024_d0 Cert.DwDownReferenceIdeal.Gen.h_S_) Cert.DwDownReferenceIdeal.Gen.shapeCasts_S1024_S1x1024) (constant Cert.DwDownReferenceIdeal.S_ .f32 0x00000000#32)
    Cert.DwDownReferenceIdeal.Gen.reducesTo_S1x1024_S1024_d0 Cert.DwDownReferenceIdeal.Gen.h_S_) Cert.DwDownReferenceIdeal.Gen.shapeCasts_S1024_S1x1024

theorem idx_val : ∀ t : Fin cfg0.N, win0_0.index t = ![t.val % 2, t.val / 2] ∧ win0_1.index t = ![t.val % 2, 0] ∧ win0_2.index t = ![0, 0]
    ∧ win0_3.index t = ![t.val / 2, 0] ∧ win0_4.index t = ![0, t.val / 2, 0, 0] ∧ win0_5.index t = ![0, 0] :=
  (by decide +kernel : ∀ t : Fin grid0.N, _)

theorem acc_A (c : Dev nD) (t : Fin cfg0.N) (h : t.val % 2 = 0) : (outsAt0 m c t.val t.isLt).2.2 = k0_pay2 (F := Ideal) (iblk m c 0 t) (iblk m c 1 t) := by
  rw [outsAt0_A m c t h (by omega) (by omega)]
  frame_out

/-- The accumulator after a run of two points. -/
def acc (c : Dev nD) (t : Fin cfg0.N) : Vec Ideal S1024x1024 .f32 :=
  k0_pay3 (F := Ideal) (iblk m c 0 t) (iblk m c 1 t) (outsAt0 m c (t.val - 1) (Nat.lt_of_le_of_lt (Nat.sub_le _ _) t.isLt)).2.2

theorem out4_B (c : Dev nD) (t : Fin cfg0.N) (h : t.val % 2 = 1) (h' : t.val < 2) : (outsAt0 m c t.val t.isLt).1 = fun y => (acc m c t (ix2 (n0 := 1024) (n1 := 1024) ⟨512 * (y 0).val + (y 2).val, by have h0 : (y 0).val < 2 := (y 0).isLt; have h2 : (y 2).val < 512 := (y 2).isLt; omega⟩ (y 3)) : EReal)
    * (iblk m c 2 t : Vec Ideal S1x1024 .f32) (ix2 (n0 := 1) (n1 := 1024) 0 (y 3)) := by
  rw [outsAt0_B m c t (by omega) h h h' (by omega)]
  frame_out
  simp (disch := decide) only [View.readCov_fill, read_unread_whole]
  unfold acc
  generalize k0_pay3 (F := Ideal) (iblk m c 0 t) (iblk m c 1 t) (outsAt0 m c (t.val - 1) _).2.2 = A
  generalize (iblk m c 2 t : Vec Ideal S1x1024 .f32) = g
  funext y
  canon_tiles x h
  all_goals (open_payloads; pointwise; blk_point [])

theorem out4_C (c : Dev nD) (t : Fin cfg0.N) (h : t.val % 2 = 1) (h' : 2 ≤ t.val) : (outsAt0 m c t.val t.isLt).1 = fun y => (acc m c t (ix2 (n0 := 1024) (n1 := 1024) ⟨512 * (y 0).val + (y 2).val, by have h0 : (y 0).val < 2 := (y 0).isLt; have h2 : (y 2).val < 512 := (y 2).isLt; omega⟩ (y 3)) : EReal)
    * (iblk m c 2 t : Vec Ideal S1x1024 .f32) (ix2 (n0 := 1) (n1 := 1024) 0 (y 3)) := by
  rw [outsAt0_C m c t (by omega) h h (by omega) h']
  frame_out
  simp (disch := decide) only [View.readCov_fill, read_unread_whole]
  unfold acc
  generalize k0_pay3 (F := Ideal) (iblk m c 0 t) (iblk m c 1 t) (outsAt0 m c (t.val - 1) _).2.2 = A
  generalize (iblk m c 2 t : Vec Ideal S1x1024 .f32) = g
  funext y
  canon_tiles x h
  all_goals (open_payloads; pointwise; blk_point [])

theorem out5_A (c : Dev nD) (t : Fin cfg0.N) (h : t.val % 2 = 0) : (outsAt0 m c t.val t.isLt).2.1 = (outsAt0 m c (t.val - 1) (Nat.lt_of_le_of_lt (Nat.sub_le _ _) t.isLt)).2.1 := by
  rw [outsAt0_A m c t h (by omega) (by omega)]
  dsimp only
  unfold out0_A_5
  rfl

theorem out5_B (c : Dev nD) (t : Fin cfg0.N) (h : t.val % 2 = 1) (h' : t.val < 2) : (outsAt0 m c t.val t.isLt).2.1 = k0_pay4 (F := Ideal) (acc m c t) (iblk m c 3 t) := by
  rw [outsAt0_B m c t (by omega) h h h' (by omega)]
  frame_out
  simp (disch := decide) only [View.readCov_fill, read_unread_whole]
  rfl

theorem out5_C (c : Dev nD) (t : Fin cfg0.N) (h : t.val % 2 = 1) (h' : 2 ≤ t.val) : (outsAt0 m c t.val t.isLt).2.1 =
    k0_pay5 (F := Ideal) (acc m c t) (iblk m c 3 t) (outsAt0 m c (t.val - 1) (Nat.lt_of_le_of_lt (Nat.sub_le _ _) t.isLt)).2.1 := by
  rw [outsAt0_C m c t (by omega) h h (by omega) h']
  frame_out
  simp (disch := decide) only [View.readCov_fill, read_unread_whole]
  rfl

theorem V0 (c : Dev nD) : (V m c main_v0 : FVec Ideal S4096x4096 .bf16) = (a0 m c : S4096x4096.Idx → EReal) := by
  entry_read
  rfl

theorem V1 (c : Dev nD) : (V m c main_v1 : FVec Ideal S4096x1024 .bf16) = (a1 m c : S4096x1024.Idx → EReal) := by
  entry_read
  rfl

theorem V2 (c : Dev nD) (j : Fin 1024) : (V m c main_v2 : FVec Ideal S1x1024 .f32) (ix2 0 j) = a2 m c (ix1 j) := by
  entry_read
  pointwise

theorem V3 (c : Dev nD) : (V m c main_v3 : FVec Ideal S4096x1024 .bf16) = (a3 m c : S4096x1024.Idx → EReal) := by
  entry_read
  rfl

theorem blk0 (c : Dev nD) (t : Fin cfg0.N) (k : Fin 2048) (j : Fin 1024) :
    (iblk m c 0 t : Vec Ideal S2048x1024 .bf16) (ix2 k j) = a0 m c (ix2 (n0 := 4096) (n1 := 4096) ⟨2048 * (t.val % 2) + k.val, by omega⟩
      ⟨1024 * (t.val / 2) + j.val, by have h2 : t.val < 8 := lt_of_lt_of_eq t.isLt N_0; omega⟩) := by
  refine Eq.trans ?_ (congrFun (V0 m c) _)
  blk_ext [iblk, idx_val t]

theorem blk1 (c : Dev nD) (t : Fin cfg0.N) (k : Fin 2048) (j : Fin 1024) :
    (iblk m c 1 t : Vec Ideal S2048x1024 .bf16) (ix2 k j) = a1 m c (ix2 (n0 := 4096) (n1 := 1024) ⟨2048 * (t.val % 2) + k.val, by omega⟩ j) := by
  refine Eq.trans ?_ (congrFun (V1 m c) _)
  blk_ext [iblk, idx_val t]

theorem blk2 (c : Dev nD) (t : Fin cfg0.N) (j : Fin 1024) : (iblk m c 2 t : Vec Ideal S1x1024 .f32) (ix2 0 j) = a2 m c (ix1 j) := by
  refine Eq.trans ?_ (V2 m c j)
  blk_ext [iblk, idx_val t]

theorem blk3 (c : Dev nD) (t : Fin cfg0.N) (k : Fin 1024) (j : Fin 1024) :
    (iblk m c 3 t : Vec Ideal S1024x1024 .bf16) (ix2 k j) = a3 m c (ix2 (n0 := 4096) (n1 := 1024)
      ⟨1024 * (t.val / 2) + k.val, by have h2 : t.val < 8 := lt_of_lt_of_eq t.isLt N_0; omega⟩ j) := by
  refine Eq.trans ?_ (congrFun (V3 m c) _)
  blk_ext [iblk, idx_val t]

theorem acc_is (c : Dev nD) (t : Fin cfg0.N) (h : t.val % 2 = 1) (i : S1024x1024.Idx) :
    acc m c t i = ∑ r : Fin 4096, a0 m c (ix2 (n0 := 4096) (n1 := 4096) r ⟨1024 * (t.val / 2) + (i 0).val, by
      have h0 : (i 0).val < 1024 := (i 0).isLt; have h2 : t.val < 8 := lt_of_lt_of_eq t.isLt N_0; omega⟩) * a1 m c (ix2 (n0 := 4096) (n1 := 1024) r (i 1)) := by
  have ht : t.val - 1 < cfg0.N := Nat.lt_of_le_of_lt (Nat.sub_le _ _) t.isLt
  have e1 := acc_A m c ⟨t.val - 1, ht⟩ (by dsimp only; omega)
  dsimp only at e1
  unfold acc
  rw [e1]
  pointwise [k0_pay3, k0_pay2, k0_pay1]
  refine Cert.Lru.sum_halves _ _ _ (fun k => ?_) fun k => ?_
  · refine (congrArg₂ (fun a b : EReal => a * b) (blk0 m c ⟨t.val - 1, ht⟩ k (i 0)) (blk1 m c ⟨t.val - 1, ht⟩ k (i 1))).trans ?_
    blk_point []
  · refine (congrArg₂ (fun a b : EReal => a * b) (blk0 m c t k (i 0)) (blk1 m c t k (i 1))).trans ?_
    blk_point []

theorem final4 (c : Dev nD) (h0 : ∀ i, (a0 m c i : EReal) = (((a0 m c i : EReal).toReal : ℝ) : EReal)) (h1 : ∀ i, (a1 m c i : EReal) = (((a1 m c i : EReal).toReal : ℝ) : EReal))
    (h2 : ∀ i, (a2 m c i : EReal) = (((a2 m c i : EReal).toReal : ℝ) : EReal)) :
    (dats m 0 c).arrAt 4 (cfgs 0).N = REF4 (a0 m c) (a1 m c) (a2 m c) := by
  refine (dats m 0 c).arrAt_eq_of_covers 4 _ (by decide +kernel) fun t hf y => ?_
  have h : t.val % 2 = 1 := (flush0_4 t).mp hf
  have h5 : (outsAt0 m c t.val t.isLt).1 = fun y => (acc m c t (ix2 (n0 := 1024) (n1 := 1024) ⟨512 * (y 0).val + (y 2).val, by have h0 : (y 0).val < 2 := (y 0).isLt; have h2 : (y 2).val < 512 := (y 2).isLt; omega⟩ (y 3)) : EReal)
      * (iblk m c 2 t : Vec Ideal S1x1024 .f32) (ix2 (n0 := 1) (n1 := 1024) 0 (y 3)) := by
    by_cases h' : t.val < 2
    · exact out4_B m c t h h'
    · exact out4_C m c t h (by omega)
  blk_simp
  rw [after0_4, h5]
  dsimp only
  refine (congrArg₂ (fun a b : EReal => a * b) (acc_is m c t h _) (blk2 m c t (y 3))).trans ?_
  refine (Cert.Lru.sum_scale _ _ _ (fun _ => h0 _) (fun _ => h1 _) (h2 _)).trans ?_
  pointwise [REF4]
  refine Finset.sum_congr rfl fun r _ => ?_
  blk_point [idx_val t]

/-- A column's sum over one quarter of the rows. -/
theorem quarter (c : Dev nD) (t : Fin cfg0.N) (q : Fin 4) (h : t.val % 2 = 1) (hq : t.val / 2 = q.val) (j : S1x1024.Idx) :
    k0_pay4 (F := Ideal) (acc m c t) (iblk m c 3 t) j = ∑ k : Fin 1024, (∑ r : Fin 4096, (a0 m c (ix2 (n0 := 4096) (n1 := 4096) r ⟨1024 * q.val + k.val, by omega⟩) : EReal) * a1 m c (ix2 (n0 := 4096) (n1 := 1024) r (j 1)))
      * a3 m c (ix2 (n0 := 4096) (n1 := 1024) ⟨1024 * q.val + k.val, by omega⟩ (j 1)) := by
  have e := acc_is m c t h
  generalize acc m c t = A at e ⊢
  pointwise [k0_pay4]
  refine Finset.sum_congr rfl fun k _ => ?_
  refine (congrArg₂ (fun a b : EReal => a * b) (e (ix2 k (j 1))) (blk3 m c t k (j 1))).trans ?_
  blk_point []

theorem pay5_at (x : Vec Ideal S1024x1024 .f32) (y : Vec Ideal S1024x1024 .bf16) (z : Vec Ideal S1x1024 .f32) (i : S1x1024.Idx) :
    k0_pay5 (F := Ideal) x y z i = (z i : EReal) + k0_pay4 (F := Ideal) x y i := by
  unfold k0_pay5
  generalize k0_pay4 (F := Ideal) x y = A
  pointwise

theorem col (c : Dev nD) (t : Fin cfg0.N) (h : t.val = 7) (j : S1x1024.Idx) :
    ((outsAt0 m c t.val t.isLt).2.1 : S1x1024.Idx → EReal) j = ∑ k : Fin 4096, (∑ r : Fin 4096, (a0 m c (ix2 (n0 := 4096) (n1 := 4096) r k) : EReal) * a1 m c (ix2 (n0 := 4096) (n1 := 1024) r (j 1)))
      * a3 m c (ix2 (n0 := 4096) (n1 := 1024) k (j 1)) := by
  obtain ⟨t, ht⟩ := t
  obtain rfl : t = 7 := h
  have N : cfg0.N = 8 := N_0
  have e7 := out5_C m c ⟨7, ht⟩ (by show 7 % 2 = 1; omega) (by show 2 ≤ 7; omega)
  have e6 := out5_A m c ⟨6, by omega⟩ (by show 6 % 2 = 0; omega)
  have e5 := out5_C m c ⟨5, by omega⟩ (by show 5 % 2 = 1; omega) (by show 2 ≤ 5; omega)
  have e4 := out5_A m c ⟨4, by omega⟩ (by show 4 % 2 = 0; omega)
  have e3 := out5_C m c ⟨3, by omega⟩ (by show 3 % 2 = 1; omega) (by show 2 ≤ 3; omega)
  have e2 := out5_A m c ⟨2, by omega⟩ (by show 2 % 2 = 0; omega)
  have e1 := out5_B m c ⟨1, by omega⟩ (by show 1 % 2 = 1; omega) (by show 1 < 2; omega)
  have q0 := quarter m c ⟨1, by omega⟩ 0 (by show 1 % 2 = 1; omega) (by show 1 / 2 = 0; omega) j
  have q1 := quarter m c ⟨3, by omega⟩ 1 (by show 3 % 2 = 1; omega) (by show 3 / 2 = 1; omega) j
  have q2 := quarter m c ⟨5, by omega⟩ 2 (by show 5 % 2 = 1; omega) (by show 5 / 2 = 2; omega) j
  have q3 := quarter m c ⟨7, ht⟩ 3 (by show 7 % 2 = 1; omega) (by show 7 / 2 = 3; omega) j
  simp only [Nat.reduceSub] at e1 e2 e3 e4 e5 e6 e7
  rw [e7, pay5_at, e6, e5, pay5_at, e4, e3, pay5_at, e2, e1, q0, q1, q2, q3]
  exact Cert.Lru.sum_quarters (fun k => (∑ r : Fin 4096, (a0 m c (ix2 (n0 := 4096) (n1 := 4096) r k) : EReal) * a1 m c (ix2 (n0 := 4096) (n1 := 1024) r (j 1)))
      * a3 m c (ix2 (n0 := 4096) (n1 := 1024) k (j 1)))

theorem final5 (c : Dev nD) (h0 : ∀ i, (a0 m c i : EReal) = (((a0 m c i : EReal).toReal : ℝ) : EReal)) (h1 : ∀ i, (a1 m c i : EReal) = (((a1 m c i : EReal).toReal : ℝ) : EReal))
    (h3 : ∀ i, (a3 m c i : EReal) = (((a3 m c i : EReal).toReal : ℝ) : EReal)) :
    (dats m 0 c).arrAt 5 (cfgs 0).N = REF5 (a0 m c) (a1 m c) (a3 m c) := by
  refine (dats m 0 c).arrAt_eq_of_covers 5 _ (by decide +kernel) fun t hf y => ?_
  have h : t.val % 8 = 7 := (flush0_5 t).mp hf
  have ht : t.val < 8 := lt_of_lt_of_eq t.isLt N_0
  blk_simp
  rw [after0_5]
  refine (col m c t (by omega) y).trans ?_
  refine (Cert.Lru.sum_swap (fun r k => (a0 m c (ix2 (n0 := 4096) (n1 := 4096) r k) : EReal)) _ _ (fun _ _ => h0 _) (fun _ => h1 _) (fun _ => h3 _)).trans ?_
  pointwise [REF5]
  rw [Fin.sum_univ_one]
  refine Finset.sum_congr rfl fun r _ => ?_
  blk_point [idx_val t]

end Cert.DwDownIdeal.Val

end
-- ==== Proof.InVal.lean ====
/- What the product of the input weights' gradient leaves, block by block. -/
module

public import proofs.«01_k».proof.Proof.Gen.DwInIdeal.Frame
public import proofs.«01_k».proof.Proof.Gen.DwInReferenceIdeal.Run
public import proofs.«01_k».proof.Proof.Halves
public import Idealize.ShloMosaic.Lib.Pipeline.ValueKit
public import Idealize.ShloMosaic.Lib.Pipeline.ReadBack

@[expose] public section

set_option maxRecDepth 16384

noncomputable section

namespace Cert.DwInIdeal.Val

open Cert.DwInIdeal Cert.DwInIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The inputs device `c` holds. -/
abbrev a0 (c : Dev nD) : FVec Ideal S4096x1024 .f32 := m ((c : Thread nD τ).loc main_arg0)
abbrev a1 (c : Dev nD) : FVec Ideal S4096x3200 .f32 := m ((c : Thread nD τ).loc main_arg1)

/-- The reference's composed term. -/
abbrev REF (a0 : FVec Ideal Cert.DwInReferenceIdeal.S4096x1024 .f32) (a1 : FVec Ideal Cert.DwInReferenceIdeal.S4096x3200 .f32) : FVec Ideal Cert.DwInReferenceIdeal.S1024x3200 .bf16 :=
  truncf .bf16 (transpose Cert.DwInReferenceIdeal.S1024x3200 [1, 0]
    (Host.dotGeneral Cert.DwInReferenceIdeal.dot_S4096x3200_S4096x1024_S3200x1024_0_0_1_1_n_n none a1 a0)
    Cert.DwInReferenceIdeal.Gen.transposes_S3200x1024_S1024x3200_1_0) Cert.DwInReferenceIdeal.Gen.bitsLt_bf16_f32

theorem idx_val : ∀ t : Fin cfg0.N, win0_0.index t = ![t.val % 4, t.val / 4] ∧ win0_1.index t = ![t.val % 4, 0] ∧ win0_2.index t = ![t.val / 4, 0] :=
  (by decide +kernel : ∀ t : Fin grid0.N, _)

/-- The accumulator after a first point, and after a later one over what the point before left. -/
theorem acc_A (c : Dev nD) (t : Fin cfg0.N) (h : t.val % 4 = 0) : (outsAt0 m c t.val t.isLt).2 = k0_pay2 (F := Ideal) (iblk m c 0 t) (iblk m c 1 t) := by
  rw [outsAt0_A m c t h (by omega) (by omega)]
  frame_out

theorem acc_B (c : Dev nD) (t : Fin cfg0.N) (h : t.val % 4 ≠ 0) (h' : t.val % 4 ≠ 3) : (outsAt0 m c t.val t.isLt).2 =
    k0_pay3 (F := Ideal) (iblk m c 0 t) (iblk m c 1 t) (outsAt0 m c (t.val - 1) (Nat.lt_of_le_of_lt (Nat.sub_le _ _) t.isLt)).2 := by
  rw [outsAt0_B m c t h (by omega) h']
  frame_out
  try simp (disch := decide) only [View.readCov_fill, read_unread_whole]

theorem out_C (c : Dev nD) (t : Fin cfg0.N) (h : t.val % 4 = 3) : (outsAt0 m c t.val t.isLt).1 =
    k0_pay4 (F := Ideal) (k0_pay3 (F := Ideal) (iblk m c 0 t) (iblk m c 1 t) (outsAt0 m c (t.val - 1) (Nat.lt_of_le_of_lt (Nat.sub_le _ _) t.isLt)).2) := by
  rw [outsAt0_C m c t (by omega) (by omega) h]
  frame_out
  simp (disch := decide) only [View.readCov_fill, read_unread_whole]

theorem V0 (c : Dev nD) : (V m c main_v0 : FVec Ideal S4096x1024 .bf16) = (a0 m c : S4096x1024.Idx → EReal) := by
  entry_read
  rfl

theorem V1 (c : Dev nD) : (V m c main_v1 : FVec Ideal S4096x3200 .bf16) = (a1 m c : S4096x3200.Idx → EReal) := by
  entry_read
  rfl

theorem blk0 (c : Dev nD) (t : Fin cfg0.N) (k : Fin 1024) (j : Fin 512) :
    (iblk m c 0 t : Vec Ideal S1024x512 .bf16) (ix2 k j) = a0 m c (ix2 (n0 := 4096) (n1 := 1024) ⟨1024 * (t.val % 4) + k.val, by omega⟩
      ⟨512 * (t.val / 4) + j.val, by have h2 : t.val < 8 := lt_of_lt_of_eq t.isLt N_0; omega⟩) := by
  refine Eq.trans ?_ (congrFun (V0 m c) _)
  blk_ext [iblk, idx_val t]

theorem blk1 (c : Dev nD) (t : Fin cfg0.N) (k : Fin 1024) (j : Fin 3200) :
    (iblk m c 1 t : Vec Ideal S1024x3200 .bf16) (ix2 k j) = a1 m c (ix2 (n0 := 4096) (n1 := 3200) ⟨1024 * (t.val % 4) + k.val, by omega⟩ j) := by
  refine Eq.trans ?_ (congrFun (V1 m c) _)
  blk_ext [iblk, idx_val t]

/-- The sum over a quarter's rows of the product's terms. -/
def Q (A : FVec Ideal S4096x1024 .f32) (B : FVec Ideal S4096x3200 .f32) (a : Fin 1024) (b : Fin 3200) (q : Fin 4) : EReal :=
  ∑ k : Fin 1024, (A (ix2 (n0 := 4096) (n1 := 1024) ⟨1024 * q.val + k.val, by omega⟩ a) : EReal) * B (ix2 (n0 := 4096) (n1 := 3200) ⟨1024 * q.val + k.val, by omega⟩ b)

theorem part (c : Dev nD) (t : Fin cfg0.N) (q : Fin 4) (h : t.val % 4 = q.val) (i : S512x3200.Idx) (a : Fin 1024) (ha : a.val = 512 * (t.val / 4) + (i 0).val) :
    k0_pay1 (F := Ideal) (iblk m c 0 t) (iblk m c 1 t) i = Q (a0 m c) (a1 m c) a (i 1) q := by
  pointwise [k0_pay1]
  refine Finset.sum_congr rfl fun k _ => ?_
  refine (congrArg₂ (fun a b : EReal => a * b) (blk0 m c t k (i 0)) (blk1 m c t k (i 1))).trans ?_
  blk_point []

theorem pay3_at (x : Vec Ideal S1024x512 .bf16) (y : Vec Ideal S1024x3200 .bf16) (z : Vec Ideal S512x3200 .f32) (i : S512x3200.Idx) :
    k0_pay3 (F := Ideal) x y z i = (z i : EReal) + k0_pay1 (F := Ideal) x y i := by
  unfold k0_pay3
  generalize k0_pay1 (F := Ideal) x y = A
  pointwise

theorem pay2_at (x : Vec Ideal S1024x512 .bf16) (y : Vec Ideal S1024x3200 .bf16) (i : S512x3200.Idx) :
    k0_pay2 (F := Ideal) x y i = k0_pay1 (F := Ideal) x y i := by
  unfold k0_pay2
  generalize k0_pay1 (F := Ideal) x y = A
  pointwise

theorem out_is (c : Dev nD) (t : Fin cfg0.N) (h : t.val % 4 = 3) (i : S512x3200.Idx) (a : Fin 1024) (ha : a.val = 512 * (t.val / 4) + (i 0).val) :
    ((outsAt0 m c t.val t.isLt).1 : S512x3200.Idx → EReal) i = ∑ r : Fin 4096, a0 m c (ix2 (n0 := 4096) (n1 := 1024) r a) * a1 m c (ix2 (n0 := 4096) (n1 := 3200) r (i 1)) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  have e1 := acc_B m c ⟨t.val - 1, h1⟩ (by dsimp only; omega) (by dsimp only; omega)
  have e2 := acc_B m c ⟨t.val - 1 - 1, h2⟩ (by dsimp only; omega) (by dsimp only; omega)
  have e3 := acc_A m c ⟨t.val - 1 - 1 - 1, h3⟩ (by dsimp only; omega)
  dsimp only at e1 e2 e3
  have p0 := part m c ⟨t.val - 1 - 1 - 1, h3⟩ 0 (by show (t.val - 1 - 1 - 1) % 4 = 0; omega) i a (by dsimp only; omega)
  have p1 := part m c ⟨t.val - 1 - 1, h2⟩ 1 (by show (t.val - 1 - 1) % 4 = 1; omega) i a (by dsimp only; omega)
  have p2 := part m c ⟨t.val - 1, h1⟩ 2 (by show (t.val - 1) % 4 = 2; omega) i a (by dsimp only; omega)
  have p3 := part m c t 3 h i a ha
  rw [out_C m c t h]
  refine Eq.trans (b := k0_pay3 (F := Ideal) (iblk m c 0 t) (iblk m c 1 t) (outsAt0 m c (t.val - 1) _).2 i) rfl ?_
  rw [pay3_at, e1, pay3_at, e2, pay3_at, e3, pay2_at, p0, p1, p2, p3]
  exact Cert.Lru.sum_quarters (fun r => (a0 m c (ix2 (n0 := 4096) (n1 := 1024) r a) : EReal) * a1 m c (ix2 (n0 := 4096) (n1 := 3200) r (i 1)))

theorem final (c : Dev nD) : (dats m 0 c).arrAt 2 (cfgs 0).N = REF (a0 m c) (a1 m c) := by
  refine (dats m 0 c).arrAt_eq_of_covers 2 _ (by decide +kernel) fun t hf y => ?_
  have h : t.val % 4 = 3 := (flush0_2 t).mp hf
  have ht : t.val < 8 := lt_of_lt_of_eq t.isLt N_0
  blk_simp
  rw [after0_2]
  have hy : (y 0).val < 512 := (y 0).isLt
  refine (out_is m c t h y ⟨512 * (t.val / 4) + (y 0).val, by omega⟩ rfl).trans ?_
  pointwise [REF]
  refine Finset.sum_congr rfl fun r _ => (mul_comm _ _).trans ?_
  blk_point [idx_val t]

end Cert.DwInIdeal.Val

end
-- ==== Proof.OutVal.lean ====
/- What the product of the output weights' gradient leaves, block by block. -/
module

public import proofs.«01_k».proof.Proof.Gen.DwOutIdeal.Frame
public import proofs.«01_k».proof.Proof.Gen.DwOutReferenceIdeal.Run
public import proofs.«01_k».proof.Proof.Halves
public import Idealize.ShloMosaic.Lib.Pipeline.ValueKit
public import Idealize.ShloMosaic.Lib.Pipeline.ReadBack

@[expose] public section

set_option maxRecDepth 16384

noncomputable section

namespace Cert.DwOutIdeal.Val

open Cert.DwOutIdeal Cert.DwOutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The inputs device `c` holds. -/
abbrev a0 (c : Dev nD) : FVec Ideal S4096x1024 .f32 := m ((c : Thread nD τ).loc main_arg0)
abbrev a1 (c : Dev nD) : FVec Ideal S4096x1024 .f32 := m ((c : Thread nD τ).loc main_arg1)

/-- The reference's composed term. -/
abbrev REF (a0 : FVec Ideal Cert.DwOutReferenceIdeal.S4096x1024 .f32) (a1 : FVec Ideal Cert.DwOutReferenceIdeal.S4096x1024 .f32) : FVec Ideal Cert.DwOutReferenceIdeal.S2x4x128x1024 .bf16 :=
  truncf .bf16 (transpose Cert.DwOutReferenceIdeal.S2x4x128x1024 [1, 0, 2, 3] (shapeCast Cert.DwOutReferenceIdeal.S4x2x128x1024 (transpose Cert.DwOutReferenceIdeal.S1024x1024 [1, 0]
    (Host.dotGeneral Cert.DwOutReferenceIdeal.dot_S4096x1024_S4096x1024_S1024x1024_0_0_1_1_n_n none a1 a0)
    Cert.DwOutReferenceIdeal.Gen.transposes_S1024x1024_S1024x1024_1_0) Cert.DwOutReferenceIdeal.Gen.shapeCasts_S1024x1024_S4x2x128x1024)
    Cert.DwOutReferenceIdeal.Gen.transposes_S4x2x128x1024_S2x4x128x1024_1_0_2_3) Cert.DwOutReferenceIdeal.Gen.bitsLt_bf16_f32

theorem idx_val : ∀ t : Fin cfg0.N, win0_0.index t = ![t.val % 2, t.val / 2] ∧ win0_1.index t = ![t.val % 2, 0] ∧ win0_2.index t = ![0, t.val / 2, 0, 0] :=
  (by decide +kernel : ∀ t : Fin grid0.N, _)

/-- A block's product. -/
theorem part (x : Vec Ideal S2048x512 .bf16) (y : Vec Ideal S2048x1024 .bf16) (i : S512x1024.Idx) :
    k0_pay1 (F := Ideal) x y i = ∑ k : Fin 2048, x (ix2 k (i 0)) * y (ix2 k (i 1)) := by
  pointwise [k0_pay1]

theorem acc_A (c : Dev nD) (t : Fin cfg0.N) (h : t.val % 2 = 0) : (outsAt0 m c t.val t.isLt).2 = k0_pay2 (F := Ideal) (iblk m c 0 t) (iblk m c 1 t) := by
  rw [outsAt0_A m c t h (by omega) (by omega)]
  frame_out

/-- The accumulator after a run of two points. -/
def acc (c : Dev nD) (t : Fin cfg0.N) : Vec Ideal S512x1024 .f32 :=
  k0_pay3 (F := Ideal) (iblk m c 0 t) (iblk m c 1 t) (outsAt0 m c (t.val - 1) (Nat.lt_of_le_of_lt (Nat.sub_le _ _) t.isLt)).2

theorem out_B (c : Dev nD) (t : Fin cfg0.N) (h : t.val % 2 = 1) : (outsAt0 m c t.val t.isLt).1 = fun y => acc m c t (ix2 (n0 := 512) (n1 := 1024) ⟨256 * (y 1).val + 128 * (y 0).val + (y 2).val, by have h0 : (y 0).val < 2 := (y 0).isLt; have h1 : (y 1).val < 2 := (y 1).isLt; have h2 : (y 2).val < 128 := (y 2).isLt; omega⟩ (y 3)) := by
  rw [outsAt0_B m c t (by omega) h h]
  frame_out
  simp (disch := decide) only [View.readCov_fill, read_unread_whole]
  unfold acc
  generalize k0_pay3 (F := Ideal) (iblk m c 0 t) (iblk m c 1 t) (outsAt0 m c (t.val - 1) _).2 = A
  funext y
  canon_tiles x h
  all_goals (open_payloads; pointwise; blk_ext)

theorem V0 (c : Dev nD) : (V m c main_v0 : FVec Ideal S4096x1024 .bf16) = (a0 m c : S4096x1024.Idx → EReal) := by
  entry_read
  rfl

theorem V1 (c : Dev nD) : (V m c main_v1 : FVec Ideal S4096x1024 .bf16) = (a1 m c : S4096x1024.Idx → EReal) := by
  entry_read
  rfl

theorem blk0 (c : Dev nD) (t : Fin cfg0.N) (k : Fin 2048) (j : Fin 512) :
    (iblk m c 0 t : Vec Ideal S2048x512 .bf16) (ix2 k j) = a0 m c (ix2 (n0 := 4096) (n1 := 1024) ⟨2048 * (t.val % 2) + k.val, by omega⟩
      ⟨512 * (t.val / 2) + j.val, by have h2 : t.val < 4 := lt_of_lt_of_eq t.isLt N_0; omega⟩) := by
  refine Eq.trans ?_ (congrFun (V0 m c) _)
  blk_ext [iblk, idx_val t]

theorem blk1 (c : Dev nD) (t : Fin cfg0.N) (k : Fin 2048) (j : Fin 1024) :
    (iblk m c 1 t : Vec Ideal S2048x1024 .bf16) (ix2 k j) = a1 m c (ix2 (n0 := 4096) (n1 := 1024) ⟨2048 * (t.val % 2) + k.val, by omega⟩ j) := by
  refine Eq.trans ?_ (congrFun (V1 m c) _)
  blk_ext [iblk, idx_val t]

theorem acc_is (c : Dev nD) (t : Fin cfg0.N) (h : t.val % 2 = 1) (i : S512x1024.Idx) :
    acc m c t i = ∑ r : Fin 4096, a0 m c (ix2 (n0 := 4096) (n1 := 1024) r ⟨512 * (t.val / 2) + (i 0).val, by
      have h0 : (i 0).val < 512 := (i 0).isLt; have h2 : t.val < 4 := lt_of_lt_of_eq t.isLt N_0; omega⟩) * a1 m c (ix2 (n0 := 4096) (n1 := 1024) r (i 1)) := by
  have ht : t.val - 1 < cfg0.N := Nat.lt_of_le_of_lt (Nat.sub_le _ _) t.isLt
  have e1 := acc_A m c ⟨t.val - 1, ht⟩ (by dsimp only; omega)
  dsimp only at e1
  unfold acc
  rw [e1]
  pointwise [k0_pay3, k0_pay2, k0_pay1]
  refine Cert.Lru.sum_halves _ _ _ (fun k => ?_) fun k => ?_
  · refine (congrArg₂ (fun a b : EReal => a * b) (blk0 m c ⟨t.val - 1, ht⟩ k (i 0)) (blk1 m c ⟨t.val - 1, ht⟩ k (i 1))).trans ?_
    blk_point []
  · refine (congrArg₂ (fun a b : EReal => a * b) (blk0 m c t k (i 0)) (blk1 m c t k (i 1))).trans ?_
    blk_point []

theorem final (c : Dev nD) : (dats m 0 c).arrAt 2 (cfgs 0).N = REF (a0 m c) (a1 m c) := by
  refine (dats m 0 c).arrAt_eq_of_covers 2 _ (by decide +kernel) fun t hf y => ?_
  have h : t.val % 2 = 1 := (flush0_2 t).mp hf
  blk_simp
  rw [after0_2, out_B m c t h]
  dsimp only
  refine (acc_is m c t h _).trans ?_
  pointwise [REF]
  refine Finset.sum_congr rfl fun r _ => (mul_comm _ _).trans ?_
  blk_point [idx_val t]

end Cert.DwOutIdeal.Val

end
-- ==== Proof.Products.lean ====
/- The frames and the values of the four weight gradients' products. -/
module

public import proofs.«01_k».proof.Defs
public import proofs.«01_k».proof.Proof.Inputs
public import proofs.«01_k».proof.Proof.UpVal
public import proofs.«01_k».proof.Proof.DownVal
public import proofs.«01_k».proof.Proof.InVal
public import proofs.«01_k».proof.Proof.OutVal
public import proofs.«01_k».proof.Proof.Gen.DwUp.Frame
public import proofs.«01_k».proof.Proof.Gen.DwDown.Frame
public import proofs.«01_k».proof.Proof.Gen.DwIn.Frame
public import proofs.«01_k».proof.Proof.Gen.DwOut.Frame
public import Idealize.ShloMosaic.Adequacy
public import Idealize.ShloMosaic.Init

@[expose] public section

set_option maxRecDepth 16384

noncomputable section

namespace Cert.Products

open Idealize.ShloMosaic Idealize.ShloMosaic.TcCoe Idealize.SL.Sem Cert.Lru
open scoped BigOperators

theorem preFacts4 : Cert.Pre_finite4.Facts where
  bcast_S_S4096x4096 := by decide
  reducesTo_S4096x4096_S_d0_1 := by decide
  h_S_ := by decide
  bcast_S_S4096x1024 := by decide
  reducesTo_S4096x1024_S_d0_1 := by decide
  bcast_S_S1024 := by decide
  reducesTo_S1024_S_d0 := by decide

section fn
open Cert.Pre_finite4

variable [Cert.Pre_finite4.Facts] {a0 : S4096x4096.Idx → EReal} {a1 a3 : S4096x1024.Idx → EReal} {a2 : S1024.Idx → EReal}

instance : Subsingleton S_.Idx := ⟨fun a b => funext fun i => i.elim0⟩

/-- Where the precondition holds, the four arguments are real. -/
theorem args_real4 (h : Cert.Pre_finite4.fn (F := Ideal) a0 a1 a2 a3 = fun _ => 1#1) : AllReal a0 ∧ AllReal a1 ∧ AllReal a2 ∧ AllReal a3 := by
  have e := congrFun h fun i => i.elim0
  obtain ⟨e, h3⟩ := both e
  obtain ⟨e, h2⟩ := both e
  obtain ⟨h0, h1⟩ := both e
  exact ⟨real_of_all h0, real_of_all h1, real_of_all h2, real_of_all h3⟩

end fn

theorem frame_DwUp : Cert.quiescent_DwUp (hDwUp := Cert.DwUp.Gen.facts) := fun m ρ _ =>
  (θ_run Cert.DwUp.defs _ _).mono (fun _ h => h) (Cert.DwUp.Gen.frame (F := Bits) m ρ)

theorem frame_DwUpIdeal : Cert.quiescent_DwUpIdeal := fun m ρ _ =>
  (θ_run Cert.DwUpIdeal.defs _ _).mono (fun _ h => h) (Cert.DwUpIdeal.Gen.frame (F := Ideal) m ρ)

theorem frame_DwUpReference : Cert.quiescent_DwUpReferenceIdeal := fun m ρ _ =>
  (θ_run Cert.DwUpReferenceIdeal.defs _ _).mono (fun r h => ⟨fun c => (h c).2, sem_eq_zero_of_no_sems (by decide) r.2⟩)
    (Cert.DwUpReferenceIdeal.Value.run (F := Ideal) m ρ)

theorem values_DwUp : Cert.algebraic_DwUpIdeal_DwUpReferenceIdeal := fun m ρ m' ρ' _ he => by
  refine ⟨fun c => Cert.DwUpIdeal.Val.REF (Cert.DwUpIdeal.Val.a0 m c) (Cert.DwUpIdeal.Val.a1 m c), ?_, ?_⟩
  · refine (θ_run Cert.DwUpIdeal.defs _ _).mono (fun r h c => ?_) (θ_run_and (Cert.DwUpIdeal.Gen.run_main (F := Ideal) m ρ) (Cert.DwUpIdeal.Gen.unchanged m ρ))
    obtain ⟨h, hk⟩ := h
    exact ⟨((h c).1 2).trans (Cert.DwUpIdeal.Val.final m c), hk c⟩
  · refine (θ_run Cert.DwUpReferenceIdeal.defs _ _).mono (fun r h c => ?_) (Cert.DwUpReferenceIdeal.Value.run (F := Ideal) m' ρ')
    obtain ⟨e0, e1⟩ := he c
    refine ⟨(h c).1.trans ?_, (h c).2⟩
    rw [e0, e1]

theorem frame_DwIn : Cert.quiescent_DwIn (hDwIn := Cert.DwIn.Gen.facts) := fun m ρ _ =>
  (θ_run Cert.DwIn.defs _ _).mono (fun _ h => h) (Cert.DwIn.Gen.frame (F := Bits) m ρ)

theorem frame_DwInIdeal : Cert.quiescent_DwInIdeal := fun m ρ _ =>
  (θ_run Cert.DwInIdeal.defs _ _).mono (fun _ h => h) (Cert.DwInIdeal.Gen.frame (F := Ideal) m ρ)

theorem frame_DwInReference : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run (F := Ideal) m ρ)

theorem values_DwIn : Cert.algebraic_DwInIdeal_DwInReferenceIdeal := fun m ρ m' ρ' _ he => by
  refine ⟨fun c => Cert.DwInIdeal.Val.REF (Cert.DwInIdeal.Val.a0 m c) (Cert.DwInIdeal.Val.a1 m c), ?_, ?_⟩
  · refine (θ_run Cert.DwInIdeal.defs _ _).mono (fun r h c => ?_) (θ_run_and (Cert.DwInIdeal.Gen.run_main (F := Ideal) m ρ) (Cert.DwInIdeal.Gen.unchanged m ρ))
    obtain ⟨h, hk⟩ := h
    exact ⟨((h c).1 2).trans (Cert.DwInIdeal.Val.final m c), hk c⟩
  · refine (θ_run Cert.DwInReferenceIdeal.defs _ _).mono (fun r h c => ?_) (Cert.DwInReferenceIdeal.Value.run (F := Ideal) m' ρ')
    obtain ⟨e0, e1⟩ := he c
    refine ⟨(h c).1.trans ?_, (h c).2⟩
    rw [e0, e1]

theorem frame_DwOut : Cert.quiescent_DwOut (hDwOut := Cert.DwOut.Gen.facts) := fun m ρ _ =>
  (θ_run Cert.DwOut.defs _ _).mono (fun _ h => h) (Cert.DwOut.Gen.frame (F := Bits) m ρ)

theorem frame_DwOutIdeal : Cert.quiescent_DwOutIdeal := fun m ρ _ =>
  (θ_run Cert.DwOutIdeal.defs _ _).mono (fun _ h => h) (Cert.DwOutIdeal.Gen.frame (F := Ideal) m ρ)

theorem frame_DwOutReference : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run (F := Ideal) m ρ)

theorem values_DwOut : Cert.algebraic_DwOutIdeal_DwOutReferenceIdeal := fun m ρ m' ρ' _ he => by
  refine ⟨fun c => Cert.DwOutIdeal.Val.REF (Cert.DwOutIdeal.Val.a0 m c) (Cert.DwOutIdeal.Val.a1 m c), ?_, ?_⟩
  · refine (θ_run Cert.DwOutIdeal.defs _ _).mono (fun r h c => ?_) (θ_run_and (Cert.DwOutIdeal.Gen.run_main (F := Ideal) m ρ) (Cert.DwOutIdeal.Gen.unchanged m ρ))
    obtain ⟨h, hk⟩ := h
    exact ⟨((h c).1 2).trans (Cert.DwOutIdeal.Val.final m c), hk c⟩
  · refine (θ_run Cert.DwOutReferenceIdeal.defs _ _).mono (fun r h c => ?_) (Cert.DwOutReferenceIdeal.Value.run (F := Ideal) m' ρ')
    obtain ⟨e0, e1⟩ := he c
    refine ⟨(h c).1.trans ?_, (h c).2⟩
    rw [e0, e1]

theorem frame_DwDown : Cert.quiescent_DwDown (hDwDown := Cert.DwDown.Gen.facts) := fun m ρ _ =>
  (θ_run Cert.DwDown.defs _ _).mono (fun _ h => h) (Cert.DwDown.Gen.frame (F := Bits) m ρ)

theorem frame_DwDownIdeal : Cert.quiescent_DwDownIdeal := fun m ρ _ =>
  (θ_run Cert.DwDownIdeal.defs _ _).mono (fun _ h => h) (Cert.DwDownIdeal.Gen.frame (F := Ideal) m ρ)

theorem frame_DwDownIdeal_pre : Cert.quiescent_DwDownIdeal_pre_finite4 (hPre_finite4 := preFacts4) := fun m ρ _ =>
  (θ_run Cert.DwDownIdeal.defs _ _).mono (fun _ h => h) (Cert.DwDownIdeal.Gen.frame (F := Ideal) m ρ)

theorem frame_DwDownReference : Cert.quiescent_DwDownReferenceIdeal := fun m ρ _ =>
  (θ_run Cert.DwDownReferenceIdeal.defs _ _).mono (fun r h => ⟨fun c => (h c).2.2, sem_eq_zero_of_no_sems (by decide) r.2⟩)
    (Cert.DwDownReferenceIdeal.Value.run (F := Ideal) m ρ)

theorem frame_DwDownReference_pre : Cert.quiescent_DwDownReferenceIdeal_pre_finite4 (hPre_finite4 := preFacts4) := fun m ρ _ =>
  (θ_run Cert.DwDownReferenceIdeal.defs _ _).mono (fun r h => ⟨fun c => (h c).2.2, sem_eq_zero_of_no_sems (by decide) r.2⟩)
    (Cert.DwDownReferenceIdeal.Value.run (F := Ideal) m ρ)

theorem values_DwDown : Cert.algebraic_DwDownIdeal_DwDownReferenceIdeal_pre_finite4 (hPre_finite4 := preFacts4) := fun m ρ m' ρ' hp he => by
  refine ⟨fun c => Cert.DwDownIdeal.Val.REF4 (Cert.DwDownIdeal.Val.a0 m c) (Cert.DwDownIdeal.Val.a1 m c) (Cert.DwDownIdeal.Val.a2 m c),
    fun c => Cert.DwDownIdeal.Val.REF5 (Cert.DwDownIdeal.Val.a0 m c) (Cert.DwDownIdeal.Val.a1 m c) (Cert.DwDownIdeal.Val.a3 m c), ?_, ?_⟩
  · refine (θ_run Cert.DwDownIdeal.defs _ _).mono (fun r h c => ?_) (θ_run_and (Cert.DwDownIdeal.Gen.run_main (F := Ideal) m ρ) (Cert.DwDownIdeal.Gen.unchanged m ρ))
    obtain ⟨h, hk⟩ := h
    obtain ⟨h0, h1, h2, h3⟩ := @args_real4 preFacts4 _ _ _ _ (hp c)
    exact ⟨((h c).1 4).trans (Cert.DwDownIdeal.Val.final4 m c h0 h1 h2), ((h c).1 5).trans (Cert.DwDownIdeal.Val.final5 m c h0 h1 h3), hk c⟩
  · refine (θ_run Cert.DwDownReferenceIdeal.defs _ _).mono (fun r h c => ?_) (Cert.DwDownReferenceIdeal.Value.run (F := Ideal) m' ρ')
    obtain ⟨e0, e1, e2, e3⟩ := he c
    refine ⟨(h c).1.trans ?_, (h c).2.1.trans ?_, (h c).2.2⟩
    · rw [e0, e1, e2]
    · rw [e0, e1, e3]

end Cert.Products

end
-- ==== Proof.MlpSpec.lean ====
/- The MLP's backward pass as functions, to the extended reals, of a row and a column. -/
module

public import proofs.«01_k».proof.Proof.Mat
public import proofs.«01_k».proof.Proof.Spec

@[expose] public section

noncomputable section

namespace Cert.MlpSpec

open Idealize.ShloMosaic Cert.Lru
open scoped BigOperators

/-! ## Sums and products of extended reals -/

theorem sum_real {s : Finset ℕ} {f : ℕ → EReal} (h : ∀ k ∈ s, ∃ y : ℝ, f k = y) : ∃ y : ℝ, ∑ k ∈ s, f k = y := by
  induction s using Finset.induction_on with
  | empty => exact ⟨0, by simp⟩
  | insert a s ha ih =>
    obtain ⟨y, hy⟩ := h a (Finset.mem_insert_self _ _)
    obtain ⟨z, hz⟩ := ih fun k hk => h k (Finset.mem_insert_of_mem hk)
    exact ⟨y + z, by rw [Finset.sum_insert ha, hy, hz, EReal.coe_add]⟩

/-- A factor that is a real, not negative, goes out of a sum. -/
theorem add_mul_pos {ρ : ℝ} (h : 0 ≤ ρ) (a b : EReal) : (a + b) * (ρ : EReal) = a * ρ + b * ρ := by
  rw [mul_comm, EReal.left_distrib_of_nonneg_of_ne_top (EReal.coe_nonneg.2 h) (EReal.coe_ne_top _), mul_comm _ a, mul_comm _ b]

theorem sum_mul_pos {ρ : ℝ} (h : 0 ≤ ρ) (s : Finset ℕ) (f : ℕ → EReal) : (∑ k ∈ s, f k * (ρ : EReal)) = (∑ k ∈ s, f k) * (ρ : EReal) := by
  induction s using Finset.induction_on with
  | empty => simp
  | insert a s ha ih => rw [Finset.sum_insert ha, Finset.sum_insert ha, add_mul_pos h, ih]

theorem twice (S : EReal) (k : ℝ) : S * (k : EReal) + S * (k : EReal) = S * ((k + k : ℝ) : EReal) := by
  induction S with
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | coe s => rw [← EReal.coe_mul, ← EReal.coe_mul, ← EReal.coe_add, mul_add]
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl

theorem square_nonneg (x : EReal) : 0 ≤ x * x := by
  induction x with
  | bot => simp
  | coe s => rw [← EReal.coe_mul]; exact EReal.coe_nonneg.2 (mul_self_nonneg s)
  | top => simp

/-! ## The functions -/

/-- The arguments. -/
structure Par where
  d : ℕ → ℕ → EReal
  x : ℕ → ℕ → EReal
  w : ℕ → EReal
  s : ℕ → EReal
  t : ℕ → EReal
  g : ℕ → EReal
  U : ℕ → ℕ → EReal
  W : ℕ → ℕ → EReal

namespace Par

variable (P : Par)

/-- The arguments from row `o` on. -/
def tile (o : ℕ) : Par := { P with d := fun r c => P.d (o + r) c, x := fun r c => P.x (o + r) c }

def ms (r : ℕ) : EReal := Ideal.div (∑ k ∈ Finset.range 1024, P.x r k * P.x r k) ((1024 : ℝ) : EReal) + ((ε₂ : ℝ) : EReal)
def rs (r : ℕ) : EReal := Ideal.rsqrt (P.ms r)
def xh (r c : ℕ) : EReal := P.x r c * P.rs r
def nn (r c : ℕ) : EReal := P.xh r c * P.w c
def h (r c : ℕ) : EReal := P.nn r c * (((1 : ℝ) : EReal) + P.s c) + P.t c
def up (r f : ℕ) : EReal := ∑ k ∈ Finset.range 1024, P.h r k * P.U k f
def ac (r f : ℕ) : EReal := max (P.up r f) ((0 : ℝ) : EReal)
def act (r f : ℕ) : EReal := P.ac r f * P.ac r f
def dact (r f : ℕ) : EReal := ∑ k ∈ Finset.range 1024, P.d r k * P.g k * P.W f k
def du (r f : ℕ) : EReal := P.dact r f * (((2 : ℝ) : EReal) * P.ac r f)
def dh (r k : ℕ) : EReal := ∑ f ∈ Finset.range 4096, P.du r f * P.U k f
def dn (r c : ℕ) : EReal := P.dh r c * (((1 : ℝ) : EReal) + P.s c)
def dxh (r c : ℕ) : EReal := P.dn r c * P.w c
def mean (r : ℕ) : EReal := Ideal.div (∑ k ∈ Finset.range 1024, P.dxh r k * P.xh r k) ((1024 : ℝ) : EReal)
def dx (r c : ℕ) : EReal := P.d r c + P.rs r * (P.dxh r c - P.xh r c * P.mean r)
def dw (n : ℕ) (c : ℕ) : EReal := ∑ r ∈ Finset.range n, P.dn r c * P.xh r c
def ds (n : ℕ) (c : ℕ) : EReal := ∑ r ∈ Finset.range n, P.dh r c * P.nn r c
def dt (n : ℕ) (c : ℕ) : EReal := ∑ r ∈ Finset.range n, P.dh r c

/-- The mean square is infinite, or it is a positive real and the row is real. -/
theorem ms_cases (r : ℕ) : P.ms r = ⊤ ∨ ∃ μ : ℝ, 0 < μ ∧ P.ms r = μ ∧ ∀ k ∈ Finset.range 1024, ∃ y : ℝ, P.x r k = y := by
  have hd : ∀ S : EReal, Ideal.div S ((1024 : ℝ) : EReal) = S * ((1 / 1024 : ℝ) : EReal) := Ideal.div_coe (by norm_num)
  by_cases h : ∀ k ∈ Finset.range 1024, ∃ y : ℝ, P.x r k = y
  · obtain ⟨z, hz⟩ := sum_real (f := fun k => P.x r k * P.x r k) fun k hk => by
      obtain ⟨y, hy⟩ := h k hk
      exact ⟨y * y, by rw [hy, EReal.coe_mul]⟩
    have z0 : 0 ≤ z := by
      have : (0 : EReal) ≤ ∑ k ∈ Finset.range 1024, P.x r k * P.x r k := Finset.sum_nonneg fun k _ => square_nonneg _
      rw [hz] at this
      exact EReal.coe_nonneg.1 this
    refine Or.inr ⟨z * (1 / 1024) + ε₂, add_pos_of_nonneg_of_pos (mul_nonneg z0 (by norm_num)) ε₂_pos, ?_, h⟩
    rw [ms, hd, hz, ← EReal.coe_mul, ← EReal.coe_add]
  · left
    push Not at h
    obtain ⟨k, hk, hn⟩ := h
    have e : P.x r k * P.x r k = ⊤ := by
      induction hx : P.x r k with
      | bot => simp
      | coe y => exact absurd hx (hn y)
      | top => simp
    have s : (∑ k ∈ Finset.range 1024, P.x r k * P.x r k) = ⊤ :=
      top_le_iff.1 (e.symm.le.trans (Finset.single_le_sum (f := fun k => P.x r k * P.x r k) (fun k _ => square_nonneg _) hk))
    rw [ms, hd, s, EReal.top_mul_coe_of_pos (by norm_num), EReal.top_add_coe]

/-- The derivative of the reciprocal root, spread over a row. -/
def spread (r : ℕ) : EReal :=
  Ideal.div ((∑ k ∈ Finset.range 1024, P.x r k * P.dxh r k) * (((-(1 / 2) : ℝ) : EReal) * Ideal.div (P.rs r) (P.ms r))) ((1024 : ℝ) : EReal)

theorem dx_eq (r c : ℕ) (hc : c < 1024) : P.d r c + P.dxh r c * P.rs r + P.x r c * P.spread r + P.spread r * P.x r c = P.dx r c := by
  have hd : ∀ S : EReal, Ideal.div S ((1024 : ℝ) : EReal) = S * ((1 / 1024 : ℝ) : EReal) := Ideal.div_coe (by norm_num)
  rcases P.ms_cases r with h | ⟨μ, h0, h, hx⟩
  · have e : P.rs r = 0 := by rw [rs, h]; rfl
    have e2 : P.spread r = 0 := by
      rw [spread, e, h, hd]
      simp [Ideal.div]
    rw [dx, e2, e]
    simp
  · obtain ⟨ξ, hξ⟩ := hx c (Finset.mem_range.2 hc)
    have e : P.rs r = (((Real.sqrt μ)⁻¹ : ℝ) : EReal) := by rw [rs, h]; exact ideal_rsqrt h0
    have q : (Real.sqrt μ)⁻¹ * (Real.sqrt μ)⁻¹ = 1 / μ := by rw [← mul_inv, Real.mul_self_sqrt h0.le, one_div]
    have p : 0 ≤ (Real.sqrt μ)⁻¹ := inv_nonneg.2 (Real.sqrt_nonneg _)
    generalize (Real.sqrt μ)⁻¹ = ρ at e q p
    have m : P.mean r = (∑ k ∈ Finset.range 1024, P.x r k * P.dxh r k) * ρ * ((1 / 1024 : ℝ) : EReal) := by
      rw [mean, hd, ← sum_mul_pos p]
      exact congrArg (· * _) (Finset.sum_congr rfl fun k _ => by rw [xh, e]; ac_rfl)
    have hs : P.spread r = (∑ k ∈ Finset.range 1024, P.x r k * P.dxh r k) * ((-(1 / 2) * (ρ * (1 / μ)) * (1 / 1024) : ℝ) : EReal) := by
      rw [spread, hd, e, h, Ideal.div_coe h0.ne', mul_assoc]
      simp only [EReal.coe_mul]
    rw [dx, m, hs, xh, e, hξ]
    generalize (∑ k ∈ Finset.range 1024, P.x r k * P.dxh r k) = S
    generalize P.dxh r c = D
    have l : (ξ : EReal) * (S * ((-(1 / 2) * (ρ * (1 / μ)) * (1 / 1024) : ℝ) : EReal)) = S * ((ξ * (-(1 / 2) * (ρ * (1 / μ)) * (1 / 1024)) : ℝ) : EReal) := by
      rw [EReal.coe_mul ξ]; ac_rfl
    have g : -((ξ : EReal) * ρ * (S * ρ * ((1 / 1024 : ℝ) : EReal))) * ρ = S * ((-(ξ * ρ * ρ * (1 / 1024) * ρ) : ℝ) : EReal) := by
      rw [EReal.coe_neg, EReal.neg_mul, mul_comm S (-_), EReal.neg_mul]
      simp only [EReal.coe_mul]
      exact congrArg Neg.neg (by ac_rfl)
    rw [mul_comm (S * _) (ξ : EReal), l, add_assoc, twice, add_assoc, sub_eq_add_neg, mul_comm (ρ : EReal), add_mul_pos p, g]
    refine congrArg (fun z : ℝ => P.d r c + (D * ρ + S * (z : EReal))) ?_
    rw [← q]
    ring

theorem du_eq (r f : ℕ) : (if ((0 : ℝ) : EReal) < P.up r f then P.dact r f * (((2 : ℝ) : EReal) * P.ac r f) else ((0 : ℝ) : EReal)) = P.du r f := by
  rw [du]
  split_ifs with h
  · rfl
  · rw [ac, max_eq_right (not_lt.1 h), EReal.coe_zero, mul_zero, mul_zero]

end Par

end Cert.MlpSpec

end
-- ==== Proof.MlpMat.lean ====
/- Arrays given by functions to the extended reals, and what each operation does to them. -/
module

public import proofs.«01_k».proof.Proof.Kit

@[expose] public section

noncomputable section

namespace Cert.MlpSpec

open Idealize.ShloMosaic Cert.Lru
open scoped BigOperators

/-- The vector `X` holds `f`. -/
def E1 {k : ℕ} (X : (⟨1, ![k]⟩ : Shape).Idx → EReal) (f : ℕ → EReal) : Prop := ∀ j, X j = f (j 0).val

/-- The matrix `X` holds, at row `r` and column `c`, `f r c`. -/
def E2 {n k : ℕ} (X : (⟨2, ![n, k]⟩ : Shape).Idx → EReal) (f : ℕ → ℕ → EReal) : Prop := ∀ j, X j = f (j 0).val (j 1).val

/-- A vector's function, and a matrix's. -/
def of1 {k : ℕ} (X : (⟨1, ![k]⟩ : Shape).Idx → EReal) (c : ℕ) : EReal := if h : c < k then X (ix1 ⟨c, h⟩) else 0
def of2 {n k : ℕ} (X : (⟨2, ![n, k]⟩ : Shape).Idx → EReal) (r c : ℕ) : EReal :=
  if h : r < n ∧ c < k then X (ix2 ⟨r, h.1⟩ ⟨c, h.2⟩) else 0

variable {n k : ℕ}

theorem of1_is (X : (⟨1, ![k]⟩ : Shape).Idx → EReal) : E1 X (of1 X) := fun j => by
  have h : (j 0).val < k := (j 0).isLt
  rw [of1, dif_pos h]
  refine congrArg X (funext fun a => ?_)
  match a with
  | 0 => rfl

theorem of2_is (X : (⟨2, ![n, k]⟩ : Shape).Idx → EReal) : E2 X (of2 X) := fun j => by
  have h0 : (j 0).val < n := (j 0).isLt
  have h1 : (j 1).val < k := (j 1).isLt
  rw [of2, dif_pos ⟨h0, h1⟩]
  refine congrArg X (funext fun a => ?_)
  match a with
  | 0 => rfl
  | 1 => rfl

theorem E1.congr {X : (⟨1, ![k]⟩ : Shape).Idx → EReal} {f g : ℕ → EReal} (hX : E1 X f) (h : ∀ c < k, f c = g c) : E1 X g :=
  fun j => (hX j).trans (h _ (j 0).isLt)

theorem E2.congr {X : (⟨2, ![n, k]⟩ : Shape).Idx → EReal} {f g : ℕ → ℕ → EReal} (hX : E2 X f)
    (h : ∀ r < n, ∀ c < k, f r c = g r c) : E2 X g :=
  fun j => (hX j).trans (h _ (j 0).isLt _ (j 1).isLt)

theorem E2.at {X : (⟨2, ![n, k]⟩ : Shape).Idx → EReal} {f : ℕ → ℕ → EReal} (hX : E2 X f) {i : (⟨2, ![n, k]⟩ : Shape).Idx} {r c : ℕ}
    (h0 : (i 0).val = r) (h1 : (i 1).val = c) : X i = f r c := by rw [hX i, h0, h1]

theorem E1.at {X : (⟨1, ![k]⟩ : Shape).Idx → EReal} {f : ℕ → EReal} (hX : E1 X f) {i : (⟨1, ![k]⟩ : Shape).Idx} {c : ℕ}
    (h0 : (i 0).val = c) : X i = f c := by rw [hX i, h0]

theorem E2.splat {b : BitVec 32} {v : EReal} (h : Ideal.ofBits .f32 b = v) :
    E2 (n := n) (k := k) (broadcast ⟨2, ![n, k]⟩ (Scalar.ofBits (F := Ideal) .f32 b)) fun _ _ => v := fun _ => h

/-- A product's sum. -/
theorem mul_sums {K : ℕ} {L R : Fin K → EReal} {p q : ℕ → EReal} (hL : ∀ e, L e = p e.val) (hR : ∀ e, R e = q e.val) :
    (0 : EReal) + ∑ e : Fin K, L e * R e = ∑ e ∈ Finset.range K, p e * q e := by
  rw [zero_add, Finset.sum_range]
  exact Finset.sum_congr rfl fun e _ => by rw [hL, hR]

section
variable {X Y : (⟨2, ![n, k]⟩ : Shape).Idx → EReal} {f g : ℕ → ℕ → EReal}

theorem E2.add (hX : E2 X f) (hY : E2 Y g) : E2 (addf (F := Ideal) (φ := .f32) X Y) fun r c => f r c + g r c := fun j => by
  show X _ + Y _ = _
  rw [hX, hY]

theorem E2.sub (hX : E2 X f) (hY : E2 Y g) : E2 (subf (F := Ideal) (φ := .f32) X Y) fun r c => f r c - g r c := fun j => by
  show X _ - Y _ = _
  rw [hX, hY]

theorem E2.mul (hX : E2 X f) (hY : E2 Y g) : E2 (mulf (F := Ideal) (φ := .f32) X Y) fun r c => f r c * g r c := fun j => by
  show X _ * Y _ = _
  rw [hX, hY]

theorem E2.div (hX : E2 X f) (hY : E2 Y g) : E2 (divf (F := Ideal) (φ := .f32) X Y) fun r c => Ideal.div (f r c) (g r c) := fun j => by
  show Ideal.div (X _) (Y _) = _
  rw [hX, hY]

theorem E2.hdiv (hX : E2 X f) (hY : E2 Y g) : E2 (Host.divf (F := Ideal) (φ := .f32) X Y) fun r c => Ideal.div (f r c) (g r c) := E2.div hX hY

theorem E2.max (hX : E2 X f) (hY : E2 Y g) : E2 (maximumf (F := Ideal) (φ := .f32) X Y) fun r c => max (f r c) (g r c) := fun j => by
  show Max.max (X _) (Y _) = _
  rw [hX, hY]

theorem E2.rsqrt (hX : E2 X f) : E2 (Idealize.ShloMosaic.rsqrt (F := Ideal) (φ := .f32) X) fun r c => Ideal.rsqrt (f r c) := fun j => by
  show Ideal.rsqrt (X _) = _
  rw [hX]

theorem E2.hrsqrt (hX : E2 X f) : E2 (Host.rsqrt (F := Ideal) (φ := .f32) X) fun r c => Ideal.rsqrt (f r c) := E2.rsqrt hX

/-- A choice by a comparison. -/
theorem E2.selGt {P Q : (⟨2, ![n, k]⟩ : Shape).Idx → EReal} {p q : ℕ → ℕ → EReal} (hX : E2 X f) (hY : E2 Y g) (hP : E2 P p) (hQ : E2 Q q) :
    E2 (select (cmpf (F := Ideal) (φ := .f32) .ogt X Y) P Q) fun r c => if g r c < f r c then p r c else q r c := fun j => by
  have hx : X j = _ := hX j
  have hy : Y j = _ := hY j
  have hp : P j = _ := hP j
  have hq : Q j = _ := hQ j
  show (if Ideal.cmp .ogt (X j) (Y j) = 1 then P j else Q j) = _
  rw [hx, hy, hp, hq]
  by_cases h : g (j 0).val (j 1).val < f (j 0).val (j 1).val
  · simp [Ideal.cmp, h]
  · simp [Ideal.cmp, h]

theorem E2.cast (hX : E2 X f) (h : (⟨2, ![n, k]⟩ : Shape).ShapeCasts ⟨2, ![n, k]⟩) : E2 (shapeCast ⟨2, ![n, k]⟩ X h) f := fun j => by
  rw [Pointwise.shapeCast_apply, Shape.reshapeEquiv_eq_of_rowMajor _ (rfl : (Shape.rowMajor _ j).val = _)]
  exact hX j

/-! ## Spreading -/

theorem E1.row {x : (⟨1, ![k]⟩ : Shape).Idx → EReal} {v : ℕ → EReal} (hx : E1 x v) (b : (⟨1, ![k]⟩ : Shape).BroadcastsInDim ⟨2, ![1, k]⟩ ![1]) :
    E2 (broadcastInDim ⟨2, ![1, k]⟩ ![1] b x) fun _ c => v c := fun j => by
  have hj1 : (j 1).val < k := (j 1).isLt
  refine hx.at ?_
  by_cases h1 : k = 1
  · rw [dif_pos (show (⟨1, ![k]⟩ : Shape).size 0 = 1 from h1)]; show 0 = (j 1).val; omega
  · rw [dif_neg (show ¬ (⟨1, ![k]⟩ : Shape).size 0 = 1 from h1)]; rfl

theorem E1.col {x : (⟨1, ![n]⟩ : Shape).Idx → EReal} {v : ℕ → EReal} (hx : E1 x v) (b : (⟨1, ![n]⟩ : Shape).BroadcastsInDim ⟨2, ![n, k]⟩ ![0]) :
    E2 (broadcastInDim ⟨2, ![n, k]⟩ ![0] b x) fun r _ => v r := fun j => by
  have hj1 : (j 0).val < n := (j 0).isLt
  refine hx.at ?_
  by_cases h1 : n = 1
  · rw [dif_pos (show (⟨1, ![n]⟩ : Shape).size 0 = 1 from h1)]; show 0 = (j 0).val; omega
  · rw [dif_neg (show ¬ (⟨1, ![n]⟩ : Shape).size 0 = 1 from h1)]; rfl

theorem E2.rows {x : (⟨2, ![1, k]⟩ : Shape).Idx → EReal} (hx : E2 x f) (b : (⟨2, ![1, k]⟩ : Shape).BroadcastsInDim ⟨2, ![n, k]⟩ ![0, 1]) :
    E2 (broadcastInDim ⟨2, ![n, k]⟩ ![0, 1] b x) fun _ c => f 0 c := fun j => by
  have hj1 : (j 1).val < k := (j 1).isLt
  refine hx.at ?_ ?_
  · rw [dif_pos (show (⟨2, ![1, k]⟩ : Shape).size 0 = 1 from rfl)]
  · by_cases h1 : k = 1
    · rw [dif_pos (show (⟨2, ![1, k]⟩ : Shape).size 1 = 1 from h1)]; show 0 = (j 1).val; omega
    · rw [dif_neg (show ¬ (⟨2, ![1, k]⟩ : Shape).size 1 = 1 from h1)]; rfl

theorem E2.cols {x : (⟨2, ![n, 1]⟩ : Shape).Idx → EReal} (hx : E2 x f) (b : (⟨2, ![n, 1]⟩ : Shape).BroadcastsInDim ⟨2, ![n, k]⟩ ![0, 1]) :
    E2 (broadcastInDim ⟨2, ![n, k]⟩ ![0, 1] b x) fun r _ => f r 0 := fun j => by
  have hj1 : (j 0).val < n := (j 0).isLt
  refine hx.at ?_ ?_
  · by_cases h1 : n = 1
    · rw [dif_pos (show (⟨2, ![n, 1]⟩ : Shape).size 0 = 1 from h1)]; show 0 = (j 0).val; omega
    · rw [dif_neg (show ¬ (⟨2, ![n, 1]⟩ : Shape).size 0 = 1 from h1)]; rfl
  · rw [dif_pos (show (⟨2, ![n, 1]⟩ : Shape).size 1 = 1 from rfl)]

theorem E2.rowsTo {x : (⟨2, ![1, k]⟩ : Shape).Idx → EReal} (hx : E2 x f) (b : (⟨2, ![1, k]⟩ : Shape).Broadcasts ⟨2, ![n, k]⟩) :
    E2 (broadcastTo ⟨2, ![n, k]⟩ x b) fun _ c => f 0 c := fun j => by
  have hj1 : (j 1).val < k := (j 1).isLt
  refine hx.at ?_ ?_
  · rw [dif_pos (show (⟨2, ![1, k]⟩ : Shape).size 0 = 1 from rfl)]
  · by_cases h1 : k = 1
    · rw [dif_pos (show (⟨2, ![1, k]⟩ : Shape).size 1 = 1 from h1)]; show 0 = (j 1).val; omega
    · rw [dif_neg (show ¬ (⟨2, ![1, k]⟩ : Shape).size 1 = 1 from h1)]; rfl

theorem E2.colsTo {x : (⟨2, ![n, 1]⟩ : Shape).Idx → EReal} (hx : E2 x f) (b : (⟨2, ![n, 1]⟩ : Shape).Broadcasts ⟨2, ![n, k]⟩) :
    E2 (broadcastTo ⟨2, ![n, k]⟩ x b) fun r _ => f r 0 := fun j => by
  have hj1 : (j 0).val < n := (j 0).isLt
  refine hx.at ?_ ?_
  · by_cases h1 : n = 1
    · rw [dif_pos (show (⟨2, ![n, 1]⟩ : Shape).size 0 = 1 from h1)]; show 0 = (j 0).val; omega
    · rw [dif_neg (show ¬ (⟨2, ![n, 1]⟩ : Shape).size 0 = 1 from h1)]; rfl
  · rw [dif_pos (show (⟨2, ![n, 1]⟩ : Shape).size 1 = 1 from rfl)]

/-- A column as a matrix of one column, and a row as a matrix of one row. -/
theorem E1.asCol {x : (⟨1, ![n]⟩ : Shape).Idx → EReal} {v : ℕ → EReal} (hx : E1 x v) (h : (⟨1, ![n]⟩ : Shape).ShapeCasts ⟨2, ![n, 1]⟩) :
    E2 (shapeCast ⟨2, ![n, 1]⟩ x h) fun r _ => v r := fun j => by
  have hj : (j 1).val < 1 := (j 1).isLt
  have e : Shape.reshapeEquiv h j = ix1 (⟨(j 0).val, (j 0).isLt⟩ : Fin n) := by
    refine Shape.reshapeEquiv_eq_of_rowMajor _ ?_
    rw [Shape.rowMajor_val_one, Shape.rowMajor_val_two]
    show (j 0).val = (j 0).val * 1 + (j 1).val
    omega
  rw [Pointwise.shapeCast_apply, e]
  exact hx.at rfl

theorem E1.asRow {x : (⟨1, ![k]⟩ : Shape).Idx → EReal} {v : ℕ → EReal} (hx : E1 x v) (h : (⟨1, ![k]⟩ : Shape).ShapeCasts ⟨2, ![1, k]⟩) :
    E2 (shapeCast ⟨2, ![1, k]⟩ x h) fun _ c => v c := fun j => by
  have hj : (j 0).val < 1 := (j 0).isLt
  have e : Shape.reshapeEquiv h j = ix1 (⟨(j 1).val, (j 1).isLt⟩ : Fin k) := by
    refine Shape.reshapeEquiv_eq_of_rowMajor _ ?_
    rw [Shape.rowMajor_val_one, Shape.rowMajor_val_two]
    show (j 1).val = (j 0).val * k + (j 1).val
    have : (j 0).val = 0 := by omega
    rw [this]; omega
  rw [Pointwise.shapeCast_apply, e]
  exact hx.at rfl

/-! ## Sums -/

theorem E2.sumRows (hX : E2 X f) {z : (⟨0, ![]⟩ : Shape).Idx → EReal} (hz : ∀ i, z i = ((0 : ℝ) : EReal))
    (h : (⟨2, ![n, k]⟩ : Shape).ReducesTo [1] ⟨1, ![n]⟩) (hu : 0 < (⟨0, ![]⟩ : Shape).numel) :
    E1 (Host.reduceAdd (F := Ideal) (φ := .f32) X z h hu) fun r => ∑ c ∈ Finset.range k, f r c := fun j => by
  show Ideal.hostReduceAdd h X (z _) j = _
  rw [Ideal.hostReduceAdd_r2_a1, hz, EReal.coe_zero, zero_add]
  refine Eq.trans ?_ (Finset.sum_range fun c => f (j 0).val c).symm
  exact Finset.sum_congr rfl fun c _ => hX.at rfl rfl

theorem E2.sumCols (hX : E2 X f) {z : (⟨0, ![]⟩ : Shape).Idx → EReal} (hz : ∀ i, z i = ((0 : ℝ) : EReal))
    (h : (⟨2, ![n, k]⟩ : Shape).ReducesTo [0] ⟨1, ![k]⟩) (hu : 0 < (⟨0, ![]⟩ : Shape).numel) :
    E1 (Host.reduceAdd (F := Ideal) (φ := .f32) X z h hu) fun c => ∑ r ∈ Finset.range n, f r c := fun j => by
  show Ideal.hostReduceAdd h X (z _) j = _
  rw [Ideal.hostReduceAdd_r2_a0, hz, EReal.coe_zero, zero_add]
  refine Eq.trans ?_ (Finset.sum_range fun r => f r (j 0).val).symm
  exact Finset.sum_congr rfl fun c _ => hX.at rfl rfl

theorem E2.addRows (hX : E2 X f) (a : BitVec 32) (h : (⟨2, ![n, k]⟩ : Shape).Reduces [0] ⟨1, ![k]⟩) (hp) (ha)
    (hs : (⟨1, ![k]⟩ : Shape).ShapeCasts ⟨2, ![1, k]⟩) :
    E2 (shapeCast ⟨2, ![1, k]⟩ (multiReduction (F := Ideal) (φ := .f32) .add [0] ⟨1, ![k]⟩ X a h hp ha) hs)
      fun _ c => ∑ r ∈ Finset.range n, f r c :=
  E1.asRow (v := fun c => ∑ r ∈ Finset.range n, f r c) (fun j => by
    show Ideal.reduceAdd h X j = _
    rw [Ideal.reduceAdd_r2_a0]
    refine Eq.trans ?_ (Finset.sum_range fun r => f r (j 0).val).symm
    exact Finset.sum_congr rfl fun i _ => hX.at rfl rfl) hs

theorem E2.addCols (hX : E2 X f) (a : BitVec 32) (h : (⟨2, ![n, k]⟩ : Shape).Reduces [1] ⟨1, ![n]⟩) (hp) (ha)
    (hs : (⟨1, ![n]⟩ : Shape).ShapeCasts ⟨2, ![n, 1]⟩) :
    E2 (shapeCast ⟨2, ![n, 1]⟩ (multiReduction (F := Ideal) (φ := .f32) .add [1] ⟨1, ![n]⟩ X a h hp ha) hs)
      fun r _ => ∑ c ∈ Finset.range k, f r c :=
  E1.asCol (v := fun r => ∑ c ∈ Finset.range k, f r c) (fun j => by
    show Ideal.reduceAdd h X j = _
    rw [Ideal.reduceAdd_r2_a1]
    refine Eq.trans ?_ (Finset.sum_range fun c => f (j 0).val c).symm
    exact Finset.sum_congr rfl fun i _ => hX.at rfl rfl) hs

end

end Cert.MlpSpec

end
-- ==== Proof.MlpBody.lean ====
/- The words of a tile of the MLP's backward pass. -/
module

public import proofs.«01_k».proof.Proof.MlpSpec
public import proofs.«01_k».proof.Proof.MlpMat
public import proofs.«01_k».proof.Proof.Gen.MlpIdeal.Skeleton

@[expose] public section

noncomputable section

namespace Cert.MlpIdeal.Gen

open Idealize.ShloMosaic Idealize.ShloMosaic.TcCoe Idealize.ShloMosaic.Tactic Cert.MlpSpec
open Cert.Lru hiding Par
open scoped BigOperators

abbrev B (X : S256x1024.Idx → EReal) (f : ℕ → ℕ → EReal) : Prop := E2 (n := 256) (k := 1024) X f
abbrev C (X : S256x4096.Idx → EReal) (f : ℕ → ℕ → EReal) : Prop := E2 (n := 256) (k := 4096) X f
abbrev R (X : S1x1024.Idx → EReal) (f : ℕ → EReal) : Prop := E2 (n := 1) (k := 1024) X fun _ c => f c

theorem bits_1024 : Ideal.ofBits .f32 0x44800000#32 = ((1024 : ℝ) : EReal) := by
  simp [Ideal.ofBits, Ideal.ieee, -EReal.coe_mul, -EReal.coe_neg]; try norm_num

section dots
variable {f g : ℕ → ℕ → EReal}

theorem upDot_is {X : FVec Ideal S256x1024 .bf16} {Y : FVec Ideal S1024x4096 .bf16} (hX : E2 (n := 256) (k := 1024) X f) (hY : E2 (n := 1024) (k := 4096) Y g) :
    E2 (n := 256) (k := 4096) (matmul dot_S256x1024_S1024x4096_S256x4096_1_0_0_1_n_n none X Y (constant (F := Ideal) S256x4096 .f32 0x00000000#32))
      fun r c => ∑ e ∈ Finset.range 1024, f r e * g e c := fun j => by
  idx_vars j
  pointwise
  exact (zero_add _).symm.trans (mul_sums (K := 1024) (p := fun e => f j0.val e) (q := fun e => g e j1.val) (fun e => hX.at rfl rfl) (fun e => hY.at rfl rfl))

theorem downDot_is {X : FVec Ideal S256x1024 .bf16} {Y : FVec Ideal S4096x1024 .bf16} (hX : E2 (n := 256) (k := 1024) X f) (hY : E2 (n := 4096) (k := 1024) Y g) :
    E2 (n := 256) (k := 4096) (matmul dot_S256x1024_S4096x1024_S256x4096_1_1_0_0_n_n none X Y (constant (F := Ideal) S256x4096 .f32 0x00000000#32))
      fun r c => ∑ e ∈ Finset.range 1024, f r e * g c e := fun j => by
  idx_vars j
  pointwise
  exact (zero_add _).symm.trans (mul_sums (K := 1024) (p := fun e => f j0.val e) (q := fun e => g j1.val e) (fun e => hX.at rfl rfl) (fun e => hY.at rfl rfl))

theorem backDot_is {X : FVec Ideal S256x4096 .bf16} {Y : FVec Ideal S1024x4096 .bf16} (hX : E2 (n := 256) (k := 4096) X f) (hY : E2 (n := 1024) (k := 4096) Y g) :
    E2 (n := 256) (k := 1024) (matmul dot_S256x4096_S1024x4096_S256x1024_1_1_0_0_n_n none X Y (constant (F := Ideal) S256x1024 .f32 0x00000000#32))
      fun r c => ∑ e ∈ Finset.range 4096, f r e * g c e := fun j => by
  idx_vars j
  pointwise
  exact (zero_add _).symm.trans (mul_sums (K := 4096) (p := fun e => f j0.val e) (q := fun e => g j1.val e) (fun e => hX.at rfl rfl) (fun e => hY.at rfl rfl))

end dots

/-- A tile's arrays. -/
structure Holds (d x : FVec Ideal S256x1024 .f32) (w s t g : FVec Ideal S1x1024 .f32) (U : FVec Ideal S1024x4096 .bf16) (W : FVec Ideal S4096x1024 .bf16) (P : Par) : Prop where
  d : B d P.d
  x : B x P.x
  w : R w P.w
  s : R s P.s
  t : R t P.t
  g : R g P.g
  U : E2 (n := 1024) (k := 4096) U P.U
  W : E2 (n := 4096) (k := 1024) W P.W

namespace Holds

variable {d x : FVec Ideal S256x1024 .f32} {w s t g : FVec Ideal S1x1024 .f32} {U : FVec Ideal S1024x4096 .bf16} {W : FVec Ideal S4096x1024 .bf16} {P : Par}
  (H : Holds d x w s t g U W P)
include H

set_option maxHeartbeats 1000000

theorem rs_is : E2 (n := 256) (k := 1) (k0_pay10 (F := Ideal) x) fun r _ => P.rs r :=
  E2.rsqrt (((E2.addCols (H.x.mul H.x) _ _ _ _ _).div (E2.splat bits_1024)).add (E2.splat bits_ε₂))

theorem xh_is : B (k0_pay11 (F := Ideal) x) P.xh := H.x.mul (H.rs_is.colsTo _)

theorem h_is : B (k0_pay2 (F := Ideal) x w s t) P.h :=
  ((H.xh_is.mul ((H.w.cast _).rowsTo _)).mul (((E2.splat bits_1).add (H.s.cast _)).rowsTo _)).add ((H.t.cast _).rowsTo _)

theorem ac_is : C (k0_pay3 (F := Ideal) x w s t U) P.ac := (upDot_is H.h_is H.U).max (E2.splat bits_0)

theorem act_is : C (k0_pay4 (F := Ideal) (k0_pay3 (F := Ideal) x w s t U)) P.act := H.ac_is.mul H.ac_is

theorem d_is : B (k0_pay5 (F := Ideal) d) P.d := H.d

theorem du_is : C (k0_pay6 (F := Ideal) d (k0_pay3 (F := Ideal) x w s t U) g W) P.du :=
  (downDot_is (H.d.mul ((H.g.cast _).rowsTo _)) H.W).mul ((E2.splat bits_2).mul H.ac_is)

theorem dh_is : B (k0_pay7 (F := Ideal) d (k0_pay3 (F := Ideal) x w s t U) g W U) P.dh := backDot_is H.du_is H.U

theorem w_is : R (k0_pay8 (F := Ideal) w) P.w := H.w.cast _
theorem s_is : R (k0_pay9 (F := Ideal) s) P.s := H.s.cast _
theorem nn_is : B (k0_pay12 (F := Ideal) x w) P.nn := H.xh_is.mul (H.w_is.rowsTo _)

theorem dt_is : R (k0_pay13 (F := Ideal) (k0_pay7 (F := Ideal) d (k0_pay3 (F := Ideal) x w s t U) g W U)) (P.dt 256) := E2.addRows H.dh_is _ _ _ _ _
theorem ds_is : R (k0_pay14 (F := Ideal) (k0_pay7 (F := Ideal) d (k0_pay3 (F := Ideal) x w s t U) g W U) (k0_pay12 (F := Ideal) x w)) (P.ds 256) := E2.addRows (H.dh_is.mul H.nn_is) _ _ _ _ _
theorem dn_is : B (k0_pay15 (F := Ideal) (k0_pay7 (F := Ideal) d (k0_pay3 (F := Ideal) x w s t U) g W U) (k0_pay9 (F := Ideal) s)) P.dn := H.dh_is.mul (((E2.splat bits_1).add H.s_is).rowsTo _)
theorem dw_is : R (k0_pay16 (F := Ideal) (k0_pay7 (F := Ideal) d (k0_pay3 (F := Ideal) x w s t U) g W U) (k0_pay9 (F := Ideal) s) (k0_pay11 (F := Ideal) x)) (P.dw 256) := E2.addRows (H.dn_is.mul H.xh_is) _ _ _ _ _

theorem dxh_is : B (mulf (F := Ideal) (k0_pay15 (F := Ideal) (k0_pay7 (F := Ideal) d (k0_pay3 (F := Ideal) x w s t U) g W U) (k0_pay9 (F := Ideal) s)) (broadcastTo S256x1024 (k0_pay8 (F := Ideal) w) broadcasts_S1x1024_S256x1024)) P.dxh :=
  H.dn_is.mul (H.w_is.rowsTo _)

theorem dx_is : B (k0_pay17 (F := Ideal) d (k0_pay7 (F := Ideal) d (k0_pay3 (F := Ideal) x w s t U) g W U) (k0_pay8 (F := Ideal) w) (k0_pay9 (F := Ideal) s) (k0_pay10 (F := Ideal) x) (k0_pay11 (F := Ideal) x)) P.dx :=
  H.d.add ((H.rs_is.colsTo _).mul (H.dxh_is.sub (H.xh_is.mul (((E2.addCols (H.dxh_is.mul H.xh_is) _ _ _ _ _).div (E2.splat bits_1024)).colsTo _))))

theorem dt_more {z : FVec Ideal S1x1024 .f32} {f : ℕ → EReal} (hz : R z f) : R (k0_pay1 (F := Ideal) (k0_pay13 (F := Ideal) (k0_pay7 (F := Ideal) d (k0_pay3 (F := Ideal) x w s t U) g W U)) z) fun c => f c + P.dt 256 c :=
  (hz.cast _).add H.dt_is
theorem ds_more {z : FVec Ideal S1x1024 .f32} {f : ℕ → EReal} (hz : R z f) : R (k0_pay19 (F := Ideal) (k0_pay7 (F := Ideal) d (k0_pay3 (F := Ideal) x w s t U) g W U) (k0_pay12 (F := Ideal) x w) z) fun c => f c + P.ds 256 c :=
  (hz.cast _).add H.ds_is
theorem dw_more {z : FVec Ideal S1x1024 .f32} {f : ℕ → EReal} (hz : R z f) : R (k0_pay18 (F := Ideal) (k0_pay7 (F := Ideal) d (k0_pay3 (F := Ideal) x w s t U) g W U) (k0_pay9 (F := Ideal) s) (k0_pay11 (F := Ideal) x) z) fun c => f c + P.dw 256 c :=
  (hz.cast _).add H.dw_is

end Holds

end Cert.MlpIdeal.Gen

end
-- ==== Proof.MlpPts.lean ====
/- What the points of the MLP's backward pass leave. -/
module

public import proofs.«01_k».proof.Proof.Gen.MlpIdeal.Frame
public import Idealize.ShloMosaic.Lib.Pipeline.ValueKit
public import Idealize.ShloMosaic.Lib.Pipeline.ReadBack

@[expose] public section

set_option maxRecDepth 16384

noncomputable section

namespace Cert.MlpIdeal.Val

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The weights device `c` holds. -/
abbrev wU (c : Dev nD) : FVec Ideal S1024x4096 .bf16 := V m c main_v4
abbrev wW (c : Dev nD) : FVec Ideal S4096x1024 .bf16 := V m c main_v5

theorem canon_w {Val : EltTy → Type} [∀ e, Nonempty (Val e)] {S : Shape} {e : EltTy} (w : S.Idx → Val e) : View.canon [(⟨Rect.whole S, w⟩ : View.Piece Val S e)] = w :=
  View.canon_cons_unit_lit (off := fun _ => 0) (fun _ => by simp) w [] fun _ => rfl

theorem load_w {Val : EltTy → Type} [∀ e, Nonempty (Val e)] {S : Shape} {e : EltTy} {sig : RefSig} {κ : Kind} {sp : Space} (v : View sig κ sp S e)
    {off : Fin S.rank → ℕ} (inb : ∀ a, off a + S.size a ≤ S.size a) (w : S.Idx → Val e) (h : ∀ a, off a = 0) :
    v.readCov [(⟨Rect.whole S, w⟩ : View.Piece Val S e)] (Rect.unit off (no_index S.size) inb).toLoadRect = w :=
  View.readCov_cons_unit_lit' v (off := fun _ => 0) (fun _ => by simp) inb w [] (fun _ => rfl) h

theorem sU_A (c : Dev nD) (t : Fin cfg0.N) (h : t.val = 0) : ((outsAt0 m c t.val t.isLt).2.2.2.2.2.2.2.2.1 : FVec Ideal S1024x4096 .bf16) = wU m c := by
  rw [outsAt0_A m c t (by omega) (by omega) (by omega) (by omega) (by omega) (by omega) (by omega)]
  frame_out
  exact canon_w _

theorem sU_B (c : Dev nD) (t : Fin cfg0.N) (h : ¬t.val % 16 = 0) : ((outsAt0 m c t.val t.isLt).2.2.2.2.2.2.2.2.1 : FVec Ideal S1024x4096 .bf16) = (outsAt0 m c (t.val - 1) (Nat.lt_of_le_of_lt (Nat.sub_le _ _) t.isLt)).2.2.2.2.2.2.2.2.1 := by
  rw [outsAt0_B m c t h h (by omega) h (by omega) h (by omega)]
  rfl

theorem sU (c : Dev nD) : ∀ (n : ℕ) (hn : n < cfg0.N), ((outsAt0 m c n hn).2.2.2.2.2.2.2.2.1 : FVec Ideal S1024x4096 .bf16) = wU m c
  | 0, hn => sU_A m c ⟨0, hn⟩ rfl
  | n + 1, hn => (sU_B m c ⟨n + 1, hn⟩ (by have : n + 1 < 16 := lt_of_lt_of_eq hn N_0; dsimp only; omega)).trans (sU c n (Nat.lt_of_succ_lt hn))

theorem sW_A (c : Dev nD) (t : Fin cfg0.N) (h : t.val = 0) : ((outsAt0 m c t.val t.isLt).2.2.2.2.2.2.2.2.2 : FVec Ideal S4096x1024 .bf16) = wW m c := by
  rw [outsAt0_A m c t (by omega) (by omega) (by omega) (by omega) (by omega) (by omega) (by omega)]
  frame_out
  exact canon_w _

theorem sW_B (c : Dev nD) (t : Fin cfg0.N) (h : ¬t.val % 16 = 0) : ((outsAt0 m c t.val t.isLt).2.2.2.2.2.2.2.2.2 : FVec Ideal S4096x1024 .bf16) = (outsAt0 m c (t.val - 1) (Nat.lt_of_le_of_lt (Nat.sub_le _ _) t.isLt)).2.2.2.2.2.2.2.2.2 := by
  rw [outsAt0_B m c t h h (by omega) h (by omega) h (by omega)]
  rfl

theorem sW (c : Dev nD) : ∀ (n : ℕ) (hn : n < cfg0.N), ((outsAt0 m c n hn).2.2.2.2.2.2.2.2.2 : FVec Ideal S4096x1024 .bf16) = wW m c
  | 0, hn => sW_A m c ⟨0, hn⟩ rfl
  | n + 1, hn => (sW_B m c ⟨n + 1, hn⟩ (by have : n + 1 < 16 := lt_of_lt_of_eq hn N_0; dsimp only; omega)).trans (sW c n (Nat.lt_of_succ_lt hn))

/-- What a point's words are over. -/
abbrev aAc (c : Dev nD) (t : Fin cfg0.N) : FVec Ideal S256x4096 .f32 :=
  k0_pay3 (F := Ideal) (iblk m c 1 t) (iblk m c 2 t) (iblk m c 3 t) (iblk m c 4 t) (wU m c)
abbrev aDh (c : Dev nD) (t : Fin cfg0.N) : FVec Ideal S256x1024 .f32 :=
  k0_pay7 (F := Ideal) (iblk m c 0 t) (aAc m c t) (iblk m c 5 t) (wW m c) (wU m c)

theorem o_dx (c : Dev nD) (t : Fin cfg0.N) : ((outsAt0 m c t.val t.isLt).1 : FVec Ideal S256x1024 .f32) = k0_pay17 (F := Ideal) (iblk m c 0 t) (aDh m c t) (k0_pay8 (F := Ideal) (iblk m c 2 t)) (k0_pay9 (F := Ideal) (iblk m c 3 t)) (k0_pay10 (F := Ideal) (iblk m c 1 t)) (k0_pay11 (F := Ideal) (iblk m c 1 t)) := by
  have ht : t.val < 16 := lt_of_lt_of_eq t.isLt N_0
  by_cases h : t.val % 16 = 0
  · rw [outsAt0_A m c t (by omega) (by omega) (by omega) (by omega) (by omega) (by omega) (by omega)]
    frame_out
    try simp (disch := decide) only [load_w, ReadAs.apply_same, View.read_whole]
  · rw [outsAt0_B m c t h h (by omega) h (by omega) h (by omega)]
    frame_out
    try simp (disch := decide) only [read_unread_whole, sU, sW]

theorem o_h (c : Dev nD) (t : Fin cfg0.N) : ((outsAt0 m c t.val t.isLt).2.1 : FVec Ideal S256x1024 .bf16) = k0_pay2 (F := Ideal) (iblk m c 1 t) (iblk m c 2 t) (iblk m c 3 t) (iblk m c 4 t) := by
  have ht : t.val < 16 := lt_of_lt_of_eq t.isLt N_0
  by_cases h : t.val % 16 = 0
  · rw [outsAt0_A m c t (by omega) (by omega) (by omega) (by omega) (by omega) (by omega) (by omega)]
    frame_out
    try simp (disch := decide) only [load_w, ReadAs.apply_same, View.read_whole]
  · rw [outsAt0_B m c t h h (by omega) h (by omega) h (by omega)]
    frame_out
    try simp (disch := decide) only [read_unread_whole, sU, sW]

theorem o_du (c : Dev nD) (t : Fin cfg0.N) : ((outsAt0 m c t.val t.isLt).2.2.1 : FVec Ideal S256x4096 .bf16) = k0_pay6 (F := Ideal) (iblk m c 0 t) (aAc m c t) (iblk m c 5 t) (wW m c) := by
  have ht : t.val < 16 := lt_of_lt_of_eq t.isLt N_0
  by_cases h : t.val % 16 = 0
  · rw [outsAt0_A m c t (by omega) (by omega) (by omega) (by omega) (by omega) (by omega) (by omega)]
    frame_out
    try simp (disch := decide) only [load_w, ReadAs.apply_same, View.read_whole]
  · rw [outsAt0_B m c t h h (by omega) h (by omega) h (by omega)]
    frame_out
    try simp (disch := decide) only [read_unread_whole, sU, sW]

theorem o_act (c : Dev nD) (t : Fin cfg0.N) : ((outsAt0 m c t.val t.isLt).2.2.2.1 : FVec Ideal S256x4096 .bf16) = k0_pay4 (F := Ideal) (aAc m c t) := by
  have ht : t.val < 16 := lt_of_lt_of_eq t.isLt N_0
  by_cases h : t.val % 16 = 0
  · rw [outsAt0_A m c t (by omega) (by omega) (by omega) (by omega) (by omega) (by omega) (by omega)]
    frame_out
    try simp (disch := decide) only [load_w, ReadAs.apply_same, View.read_whole]
  · rw [outsAt0_B m c t h h (by omega) h (by omega) h (by omega)]
    frame_out
    try simp (disch := decide) only [read_unread_whole, sU, sW]

theorem o_d (c : Dev nD) (t : Fin cfg0.N) : ((outsAt0 m c t.val t.isLt).2.2.2.2.1 : FVec Ideal S256x1024 .bf16) = k0_pay5 (F := Ideal) (iblk m c 0 t) := by
  have ht : t.val < 16 := lt_of_lt_of_eq t.isLt N_0
  by_cases h : t.val % 16 = 0
  · rw [outsAt0_A m c t (by omega) (by omega) (by omega) (by omega) (by omega) (by omega) (by omega)]
    frame_out
    try simp (disch := decide) only [load_w, ReadAs.apply_same, View.read_whole]
  · rw [outsAt0_B m c t h h (by omega) h (by omega) h (by omega)]
    frame_out
    try simp (disch := decide) only [read_unread_whole, sU, sW]

theorem dw_A (c : Dev nD) (t : Fin cfg0.N) (h : t.val = 0) : ((outsAt0 m c t.val t.isLt).2.2.2.2.2.1 : FVec Ideal S1x1024 .f32) = k0_pay16 (F := Ideal) (aDh m c t) (k0_pay9 (F := Ideal) (iblk m c 3 t)) (k0_pay11 (F := Ideal) (iblk m c 1 t)) := by
  rw [outsAt0_A m c t (by omega) (by omega) (by omega) (by omega) (by omega) (by omega) (by omega)]
  frame_out
  try simp (disch := decide) only [load_w, ReadAs.apply_same, View.read_whole]

theorem dw_B (c : Dev nD) (t : Fin cfg0.N) (h : ¬t.val % 16 = 0) : ((outsAt0 m c t.val t.isLt).2.2.2.2.2.1 : FVec Ideal S1x1024 .f32) = k0_pay18 (F := Ideal) (aDh m c t) (k0_pay9 (F := Ideal) (iblk m c 3 t)) (k0_pay11 (F := Ideal) (iblk m c 1 t)) (outsAt0 m c (t.val - 1) (Nat.lt_of_le_of_lt (Nat.sub_le _ _) t.isLt)).2.2.2.2.2.1 := by
  rw [outsAt0_B m c t h h (by omega) h (by omega) h (by omega)]
  frame_out
  try simp (disch := decide) only [read_unread_whole, sU, sW]

theorem ds_A (c : Dev nD) (t : Fin cfg0.N) (h : t.val = 0) : ((outsAt0 m c t.val t.isLt).2.2.2.2.2.2.1 : FVec Ideal S1x1024 .f32) = k0_pay14 (F := Ideal) (aDh m c t) (k0_pay12 (F := Ideal) (iblk m c 1 t) (iblk m c 2 t)) := by
  rw [outsAt0_A m c t (by omega) (by omega) (by omega) (by omega) (by omega) (by omega) (by omega)]
  frame_out
  try simp (disch := decide) only [load_w, ReadAs.apply_same, View.read_whole]

theorem ds_B (c : Dev nD) (t : Fin cfg0.N) (h : ¬t.val % 16 = 0) : ((outsAt0 m c t.val t.isLt).2.2.2.2.2.2.1 : FVec Ideal S1x1024 .f32) = k0_pay19 (F := Ideal) (aDh m c t) (k0_pay12 (F := Ideal) (iblk m c 1 t) (iblk m c 2 t)) (outsAt0 m c (t.val - 1) (Nat.lt_of_le_of_lt (Nat.sub_le _ _) t.isLt)).2.2.2.2.2.2.1 := by
  rw [outsAt0_B m c t h h (by omega) h (by omega) h (by omega)]
  frame_out
  try simp (disch := decide) only [read_unread_whole, sU, sW]

theorem dt_A (c : Dev nD) (t : Fin cfg0.N) (h : t.val = 0) : ((outsAt0 m c t.val t.isLt).2.2.2.2.2.2.2.1 : FVec Ideal S1x1024 .f32) = k0_pay13 (F := Ideal) (aDh m c t) := by
  rw [outsAt0_A m c t (by omega) (by omega) (by omega) (by omega) (by omega) (by omega) (by omega)]
  frame_out
  try simp (disch := decide) only [load_w, ReadAs.apply_same, View.read_whole]

theorem dt_B (c : Dev nD) (t : Fin cfg0.N) (h : ¬t.val % 16 = 0) : ((outsAt0 m c t.val t.isLt).2.2.2.2.2.2.2.1 : FVec Ideal S1x1024 .f32) = k0_pay1 (F := Ideal) (k0_pay13 (F := Ideal) (aDh m c t)) (outsAt0 m c (t.val - 1) (Nat.lt_of_le_of_lt (Nat.sub_le _ _) t.isLt)).2.2.2.2.2.2.2.1 := by
  rw [outsAt0_B m c t h h (by omega) h (by omega) h (by omega)]
  frame_out
  try simp (disch := decide) only [read_unread_whole, sU, sW]

end Cert.MlpIdeal.Val

end
-- ==== Proof.MlpVal.lean ====
/- What the launch of the MLP's backward pass leaves. -/
module

public import proofs.«01_k».proof.Proof.MlpBody
public import proofs.«01_k».proof.Proof.MlpPts

@[expose] public section

set_option maxRecDepth 16384

noncomputable section

namespace Cert.MlpIdeal.Val

open Cert.MlpIdeal Cert.MlpIdeal.Gen Cert.MlpSpec Idealize.ShloMosaic Idealize.ShloMosaic.TcCoe Idealize.SL.Sem
open Cert.Lru hiding Par
open Idealize.ShloMosaic.Pipeline (Dat)
open scoped BigOperators

variable (m : (ℓ : Loc nD τ sig) → Buf (Elt Ideal) ℓ)

/-- The array of `f`. -/
def arr {n k : ℕ} (f : ℕ → ℕ → EReal) : (⟨2, ![n, k]⟩ : Shape).Idx → EReal := fun j => f (j 0).val (j 1).val

/-- The arguments device `c` holds. -/
abbrev a0 (c : Dev nD) : FVec Ideal S4096x1024 .f32 := m ((c : Thread nD τ).loc main_arg0)
abbrev a1 (c : Dev nD) : FVec Ideal S4096x1024 .f32 := m ((c : Thread nD τ).loc main_arg1)
abbrev a2 (c : Dev nD) : FVec Ideal S1024 .f32 := m ((c : Thread nD τ).loc main_arg2)
abbrev a3 (c : Dev nD) : FVec Ideal S1024 .f32 := m ((c : Thread nD τ).loc main_arg3)
abbrev a4 (c : Dev nD) : FVec Ideal S1024 .f32 := m ((c : Thread nD τ).loc main_arg4)
abbrev a5 (c : Dev nD) : FVec Ideal S1024 .f32 := m ((c : Thread nD τ).loc main_arg5)
abbrev a6 (c : Dev nD) : FVec Ideal S1024x4096 .f32 := m ((c : Thread nD τ).loc main_arg6)
abbrev a7 (c : Dev nD) : FVec Ideal S4096x1024 .f32 := m ((c : Thread nD τ).loc main_arg7)

/-- They are `P`. -/
structure In (c : Dev nD) (P : Par) : Prop where
  d : E2 (n := 4096) (k := 1024) (a0 m c) P.d
  x : E2 (n := 4096) (k := 1024) (a1 m c) P.x
  w : E1 (k := 1024) (a2 m c) P.w
  s : E1 (k := 1024) (a3 m c) P.s
  t : E1 (k := 1024) (a4 m c) P.t
  g : E1 (k := 1024) (a5 m c) P.g
  U : E2 (n := 1024) (k := 4096) (a6 m c) P.U
  W : E2 (n := 4096) (k := 1024) (a7 m c) P.W

theorem idx_val : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

theorem V0 (c : Dev nD) : (V m c main_arg0 : FVec Ideal S4096x1024 .f32) = a0 m c := by
  entry_read
  rfl
theorem V1 (c : Dev nD) : (V m c main_arg1 : FVec Ideal S4096x1024 .f32) = a1 m c := by
  entry_read
  rfl
theorem V2 (c : Dev nD) : (V m c main_v0 : FVec Ideal S1x1024 .f32) = shapeCast S1x1024 (a2 m c) shapeCasts_S1024_S1x1024 := by
  entry_read
  rfl
theorem V3 (c : Dev nD) : (V m c main_v1 : FVec Ideal S1x1024 .f32) = shapeCast S1x1024 (a3 m c) shapeCasts_S1024_S1x1024 := by
  entry_read
  rfl
theorem V4 (c : Dev nD) : (V m c main_v2 : FVec Ideal S1x1024 .f32) = shapeCast S1x1024 (a4 m c) shapeCasts_S1024_S1x1024 := by
  entry_read
  rfl
theorem V5 (c : Dev nD) : (V m c main_v3 : FVec Ideal S1x1024 .f32) = shapeCast S1x1024 (a5 m c) shapeCasts_S1024_S1x1024 := by
  entry_read
  rfl
theorem V6 (c : Dev nD) : (V m c main_v4 : FVec Ideal S1024x4096 .bf16) = (a6 m c : S1024x4096.Idx → EReal) := by
  entry_read
  rfl
theorem V7 (c : Dev nD) : (V m c main_v5 : FVec Ideal S4096x1024 .bf16) = (a7 m c : S4096x1024.Idx → EReal) := by
  entry_read
  rfl

theorem blk0 (c : Dev nD) (t : Fin cfg0.N) (j : S256x1024.Idx) : (iblk m c 0 t : Vec Ideal S256x1024 .f32) j =
    a0 m c (ix2 (n0 := 4096) (n1 := 1024) ⟨256 * t.val + (j 0).val, by have h2 : t.val < 16 := lt_of_lt_of_eq t.isLt N_0; have h0 : (j 0).val < 256 := (j 0).isLt; omega⟩ (j 1)) := by
  refine Eq.trans ?_ (congrFun (V0 m c) _)
  blk_ext [iblk, idx_val t]
theorem blk1 (c : Dev nD) (t : Fin cfg0.N) (j : S256x1024.Idx) : (iblk m c 1 t : Vec Ideal S256x1024 .f32) j =
    a1 m c (ix2 (n0 := 4096) (n1 := 1024) ⟨256 * t.val + (j 0).val, by have h2 : t.val < 16 := lt_of_lt_of_eq t.isLt N_0; have h0 : (j 0).val < 256 := (j 0).isLt; omega⟩ (j 1)) := by
  refine Eq.trans ?_ (congrFun (V1 m c) _)
  blk_ext [iblk, idx_val t]
theorem blk2 (c : Dev nD) (t : Fin cfg0.N) (j : S1x1024.Idx) : (iblk m c 2 t : Vec Ideal S1x1024 .f32) j = shapeCast S1x1024 (a2 m c) shapeCasts_S1024_S1x1024 j := by
  refine Eq.trans ?_ (congrFun (V2 m c) _)
  blk_ext [iblk, idx_val t]
theorem blk3 (c : Dev nD) (t : Fin cfg0.N) (j : S1x1024.Idx) : (iblk m c 3 t : Vec Ideal S1x1024 .f32) j = shapeCast S1x1024 (a3 m c) shapeCasts_S1024_S1x1024 j := by
  refine Eq.trans ?_ (congrFun (V3 m c) _)
  blk_ext [iblk, idx_val t]
theorem blk4 (c : Dev nD) (t : Fin cfg0.N) (j : S1x1024.Idx) : (iblk m c 4 t : Vec Ideal S1x1024 .f32) j = shapeCast S1x1024 (a4 m c) shapeCasts_S1024_S1x1024 j := by
  refine Eq.trans ?_ (congrFun (V4 m c) _)
  blk_ext [iblk, idx_val t]
theorem blk5 (c : Dev nD) (t : Fin cfg0.N) (j : S1x1024.Idx) : (iblk m c 5 t : Vec Ideal S1x1024 .f32) j = shapeCast S1x1024 (a5 m c) shapeCasts_S1024_S1x1024 j := by
  refine Eq.trans ?_ (congrFun (V5 m c) _)
  blk_ext [iblk, idx_val t]

variable {m}

theorem In.tile {c : Dev nD} {P : Par} (J : In m c P) (t : Fin cfg0.N) :
    Holds (iblk m c 0 t) (iblk m c 1 t) (iblk m c 2 t) (iblk m c 3 t) (iblk m c 4 t) (iblk m c 5 t) (wU m c) (wW m c) (P.tile (256 * t.val)) where
  d := fun j => (blk0 m c t j).trans (J.d _)
  x := fun j => (blk1 m c t j).trans (J.x _)
  w := fun j => (blk2 m c t j).trans (E1.asRow J.w _ j)
  s := fun j => (blk3 m c t j).trans (E1.asRow J.s _ j)
  t := fun j => (blk4 m c t j).trans (E1.asRow J.t _ j)
  g := fun j => (blk5 m c t j).trans (E1.asRow J.g _ j)
  U := fun j => (congrFun (V6 m c) j).trans (J.U j)
  W := fun j => (congrFun (V7 m c) j).trans (J.W j)

section sums
variable {c : Dev nD} {P : Par} (J : In m c P)
include J

omit J in
theorem dw_next (P : Par) (n c : ℕ) : P.dw n c + (P.tile n).dw 256 c = P.dw (n + 256) c :=
  (Finset.sum_range_add (fun r => P.dn r c * P.xh r c) n 256).symm

theorem acc_dw : ∀ (n : ℕ) (hn : n < cfg0.N), R ((outsAt0 m c n hn).2.2.2.2.2.1) (P.dw (256 * (n + 1)))
  | 0, hn => by
    rw [dw_A m c ⟨0, hn⟩ rfl]
    exact E2.congr (J.tile ⟨0, hn⟩).dw_is fun r _ c _ => by
      have e := dw_next P 0 c
      simp only [Par.dw, Finset.range_zero, Finset.sum_empty, zero_add] at e
      simpa only [Par.dw] using e
  | n + 1, hn => by
    have hN : n + 1 < 16 := lt_of_lt_of_eq hn N_0
    rw [dw_B m c ⟨n + 1, hn⟩ (by dsimp only; omega)]
    exact E2.congr ((J.tile ⟨n + 1, hn⟩).dw_more (acc_dw n (Nat.lt_of_succ_lt hn))) fun r _ c _ => dw_next P (256 * (n + 1)) c

omit J in
theorem ds_next (P : Par) (n c : ℕ) : P.ds n c + (P.tile n).ds 256 c = P.ds (n + 256) c :=
  (Finset.sum_range_add (fun r => P.dh r c * P.nn r c) n 256).symm

theorem acc_ds : ∀ (n : ℕ) (hn : n < cfg0.N), R ((outsAt0 m c n hn).2.2.2.2.2.2.1) (P.ds (256 * (n + 1)))
  | 0, hn => by
    rw [ds_A m c ⟨0, hn⟩ rfl]
    exact E2.congr (J.tile ⟨0, hn⟩).ds_is fun r _ c _ => by
      have e := ds_next P 0 c
      simp only [Par.ds, Finset.range_zero, Finset.sum_empty, zero_add] at e
      simpa only [Par.ds] using e
  | n + 1, hn => by
    have hN : n + 1 < 16 := lt_of_lt_of_eq hn N_0
    rw [ds_B m c ⟨n + 1, hn⟩ (by dsimp only; omega)]
    exact E2.congr ((J.tile ⟨n + 1, hn⟩).ds_more (acc_ds n (Nat.lt_of_succ_lt hn))) fun r _ c _ => ds_next P (256 * (n + 1)) c

omit J in
theorem dt_next (P : Par) (n c : ℕ) : P.dt n c + (P.tile n).dt 256 c = P.dt (n + 256) c :=
  (Finset.sum_range_add (fun r => P.dh r c) n 256).symm

theorem acc_dt : ∀ (n : ℕ) (hn : n < cfg0.N), R ((outsAt0 m c n hn).2.2.2.2.2.2.2.1) (P.dt (256 * (n + 1)))
  | 0, hn => by
    rw [dt_A m c ⟨0, hn⟩ rfl]
    exact E2.congr (J.tile ⟨0, hn⟩).dt_is fun r _ c _ => by
      have e := dt_next P 0 c
      simp only [Par.dt, Finset.range_zero, Finset.sum_empty, zero_add] at e
      simpa only [Par.dt] using e
  | n + 1, hn => by
    have hN : n + 1 < 16 := lt_of_lt_of_eq hn N_0
    rw [dt_B m c ⟨n + 1, hn⟩ (by dsimp only; omega)]
    exact E2.congr ((J.tile ⟨n + 1, hn⟩).dt_more (acc_dt n (Nat.lt_of_succ_lt hn))) fun r _ c _ => dt_next P (256 * (n + 1)) c

theorem final6 : (dats m 0 c).arrAt 6 (cfgs 0).N = (arr P.dx : S4096x1024.Idx → EReal) := by
  refine (dats m 0 c).arrAt_eq_of_covers 6 _ (by decide +kernel) fun t hf y => ?_
  blk_simp
  rw [after0_6, o_dx]
  refine ((J.tile t).dx_is y).trans ?_
  refine Eq.trans (b := P.dx (t.val * 256 + (y 0).val) (y 1).val) (by rw [Nat.mul_comm 256 t.val]; rfl) ?_
  generalize P.dx = f
  unfold arr
  blk_point [idx_val t]

theorem final7 : (dats m 0 c).arrAt 7 (cfgs 0).N = (arr P.h : S4096x1024.Idx → EReal) := by
  refine (dats m 0 c).arrAt_eq_of_covers 7 _ (by decide +kernel) fun t hf y => ?_
  blk_simp
  rw [after0_7, o_h]
  refine ((J.tile t).h_is y).trans ?_
  refine Eq.trans (b := P.h (t.val * 256 + (y 0).val) (y 1).val) (by rw [Nat.mul_comm 256 t.val]; rfl) ?_
  generalize P.h = f
  unfold arr
  blk_point [idx_val t]

theorem final8 : (dats m 0 c).arrAt 8 (cfgs 0).N = (arr P.du : S4096x4096.Idx → EReal) := by
  refine (dats m 0 c).arrAt_eq_of_covers 8 _ (by decide +kernel) fun t hf y => ?_
  blk_simp
  rw [after0_8, o_du]
  refine ((J.tile t).du_is y).trans ?_
  refine Eq.trans (b := P.du (t.val * 256 + (y 0).val) (y 1).val) (by rw [Nat.mul_comm 256 t.val]; rfl) ?_
  generalize P.du = f
  unfold arr
  blk_point [idx_val t]

theorem final9 : (dats m 0 c).arrAt 9 (cfgs 0).N = (arr P.act : S4096x4096.Idx → EReal) := by
  refine (dats m 0 c).arrAt_eq_of_covers 9 _ (by decide +kernel) fun t hf y => ?_
  blk_simp
  rw [after0_9, o_act]
  refine ((J.tile t).act_is y).trans ?_
  refine Eq.trans (b := P.act (t.val * 256 + (y 0).val) (y 1).val) (by rw [Nat.mul_comm 256 t.val]; rfl) ?_
  generalize P.act = f
  unfold arr
  blk_point [idx_val t]

theorem final10 : (dats m 0 c).arrAt 10 (cfgs 0).N = (arr P.d : S4096x1024.Idx → EReal) := by
  refine (dats m 0 c).arrAt_eq_of_covers 10 _ (by decide +kernel) fun t hf y => ?_
  blk_simp
  rw [after0_10, o_d]
  refine ((J.tile t).d_is y).trans ?_
  refine Eq.trans (b := P.d (t.val * 256 + (y 0).val) (y 1).val) (by rw [Nat.mul_comm 256 t.val]; rfl) ?_
  generalize P.d = f
  unfold arr
  blk_point [idx_val t]

theorem final11 : (dats m 0 c).arrAt 11 (cfgs 0).N = (arr fun _ c => P.dw 4096 c : S1x1024.Idx → EReal) := by
  refine (dats m 0 c).arrAt_eq_of_covers 11 _ (by decide +kernel) fun t hf y => ?_
  have h : t.val % 16 = 15 := (flush0_11 t).mp hf
  have ht : t.val < 16 := lt_of_lt_of_eq t.isLt N_0
  blk_simp
  rw [after0_11]
  refine (acc_dw J t.val t.isLt y).trans ?_
  have e : 256 * (t.val + 1) = 4096 := by omega
  rw [e]
  generalize P.dw 4096 = f
  unfold arr
  blk_point [idx_val t]

theorem final12 : (dats m 0 c).arrAt 12 (cfgs 0).N = (arr fun _ c => P.ds 4096 c : S1x1024.Idx → EReal) := by
  refine (dats m 0 c).arrAt_eq_of_covers 12 _ (by decide +kernel) fun t hf y => ?_
  have h : t.val % 16 = 15 := (flush0_12 t).mp hf
  have ht : t.val < 16 := lt_of_lt_of_eq t.isLt N_0
  blk_simp
  rw [after0_12]
  refine (acc_ds J t.val t.isLt y).trans ?_
  have e : 256 * (t.val + 1) = 4096 := by omega
  rw [e]
  generalize P.ds 4096 = f
  unfold arr
  blk_point [idx_val t]

theorem final13 : (dats m 0 c).arrAt 13 (cfgs 0).N = (arr fun _ c => P.dt 4096 c : S1x1024.Idx → EReal) := by
  refine (dats m 0 c).arrAt_eq_of_covers 13 _ (by decide +kernel) fun t hf y => ?_
  have h : t.val % 16 = 15 := (flush0_13 t).mp hf
  have ht : t.val < 16 := lt_of_lt_of_eq t.isLt N_0
  blk_simp
  rw [after0_13]
  refine (acc_dt J t.val t.isLt y).trans ?_
  have e : 256 * (t.val + 1) = 4096 := by omega
  rw [e]
  generalize P.dt 4096 = f
  unfold arr
  blk_point [idx_val t]

end sums

end Cert.MlpIdeal.Val

end
-- ==== Proof.MlpRef.lean ====
/- What the reference of the MLP's backward pass leaves. -/
module

public import proofs.«01_k».proof.Proof.MlpSpec
public import proofs.«01_k».proof.Proof.MlpMat
public import proofs.«01_k».proof.Proof.Gen.MlpReferenceIdeal.Run

@[expose] public section

set_option maxRecDepth 16384

noncomputable section

namespace Cert.MlpReferenceIdeal.Value

open Cert.Lru hiding Par
open Cert.MlpSpec Cert.MlpReferenceIdeal Cert.MlpReferenceIdeal.Gen Idealize.ShloMosaic Idealize.ShloMosaic.TcCoe Idealize.SL.Sem Idealize.ShloMosaic.StableHlo
open scoped BigOperators

abbrev X4 := FVec Ideal S4096x1024 .f32
abbrev T (X : S4096x1024.Idx → EReal) (f : ℕ → ℕ → EReal) : Prop := E2 (n := 4096) (k := 1024) X f
abbrev T4 (X : S4096x4096.Idx → EReal) (f : ℕ → ℕ → EReal) : Prop := E2 (n := 4096) (k := 4096) X f
abbrev Tc (X : S4096x1.Idx → EReal) (f : ℕ → ℕ → EReal) : Prop := E2 (n := 4096) (k := 1) X f

theorem bits_1024 : Ideal.ofBits .f32 0x44800000#32 = ((1024 : ℝ) : EReal) := by
  simp [Ideal.ofBits, Ideal.ieee, -EReal.coe_mul, -EReal.coe_neg]; try norm_num

theorem zero_is : ∀ i, (constant (F := Ideal) S_ .f32 0x00000000#32) i = ((0 : ℝ) : EReal) := fun _ => bits_0

theorem const4_is {b : BitVec 32} {x : EReal} (h : Ideal.ofBits .f32 b = x) :
    T4 (broadcastInDim S4096x4096 ![] bcast_S_S4096x4096 (constant (F := Ideal) S_ .f32 b)) fun _ _ => x := fun _ => h
theorem constc_is {b : BitVec 32} {x : EReal} (h : Ideal.ofBits .f32 b = x) :
    Tc (broadcastInDim S4096x1 ![] bcast_S_S4096x1 (constant (F := Ideal) S_ .f32 b)) fun _ _ => x := fun _ => h

section dots
variable {f g : ℕ → ℕ → EReal}

theorem upDot_is {X : FVec Ideal S4096x1024 .f32} {Y : FVec Ideal S1024x4096 .f32} (hX : T X f) (hY : E2 (n := 1024) (k := 4096) Y g) :
    T4 (Host.dotGeneral dot_S4096x1024_S1024x4096_S4096x4096_1_0_0_1_n_n none X Y) fun r c => ∑ e ∈ Finset.range 1024, f r e * g e c := fun j => by
  idx_vars j
  pointwise
  exact (zero_add _).symm.trans (mul_sums (K := 1024) (p := fun e => f j0.val e) (q := fun e => g e j1.val) (fun e => hX.at rfl rfl) (fun e => hY.at rfl rfl))

theorem downDot_is {X : FVec Ideal S4096x1024 .f32} {Y : FVec Ideal S4096x1024 .f32} (hX : T X f) (hY : T Y g) :
    T4 (Host.dotGeneral dot_S4096x1024_S4096x1024_S4096x4096_1_1_0_0_n_n none X Y) fun r c => ∑ e ∈ Finset.range 1024, f r e * g c e := fun j => by
  idx_vars j
  pointwise
  exact (zero_add _).symm.trans (mul_sums (K := 1024) (p := fun e => f j0.val e) (q := fun e => g j1.val e) (fun e => hX.at rfl rfl) (fun e => hY.at rfl rfl))

theorem backDot_is {X : FVec Ideal S4096x4096 .f32} {Y : FVec Ideal S1024x4096 .f32} (hX : T4 X f) (hY : E2 (n := 1024) (k := 4096) Y g) :
    T (Host.dotGeneral dot_S4096x4096_S1024x4096_S4096x1024_1_1_0_0_n_n none X Y) fun r c => ∑ e ∈ Finset.range 4096, f r e * g c e := fun j => by
  idx_vars j
  pointwise
  exact (zero_add _).symm.trans (mul_sums (K := 4096) (p := fun e => f j0.val e) (q := fun e => g j1.val e) (fun e => hX.at rfl rfl) (fun e => hY.at rfl rfl))

end dots

/-- A column's sum, and the sum of that one row. -/
theorem sums_is {X : X4} {f : ℕ → ℕ → EReal} (hX : T X f) :
    E1 (k := 1024) (Host.reduceAdd (F := Ideal) (φ := .f32) (shapeCast S1x1024 (Host.reduceAdd (F := Ideal) (φ := .f32) X (constant S_ .f32 0x00000000#32) reducesTo_S4096x1024_S1024_d0 h_S_) shapeCasts_S1024_S1x1024) (constant S_ .f32 0x00000000#32) reducesTo_S1x1024_S1024_d0 h_S_)
      fun c => ∑ r ∈ Finset.range 4096, f r c :=
  (E2.sumCols (E1.asRow (E2.sumCols hX zero_is _ _) _) zero_is _ _).congr fun c _ => by simp only [Finset.sum_range_one]

section terms
variable (d x : FVec Ideal S4096x1024 .f32) (w s t g : FVec Ideal S1024 .f32) (U : FVec Ideal S1024x4096 .f32) (W : FVec Ideal S4096x1024 .f32)

abbrev row (v : FVec Ideal S1024 .f32) : FVec Ideal S4096x1024 .f32 :=
  broadcastInDim S4096x1024 ![0, 1] bcast_S1x1024_S4096x1024_0_1 (broadcastInDim S1x1024 ![1] bcast_S1024_S1x1024_1 v)
def tms : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def trs : FVec Ideal S4096x1 .f32 := Host.rsqrt (tms x)
def txh : FVec Ideal S4096x1024 .f32 := mulf x (broadcastInDim S4096x1024 ![0, 1] bcast_S4096x1_S4096x1024_0_1 (trs x))
def tnn : FVec Ideal S4096x1024 .f32 := mulf (txh x) (row w)
def t1s : FVec Ideal S4096x1024 .f32 := row (addf (broadcastInDim S1024 ![] bcast_S_S1024 (constant S_ .f32 0x3F800000#32)) s)
def th : FVec Ideal S4096x1024 .f32 := addf (mulf (tnn x w) (t1s s)) (row t)
def tup : FVec Ideal S4096x4096 .f32 := Host.dotGeneral dot_S4096x1024_S1024x4096_S4096x4096_1_0_0_1_n_n none (th x w s t) U
def tac : FVec Ideal S4096x4096 .f32 := maximumf (tup x w s t U) (broadcastInDim S4096x4096 ![] bcast_S_S4096x4096 (constant S_ .f32 0x00000000#32))
def tdu : FVec Ideal S4096x4096 .f32 :=
  select (cmpf .ogt (tup x w s t U) (broadcastInDim S4096x4096 ![] bcast_S_S4096x4096 (constant S_ .f32 0x00000000#32)))
    (mulf (Host.dotGeneral dot_S4096x1024_S4096x1024_S4096x4096_1_1_0_0_n_n none (mulf (row g) d) W) (mulf (broadcastInDim S4096x4096 ![] bcast_S_S4096x4096 (constant S_ .f32 0x40000000#32)) (tac x w s t U)))
    (broadcastInDim S4096x4096 ![] bcast_S_S4096x4096 (constant S_ .f32 0x00000000#32))
def tdh : FVec Ideal S4096x1024 .f32 :=
  Host.dotGeneral dot_S4096x4096_S1024x4096_S4096x1024_1_1_0_0_n_n none (tdu (shapeCast S4096x1024 d shapeCasts_S4096x1024_S4096x1024) x w s t g U W) U
def tdn : FVec Ideal S4096x1024 .f32 := mulf (tdh d x w s t g U W) (t1s s)
def tdxh : FVec Ideal S4096x1024 .f32 := mulf (tdn d x w s t g U W) (row w)
def tsp : FVec Ideal S4096x1024 .f32 :=
  broadcastInDim S4096x1024 ![0] bcast_S4096_S4096x1024_0 (Host.reduceAdd (Host.divf (mulf (shapeCast S4096x1 (Host.reduceAdd (mulf x (tdxh d x w s t g U W)) (constant S_ .f32 0x00000000#32) reducesTo_S4096x1024_S4096_d1 h_S_) shapeCasts_S4096_S4096x1)
    (mulf (broadcastInDim S4096x1 ![] bcast_S_S4096x1 (constant S_ .f32 0xBF000000#32)) (Host.divf (trs x) (tms x)))) (broadcastInDim S4096x1 ![] bcast_S_S4096x1 (constant S_ .f32 0x44800000#32))) (constant S_ .f32 0x00000000#32) reducesTo_S4096x1_S4096_d1 h_S_)
def tdx : FVec Ideal S4096x1024 .f32 :=
  addf (addf (addf d (mulf (tdxh d x w s t g U W) (broadcastInDim S4096x1024 ![0, 1] bcast_S4096x1_S4096x1024_0_1 (trs x)))) (mulf x (tsp d x w s t g U W))) (mulf (tsp d x w s t g U W) x)

/-- The arguments. -/
structure Ins (P : Par) : Prop where
  d : T d P.d
  x : T x P.x
  w : E1 (k := 1024) w P.w
  s : E1 (k := 1024) s P.s
  t : E1 (k := 1024) t P.t
  g : E1 (k := 1024) g P.g
  U : E2 (n := 1024) (k := 4096) U P.U
  W : T W P.W

end terms

namespace Ins

variable {d x : FVec Ideal S4096x1024 .f32} {w s t g : FVec Ideal S1024 .f32} {U : FVec Ideal S1024x4096 .f32} {W : FVec Ideal S4096x1024 .f32} {P : Par}
  (I : Ins d x w s t g U W P)
include I

theorem ms_is : Tc (tms x) fun r _ => P.ms r :=
  ((E1.col (E2.sumRows (I.x.mul I.x) zero_is _ _) _).hdiv (constc_is bits_1024)).add (constc_is bits_ε₂)
theorem rs_is : Tc (trs x) fun r _ => P.rs r := E2.hrsqrt I.ms_is
theorem xh_is : T (txh x) P.xh := I.x.mul (I.rs_is.cols _)
theorem nn_is : T (tnn x w) P.nn := I.xh_is.mul ((I.w.row _).rows _)
theorem s0_is : E1 (k := 1024) (addf (broadcastInDim S1024 ![] bcast_S_S1024 (constant (F := Ideal) S_ .f32 0x3F800000#32)) s) fun c => ((1 : ℝ) : EReal) + P.s c :=
  fun j => (congrArg₂ (fun a b : EReal => a + b) bits_1 (I.s j))
theorem s1_is : T (t1s s) fun _ c => ((1 : ℝ) : EReal) + P.s c := (I.s0_is.row bcast_S1024_S1x1024_1).rows bcast_S1x1024_S4096x1024_0_1
theorem h_is : T (th x w s t) P.h := (I.nn_is.mul I.s1_is).add ((I.t.row _).rows _)
theorem up_is : T4 (tup x w s t U) P.up := upDot_is I.h_is I.U
theorem ac_is : T4 (tac x w s t U) P.ac := I.up_is.max (const4_is bits_0)
theorem act_is : T4 (mulf (tac x w s t U) (tac x w s t U)) P.act := I.ac_is.mul I.ac_is

theorem du_is {d' : X4} (hd : T d' P.d) : T4 (tdu d' x w s t g U W) P.du :=
  (E2.selGt I.up_is (const4_is bits_0)
    ((E2.congr (downDot_is (((I.g.row _).rows _).mul hd) I.W) (g := P.dact) fun r _ c _ => Finset.sum_congr rfl fun k _ => by rw [mul_comm (P.g k)]).mul
      ((const4_is bits_2).mul I.ac_is)) (const4_is bits_0)).congr fun r _ c _ => P.du_eq r c

theorem dh_is : T (tdh d x w s t g U W) P.dh := backDot_is (I.du_is (I.d.cast _)) I.U
theorem dn_is : T (tdn d x w s t g U W) P.dn := I.dh_is.mul I.s1_is
theorem dxh_is : T (tdxh d x w s t g U W) P.dxh := I.dn_is.mul ((I.w.row _).rows _)
theorem sp_is : T (tsp d x w s t g U W) fun r _ => P.spread r :=
  (E1.col (E2.sumRows (((E1.asCol (E2.sumRows (I.x.mul I.dxh_is) zero_is _ _) _).mul ((constc_is bits_mhalf).mul (I.rs_is.hdiv I.ms_is))).hdiv
    (constc_is bits_1024)) zero_is _ _) _).congr fun r _ c _ => by simp only [Finset.sum_range_one]; rfl
theorem dx_is : T (tdx d x w s t g U W) P.dx :=
  (((I.d.add (I.dxh_is.mul (I.rs_is.cols _))).add (I.x.mul I.sp_is)).add (I.sp_is.mul I.x)).congr fun r _ c hc => P.dx_eq r c hc

end Ins

/-- What the reference's run leaves in its results. -/
structure Outs (Q : Par) (r : (ℓ : Loc nD τ sig) → Buf (Elt Ideal) ℓ) (c : Dev nD) : Prop where
  dx : T (r ((c.tc : Thread nD τ).loc main_v74)) Q.dx
  h : T (r ((c.tc : Thread nD τ).loc main_v116)) Q.h
  du : T4 (r ((c.tc : Thread nD τ).loc main_v117)) Q.du
  act : T4 (r ((c.tc : Thread nD τ).loc main_v118)) Q.act
  d : T (r ((c.tc : Thread nD τ).loc main_v119)) Q.d
  dw : E2 (n := 1) (k := 1024) (r ((c.tc : Thread nD τ).loc main_v120)) fun _ c => Q.dw 4096 c
  ds : E2 (n := 1) (k := 1024) (r ((c.tc : Thread nD τ).loc main_v121)) fun _ c => Q.ds 4096 c
  dt : E2 (n := 1) (k := 1024) (r ((c.tc : Thread nD τ).loc main_v122)) fun _ c => Q.dt 4096 c

/-- The arguments device `c` holds. -/
abbrev InsOf (m : (ℓ : Loc nD τ sig) → Buf (Elt Ideal) ℓ) (c : Dev nD) (Q : Par) : Prop :=
  Ins (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) Q

set_option maxHeartbeats 4000000 in
theorem outs {m : (ℓ : Loc nD τ sig) → Buf (Elt Ideal) ℓ} (Q : Dev nD → Par) (hI : ∀ c, InsOf m c (Q c)) (ρ : Dev nD → PrngReg) :
    θ_run defs (onTc (τ := τ) (main (F := Ideal))) ⟨m, fun _ => 0, ρ⟩ fun r => ∀ c : Dev nD, Outs (Q c) r.2.mem c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, h7, hk⟩ := h c
    have I := hI c
    refine ⟨⟨?_, ?_, ?_, ?_, ?_, ?_, ?_, ?_⟩, hk⟩
    · rw [h0]
      exact I.dx_is
    · rw [h1]
      exact I.h_is
    · rw [h2]
      exact I.du_is I.d
    · rw [h3]
      exact I.act_is
    · rw [h4]
      exact I.d
    · rw [h5]
      exact E1.asRow (sums_is (E2.congr (I.xh_is.mul I.dn_is) fun r _ c _ => mul_comm _ _)) _
    · rw [h6]
      exact E1.asRow (sums_is (E2.congr (I.nn_is.mul I.dh_is) fun r _ c _ => mul_comm _ _)) _
    · rw [h7]
      exact E1.asRow (sums_is I.dh_is) _) (run m ρ)

end Cert.MlpReferenceIdeal.Value

end
-- ==== Proof.MlpClaim.lean ====
/- The frames and the values of the MLP's backward pass. -/
module

public import proofs.«01_k».proof.Defs
public import proofs.«01_k».proof.Proof.MlpVal
public import proofs.«01_k».proof.Proof.MlpRef
public import proofs.«01_k».proof.Proof.Gen.Mlp.Frame
public import Idealize.ShloMosaic.Adequacy
public import Idealize.ShloMosaic.Init

@[expose] public section

set_option maxRecDepth 16384

noncomputable section

namespace Cert.MlpClaim

open Idealize.ShloMosaic Idealize.ShloMosaic.TcCoe Idealize.SL.Sem Cert.MlpSpec
open Cert.Lru hiding Par
open scoped BigOperators

theorem frame_Mlp : Cert.quiescent_Mlp (hMlp := Cert.Mlp.Gen.facts) := fun m ρ _ =>
  (θ_run Cert.Mlp.defs _ _).mono (fun _ h => h) (Cert.Mlp.Gen.frame (F := Bits) m ρ)

theorem frame_MlpIdeal : Cert.quiescent_MlpIdeal := fun m ρ _ =>
  (θ_run Cert.MlpIdeal.defs _ _).mono (fun _ h => h) (Cert.MlpIdeal.Gen.frame (F := Ideal) m ρ)

theorem frame_MlpReference : Cert.quiescent_MlpReferenceIdeal := fun m ρ _ =>
  (θ_run Cert.MlpReferenceIdeal.defs _ _).mono (fun r h => ⟨fun c => (h c).2.2.2.2.2.2.2.2, sem_eq_zero_of_no_sems (by decide) r.2⟩)
    (Cert.MlpReferenceIdeal.Value.run (F := Ideal) m ρ)

section
open Cert.MlpIdeal Cert.MlpIdeal.Val

/-- The arguments device `c` holds. -/
def parOf (m : (ℓ : Loc nD τ sig) → Buf (Elt Ideal) ℓ) (c : Dev nD) : Par :=
  ⟨of2 (a0 m c), of2 (a1 m c), of1 (a2 m c), of1 (a3 m c), of1 (a4 m c), of1 (a5 m c), of2 (a6 m c), of2 (a7 m c)⟩

theorem kernel_in (m : (ℓ : Loc nD τ sig) → Buf (Elt Ideal) ℓ) (c : Dev nD) : In m c (parOf m c) :=
  ⟨of2_is _, of2_is _, of1_is _, of1_is _, of1_is _, of1_is _, of2_is _, of2_is _⟩

end

set_option maxHeartbeats 4000000 in
theorem values_Mlp : Cert.algebraic_MlpIdeal_MlpReferenceIdeal := fun m ρ m' ρ' hp he => by
  have I := kernel_in m
  refine ⟨fun c => Cert.MlpIdeal.Val.arr (parOf m c).dx, fun c => Cert.MlpIdeal.Val.arr (parOf m c).h, fun c => Cert.MlpIdeal.Val.arr (parOf m c).du,
    fun c => Cert.MlpIdeal.Val.arr (parOf m c).act, fun c => Cert.MlpIdeal.Val.arr (parOf m c).d, fun c => Cert.MlpIdeal.Val.arr fun _ e => (parOf m c).dw 4096 e,
    fun c => Cert.MlpIdeal.Val.arr fun _ e => (parOf m c).ds 4096 e, fun c => Cert.MlpIdeal.Val.arr fun _ e => (parOf m c).dt 4096 e, ?_, ?_⟩
  · refine (θ_run Cert.MlpIdeal.defs _ _).mono (fun r h c => ?_) (θ_run_and (Cert.MlpIdeal.Gen.run_main (F := Ideal) m ρ) (Cert.MlpIdeal.Gen.unchanged m ρ))
    obtain ⟨h, hk⟩ := h
    exact ⟨((h c).1 6).trans (Cert.MlpIdeal.Val.final6 (I c)), ((h c).1 7).trans (Cert.MlpIdeal.Val.final7 (I c)), ((h c).1 8).trans (Cert.MlpIdeal.Val.final8 (I c)),
      ((h c).1 9).trans (Cert.MlpIdeal.Val.final9 (I c)), ((h c).1 10).trans (Cert.MlpIdeal.Val.final10 (I c)), ((h c).1 11).trans (Cert.MlpIdeal.Val.final11 (I c)),
      ((h c).1 12).trans (Cert.MlpIdeal.Val.final12 (I c)), ((h c).1 13).trans (Cert.MlpIdeal.Val.final13 (I c)), hk c⟩
  · have J : ∀ c, Cert.MlpReferenceIdeal.Value.InsOf m' c (parOf m c) := fun c => by
      have i := I c
      obtain ⟨e0, e1, e2, e3, e4, e5, e6, e7⟩ := he c
      exact ⟨fun j => (congrFun e0 j).trans (i.d j), fun j => (congrFun e1 j).trans (i.x j), fun j => (congrFun e2 j).trans (i.w j), fun j => (congrFun e3 j).trans (i.s j),
        fun j => (congrFun e4 j).trans (i.t j), fun j => (congrFun e5 j).trans (i.g j), fun j => (congrFun e6 j).trans (i.U j), fun j => (congrFun e7 j).trans (i.W j)⟩
    refine (θ_run Cert.MlpReferenceIdeal.defs _ _).mono (fun r h c => ?_) (Cert.MlpReferenceIdeal.Value.outs (parOf m) J ρ')
    obtain ⟨o, hk⟩ := h c
    exact ⟨funext o.dx, funext o.h, funext o.du, funext o.act, funext o.d, funext o.dw, funext o.ds, funext o.dt, hk⟩

end Cert.MlpClaim

end
-- ==== Proof.ProjSpec.lean ====
/- The backward pass of the norm before the input projection, as functions, to the extended reals, of a row and a column. -/
module

public import proofs.«01_k».proof.Proof.MlpSpec
public import proofs.«01_k».proof.Proof.MlpMat

@[expose] public section

noncomputable section

namespace Cert.ProjSpec

open Idealize.ShloMosaic
open Cert.MlpSpec hiding Par
open Cert.Lru hiding Par
open scoped BigOperators

/-- Five pieces' columns, one after another. -/
def cat (f₁ f₂ f₃ f₄ f₅ : ℕ → ℕ → EReal) (r c : ℕ) : EReal :=
  if c < 512 then f₁ r (c - 0) else if c < 1024 then f₂ r (c - 512) else if c < 2560 then f₃ r (c - 1024) else if c < 3072 then f₄ r (c - 2560) else f₅ r (c - 3072)

theorem piece {n k K : ℕ} {xs : List ((s : Shape) × (s.Idx → EReal))} {h : Shape.Concatenates (xs.map (·.1)) (⟨2, ![n, K]⟩ : Shape) 1} {j : (⟨2, ![n, K]⟩ : Shape).Idx}
    {x : (⟨2, ![n, k]⟩ : Shape).Idx → EReal} {f : ℕ → ℕ → EReal} (hx : E2 x f) (l : ℕ) (hl : l < xs.length) (e : xs[l] = ⟨⟨2, ![n, k]⟩, x⟩) (pre : ℕ)
    (hpre : (((xs.take l).map (·.1)).map fun s => if h : s.rank = (⟨2, ![n, K]⟩ : Shape).rank then s.size ((1 : Fin (⟨2, ![n, K]⟩ : Shape).rank).cast h.symm) else 0).sum = pre)
    (h0 : pre ≤ (j 1).val) (h1 : (j 1).val < pre + k) :
    concatenate ⟨2, ![n, K]⟩ 1 xs h j = f (j 0).val ((j 1).val - pre) := by
  have hj : (j 0).val < n := (j 0).isLt
  refine (concatenate_apply_piece (t := ⟨2, ![n, K]⟩) (1 : Fin 2) xs h j l hl ⟨2, ![n, k]⟩ x e rfl pre hpre (ix2 ⟨(j 0).val, hj⟩ ⟨(j 1).val - pre, by omega⟩) (fun b hb => ?_) ?_).trans
    (hx.at rfl rfl)
  · match b with
    | 0 => rfl
    | 1 => exact absurd rfl hb
  · show pre + ((j 1).val - pre) = (j 1).val
    omega

theorem cat_is {n : ℕ} {x₁ x₂ x₄ : (⟨2, ![n, 512]⟩ : Shape).Idx → EReal} {x₃ : (⟨2, ![n, 1536]⟩ : Shape).Idx → EReal} {x₅ : (⟨2, ![n, 128]⟩ : Shape).Idx → EReal}
    {f₁ f₂ f₃ f₄ f₅ : ℕ → ℕ → EReal} (h₁ : E2 x₁ f₁) (h₂ : E2 x₂ f₂) (h₃ : E2 x₃ f₃) (h₄ : E2 x₄ f₄) (h₅ : E2 x₅ f₅)
    (h : Shape.Concatenates [(⟨2, ![n, 512]⟩ : Shape), ⟨2, ![n, 512]⟩, ⟨2, ![n, 1536]⟩, ⟨2, ![n, 512]⟩, ⟨2, ![n, 128]⟩] ⟨2, ![n, 3200]⟩ 1) :
    E2 (concatenate ⟨2, ![n, 3200]⟩ 1 [⟨⟨2, ![n, 512]⟩, x₁⟩, ⟨⟨2, ![n, 512]⟩, x₂⟩, ⟨⟨2, ![n, 1536]⟩, x₃⟩, ⟨⟨2, ![n, 512]⟩, x₄⟩, ⟨⟨2, ![n, 128]⟩, x₅⟩] h) (cat f₁ f₂ f₃ f₄ f₅) := fun j => by
  have hj : (j 1).val < 3200 := (j 1).isLt
  unfold cat
  split_ifs with a b c d
  · exact piece h₁ 0 (by simp) rfl 0 rfl (by omega) (by omega)
  · exact piece h₂ 1 (by simp) rfl 512 rfl (by omega) (by omega)
  · exact piece h₃ 2 (by simp) rfl 1024 rfl (by omega) (by omega)
  · exact piece h₄ 3 (by simp) rfl 2560 rfl (by omega) (by omega)
  · exact piece h₅ 4 (by simp) rfl 3072 rfl (by omega) (by omega)

/-- The arguments. -/
structure Par where
  d : ℕ → ℕ → EReal
  x : ℕ → ℕ → EReal
  p₁ : ℕ → ℕ → EReal
  p₂ : ℕ → ℕ → EReal
  p₃ : ℕ → ℕ → EReal
  p₄ : ℕ → ℕ → EReal
  p₅ : ℕ → ℕ → EReal
  w : ℕ → EReal
  s : ℕ → EReal
  U : ℕ → ℕ → EReal

namespace Par

variable (P : Par)

/-- The arguments from row `o` on. -/
def tile (o : ℕ) : Par :=
  { P with d := fun r c => P.d (o + r) c, x := fun r c => P.x (o + r) c, p₁ := fun r c => P.p₁ (o + r) c, p₂ := fun r c => P.p₂ (o + r) c
           p₃ := fun r c => P.p₃ (o + r) c, p₄ := fun r c => P.p₄ (o + r) c, p₅ := fun r c => P.p₅ (o + r) c }

def ms (r : ℕ) : EReal := Ideal.div (∑ k ∈ Finset.range 1024, P.x r k * P.x r k) ((1024 : ℝ) : EReal) + ((ε₂ : ℝ) : EReal)
def rs (r : ℕ) : EReal := Ideal.rsqrt (P.ms r)
def xh (r c : ℕ) : EReal := P.x r c * P.rs r
def nn (r c : ℕ) : EReal := P.xh r c * P.w c
def dp : ℕ → ℕ → EReal := cat P.p₁ P.p₂ P.p₃ P.p₄ P.p₅
def dh (r k : ℕ) : EReal := ∑ f ∈ Finset.range 3200, P.dp r f * P.U k f
def dn (r c : ℕ) : EReal := P.dh r c * (((1 : ℝ) : EReal) + P.s c)
def dxh (r c : ℕ) : EReal := P.dn r c * P.w c
def mean (r : ℕ) : EReal := Ideal.div (∑ k ∈ Finset.range 1024, P.dxh r k * P.xh r k) ((1024 : ℝ) : EReal)
def dx (r c : ℕ) : EReal := P.d r c + P.rs r * (P.dxh r c - P.xh r c * P.mean r)
def dw (n : ℕ) (c : ℕ) : EReal := ∑ r ∈ Finset.range n, P.dn r c * P.xh r c
def ds (n : ℕ) (c : ℕ) : EReal := ∑ r ∈ Finset.range n, P.dh r c * P.nn r c
def dt (n : ℕ) (c : ℕ) : EReal := ∑ r ∈ Finset.range n, P.dh r c

/-- The mean square is infinite, or it is a positive real and the row is real. -/
theorem ms_cases (r : ℕ) : P.ms r = ⊤ ∨ ∃ μ : ℝ, 0 < μ ∧ P.ms r = μ ∧ ∀ k ∈ Finset.range 1024, ∃ y : ℝ, P.x r k = y := by
  have hd : ∀ S : EReal, Ideal.div S ((1024 : ℝ) : EReal) = S * ((1 / 1024 : ℝ) : EReal) := Ideal.div_coe (by norm_num)
  by_cases h : ∀ k ∈ Finset.range 1024, ∃ y : ℝ, P.x r k = y
  · obtain ⟨z, hz⟩ := sum_real (f := fun k => P.x r k * P.x r k) fun k hk => by
      obtain ⟨y, hy⟩ := h k hk
      exact ⟨y * y, by rw [hy, EReal.coe_mul]⟩
    have z0 : 0 ≤ z := by
      have : (0 : EReal) ≤ ∑ k ∈ Finset.range 1024, P.x r k * P.x r k := Finset.sum_nonneg fun k _ => square_nonneg _
      rw [hz] at this
      exact EReal.coe_nonneg.1 this
    refine Or.inr ⟨z * (1 / 1024) + ε₂, add_pos_of_nonneg_of_pos (mul_nonneg z0 (by norm_num)) ε₂_pos, ?_, h⟩
    rw [ms, hd, hz, ← EReal.coe_mul, ← EReal.coe_add]
  · left
    push Not at h
    obtain ⟨k, hk, hn⟩ := h
    have e : P.x r k * P.x r k = ⊤ := by
      induction hx : P.x r k with
      | bot => simp
      | coe y => exact absurd hx (hn y)
      | top => simp
    have s : (∑ k ∈ Finset.range 1024, P.x r k * P.x r k) = ⊤ :=
      top_le_iff.1 (e.symm.le.trans (Finset.single_le_sum (f := fun k => P.x r k * P.x r k) (fun k _ => square_nonneg _) hk))
    rw [ms, hd, s, EReal.top_mul_coe_of_pos (by norm_num), EReal.top_add_coe]

/-- The derivative of the reciprocal root, spread over a row. -/
def spread (r : ℕ) : EReal :=
  Ideal.div ((∑ k ∈ Finset.range 1024, P.x r k * P.dxh r k) * (((-(1 / 2) : ℝ) : EReal) * Ideal.div (P.rs r) (P.ms r))) ((1024 : ℝ) : EReal)

theorem dx_eq (r c : ℕ) (hc : c < 1024) : P.d r c + P.dxh r c * P.rs r + P.x r c * P.spread r + P.spread r * P.x r c = P.dx r c := by
  have hd : ∀ S : EReal, Ideal.div S ((1024 : ℝ) : EReal) = S * ((1 / 1024 : ℝ) : EReal) := Ideal.div_coe (by norm_num)
  rcases P.ms_cases r with h | ⟨μ, h0, h, hx⟩
  · have e : P.rs r = 0 := by rw [rs, h]; rfl
    have e2 : P.spread r = 0 := by
      rw [spread, e, h, hd]
      simp [Ideal.div]
    rw [dx, e2, e]
    simp
  · obtain ⟨ξ, hξ⟩ := hx c (Finset.mem_range.2 hc)
    have e : P.rs r = (((Real.sqrt μ)⁻¹ : ℝ) : EReal) := by rw [rs, h]; exact ideal_rsqrt h0
    have q : (Real.sqrt μ)⁻¹ * (Real.sqrt μ)⁻¹ = 1 / μ := by rw [← mul_inv, Real.mul_self_sqrt h0.le, one_div]
    have p : 0 ≤ (Real.sqrt μ)⁻¹ := inv_nonneg.2 (Real.sqrt_nonneg _)
    generalize (Real.sqrt μ)⁻¹ = ρ at e q p
    have m : P.mean r = (∑ k ∈ Finset.range 1024, P.x r k * P.dxh r k) * ρ * ((1 / 1024 : ℝ) : EReal) := by
      rw [mean, hd, ← sum_mul_pos p]
      exact congrArg (· * _) (Finset.sum_congr rfl fun k _ => by rw [xh, e]; ac_rfl)
    have hs : P.spread r = (∑ k ∈ Finset.range 1024, P.x r k * P.dxh r k) * ((-(1 / 2) * (ρ * (1 / μ)) * (1 / 1024) : ℝ) : EReal) := by
      rw [spread, hd, e, h, Ideal.div_coe h0.ne', mul_assoc]
      simp only [EReal.coe_mul]
    rw [dx, m, hs, xh, e, hξ]
    generalize (∑ k ∈ Finset.range 1024, P.x r k * P.dxh r k) = S
    generalize P.dxh r c = D
    have l : (ξ : EReal) * (S * ((-(1 / 2) * (ρ * (1 / μ)) * (1 / 1024) : ℝ) : EReal)) = S * ((ξ * (-(1 / 2) * (ρ * (1 / μ)) * (1 / 1024)) : ℝ) : EReal) := by
      rw [EReal.coe_mul ξ]; ac_rfl
    have g : -((ξ : EReal) * ρ * (S * ρ * ((1 / 1024 : ℝ) : EReal))) * ρ = S * ((-(ξ * ρ * ρ * (1 / 1024) * ρ) : ℝ) : EReal) := by
      rw [EReal.coe_neg, EReal.neg_mul, mul_comm S (-_), EReal.neg_mul]
      simp only [EReal.coe_mul]
      exact congrArg Neg.neg (by ac_rfl)
    rw [mul_comm (S * _) (ξ : EReal), l, add_assoc, twice, add_assoc, sub_eq_add_neg, mul_comm (ρ : EReal), add_mul_pos p, g]
    refine congrArg (fun z : ℝ => P.d r c + (D * ρ + S * (z : EReal))) ?_
    rw [← q]
    ring

end Par

end Cert.ProjSpec

end
-- ==== Proof.ProjBody.lean ====
/- The words of a tile of the backward pass of the norm before the input projection. -/
module

public import proofs.«01_k».proof.Proof.ProjSpec
public import proofs.«01_k».proof.Proof.Gen.ProjIdeal.Skeleton

@[expose] public section

noncomputable section

namespace Cert.ProjIdeal.Gen

open Idealize.ShloMosaic Idealize.ShloMosaic.TcCoe Idealize.ShloMosaic.Tactic Cert.ProjSpec
open Cert.MlpSpec hiding Par
open Cert.Lru hiding Par
open scoped BigOperators

abbrev B (X : S512x1024.Idx → EReal) (f : ℕ → ℕ → EReal) : Prop := E2 (n := 512) (k := 1024) X f
abbrev C (X : S512x512.Idx → EReal) (f : ℕ → ℕ → EReal) : Prop := E2 (n := 512) (k := 512) X f
abbrev R (X : S1x1024.Idx → EReal) (f : ℕ → EReal) : Prop := E2 (n := 1) (k := 1024) X fun _ c => f c

theorem bits_1024 : Ideal.ofBits .f32 0x44800000#32 = ((1024 : ℝ) : EReal) := by
  simp [Ideal.ofBits, Ideal.ieee, -EReal.coe_mul, -EReal.coe_neg]; try norm_num

theorem backDot_is {f g : ℕ → ℕ → EReal} {X : FVec Ideal S512x3200 .bf16} {Y : FVec Ideal S1024x3200 .bf16} (hX : E2 (n := 512) (k := 3200) X f) (hY : E2 (n := 1024) (k := 3200) Y g) :
    E2 (n := 512) (k := 1024) (matmul dot_S512x3200_S1024x3200_S512x1024_1_1_0_0_n_n none X Y (constant (F := Ideal) S512x1024 .f32 0x00000000#32))
      fun r c => ∑ e ∈ Finset.range 3200, f r e * g c e := fun j => by
  idx_vars j
  pointwise
  exact (zero_add _).symm.trans (mul_sums (K := 3200) (p := fun e => f j0.val e) (q := fun e => g j1.val e) (fun e => hX.at rfl rfl) (fun e => hY.at rfl rfl))

/-- A tile's arrays. -/
structure Holds (d x : FVec Ideal S512x1024 .f32) (a₁ a₂ : FVec Ideal S512x512 .f32) (a₃ : FVec Ideal S512x1536 .f32) (a₄ : FVec Ideal S512x512 .f32) (a₅ : FVec Ideal S512x128 .f32)
    (w s : FVec Ideal S1x1024 .f32) (U : FVec Ideal S1024x3200 .bf16) (P : Par) : Prop where
  d : B d P.d
  x : B x P.x
  p₁ : C a₁ P.p₁
  p₂ : C a₂ P.p₂
  p₃ : E2 (n := 512) (k := 1536) a₃ P.p₃
  p₄ : C a₄ P.p₄
  p₅ : E2 (n := 512) (k := 128) a₅ P.p₅
  w : R w P.w
  s : R s P.s
  U : E2 (n := 1024) (k := 3200) U P.U

namespace Holds

variable {d x : FVec Ideal S512x1024 .f32} {a₁ a₂ : FVec Ideal S512x512 .f32} {a₃ : FVec Ideal S512x1536 .f32} {a₄ : FVec Ideal S512x512 .f32} {a₅ : FVec Ideal S512x128 .f32}
  {w s : FVec Ideal S1x1024 .f32} {U : FVec Ideal S1024x3200 .bf16} {P : Par}
  (H : Holds d x a₁ a₂ a₃ a₄ a₅ w s U P)
include H

set_option maxHeartbeats 1000000

theorem rs_is : E2 (n := 512) (k := 1) (k0_pay6 (F := Ideal) x) fun r _ => P.rs r :=
  E2.rsqrt (((E2.addCols (H.x.mul H.x) _ _ _ _ _).div (E2.splat bits_1024)).add (E2.splat bits_ε₂))

theorem xh_is : B (k0_pay7 (F := Ideal) x) P.xh := H.x.mul (H.rs_is.colsTo _)

theorem dp_is : E2 (n := 512) (k := 3200) (k0_pay2 (F := Ideal) a₁ a₂ a₃ a₄ a₅) P.dp := cat_is H.p₁ H.p₂ H.p₃ H.p₄ H.p₅ concatenates_S512x512_S512x512_S512x1536_S512x512_S512x128_S512x3200_d1

theorem dh_is : B (k0_pay3 (F := Ideal) a₁ a₂ a₃ a₄ a₅ U) P.dh := backDot_is H.dp_is (H.U.cast _)

theorem w_is : R (k0_pay4 (F := Ideal) w) P.w := H.w.cast _
theorem s_is : R (k0_pay5 (F := Ideal) s) P.s := H.s.cast _
theorem nn_is : B (mulf (F := Ideal) (k0_pay7 (F := Ideal) x) (broadcastTo S512x1024 (k0_pay4 (F := Ideal) w) broadcasts_S1x1024_S512x1024)) P.nn := H.xh_is.mul (H.w_is.rowsTo _)

theorem dt_is : R (k0_pay8 (F := Ideal) a₁ a₂ a₃ a₄ a₅ U) (P.dt 512) := E2.addRows H.dh_is _ _ _ _ _
theorem ds_is : R (k0_pay10 (F := Ideal) (k0_pay9 (F := Ideal) a₁ a₂ a₃ a₄ a₅ U x w)) (P.ds 512) := E2.addRows (H.dh_is.mul H.nn_is) 0x00000000#32 reduces_S512x1024_S1024 (.inl rfl) rfl shapeCasts_S1024_S1x1024
theorem dn_is : B (k0_pay11 (F := Ideal) (k0_pay3 (F := Ideal) a₁ a₂ a₃ a₄ a₅ U) (k0_pay5 (F := Ideal) s)) P.dn := H.dh_is.mul (((E2.splat bits_1).add H.s_is).rowsTo _)
theorem dw_is : R (k0_pay12 (F := Ideal) (k0_pay3 (F := Ideal) a₁ a₂ a₃ a₄ a₅ U) (k0_pay5 (F := Ideal) s) (k0_pay7 (F := Ideal) x)) (P.dw 512) := E2.addRows (H.dn_is.mul H.xh_is) _ _ _ _ _

theorem dxh_is : B (mulf (F := Ideal) (k0_pay11 (F := Ideal) (k0_pay3 (F := Ideal) a₁ a₂ a₃ a₄ a₅ U) (k0_pay5 (F := Ideal) s)) (broadcastTo S512x1024 (k0_pay4 (F := Ideal) w) broadcasts_S1x1024_S512x1024)) P.dxh :=
  H.dn_is.mul (H.w_is.rowsTo _)

theorem dx_is : B (k0_pay13 (F := Ideal) (k0_pay3 (F := Ideal) a₁ a₂ a₃ a₄ a₅ U) (k0_pay4 (F := Ideal) w) (k0_pay5 (F := Ideal) s) (k0_pay6 (F := Ideal) x) (k0_pay7 (F := Ideal) x) d) P.dx :=
  H.d.add ((H.rs_is.colsTo _).mul (H.dxh_is.sub (H.xh_is.mul (((E2.addCols (H.dxh_is.mul H.xh_is) _ _ _ _ _).div (E2.splat bits_1024)).colsTo _))))

theorem dt_more {z : FVec Ideal S1x1024 .f32} {f : ℕ → EReal} (hz : R z f) : R (k0_pay1 (F := Ideal) (k0_pay8 (F := Ideal) a₁ a₂ a₃ a₄ a₅ U) z) fun c => f c + P.dt 512 c :=
  (hz.cast _).add H.dt_is
theorem ds_more {z : FVec Ideal S1x1024 .f32} {f : ℕ → EReal} (hz : R z f) : R (k0_pay15 (F := Ideal) (k0_pay9 (F := Ideal) a₁ a₂ a₃ a₄ a₅ U x w) z) fun c => f c + P.ds 512 c :=
  (hz.cast _).add H.ds_is
theorem dw_more {z : FVec Ideal S1x1024 .f32} {f : ℕ → EReal} (hz : R z f) : R (k0_pay14 (F := Ideal) (k0_pay3 (F := Ideal) a₁ a₂ a₃ a₄ a₅ U) (k0_pay5 (F := Ideal) s) (k0_pay7 (F := Ideal) x) z) fun c => f c + P.dw 512 c :=
  (hz.cast _).add H.dw_is

end Holds

end Cert.ProjIdeal.Gen

end
-- ==== Proof.ProjPts.lean ====
/- What the points of the backward pass of the norm before the input projection leave. -/
module

public import proofs.«01_k».proof.Proof.Gen.ProjIdeal.Frame
public import Idealize.ShloMosaic.Lib.Pipeline.ValueKit
public import Idealize.ShloMosaic.Lib.Pipeline.ReadBack

@[expose] public section

set_option maxRecDepth 16384

noncomputable section

namespace Cert.ProjIdeal.Val

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- What a point's words are over. -/
abbrev aDh (c : Dev nD) (t : Fin cfg0.N) : FVec Ideal S512x1024 .f32 := k0_pay3 (F := Ideal) (iblk m c 2 t) (iblk m c 3 t) (iblk m c 4 t) (iblk m c 5 t) (iblk m c 6 t) (iblk m c 9 t)
abbrev aDs (c : Dev nD) (t : Fin cfg0.N) : FVec Ideal S1024 .f32 := k0_pay9 (F := Ideal) (iblk m c 2 t) (iblk m c 3 t) (iblk m c 4 t) (iblk m c 5 t) (iblk m c 6 t) (iblk m c 9 t) (iblk m c 1 t) (iblk m c 7 t)
abbrev aS (c : Dev nD) (t : Fin cfg0.N) : FVec Ideal S1x1024 .f32 := k0_pay5 (F := Ideal) (iblk m c 8 t)
abbrev aXh (c : Dev nD) (t : Fin cfg0.N) : FVec Ideal S512x1024 .f32 := k0_pay7 (F := Ideal) (iblk m c 1 t)

theorem o_dx (c : Dev nD) (t : Fin cfg0.N) : ((outsAt0 m c t.val t.isLt).1 : FVec Ideal S512x1024 .f32) = k0_pay13 (F := Ideal) (aDh m c t) (k0_pay4 (F := Ideal) (iblk m c 7 t)) (aS m c t) (k0_pay6 (F := Ideal) (iblk m c 1 t)) (aXh m c t) (iblk m c 0 t) := by
  have ht : t.val < 8 := lt_of_lt_of_eq t.isLt N_0
  by_cases h : t.val % 8 = 0
  · rw [outsAt0_A m c t (by omega) (by omega) (by omega) (by omega) (by omega) (by omega)]
    frame_out
    try simp (disch := decide) only [ReadAs.apply_same, View.read_whole]
  · rw [outsAt0_B m c t h (by omega) h (by omega) h (by omega)]
    frame_out
    try simp (disch := decide) only [read_unread_whole]

theorem o_dp (c : Dev nD) (t : Fin cfg0.N) : ((outsAt0 m c t.val t.isLt).2.1 : FVec Ideal S512x3200 .bf16) = k0_pay2 (F := Ideal) (iblk m c 2 t) (iblk m c 3 t) (iblk m c 4 t) (iblk m c 5 t) (iblk m c 6 t) := by
  have ht : t.val < 8 := lt_of_lt_of_eq t.isLt N_0
  by_cases h : t.val % 8 = 0
  · rw [outsAt0_A m c t (by omega) (by omega) (by omega) (by omega) (by omega) (by omega)]
    frame_out
    try simp (disch := decide) only [ReadAs.apply_same, View.read_whole]
  · rw [outsAt0_B m c t h (by omega) h (by omega) h (by omega)]
    frame_out
    try simp (disch := decide) only [read_unread_whole]

theorem dw_A (c : Dev nD) (t : Fin cfg0.N) (h : t.val = 0) : ((outsAt0 m c t.val t.isLt).2.2.1 : FVec Ideal S1x1024 .f32) = k0_pay12 (F := Ideal) (aDh m c t) (aS m c t) (aXh m c t) := by
  rw [outsAt0_A m c t (by omega) (by omega) (by omega) (by omega) (by omega) (by omega)]
  frame_out
  try simp (disch := decide) only [ReadAs.apply_same, View.read_whole]

theorem dw_B (c : Dev nD) (t : Fin cfg0.N) (h : ¬t.val % 8 = 0) : ((outsAt0 m c t.val t.isLt).2.2.1 : FVec Ideal S1x1024 .f32) = k0_pay14 (F := Ideal) (aDh m c t) (aS m c t) (aXh m c t) (outsAt0 m c (t.val - 1) (Nat.lt_of_le_of_lt (Nat.sub_le _ _) t.isLt)).2.2.1 := by
  rw [outsAt0_B m c t h (by omega) h (by omega) h (by omega)]
  frame_out
  try simp (disch := decide) only [read_unread_whole]

theorem ds_A (c : Dev nD) (t : Fin cfg0.N) (h : t.val = 0) : ((outsAt0 m c t.val t.isLt).2.2.2.1 : FVec Ideal S1x1024 .f32) = k0_pay10 (F := Ideal) (aDs m c t) := by
  rw [outsAt0_A m c t (by omega) (by omega) (by omega) (by omega) (by omega) (by omega)]
  frame_out
  try simp (disch := decide) only [ReadAs.apply_same, View.read_whole]

theorem ds_B (c : Dev nD) (t : Fin cfg0.N) (h : ¬t.val % 8 = 0) : ((outsAt0 m c t.val t.isLt).2.2.2.1 : FVec Ideal S1x1024 .f32) = k0_pay15 (F := Ideal) (aDs m c t) (outsAt0 m c (t.val - 1) (Nat.lt_of_le_of_lt (Nat.sub_le _ _) t.isLt)).2.2.2.1 := by
  rw [outsAt0_B m c t h (by omega) h (by omega) h (by omega)]
  frame_out
  try simp (disch := decide) only [read_unread_whole]

theorem dt_A (c : Dev nD) (t : Fin cfg0.N) (h : t.val = 0) : ((outsAt0 m c t.val t.isLt).2.2.2.2 : FVec Ideal S1x1024 .f32) = k0_pay8 (F := Ideal) (iblk m c 2 t) (iblk m c 3 t) (iblk m c 4 t) (iblk m c 5 t) (iblk m c 6 t) (iblk m c 9 t) := by
  rw [outsAt0_A m c t (by omega) (by omega) (by omega) (by omega) (by omega) (by omega)]
  frame_out
  try simp (disch := decide) only [ReadAs.apply_same, View.read_whole]

theorem dt_B (c : Dev nD) (t : Fin cfg0.N) (h : ¬t.val % 8 = 0) : ((outsAt0 m c t.val t.isLt).2.2.2.2 : FVec Ideal S1x1024 .f32) = k0_pay1 (F := Ideal) (k0_pay8 (F := Ideal) (iblk m c 2 t) (iblk m c 3 t) (iblk m c 4 t) (iblk m c 5 t) (iblk m c 6 t) (iblk m c 9 t)) (outsAt0 m c (t.val - 1) (Nat.lt_of_le_of_lt (Nat.sub_le _ _) t.isLt)).2.2.2.2 := by
  rw [outsAt0_B m c t h (by omega) h (by omega) h (by omega)]
  frame_out
  try simp (disch := decide) only [read_unread_whole]

end Cert.ProjIdeal.Val

end
-- ==== Proof.ProjVal.lean ====
/- What the launch of the backward pass of the norm before the input projection leaves. -/
module

public import proofs.«01_k».proof.Proof.ProjBody
public import proofs.«01_k».proof.Proof.ProjPts

@[expose] public section

set_option maxRecDepth 16384

noncomputable section

namespace Cert.ProjIdeal.Val

open Cert.ProjIdeal Cert.ProjIdeal.Gen Cert.ProjSpec Idealize.ShloMosaic Idealize.ShloMosaic.TcCoe Idealize.SL.Sem
open Cert.MlpSpec hiding Par
open Cert.Lru hiding Par
open Idealize.ShloMosaic.Pipeline (Dat)
open scoped BigOperators

variable (m : (ℓ : Loc nD τ sig) → Buf (Elt Ideal) ℓ)

/-- The array of `f`. -/
def arr {n k : ℕ} (f : ℕ → ℕ → EReal) : (⟨2, ![n, k]⟩ : Shape).Idx → EReal := fun j => f (j 0).val (j 1).val

/-- The arguments device `c` holds. -/
abbrev a0 (c : Dev nD) : FVec Ideal S4096x1024 .f32 := m ((c : Thread nD τ).loc main_arg0)
abbrev a1 (c : Dev nD) : FVec Ideal S4096x1024 .f32 := m ((c : Thread nD τ).loc main_arg1)
abbrev a2 (c : Dev nD) : FVec Ideal S4096x512 .f32 := m ((c : Thread nD τ).loc main_arg2)
abbrev a3 (c : Dev nD) : FVec Ideal S4096x512 .f32 := m ((c : Thread nD τ).loc main_arg3)
abbrev a4 (c : Dev nD) : FVec Ideal S4096x1536 .f32 := m ((c : Thread nD τ).loc main_arg4)
abbrev a5 (c : Dev nD) : FVec Ideal S4096x512 .f32 := m ((c : Thread nD τ).loc main_arg5)
abbrev a6 (c : Dev nD) : FVec Ideal S4096x128 .f32 := m ((c : Thread nD τ).loc main_arg6)
abbrev a7 (c : Dev nD) : FVec Ideal S1024 .f32 := m ((c : Thread nD τ).loc main_arg7)
abbrev a8 (c : Dev nD) : FVec Ideal S1024 .f32 := m ((c : Thread nD τ).loc main_arg8)
abbrev a9 (c : Dev nD) : FVec Ideal S1024x3200 .f32 := m ((c : Thread nD τ).loc main_arg9)

/-- They are `P`. -/
structure In (c : Dev nD) (P : Par) : Prop where
  d : E2 (n := 4096) (k := 1024) (a0 m c) P.d
  x : E2 (n := 4096) (k := 1024) (a1 m c) P.x
  p₁ : E2 (n := 4096) (k := 512) (a2 m c) P.p₁
  p₂ : E2 (n := 4096) (k := 512) (a3 m c) P.p₂
  p₃ : E2 (n := 4096) (k := 1536) (a4 m c) P.p₃
  p₄ : E2 (n := 4096) (k := 512) (a5 m c) P.p₄
  p₅ : E2 (n := 4096) (k := 128) (a6 m c) P.p₅
  w : E1 (k := 1024) (a7 m c) P.w
  s : E1 (k := 1024) (a8 m c) P.s
  U : E2 (n := 1024) (k := 3200) (a9 m c) P.U

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0] ∧ win0_10.index t = ![t.val, 0] ∧ win0_11.index t = ![t.val, 0] ∧ win0_12.index t = ![0, 0] ∧ win0_13.index t = ![0, 0] ∧ win0_14.index t = ![0, 0] :=
  (by decide +kernel : ∀ t : Fin grid0.N, _)

theorem V0 (c : Dev nD) : (V m c main_arg0 : FVec Ideal S4096x1024 .f32) = a0 m c := by
  entry_read
  rfl
theorem V1 (c : Dev nD) : (V m c main_arg1 : FVec Ideal S4096x1024 .f32) = a1 m c := by
  entry_read
  rfl
theorem V2 (c : Dev nD) : (V m c main_arg2 : FVec Ideal S4096x512 .f32) = a2 m c := by
  entry_read
  rfl
theorem V3 (c : Dev nD) : (V m c main_arg3 : FVec Ideal S4096x512 .f32) = a3 m c := by
  entry_read
  rfl
theorem V4 (c : Dev nD) : (V m c main_arg4 : FVec Ideal S4096x1536 .f32) = a4 m c := by
  entry_read
  rfl
theorem V5 (c : Dev nD) : (V m c main_arg5 : FVec Ideal S4096x512 .f32) = a5 m c := by
  entry_read
  rfl
theorem V6 (c : Dev nD) : (V m c main_arg6 : FVec Ideal S4096x128 .f32) = a6 m c := by
  entry_read
  rfl
theorem V7 (c : Dev nD) : (V m c main_v0 : FVec Ideal S1x1024 .f32) = shapeCast S1x1024 (a7 m c) shapeCasts_S1024_S1x1024 := by
  entry_read
  rfl
theorem V8 (c : Dev nD) : (V m c main_v1 : FVec Ideal S1x1024 .f32) = shapeCast S1x1024 (a8 m c) shapeCasts_S1024_S1x1024 := by
  entry_read
  rfl
theorem V9 (c : Dev nD) : (V m c main_v2 : FVec Ideal S1024x3200 .bf16) = (a9 m c : S1024x3200.Idx → EReal) := by
  entry_read
  rfl

theorem blk0 (c : Dev nD) (t : Fin cfg0.N) (j : S512x1024.Idx) : (iblk m c 0 t : Vec Ideal S512x1024 .f32) j =
    a0 m c (ix2 (n0 := 4096) (n1 := 1024) ⟨512 * t.val + (j 0).val, by have h2 : t.val < 8 := lt_of_lt_of_eq t.isLt N_0; have h0 : (j 0).val < 512 := (j 0).isLt; omega⟩ (j 1)) := by
  refine Eq.trans ?_ (congrFun (V0 m c) _)
  blk_ext [iblk, idx_val t]
theorem blk1 (c : Dev nD) (t : Fin cfg0.N) (j : S512x1024.Idx) : (iblk m c 1 t : Vec Ideal S512x1024 .f32) j =
    a1 m c (ix2 (n0 := 4096) (n1 := 1024) ⟨512 * t.val + (j 0).val, by have h2 : t.val < 8 := lt_of_lt_of_eq t.isLt N_0; have h0 : (j 0).val < 512 := (j 0).isLt; omega⟩ (j 1)) := by
  refine Eq.trans ?_ (congrFun (V1 m c) _)
  blk_ext [iblk, idx_val t]
theorem blk2 (c : Dev nD) (t : Fin cfg0.N) (j : S512x512.Idx) : (iblk m c 2 t : Vec Ideal S512x512 .f32) j =
    a2 m c (ix2 (n0 := 4096) (n1 := 512) ⟨512 * t.val + (j 0).val, by have h2 : t.val < 8 := lt_of_lt_of_eq t.isLt N_0; have h0 : (j 0).val < 512 := (j 0).isLt; omega⟩ (j 1)) := by
  refine Eq.trans ?_ (congrFun (V2 m c) _)
  blk_ext [iblk, idx_val t]
theorem blk3 (c : Dev nD) (t : Fin cfg0.N) (j : S512x512.Idx) : (iblk m c 3 t : Vec Ideal S512x512 .f32) j =
    a3 m c (ix2 (n0 := 4096) (n1 := 512) ⟨512 * t.val + (j 0).val, by have h2 : t.val < 8 := lt_of_lt_of_eq t.isLt N_0; have h0 : (j 0).val < 512 := (j 0).isLt; omega⟩ (j 1)) := by
  refine Eq.trans ?_ (congrFun (V3 m c) _)
  blk_ext [iblk, idx_val t]
theorem blk4 (c : Dev nD) (t : Fin cfg0.N) (j : S512x1536.Idx) : (iblk m c 4 t : Vec Ideal S512x1536 .f32) j =
    a4 m c (ix2 (n0 := 4096) (n1 := 1536) ⟨512 * t.val + (j 0).val, by have h2 : t.val < 8 := lt_of_lt_of_eq t.isLt N_0; have h0 : (j 0).val < 512 := (j 0).isLt; omega⟩ (j 1)) := by
  refine Eq.trans ?_ (congrFun (V4 m c) _)
  blk_ext [iblk, idx_val t]
theorem blk5 (c : Dev nD) (t : Fin cfg0.N) (j : S512x512.Idx) : (iblk m c 5 t : Vec Ideal S512x512 .f32) j =
    a5 m c (ix2 (n0 := 4096) (n1 := 512) ⟨512 * t.val + (j 0).val, by have h2 : t.val < 8 := lt_of_lt_of_eq t.isLt N_0; have h0 : (j 0).val < 512 := (j 0).isLt; omega⟩ (j 1)) := by
  refine Eq.trans ?_ (congrFun (V5 m c) _)
  blk_ext [iblk, idx_val t]
theorem blk6 (c : Dev nD) (t : Fin cfg0.N) (j : S512x128.Idx) : (iblk m c 6 t : Vec Ideal S512x128 .f32) j =
    a6 m c (ix2 (n0 := 4096) (n1 := 128) ⟨512 * t.val + (j 0).val, by have h2 : t.val < 8 := lt_of_lt_of_eq t.isLt N_0; have h0 : (j 0).val < 512 := (j 0).isLt; omega⟩ (j 1)) := by
  refine Eq.trans ?_ (congrFun (V6 m c) _)
  blk_ext [iblk, idx_val t]
theorem blk7 (c : Dev nD) (t : Fin cfg0.N) (j : S1x1024.Idx) : (iblk m c 7 t : Vec Ideal S1x1024 .f32) j = shapeCast S1x1024 (a7 m c) shapeCasts_S1024_S1x1024 j := by
  refine Eq.trans ?_ (congrFun (V7 m c) _)
  blk_ext [iblk, idx_val t]
theorem blk8 (c : Dev nD) (t : Fin cfg0.N) (j : S1x1024.Idx) : (iblk m c 8 t : Vec Ideal S1x1024 .f32) j = shapeCast S1x1024 (a8 m c) shapeCasts_S1024_S1x1024 j := by
  refine Eq.trans ?_ (congrFun (V8 m c) _)
  blk_ext [iblk, idx_val t]
theorem blk9 (c : Dev nD) (t : Fin cfg0.N) (j : S1024x3200.Idx) : (iblk m c 9 t : Vec Ideal S1024x3200 .bf16) j = (a9 m c : S1024x3200.Idx → EReal) j := by
  refine Eq.trans ?_ (congrFun (V9 m c) _)
  blk_ext [iblk, idx_val t]

variable {m}

theorem In.tile {c : Dev nD} {P : Par} (J : In m c P) (t : Fin cfg0.N) :
    Holds (iblk m c 0 t) (iblk m c 1 t) (iblk m c 2 t) (iblk m c 3 t) (iblk m c 4 t) (iblk m c 5 t) (iblk m c 6 t) (iblk m c 7 t) (iblk m c 8 t) (iblk m c 9 t) (P.tile (512 * t.val)) where
  d := fun j => (blk0 m c t j).trans (J.d _)
  x := fun j => (blk1 m c t j).trans (J.x _)
  p₁ := fun j => (blk2 m c t j).trans (J.p₁ _)
  p₂ := fun j => (blk3 m c t j).trans (J.p₂ _)
  p₃ := fun j => (blk4 m c t j).trans (J.p₃ _)
  p₄ := fun j => (blk5 m c t j).trans (J.p₄ _)
  p₅ := fun j => (blk6 m c t j).trans (J.p₅ _)
  w := fun j => (blk7 m c t j).trans (E1.asRow J.w _ j)
  s := fun j => (blk8 m c t j).trans (E1.asRow J.s _ j)
  U := fun j => (blk9 m c t j).trans (J.U j)

section sums
variable {c : Dev nD} {P : Par} (J : In m c P)
include J

omit J in
theorem dw_next (P : Par) (n c : ℕ) : P.dw n c + (P.tile n).dw 512 c = P.dw (n + 512) c :=
  (Finset.sum_range_add (fun r => P.dn r c * P.xh r c) n 512).symm

theorem acc_dw : ∀ (n : ℕ) (hn : n < cfg0.N), R ((outsAt0 m c n hn).2.2.1) (P.dw (512 * (n + 1)))
  | 0, hn => by
    rw [dw_A m c ⟨0, hn⟩ rfl]
    exact E2.congr (J.tile ⟨0, hn⟩).dw_is fun r _ c _ => by
      have e := dw_next P 0 c
      simp only [ProjSpec.Par.dw, Finset.range_zero, Finset.sum_empty, zero_add] at e
      simpa only [ProjSpec.Par.dw] using e
  | n + 1, hn => by
    have hN : n + 1 < 8 := lt_of_lt_of_eq hn N_0
    rw [dw_B m c ⟨n + 1, hn⟩ (by dsimp only; omega)]
    exact E2.congr ((J.tile ⟨n + 1, hn⟩).dw_more (acc_dw n (Nat.lt_of_succ_lt hn))) fun r _ c _ => dw_next P (512 * (n + 1)) c

omit J in
theorem ds_next (P : Par) (n c : ℕ) : P.ds n c + (P.tile n).ds 512 c = P.ds (n + 512) c :=
  (Finset.sum_range_add (fun r => P.dh r c * P.nn r c) n 512).symm

theorem acc_ds : ∀ (n : ℕ) (hn : n < cfg0.N), R ((outsAt0 m c n hn).2.2.2.1) (P.ds (512 * (n + 1)))
  | 0, hn => by
    rw [ds_A m c ⟨0, hn⟩ rfl]
    exact E2.congr (J.tile ⟨0, hn⟩).ds_is fun r _ c _ => by
      have e := ds_next P 0 c
      simp only [ProjSpec.Par.ds, Finset.range_zero, Finset.sum_empty, zero_add] at e
      simpa only [ProjSpec.Par.ds] using e
  | n + 1, hn => by
    have hN : n + 1 < 8 := lt_of_lt_of_eq hn N_0
    rw [ds_B m c ⟨n + 1, hn⟩ (by dsimp only; omega)]
    exact E2.congr ((J.tile ⟨n + 1, hn⟩).ds_more (acc_ds n (Nat.lt_of_succ_lt hn))) fun r _ c _ => ds_next P (512 * (n + 1)) c

omit J in
theorem dt_next (P : Par) (n c : ℕ) : P.dt n c + (P.tile n).dt 512 c = P.dt (n + 512) c :=
  (Finset.sum_range_add (fun r => P.dh r c) n 512).symm

theorem acc_dt : ∀ (n : ℕ) (hn : n < cfg0.N), R ((outsAt0 m c n hn).2.2.2.2) (P.dt (512 * (n + 1)))
  | 0, hn => by
    rw [dt_A m c ⟨0, hn⟩ rfl]
    exact E2.congr (J.tile ⟨0, hn⟩).dt_is fun r _ c _ => by
      have e := dt_next P 0 c
      simp only [ProjSpec.Par.dt, Finset.range_zero, Finset.sum_empty, zero_add] at e
      simpa only [ProjSpec.Par.dt] using e
  | n + 1, hn => by
    have hN : n + 1 < 8 := lt_of_lt_of_eq hn N_0
    rw [dt_B m c ⟨n + 1, hn⟩ (by dsimp only; omega)]
    exact E2.congr ((J.tile ⟨n + 1, hn⟩).dt_more (acc_dt n (Nat.lt_of_succ_lt hn))) fun r _ c _ => dt_next P (512 * (n + 1)) c

theorem final10 : (dats m 0 c).arrAt 10 (cfgs 0).N = (arr P.dx : S4096x1024.Idx → EReal) := by
  refine (dats m 0 c).arrAt_eq_of_covers 10 _ (by decide +kernel) fun t hf y => ?_
  blk_simp
  rw [after0_10, o_dx]
  refine ((J.tile t).dx_is y).trans ?_
  refine Eq.trans (b := P.dx (t.val * 512 + (y 0).val) (y 1).val) (by rw [Nat.mul_comm 512 t.val]; rfl) ?_
  generalize P.dx = f
  unfold arr
  blk_point [idx_val t]

theorem final11 : (dats m 0 c).arrAt 11 (cfgs 0).N = (arr P.dp : S4096x3200.Idx → EReal) := by
  refine (dats m 0 c).arrAt_eq_of_covers 11 _ (by decide +kernel) fun t hf y => ?_
  blk_simp
  rw [after0_11, o_dp]
  refine ((J.tile t).dp_is y).trans ?_
  refine Eq.trans (b := P.dp (t.val * 512 + (y 0).val) (y 1).val) (by rw [Nat.mul_comm 512 t.val]; rfl) ?_
  generalize P.dp = f
  unfold arr
  blk_point [idx_val t]

theorem final12 : (dats m 0 c).arrAt 12 (cfgs 0).N = (arr fun _ c => P.dw 4096 c : S1x1024.Idx → EReal) := by
  refine (dats m 0 c).arrAt_eq_of_covers 12 _ (by decide +kernel) fun t hf y => ?_
  have h : t.val % 8 = 7 := (flush0_12 t).mp hf
  have ht : t.val < 8 := lt_of_lt_of_eq t.isLt N_0
  blk_simp
  rw [after0_12]
  refine (acc_dw J t.val t.isLt y).trans ?_
  have e : 512 * (t.val + 1) = 4096 := by omega
  rw [e]
  generalize P.dw 4096 = f
  unfold arr
  blk_point [idx_val t]

theorem final13 : (dats m 0 c).arrAt 13 (cfgs 0).N = (arr fun _ c => P.ds 4096 c : S1x1024.Idx → EReal) := by
  refine (dats m 0 c).arrAt_eq_of_covers 13 _ (by decide +kernel) fun t hf y => ?_
  have h : t.val % 8 = 7 := (flush0_13 t).mp hf
  have ht : t.val < 8 := lt_of_lt_of_eq t.isLt N_0
  blk_simp
  rw [after0_13]
  refine (acc_ds J t.val t.isLt y).trans ?_
  have e : 512 * (t.val + 1) = 4096 := by omega
  rw [e]
  generalize P.ds 4096 = f
  unfold arr
  blk_point [idx_val t]

theorem final14 : (dats m 0 c).arrAt 14 (cfgs 0).N = (arr fun _ c => P.dt 4096 c : S1x1024.Idx → EReal) := by
  refine (dats m 0 c).arrAt_eq_of_covers 14 _ (by decide +kernel) fun t hf y => ?_
  have h : t.val % 8 = 7 := (flush0_14 t).mp hf
  have ht : t.val < 8 := lt_of_lt_of_eq t.isLt N_0
  blk_simp
  rw [after0_14]
  refine (acc_dt J t.val t.isLt y).trans ?_
  have e : 512 * (t.val + 1) = 4096 := by omega
  rw [e]
  generalize P.dt 4096 = f
  unfold arr
  blk_point [idx_val t]

end sums

end Cert.ProjIdeal.Val

end
-- ==== Proof.ProjRef.lean ====
/- What the reference of the backward pass of the norm before the input projection leaves. -/
module

public import proofs.«01_k».proof.Proof.ProjSpec
public import proofs.«01_k».proof.Proof.Gen.ProjReferenceIdeal.Run

@[expose] public section

set_option maxRecDepth 16384

noncomputable section

namespace Cert.ProjReferenceIdeal.Value

open Cert.Lru hiding Par
open Cert.MlpSpec hiding Par
open Cert.ProjSpec Cert.ProjReferenceIdeal Cert.ProjReferenceIdeal.Gen Idealize.ShloMosaic Idealize.ShloMosaic.TcCoe Idealize.SL.Sem Idealize.ShloMosaic.StableHlo
open scoped BigOperators

abbrev X4 := FVec Ideal S4096x1024 .f32
abbrev T (X : S4096x1024.Idx → EReal) (f : ℕ → ℕ → EReal) : Prop := E2 (n := 4096) (k := 1024) X f
abbrev T5 (X : S4096x512.Idx → EReal) (f : ℕ → ℕ → EReal) : Prop := E2 (n := 4096) (k := 512) X f
abbrev Tp (X : S4096x3200.Idx → EReal) (f : ℕ → ℕ → EReal) : Prop := E2 (n := 4096) (k := 3200) X f
abbrev Tc (X : S4096x1.Idx → EReal) (f : ℕ → ℕ → EReal) : Prop := E2 (n := 4096) (k := 1) X f

theorem bits_1024 : Ideal.ofBits .f32 0x44800000#32 = ((1024 : ℝ) : EReal) := by
  simp [Ideal.ofBits, Ideal.ieee, -EReal.coe_mul, -EReal.coe_neg]; try norm_num

theorem zero_is : ∀ i, (constant (F := Ideal) S_ .f32 0x00000000#32) i = ((0 : ℝ) : EReal) := fun _ => bits_0

theorem constc_is {b : BitVec 32} {x : EReal} (h : Ideal.ofBits .f32 b = x) :
    Tc (broadcastInDim S4096x1 ![] bcast_S_S4096x1 (constant (F := Ideal) S_ .f32 b)) fun _ _ => x := fun _ => h

theorem backDot_is {f g : ℕ → ℕ → EReal} {X : FVec Ideal S4096x3200 .f32} {Y : FVec Ideal S1024x3200 .f32} (hX : Tp X f) (hY : E2 (n := 1024) (k := 3200) Y g) :
    T (Host.dotGeneral dot_S4096x3200_S1024x3200_S4096x1024_1_1_0_0_n_n none X Y) fun r c => ∑ e ∈ Finset.range 3200, f r e * g c e := fun j => by
  idx_vars j
  pointwise
  exact (zero_add _).symm.trans (mul_sums (K := 3200) (p := fun e => f j0.val e) (q := fun e => g j1.val e) (fun e => hX.at rfl rfl) (fun e => hY.at rfl rfl))

/-- A column's sum, and the sum of that one row. -/
theorem sums_is {X : X4} {f : ℕ → ℕ → EReal} (hX : T X f) :
    E1 (k := 1024) (Host.reduceAdd (F := Ideal) (φ := .f32) (shapeCast S1x1024 (Host.reduceAdd (F := Ideal) (φ := .f32) X (constant S_ .f32 0x00000000#32) reducesTo_S4096x1024_S1024_d0 h_S_) shapeCasts_S1024_S1x1024) (constant S_ .f32 0x00000000#32) reducesTo_S1x1024_S1024_d0 h_S_)
      fun c => ∑ r ∈ Finset.range 4096, f r c :=
  (E2.sumCols (E1.asRow (E2.sumCols hX zero_is _ _) _) zero_is _ _).congr fun c _ => by simp only [Finset.sum_range_one]

section terms
variable (d x : FVec Ideal S4096x1024 .f32) (a₁ a₂ : FVec Ideal S4096x512 .f32) (a₃ : FVec Ideal S4096x1536 .f32) (a₄ : FVec Ideal S4096x512 .f32) (a₅ : FVec Ideal S4096x128 .f32) (w s : FVec Ideal S1024 .f32) (U : FVec Ideal S1024x3200 .f32)

abbrev row (v : FVec Ideal S1024 .f32) : FVec Ideal S4096x1024 .f32 :=
  broadcastInDim S4096x1024 ![0, 1] bcast_S1x1024_S4096x1024_0_1 (broadcastInDim S1x1024 ![1] bcast_S1024_S1x1024_1 v)
def tms : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def trs : FVec Ideal S4096x1 .f32 := Host.rsqrt (tms x)
def txh : FVec Ideal S4096x1024 .f32 := mulf x (broadcastInDim S4096x1024 ![0, 1] bcast_S4096x1_S4096x1024_0_1 (trs x))
def tnn : FVec Ideal S4096x1024 .f32 := mulf (txh x) (row w)
def t1s : FVec Ideal S4096x1024 .f32 := row (addf (broadcastInDim S1024 ![] bcast_S_S1024 (constant S_ .f32 0x3F800000#32)) s)
def tdp : FVec Ideal S4096x3200 .f32 :=
  concatenate S4096x3200 1 [⟨S4096x512, a₁⟩, ⟨S4096x512, a₂⟩, ⟨S4096x1536, a₃⟩, ⟨S4096x512, a₄⟩, ⟨S4096x128, a₅⟩] concatenates_S4096x512_S4096x512_S4096x1536_S4096x512_S4096x128_S4096x3200_d1
def tdh : FVec Ideal S4096x1024 .f32 := Host.dotGeneral dot_S4096x3200_S1024x3200_S4096x1024_1_1_0_0_n_n none (tdp a₁ a₂ a₃ a₄ a₅) U
def tdn : FVec Ideal S4096x1024 .f32 := mulf (tdh a₁ a₂ a₃ a₄ a₅ U) (t1s s)
def tdxh : FVec Ideal S4096x1024 .f32 := mulf (tdn a₁ a₂ a₃ a₄ a₅ s U) (row w)
def tsp : FVec Ideal S4096x1024 .f32 :=
  broadcastInDim S4096x1024 ![0] bcast_S4096_S4096x1024_0 (Host.reduceAdd (Host.divf (mulf (shapeCast S4096x1 (Host.reduceAdd (mulf x (tdxh a₁ a₂ a₃ a₄ a₅ w s U)) (constant S_ .f32 0x00000000#32) reducesTo_S4096x1024_S4096_d1 h_S_) shapeCasts_S4096_S4096x1)
    (mulf (broadcastInDim S4096x1 ![] bcast_S_S4096x1 (constant S_ .f32 0xBF000000#32)) (Host.divf (trs x) (tms x)))) (broadcastInDim S4096x1 ![] bcast_S_S4096x1 (constant S_ .f32 0x44800000#32))) (constant S_ .f32 0x00000000#32) reducesTo_S4096x1_S4096_d1 h_S_)
def tdx : FVec Ideal S4096x1024 .f32 :=
  addf (addf (addf d (mulf (tdxh a₁ a₂ a₃ a₄ a₅ w s U) (broadcastInDim S4096x1024 ![0, 1] bcast_S4096x1_S4096x1024_0_1 (trs x)))) (mulf x (tsp x a₁ a₂ a₃ a₄ a₅ w s U))) (mulf (tsp x a₁ a₂ a₃ a₄ a₅ w s U) x)

/-- The arguments. -/
structure Ins (P : Par) : Prop where
  d : T d P.d
  x : T x P.x
  p₁ : T5 a₁ P.p₁
  p₂ : T5 a₂ P.p₂
  p₃ : E2 (n := 4096) (k := 1536) a₃ P.p₃
  p₄ : T5 a₄ P.p₄
  p₅ : E2 (n := 4096) (k := 128) a₅ P.p₅
  w : E1 (k := 1024) w P.w
  s : E1 (k := 1024) s P.s
  U : E2 (n := 1024) (k := 3200) U P.U

end terms

namespace Ins

variable {d x : FVec Ideal S4096x1024 .f32} {a₁ a₂ : FVec Ideal S4096x512 .f32} {a₃ : FVec Ideal S4096x1536 .f32} {a₄ : FVec Ideal S4096x512 .f32} {a₅ : FVec Ideal S4096x128 .f32} {w s : FVec Ideal S1024 .f32} {U : FVec Ideal S1024x3200 .f32} {P : Par}
  (I : Ins d x a₁ a₂ a₃ a₄ a₅ w s U P)
include I

theorem ms_is : Tc (tms x) fun r _ => P.ms r :=
  ((E1.col (E2.sumRows (I.x.mul I.x) zero_is _ _) _).hdiv (constc_is bits_1024)).add (constc_is bits_ε₂)
theorem rs_is : Tc (trs x) fun r _ => P.rs r := E2.hrsqrt I.ms_is
theorem xh_is : T (txh x) P.xh := I.x.mul (I.rs_is.cols _)
theorem nn_is : T (tnn x w) P.nn := I.xh_is.mul ((I.w.row _).rows _)
theorem s0_is : E1 (k := 1024) (addf (broadcastInDim S1024 ![] bcast_S_S1024 (constant (F := Ideal) S_ .f32 0x3F800000#32)) s) fun c => ((1 : ℝ) : EReal) + P.s c :=
  fun j => (congrArg₂ (fun a b : EReal => a + b) bits_1 (I.s j))
theorem s1_is : T (t1s s) fun _ c => ((1 : ℝ) : EReal) + P.s c := (I.s0_is.row bcast_S1024_S1x1024_1).rows bcast_S1x1024_S4096x1024_0_1
theorem dp_is : Tp (tdp a₁ a₂ a₃ a₄ a₅) P.dp := cat_is I.p₁ I.p₂ I.p₃ I.p₄ I.p₅ _
theorem dh_is : T (tdh a₁ a₂ a₃ a₄ a₅ U) P.dh := backDot_is I.dp_is I.U
theorem dn_is : T (tdn a₁ a₂ a₃ a₄ a₅ s U) P.dn := I.dh_is.mul I.s1_is
theorem dxh_is : T (tdxh a₁ a₂ a₃ a₄ a₅ w s U) P.dxh := I.dn_is.mul ((I.w.row _).rows _)
theorem sp_is : T (tsp x a₁ a₂ a₃ a₄ a₅ w s U) fun r _ => P.spread r :=
  (E1.col (E2.sumRows (((E1.asCol (E2.sumRows (I.x.mul I.dxh_is) zero_is _ _) _).mul ((constc_is bits_mhalf).mul (I.rs_is.hdiv I.ms_is))).hdiv
    (constc_is bits_1024)) zero_is _ _) _).congr fun r _ c _ => by simp only [Finset.sum_range_one]; rfl
theorem dx_is : T (tdx d x a₁ a₂ a₃ a₄ a₅ w s U) P.dx :=
  (((I.d.add (I.dxh_is.mul (I.rs_is.cols _))).add (I.x.mul I.sp_is)).add (I.sp_is.mul I.x)).congr fun r _ c hc => P.dx_eq r c hc

end Ins

/-- What the reference's run leaves in its results. -/
structure Outs (Q : Par) (r : (ℓ : Loc nD τ sig) → Buf (Elt Ideal) ℓ) (c : Dev nD) : Prop where
  dx : T (r ((c.tc : Thread nD τ).loc main_v57)) Q.dx
  dp : Tp (r ((c.tc : Thread nD τ).loc main_v58)) Q.dp
  dw : E2 (n := 1) (k := 1024) (r ((c.tc : Thread nD τ).loc main_v59)) fun _ c => Q.dw 4096 c
  ds : E2 (n := 1) (k := 1024) (r ((c.tc : Thread nD τ).loc main_v60)) fun _ c => Q.ds 4096 c
  dt : E2 (n := 1) (k := 1024) (r ((c.tc : Thread nD τ).loc main_v61)) fun _ c => Q.dt 4096 c

/-- The arguments device `c` holds. -/
abbrev InsOf (m : (ℓ : Loc nD τ sig) → Buf (Elt Ideal) ℓ) (c : Dev nD) (Q : Par) : Prop :=
  Ins (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) Q

set_option maxHeartbeats 4000000 in
theorem outs {m : (ℓ : Loc nD τ sig) → Buf (Elt Ideal) ℓ} (Q : Dev nD → Par) (hI : ∀ c, InsOf m c (Q c)) (ρ : Dev nD → PrngReg) :
    θ_run defs (onTc (τ := τ) (main (F := Ideal))) ⟨m, fun _ => 0, ρ⟩ fun r => ∀ c : Dev nD, Outs (Q c) r.2.mem c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => by
    obtain ⟨h0, h1, h2, h3, h4, hk⟩ := h c
    have I := hI c
    refine ⟨⟨?_, ?_, ?_, ?_, ?_⟩, hk⟩
    · rw [h0]
      exact I.dx_is
    · rw [h1]
      exact I.dp_is
    · rw [h2]
      exact E1.asRow (sums_is (E2.congr (I.xh_is.mul I.dn_is) fun r _ c _ => mul_comm _ _)) _
    · rw [h3]
      exact E1.asRow (sums_is (E2.congr (I.nn_is.mul I.dh_is) fun r _ c _ => mul_comm _ _)) _
    · rw [h4]
      exact E1.asRow (sums_is I.dh_is) _) (run m ρ)

end Cert.ProjReferenceIdeal.Value

end
-- ==== Proof.ProjClaim.lean ====
/- The frames and the values of the backward pass of the norm before the input projection. -/
module

public import proofs.«01_k».proof.Defs
public import proofs.«01_k».proof.Proof.ProjVal
public import proofs.«01_k».proof.Proof.ProjRef
public import proofs.«01_k».proof.Proof.Gen.Proj.Frame
public import Idealize.ShloMosaic.Adequacy
public import Idealize.ShloMosaic.Init

@[expose] public section

set_option maxRecDepth 16384

noncomputable section

namespace Cert.ProjClaim

open Idealize.ShloMosaic Idealize.ShloMosaic.TcCoe Idealize.SL.Sem Cert.ProjSpec
open Cert.MlpSpec hiding Par
open Cert.Lru hiding Par
open scoped BigOperators

theorem frame_Proj : Cert.quiescent_Proj (hProj := Cert.Proj.Gen.facts) := fun m ρ _ =>
  (θ_run Cert.Proj.defs _ _).mono (fun _ h => h) (Cert.Proj.Gen.frame (F := Bits) m ρ)

theorem frame_ProjIdeal : Cert.quiescent_ProjIdeal := fun m ρ _ =>
  (θ_run Cert.ProjIdeal.defs _ _).mono (fun _ h => h) (Cert.ProjIdeal.Gen.frame (F := Ideal) m ρ)

theorem frame_ProjReference : Cert.quiescent_ProjReferenceIdeal := fun m ρ _ =>
  (θ_run Cert.ProjReferenceIdeal.defs _ _).mono (fun r h => ⟨fun c => (h c).2.2.2.2.2, sem_eq_zero_of_no_sems (by decide) r.2⟩)
    (Cert.ProjReferenceIdeal.Value.run (F := Ideal) m ρ)

section
open Cert.ProjIdeal Cert.ProjIdeal.Val

/-- The arguments device `c` holds. -/
def parOf (m : (ℓ : Loc nD τ sig) → Buf (Elt Ideal) ℓ) (c : Dev nD) : Par :=
  ⟨of2 (a0 m c), of2 (a1 m c), of2 (a2 m c), of2 (a3 m c), of2 (a4 m c), of2 (a5 m c), of2 (a6 m c), of1 (a7 m c), of1 (a8 m c), of2 (a9 m c)⟩

theorem kernel_in (m : (ℓ : Loc nD τ sig) → Buf (Elt Ideal) ℓ) (c : Dev nD) : In m c (parOf m c) :=
  ⟨of2_is _, of2_is _, of2_is _, of2_is _, of2_is _, of2_is _, of2_is _, of1_is _, of1_is _, of2_is _⟩

end

set_option maxHeartbeats 4000000 in
theorem values_Proj : Cert.algebraic_ProjIdeal_ProjReferenceIdeal := fun m ρ m' ρ' hp he => by
  have I := kernel_in m
  refine ⟨fun c => Cert.ProjIdeal.Val.arr (parOf m c).dx, fun c => Cert.ProjIdeal.Val.arr (parOf m c).dp, fun c => Cert.ProjIdeal.Val.arr fun _ e => (parOf m c).dw 4096 e,
    fun c => Cert.ProjIdeal.Val.arr fun _ e => (parOf m c).ds 4096 e, fun c => Cert.ProjIdeal.Val.arr fun _ e => (parOf m c).dt 4096 e, ?_, ?_⟩
  · refine (θ_run Cert.ProjIdeal.defs _ _).mono (fun r h c => ?_) (θ_run_and (Cert.ProjIdeal.Gen.run_main (F := Ideal) m ρ) (Cert.ProjIdeal.Gen.unchanged m ρ))
    obtain ⟨h, hk⟩ := h
    exact ⟨((h c).1 10).trans (Cert.ProjIdeal.Val.final10 (I c)), ((h c).1 11).trans (Cert.ProjIdeal.Val.final11 (I c)), ((h c).1 12).trans (Cert.ProjIdeal.Val.final12 (I c)), ((h c).1 13).trans (Cert.ProjIdeal.Val.final13 (I c)), ((h c).1 14).trans (Cert.ProjIdeal.Val.final14 (I c)), hk c⟩
  · have J : ∀ c, Cert.ProjReferenceIdeal.Value.InsOf m' c (parOf m c) := fun c => by
      have i := I c
      obtain ⟨e0, e1, e2, e3, e4, e5, e6, e7, e8, e9⟩ := he c
      exact ⟨fun j => (congrFun e0 j).trans (i.d j), fun j => (congrFun e1 j).trans (i.x j), fun j => (congrFun e2 j).trans (i.p₁ j), fun j => (congrFun e3 j).trans (i.p₂ j), fun j => (congrFun e4 j).trans (i.p₃ j), fun j => (congrFun e5 j).trans (i.p₄ j), fun j => (congrFun e6 j).trans (i.p₅ j), fun j => (congrFun e7 j).trans (i.w j), fun j => (congrFun e8 j).trans (i.s j), fun j => (congrFun e9 j).trans (i.U j)⟩
    refine (θ_run Cert.ProjReferenceIdeal.defs _ _).mono (fun r h c => ?_) (Cert.ProjReferenceIdeal.Value.outs (parOf m) J ρ')
    obtain ⟨o, hk⟩ := h c
    exact ⟨funext o.dx, funext o.dp, funext o.dw, funext o.ds, funext o.dt, hk⟩

end Cert.ProjClaim

end
-- ==== Proof.lean ====
module

public import proofs.«01_k».proof.Defs
public import proofs.«01_k».proof.Proof.Same
public import proofs.«01_k».proof.Proof.Inputs
public import proofs.«01_k».proof.Proof.Final
public import proofs.«01_k».proof.Proof.RefVal
public import proofs.«01_k».proof.Proof.Products
public import proofs.«01_k».proof.Proof.MlpClaim
public import proofs.«01_k».proof.Proof.ProjClaim
public import proofs.«01_k».proof.Proof.Gen.DwUp.Frame
public import proofs.«01_k».proof.Proof.Gen.DwUpIdeal.Frame
public import proofs.«01_k».proof.Proof.Gen.DwUpReferenceIdeal.Run
public import proofs.«01_k».proof.Proof.Gen.DwDown.Frame
public import proofs.«01_k».proof.Proof.Gen.DwDownIdeal.Frame
public import proofs.«01_k».proof.Proof.Gen.DwDownReferenceIdeal.Run
public import proofs.«01_k».proof.Proof.Gen.DwIn.Frame
public import proofs.«01_k».proof.Proof.Gen.DwInIdeal.Frame
public import proofs.«01_k».proof.Proof.Gen.DwInReferenceIdeal.Run
public import proofs.«01_k».proof.Proof.Gen.DwOut.Frame
public import proofs.«01_k».proof.Proof.Gen.DwOutIdeal.Frame
public import proofs.«01_k».proof.Proof.Gen.DwOutReferenceIdeal.Run
public import proofs.«01_k».proof.Proof.Gen.Mlp.Frame
public import proofs.«01_k».proof.Proof.Gen.MlpIdeal.Frame
public import proofs.«01_k».proof.Proof.Gen.MlpReferenceIdeal.Run
public import proofs.«01_k».proof.Proof.Gen.Proj.Frame
public import proofs.«01_k».proof.Proof.Gen.ProjIdeal.Frame
public import proofs.«01_k».proof.Proof.Gen.ProjReferenceIdeal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Lru
open scoped BigOperators

/-! ## Frames -/

theorem frame_kernelIdeal : Cert.quiescent_KernelIdeal := fun m ρ _ =>
  (θ_run Cert.KernelIdeal.defs _ _).mono (fun _ h => h) (Cert.KernelIdeal.Gen.frame (F := Ideal) m ρ)

theorem frame_kernelIdeal_pre : Cert.quiescent_KernelIdeal_pre_finite (hPre_finite := preFacts) := fun m ρ _ =>
  (θ_run Cert.KernelIdeal.defs _ _).mono (fun _ h => h) (Cert.KernelIdeal.Gen.frame (F := Ideal) m ρ)

theorem frame_reference : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

theorem frame_reference_pre : Cert.quiescent_ReferenceIdeal_pre_finite (hPre_finite := preFacts) := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

/-! ## The inputs of the two programs -/

section
open Cert.KernelIdeal

variable (m : (ℓ : Loc nD τ sig) → Buf (Elt Ideal) ℓ)

/-- The inputs device `c` holds. -/
def parOf (c : Dev nD) : Par :=
  par (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem kernel_ins {m : (ℓ : Loc nD τ sig) → Buf (Elt Ideal) ℓ} (hp : Cert.Pre_KernelIdeal_finite (hPre_finite := preFacts) m) (c : Dev nD) :
    Cert.KernelIdeal.Gen.Ins m c (parOf m c) := by
  obtain ⟨h0, h1, h2, h3, h4, h5, h6, h7, h8⟩ := @args_real preFacts _ _ _ _ _ _ _ _ _ (hp c)
  exact ⟨Cert.KernelIdeal.Gen.M2.of (Cert.KernelIdeal.Gen.V_main_arg0 m c) h0.m2, Cert.KernelIdeal.Gen.M2.of (Cert.KernelIdeal.Gen.V_main_arg1 m c) h1.m2,
    Cert.KernelIdeal.Gen.M2.of (Cert.KernelIdeal.Gen.V_main_arg2 m c) h2.m2, fun j => (congrFun (Cert.KernelIdeal.Gen.V_main_arg3 m c) j).trans (h3.m3 j),
    Cert.KernelIdeal.Gen.M1.of (Cert.KernelIdeal.Gen.V_main_arg4 m c) h4.m1, fun j => (congrFun (Cert.KernelIdeal.Gen.V_main_arg5 m c) j).trans (h5.m3 j),
    Cert.KernelIdeal.Gen.M1.of (Cert.KernelIdeal.Gen.V_main_arg6 m c) h6.m1, Cert.KernelIdeal.Gen.M1.of (Cert.KernelIdeal.Gen.V_main_arg7 m c) h7.m1,
    Cert.KernelIdeal.Gen.M1.of (Cert.KernelIdeal.Gen.V_main_arg8 m c) h8.m1⟩

end

/-! ## The values -/

theorem mul_sum (f g : ℕ → ℝ) : ∑ r ∈ Finset.range 4096, f r * g r = ∑ r ∈ Finset.range 4096, g r * f r :=
  Finset.sum_congr rfl fun _ _ => mul_comm _ _

theorem diag {i c : ℕ} (h : i / 64 = c / 64) : 64 * (i / 64) + c % 64 = c := by omega

set_option maxHeartbeats 4000000 in
theorem values : Cert.algebraic_KernelIdeal_ReferenceIdeal_on_diagonal_pre_finite (hPre_finite := preFacts) (hOn_diagonal := onFacts) := fun m ρ m' ρ' hp he => by
  have I := kernel_ins hp
  refine ⟨fun c => Cert.KernelIdeal.Gen.of2 4096 512 (parOf m c).dxr, fun c => Cert.KernelIdeal.Gen.of2 4096 512 (parOf m c).dly,
    fun c => Cert.KernelIdeal.Gen.of2 512 512 (fun i e => ∑ r ∈ Finset.range 4096, (parOf m c).x r i * (parOf m c).dpa r e),
    fun c => Cert.KernelIdeal.Gen.of2 1 512 (fun _ e => ∑ r ∈ Finset.range 4096, (parOf m c).dpa r e),
    fun c => Cert.KernelIdeal.Gen.of2 512 512 (fun i e => ∑ r ∈ Finset.range 4096, (parOf m c).x r i * (parOf m c).dpx r e),
    fun c => Cert.KernelIdeal.Gen.of2 1 512 (fun _ e => ∑ r ∈ Finset.range 4096, (parOf m c).dpx r e),
    fun c => Cert.KernelIdeal.Gen.of2 1 512 (fun _ e => (∑ r ∈ Finset.range 4096, (parOf m c).ra8 r e * (parOf m c).dla r e) * Cert.KernelIdeal.Gen.lamF ((parOf m c).lam e)),
    fun c => Cert.KernelIdeal.Gen.of2 1 512 (fun _ e => ∑ r ∈ Finset.range 4096, (parOf m c).hg r e * (parOf m c).rs r * (parOf m c).dout r e), ?_, ?_⟩
  · refine (θ_run Cert.KernelIdeal.defs _ _).mono (fun r h c => ?_) (θ_run_and (Cert.KernelIdeal.Gen.run_main (F := Ideal) m ρ) (Cert.KernelIdeal.Gen.unchanged m ρ))
    obtain ⟨h, hk⟩ := h
    exact ⟨fun i _ => congrFun (((h c).1 11).trans (Cert.KernelIdeal.Gen.fin11 (I c))) i, fun i _ => congrFun (((h c).1 12).trans (Cert.KernelIdeal.Gen.fin12 (I c))) i,
      fun i _ => congrFun (((h c).1 13).trans (Cert.KernelIdeal.Gen.fin13 (I c))) i, fun i _ => congrFun (((h c).1 14).trans (Cert.KernelIdeal.Gen.fin14 (I c))) i,
      fun i _ => congrFun (((h c).1 15).trans (Cert.KernelIdeal.Gen.fin15 (I c))) i, fun i _ => congrFun (((h c).1 16).trans (Cert.KernelIdeal.Gen.fin16 (I c))) i,
      fun i _ => congrFun (((h c).1 17).trans (Cert.KernelIdeal.Gen.fin17 (I c))) i, fun i _ => congrFun (((h c).1 18).trans (Cert.KernelIdeal.Gen.fin18 (I c))) i, hk c⟩
  · have J : ∀ c, Cert.ReferenceIdeal.Value.Ins (StableHlo.launchContents m' c) (parOf m c) := fun c => by
      obtain ⟨h0, h1, h2, h3, h4, h5, h6, h7, h8⟩ := @args_real preFacts _ _ _ _ _ _ _ _ _ (hp c)
      obtain ⟨e0, e1, e2, e3, e4, e5, e6, e7, e8⟩ := he c
      exact ⟨Cert.KernelIdeal.Gen.M2.of e0 h0.m2, Cert.KernelIdeal.Gen.M2.of e1 h1.m2, Cert.KernelIdeal.Gen.M2.of e2 h2.m2, fun j => (congrFun e3 j).trans (h3.m3 j), Cert.KernelIdeal.Gen.M1.of e4 h4.m1,
        fun j => (congrFun e5 j).trans (h5.m3 j), Cert.KernelIdeal.Gen.M1.of e6 h6.m1, Cert.KernelIdeal.Gen.M1.of e7 h7.m1, Cert.KernelIdeal.Gen.M1.of e8 h8.m1⟩
    refine (θ_run Cert.ReferenceIdeal.defs _ _).mono (fun r h c => ?_) (Cert.ReferenceIdeal.Value.outs (parOf m) J ρ')
    haveI := onFacts
    obtain ⟨o, hk⟩ := h c
    obtain ⟨h0, h1, h2, h3, h4, h5, h6, h7, h8⟩ := @args_real preFacts _ _ _ _ _ _ _ _ _ (hp c)
    refine ⟨fun i _ => o.dxr i, fun i _ => o.dly i, fun i hi => ?_, fun i _ => o.dba i, fun i hi => ?_, fun i _ => o.dbx i, fun i hi => ?_, fun i _ => o.dlnw i, hk⟩
    · refine (o.dwa i).trans (congrArg (fun t : ℝ => (t : EReal)) ?_)
      rw [Par.dwa, diag (block_of_bit i _ hi), mul_sum]
    · refine (o.dwx i).trans (congrArg (fun t : ℝ => (t : EReal)) ?_)
      rw [Par.dwx, diag (block_of_bit i _ hi), mul_sum]
    · refine (o.dlam i).trans (congrArg (fun t : ℝ => (t : EReal)) ?_)
      have hl : (parOf m c).lam (i 1).val ≠ 0 := lam_of_bit i _ _ h7.m1 hi
      exact congrArg (fun t : ℝ => (∑ r ∈ Finset.range 4096, (parOf m c).ra8 r (i 1).val * (parOf m c).dla r (i 1).val) * t) (if_neg hl).symm

theorem claim : Cert.Claim :=
  ⟨Cert.Kernel.Gen.facts, Cert.KernelIdeal.Gen.facts, Cert.ReferenceIdeal.Gen.facts,
    Cert.DwUp.Gen.facts, Cert.DwUpIdeal.Gen.facts, Cert.DwUpReferenceIdeal.Gen.facts,
    Cert.DwDown.Gen.facts, Cert.DwDownIdeal.Gen.facts, Cert.DwDownReferenceIdeal.Gen.facts,
    Cert.DwIn.Gen.facts, Cert.DwInIdeal.Gen.facts, Cert.DwInReferenceIdeal.Gen.facts,
    Cert.DwOut.Gen.facts, Cert.DwOutIdeal.Gen.facts, Cert.DwOutReferenceIdeal.Gen.facts,
    Cert.Mlp.Gen.facts, Cert.MlpIdeal.Gen.facts, Cert.MlpReferenceIdeal.Gen.facts,
    Cert.Proj.Gen.facts, Cert.ProjIdeal.Gen.facts, Cert.ProjReferenceIdeal.Gen.facts,
    preFacts, Products.preFacts4, onFacts,
    frame_kernel, frame_kernelIdeal, frame_kernelIdeal_pre, frame_reference, frame_reference_pre,
    Products.frame_DwUp, Products.frame_DwUpIdeal, Products.frame_DwUpReference,
    Products.frame_DwDown, Products.frame_DwDownIdeal, Products.frame_DwDownIdeal_pre, Products.frame_DwDownReference, Products.frame_DwDownReference_pre,
    Products.frame_DwIn, Products.frame_DwInIdeal, Products.frame_DwInReference,
    Products.frame_DwOut, Products.frame_DwOutIdeal, Products.frame_DwOutReference,
    MlpClaim.frame_Mlp, MlpClaim.frame_MlpIdeal, MlpClaim.frame_MlpReference,
    ProjClaim.frame_Proj, ProjClaim.frame_ProjIdeal, ProjClaim.frame_ProjReference,
    trivial, values, trivial, Products.values_DwUp, trivial, Products.values_DwDown, trivial, Products.values_DwIn, trivial, Products.values_DwOut,
    trivial, MlpClaim.values_Mlp, trivial, ProjClaim.values_Proj⟩

end Cert.Proof

end
